-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))).1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))).2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))).1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))).2 = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).2.2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).2.2 = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)) (v1 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_v2) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v2)) (v1 : (c : Dev Cert.Kernel4Ideal.nD) → Buf (Elt Ideal) ((c.tc : Thread Cert.Kernel4Ideal.nD Cert.Kernel4Ideal.τ).loc Cert.Kernel4Ideal.main_v3)) (v2 : (c : Dev Cert.Kernel4Ideal.nD) → Buf (Elt Ideal) ((c.tc : Thread Cert.Kernel4Ideal.nD Cert.Kernel4Ideal.τ).loc Cert.Kernel4Ideal.main_v4)) (v3 : (c : Dev Cert.Kernel4Ideal.nD) → Buf (Elt Ideal) ((c.tc : Thread Cert.Kernel4Ideal.nD Cert.Kernel4Ideal.τ).loc Cert.Kernel4Ideal.main_v5)) (v4 : (c : Dev Cert.Kernel4Ideal.nD) → Buf (Elt Ideal) ((c.tc : Thread Cert.Kernel4Ideal.nD Cert.Kernel4Ideal.τ).loc Cert.Kernel4Ideal.main_v0)) (v5 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_v3) = v1 c
          ∧ r.2.mem ((c.tc : Thread Cert.Kernel4Ideal.nD Cert.Kernel4Ideal.τ).loc Cert.Kernel4Ideal.main_v4) = v2 c
          ∧ r.2.mem ((c.tc : Thread Cert.Kernel4Ideal.nD Cert.Kernel4Ideal.τ).loc Cert.Kernel4Ideal.main_v5) = v3 c
          ∧ r.2.mem ((c.tc : Thread Cert.Kernel4Ideal.nD Cert.Kernel4Ideal.τ).loc Cert.Kernel4Ideal.main_v0) = v4 c
          ∧ r.2.mem ((c.tc : Thread Cert.Kernel4Ideal.nD Cert.Kernel4Ideal.τ).loc Cert.Kernel4Ideal.main_v1) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_v22) = v1 c
          ∧ r.2.mem ((c.tc : Thread Cert.Reference4Ideal.nD Cert.Reference4Ideal.τ).loc Cert.Reference4Ideal.main_v13) = v2 c
          ∧ r.2.mem ((c.tc : Thread Cert.Reference4Ideal.nD Cert.Reference4Ideal.τ).loc Cert.Reference4Ideal.main_v23) = v3 c
          ∧ r.2.mem ((c.tc : Thread Cert.Reference4Ideal.nD Cert.Reference4Ideal.τ).loc Cert.Reference4Ideal.main_v20) = v4 c
          ∧ r.2.mem ((c.tc : Thread Cert.Reference4Ideal.nD Cert.Reference4Ideal.τ).loc Cert.Reference4Ideal.main_v24) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)) (v1 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_v1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_v7) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)) (v1 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_v1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_v5) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  IdealRules.named_const.Statement Cert.Kernel9Ideal.κ "scale" .f32 0x3DB504F3#32 (((Real.sqrt 128)⁻¹ : ℝ) : EReal)

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v43_0)) (v1 : (c : Dev Cert.Kernel9Ideal.nD) → Buf (Elt Ideal) ((c.tc : Thread Cert.Kernel9Ideal.nD Cert.Kernel9Ideal.τ).loc Cert.Kernel9Ideal.main_v43_1)) (v2 : (c : Dev Cert.Kernel9Ideal.nD) → Buf (Elt Ideal) ((c.tc : Thread Cert.Kernel9Ideal.nD Cert.Kernel9Ideal.τ).loc Cert.Kernel9Ideal.main_v43_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v43_0) = v0 c
          ∧ r.2.mem ((c.tc : Thread Cert.Kernel9Ideal.nD Cert.Kernel9Ideal.τ).loc Cert.Kernel9Ideal.main_v43_1) = v1 c
          ∧ r.2.mem ((c.tc : Thread Cert.Kernel9Ideal.nD Cert.Kernel9Ideal.τ).loc Cert.Kernel9Ideal.main_v43_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v73) = v0 c
          ∧ r.2.mem ((c.tc : Thread Cert.Reference9Ideal.nD Cert.Reference9Ideal.τ).loc Cert.Reference9Ideal.main_v74) = v1 c
          ∧ r.2.mem ((c.tc : Thread Cert.Reference9Ideal.nD Cert.Reference9Ideal.τ).loc Cert.Reference9Ideal.main_v75) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  IdealRules.named_const.Statement Cert.Kernel10Ideal.κ "scale" .f32 0x3DB504F3#32 (((Real.sqrt 128)⁻¹ : ℝ) : EReal)

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v41) = v0 c
          ∧ r.2.mem ((c.tc : Thread Cert.Reference10Ideal.nD Cert.Reference10Ideal.τ).loc Cert.Reference10Ideal.main_v42) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v14) = v0 c
          ∧ r.2.mem ((c.tc : Thread Cert.Reference11Ideal.nD Cert.Reference11Ideal.τ).loc Cert.Reference11Ideal.main_v16) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v14) = v0 c
          ∧ r.2.mem ((c.tc : Thread Cert.Reference12Ideal.nD Cert.Reference12Ideal.τ).loc Cert.Reference12Ideal.main_v16) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  IdealRules.named_const.Statement Cert.Kernel13Ideal.κ "gelu_a" .f32 0x3D372713#32 ((8943 / 200000 : ℝ) : EReal)
  ∧ IdealRules.named_const.Statement Cert.Kernel13Ideal.κ "gelu_c" .f32 0x3F4C422A#32 ((Real.sqrt (2 * Real.pi⁻¹) : ℝ) : EReal)
  ∧ IdealRules.named_const.Statement Cert.Kernel13Ideal.κ "gelu_3a" .f32 0x3E095D4F#32 ((26829 / 200000 : ℝ) : EReal)

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0_0) = v0 c
          ∧ r.2.mem ((c.tc : Thread Cert.Reference13Ideal.nD Cert.Reference13Ideal.τ).loc Cert.Reference13Ideal.main_v0_1) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  IdealRules.named_const.Statement Cert.Kernel16Ideal.κ "gelu_a" .f32 0x3D372713#32 ((8943 / 200000 : ℝ) : EReal)
  ∧ IdealRules.named_const.Statement Cert.Kernel16Ideal.κ "gelu_c" .f32 0x3F4C422A#32 ((Real.sqrt (2 * Real.pi⁻¹) : ℝ) : EReal)

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v12) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v51) = v0 c
          ∧ r.2.mem ((c.tc : Thread Cert.Reference18Ideal.nD Cert.Reference18Ideal.τ).loc Cert.Reference18Ideal.main_v59) = v1 c
          ∧ r.2.mem ((c.tc : Thread Cert.Reference18Ideal.nD Cert.Reference18Ideal.τ).loc Cert.Reference18Ideal.main_v61) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v50) = v0 c
          ∧ r.2.mem ((c.tc : Thread Cert.Reference19Ideal.nD Cert.Reference19Ideal.τ).loc Cert.Reference19Ideal.main_v102) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v51) = v0 c
          ∧ r.2.mem ((c.tc : Thread Cert.Reference20Ideal.nD Cert.Reference20Ideal.τ).loc Cert.Reference20Ideal.main_v59) = v1 c
          ∧ r.2.mem ((c.tc : Thread Cert.Reference20Ideal.nD Cert.Reference20Ideal.τ).loc Cert.Reference20Ideal.main_v61) = v2 c
          ∧ r.2.mem ((c.tc : Thread Cert.Reference20Ideal.nD Cert.Reference20Ideal.τ).loc Cert.Reference20Ideal.main_v62) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite9 : Cert.Pre_finite9.Facts) (hPre_finite10 : Cert.Pre_finite10.Facts) (hPre_finite13 : Cert.Pre_finite13.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite13 (hKernel13Ideal := hKernel13Ideal) (hReference13Ideal := hReference13Ideal) (hPre_finite13 := hPre_finite13)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_finite10.lean ====
abbrev S2304x2048 : Shape := ⟨2, ![2304, 2048]⟩
abbrev S2304x512 : Shape := ⟨2, ![2304, 512]⟩
abbrev S2304x11264 : Shape := ⟨2, ![2304, 11264]⟩
abbrev S2048x2048 : Shape := ⟨2, ![2048, 2048]⟩
abbrev S_ : Shape := ⟨0, ![]⟩

class Facts : Prop where
  slices_S2304x2048_S2048x2048_256_0 : S2304x2048.Slices ![256, 0] S2048x2048
  bitsLt_bf16_f32 : FTy.bits .bf16 < FTy.bits .f32
  bcast_S_S2048x2048 : S_.BroadcastsInDim S2048x2048 (![] : Fin 0 → Fin S2048x2048.rank)
  bcast_S_S2304x512 : S_.BroadcastsInDim S2304x512 (![] : Fin 0 → Fin S2304x512.rank)

variable [Facts]

def fn {F : FTy → Type} [FloatOps F] (main_arg0 : FVec F S2304x2048 .bf16) (main_arg1 : FVec F S2304x512 .bf16) (main_arg2 : FVec F S2304x11264 .f32) : IVec S2048x2048 1 × IVec S2304x512 1 :=
  let main_v0 : FVec F S2048x2048 .bf16 := (extractStridedSlice S2048x2048 ![256, 0] · slices_S2304x2048_S2048x2048_256_0) main_arg0
  let main_v1 : FVec F S2048x2048 .f32 := (extf .f32 · bitsLt_bf16_f32) main_v0
  let main_v2 : FVec F S2048x2048 .f32 := Host.absf main_v1
  let main_cst : FVec F S_ .f32 := constant S_ .f32 0x7F800000#32
  let main_v3 : FVec F S2048x2048 .f32 := broadcastInDim S2048x2048 ![] bcast_S_S2048x2048 main_cst
  let main_v4 : IVec S2048x2048 1 := cmpf .olt main_v2 main_v3
  let main_v5 : FVec F S2304x512 .f32 := (extf .f32 · bitsLt_bf16_f32) main_arg1
  let main_v6 : FVec F S2304x512 .f32 := Host.absf main_v5
  let main_cst_0 : FVec F S_ .f32 := constant S_ .f32 0x7F800000#32
  let main_v7 : FVec F S2304x512 .f32 := broadcastInDim S2304x512 ![] bcast_S_S2304x512 main_cst_0
  let main_v8 : IVec S2304x512 1 := cmpf .olt main_v6 main_v7
  (main_v4, main_v8)
-- ==== Pre_finite13.lean ====
abbrev S2048x2048 : Shape := ⟨2, ![2048, 2048]⟩
abbrev S2304x2048 : Shape := ⟨2, ![2304, 2048]⟩
abbrev S2304x11264 : Shape := ⟨2, ![2304, 11264]⟩
abbrev S_ : Shape := ⟨0, ![]⟩

class Facts : Prop where
  bcast_S_S2048x2048 : S_.BroadcastsInDim S2048x2048 (![] : Fin 0 → Fin S2048x2048.rank)
  slices_S2304x2048_S2048x2048_256_0 : S2304x2048.Slices ![256, 0] S2048x2048

variable [Facts]

def fn {F : FTy → Type} [FloatOps F] (main_arg0 : FVec F S2048x2048 .f32) (main_arg1 : FVec F S2304x2048 .f32) (main_arg2 : FVec F S2304x2048 .f32) (main_arg3 : FVec F S2304x11264 .f32) (main_arg4 : FVec F S2304x11264 .bf16) : IVec S2048x2048 1 × IVec S2048x2048 1 × IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x2048 .f32 := (extractStridedSlice S2048x2048 ![256, 0] · slices_S2304x2048_S2048x2048_256_0) main_arg1
  let main_v4 : FVec F S2048x2048 .f32 := Host.absf main_v3
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_v7 : FVec F S2048x2048 .f32 := (extractStridedSlice S2048x2048 ![256, 0] · slices_S2304x2048_S2048x2048_256_0) main_arg2
  let main_v8 : FVec F S2048x2048 .f32 := Host.absf main_v7
  let main_cst_1 : FVec F S_ .f32 := constant S_ .f32 0x7F800000#32
  let main_v9 : FVec F S2048x2048 .f32 := broadcastInDim S2048x2048 ![] bcast_S_S2048x2048 main_cst_1
  let main_v10 : IVec S2048x2048 1 := cmpf .olt main_v8 main_v9
  (main_v2, main_v6, main_v10)
-- ==== Pre_finite9.lean ====
abbrev S2304x2048 : Shape := ⟨2, ![2304, 2048]⟩
abbrev S2304x512 : Shape := ⟨2, ![2304, 512]⟩
abbrev S2304x11264 : Shape := ⟨2, ![2304, 11264]⟩
abbrev S2048x2048 : Shape := ⟨2, ![2048, 2048]⟩
abbrev S_ : Shape := ⟨0, ![]⟩

class Facts : Prop where
  slices_S2304x2048_S2048x2048_256_0 : S2304x2048.Slices ![256, 0] S2048x2048
  bitsLt_bf16_f32 : FTy.bits .bf16 < FTy.bits .f32
  bcast_S_S2048x2048 : S_.BroadcastsInDim S2048x2048 (![] : Fin 0 → Fin S2048x2048.rank)
  bcast_S_S2304x512 : S_.BroadcastsInDim S2304x512 (![] : Fin 0 → Fin S2304x512.rank)
  slices_S2304x11264_S2304x512_0_2560 : S2304x11264.Slices ![0, 2560] S2304x512

variable [Facts]

def fn {F : FTy → Type} [FloatOps F] (main_arg0 : FVec F S2304x2048 .bf16) (main_arg1 : FVec F S2304x512 .bf16) (main_arg2 : FVec F S2304x11264 .f32) (main_arg3 : FVec F S2048x2048 .bf16) (main_arg4 : FVec F S2304x11264 .bf16) : IVec S2048x2048 1 × IVec S2304x512 1 × IVec S2304x512 1 × IVec S2048x2048 1 :=
  let main_v0 : FVec F S2048x2048 .bf16 := (extractStridedSlice S2048x2048 ![256, 0] · slices_S2304x2048_S2048x2048_256_0) main_arg0
  let main_v1 : FVec F S2048x2048 .f32 := (extf .f32 · bitsLt_bf16_f32) main_v0
  let main_v2 : FVec F S2048x2048 .f32 := Host.absf main_v1
  let main_cst : FVec F S_ .f32 := constant S_ .f32 0x7F800000#32
  let main_v3 : FVec F S2048x2048 .f32 := broadcastInDim S2048x2048 ![] bcast_S_S2048x2048 main_cst
  let main_v4 : IVec S2048x2048 1 := cmpf .olt main_v2 main_v3
  let main_v5 : FVec F S2304x512 .f32 := (extf .f32 · bitsLt_bf16_f32) main_arg1
  let main_v6 : FVec F S2304x512 .f32 := Host.absf main_v5
  let main_cst_0 : FVec F S_ .f32 := constant S_ .f32 0x7F800000#32
  let main_v7 : FVec F S2304x512 .f32 := broadcastInDim S2304x512 ![] bcast_S_S2304x512 main_cst_0
  let main_v8 : IVec S2304x512 1 := cmpf .olt main_v6 main_v7
  let main_v9 : FVec F S2304x512 .f32 := (extractStridedSlice S2304x512 ![0, 2560] · slices_S2304x11264_S2304x512_0_2560) main_arg2
  let main_v10 : FVec F S2304x512 .f32 := Host.absf main_v9
  let main_cst_1 : FVec F S_ .f32 := constant S_ .f32 0x7F800000#32
  let main_v11 : FVec F S2304x512 .f32 := broadcastInDim S2304x512 ![] bcast_S_S2304x512 main_cst_1
  let main_v12 : IVec S2304x512 1 := cmpf .olt main_v10 main_v11
  let main_v13 : FVec F S2048x2048 .f32 := (extf .f32 · bitsLt_bf16_f32) main_arg3
  let main_v14 : FVec F S2048x2048 .f32 := Host.absf main_v13
  let main_cst_2 : FVec F S_ .f32 := constant S_ .f32 0x7F800000#32
  let main_v15 : FVec F S2048x2048 .f32 := broadcastInDim S2048x2048 ![] bcast_S_S2048x2048 main_cst_2
  let main_v16 : IVec S2048x2048 1 := cmpf .olt main_v14 main_v15
  (main_v4, main_v8, main_v12, main_v16)
-- ==== Kernel.lean ====
abbrev S2304x2048 : Shape := ⟨2, ![2304, 2048]⟩
abbrev S2048x2048 : Shape := ⟨2, ![2048, 2048]⟩
abbrev S256x2048 : Shape := ⟨2, ![256, 2048]⟩
abbrev S8x2048 : Shape := ⟨2, ![8, 2048]⟩
abbrev S1x2048 : Shape := ⟨2, ![1, 2048]⟩

abbrev nBuf : Space → Nat
  | .hbm => 5
  | .vmem => 13
  | .smem => 0
  | _ => 0

abbrev bufTy : (tb : Table) → Fin (tcTables nBuf tb) → BufTy
  | .hbm, ⟨0, _⟩ => ⟨S2304x2048, .f32⟩
  | .hbm, ⟨1, _⟩ => ⟨S2304x2048, .f32⟩
  | .hbm, ⟨2, _⟩ => ⟨S2048x2048, .f32⟩
  | .hbm, ⟨3, _⟩ => ⟨S2304x2048, .f32⟩
  | .hbm, ⟨4, _⟩ => ⟨S2304x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S8x2048, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![9], ![false]⟩

@[reducible] def k0_t1_loop : Scf.Loop 32 :=
  let c0_i32_10 : BitVec 32 := 0#32
  let c32_i32 : BitVec 32 := 32#32
  let v14 : BitVec 32 := Scalar.addi c0_i32_10 c32_i32
  let c1_i32_11 : BitVec 32 := 1#32
  ⟨c0_i32_10, v14, c1_i32_11⟩
def k0_mult1 (k0_t1 : Fin k0_t1_loop.trips) : BitVec 32 :=
  let c31_i32 : BitVec 32 := 31#32
  let c0_i32_10 : BitVec 32 := 0#32
  let c1_i32_11 : BitVec 32 := 1#32
  let arg8 : BitVec 32 := Scf.iv c0_i32_10 c1_i32_11 k0_t1
  let v22 : BitVec 32 := Scalar.subi c31_i32 arg8
  let c8_i32_17 : BitVec 32 := 8#32
  let v23 : BitVec 32 := Scalar.muli v22 c8_i32_17
  v23
def k0_mult2 (k0_t1 : Fin k0_t1_loop.trips) : BitVec 32 :=
  let c0_i32_10 : BitVec 32 := 0#32
  let c1_i32_11 : BitVec 32 := 1#32
  let arg8 : BitVec 32 := Scf.iv c0_i32_10 c1_i32_11 k0_t1
  let c8_i32_18 : BitVec 32 := 8#32
  let v25 : BitVec 32 := Scalar.muli arg8 c8_i32_18
  v25
def k0_off1 (k0_t1 : Fin k0_t1_loop.trips) (c7_i32 : BitVec 32) : Fin 2 → Nat :=
  let c31_i32 : BitVec 32 := 31#32
  let c0_i32_10 : BitVec 32 := 0#32
  let c1_i32_11 : BitVec 32 := 1#32
  let arg8 : BitVec 32 := Scf.iv c0_i32_10 c1_i32_11 k0_t1
  let v22 : BitVec 32 := Scalar.subi c31_i32 arg8
  let c8_i32_17 : BitVec 32 := 8#32
  let v23 : BitVec 32 := Scalar.muli v22 c8_i32_17
  let v24 : BitVec 32 := v23
  let v27 : BitVec 32 := Scalar.addi v24 c7_i32
  let v28 : Index := Scalar.indexCast v27
  let c0_19 : Index := 0#32
  ![v28.toNat, 0]
def k0_off2 (k0_t1 : Fin k0_t1_loop.trips) (c0_i32_22 : BitVec 32) : Fin 2 → Nat :=
  let c0_i32_10 : BitVec 32 := 0#32
  let c1_i32_11 : BitVec 32 := 1#32
  let arg8 : BitVec 32 := Scf.iv c0_i32_10 c1_i32_11 k0_t1
  let c8_i32_18 : BitVec 32 := 8#32
  let v25 : BitVec 32 := Scalar.muli arg8 c8_i32_18
  let v26 : BitVec 32 := v25
  let v38 : BitVec 32 := Scalar.addi v26 c0_i32_22
  let v39 : Index := Scalar.indexCast v38
  let c0_23 : Index := 0#32
  ![v39.toNat, 0]
def cc0_transform_0 (i : grid0.Coords) : Fin 2 → Nat :=
  let arg0 : BitVec 32 := BitVec.ofNat 32 (i 0).val
  let c8_i32 : BitVec 32 := 8#32
  let v0 : BitVec 32 := Scalar.subi c8_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi c8_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c8_i32 : BitVec 32 := 8#32
  let v0 : BitVec 1 := Scalar.cmpi .slt arg0 c8_i32
  let c1_i32 : BitVec 32 := 1#32
  let v1 : BitVec 32 := Scalar.addi c1_i32 arg0
  let c8_i32_0 : BitVec 32 := 8#32
  let v2 : BitVec 32 := Scalar.subi arg0 c8_i32_0
  let v3 : BitVec 32 := Scalar.select v0 v1 v2
  let c0_i32 : BitVec 32 := 0#32
  let c0_i32_1 : BitVec 32 := 0#32
  ![v3.toNat, c0_i32.toNat]

def cc0_transform_3 (i : grid0.Coords) : Fin 2 → Nat :=
  let arg0 : BitVec 32 := BitVec.ofNat 32 (i 0).val
  let c8_i32 : BitVec 32 := 8#32
  let v0 : BitVec 1 := Scalar.cmpi .slt arg0 c8_i32
  let c1_i32 : BitVec 32 := 1#32
  let v1 : BitVec 32 := Scalar.addi c1_i32 arg0
  let c8_i32_0 : BitVec 32 := 8#32
  let v2 : BitVec 32 := Scalar.subi arg0 c8_i32_0
  let v3 : BitVec 32 := Scalar.select v0 v1 v2
  let c1_i32_1 : BitVec 32 := 1#32
  let v4 : BitVec 32 := Scalar.subi v3 c1_i32_1
  let c0_i32 : BitVec 32 := 0#32
  let v5 : BitVec 32 := Scalar.maxsi v4 c0_i32
  let c0_i32_2 : BitVec 32 := 0#32
  let c0_i32_3 : BitVec 32 := 0#32
  ![v5.toNat, c0_i32_2.toNat]

def cc0_transform_4 (i : grid0.Coords) : Fin 2 → Nat :=
  let arg0 : BitVec 32 := BitVec.ofNat 32 (i 0).val
  let c8_i32 : BitVec 32 := 8#32
  let v0 : BitVec 32 := Scalar.subi c8_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c8_i32 : BitVec 32 := 8#32
  let v0 : BitVec 1 := Scalar.cmpi .slt arg0 c8_i32
  let c1_i32 : BitVec 32 := 1#32
  let v1 : BitVec 32 := Scalar.addi c1_i32 arg0
  let c8_i32_0 : BitVec 32 := 8#32
  let v2 : BitVec 32 := Scalar.subi arg0 c8_i32_0
  let v3 : BitVec 32 := Scalar.select v0 v1 v2
  let c0_i32 : BitVec 32 := 0#32
  let c0_i32_1 : BitVec 32 := 0#32
  ![v3.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2304x2048 : Shape := ⟨2, ![2304, 2048]⟩
abbrev S2048x2048 : Shape := ⟨2, ![2048, 2048]⟩
abbrev S256x2048 : Shape := ⟨2, ![256, 2048]⟩
abbrev S2304x1x2048 : Shape := ⟨3, ![2304, 1, 2048]⟩
abbrev S2304x2x2048 : Shape := ⟨3, ![2304, 2, 2048]⟩
abbrev S1x2x2048 : Shape := ⟨3, ![1, 2, 2048]⟩
abbrev S2x2048 : Shape := ⟨2, ![2, 2048]⟩
abbrev S_ : Shape := ⟨0, ![]⟩
abbrev S2048x1x2048 : Shape := ⟨3, ![2048, 1, 2048]⟩

abbrev nBuf : Space → Nat
  | .hbm => 70
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2304x2048, .f32⟩
  | .hbm, ⟨2, _⟩ => ⟨S2048x2048, .f32⟩
  | .hbm, ⟨3, _⟩ => ⟨S256x2048, .f32⟩
  | .hbm, ⟨4, _⟩ => ⟨S256x2048, .f32⟩
  | .hbm, ⟨5, _⟩ => ⟨S2048x2048, .f32⟩
  | .hbm, ⟨6, _⟩ => ⟨S2048x2048, .f32⟩
  | .hbm, ⟨7, _⟩ => ⟨S2304x2048, .f32⟩
  | .hbm, ⟨8, _⟩ => ⟨S2304x1x2048, .f32⟩
  | .hbm, ⟨9, _⟩ => ⟨S2304x1x2048, .f32⟩
  | .hbm, ⟨10, _⟩ => ⟨S2304x2x2048, .f32⟩
  | .hbm, ⟨11, _⟩ => ⟨S1x2x2048, .f32⟩
  | .hbm, ⟨12, _⟩ => ⟨S2x2048, .f32⟩
  | .hbm, ⟨13, _⟩ => ⟨S_, .f32⟩
  | .hbm, ⟨14, _⟩ => ⟨S2x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x1x2048, .f32⟩
  | .hbm, ⟨19, _⟩ => ⟨S_, .f32⟩
  | .hbm, ⟨20, _⟩ => ⟨S2304x2x2048, .f32⟩
  | .hbm, ⟨21, _⟩ => ⟨S2048x1x2048, .f32⟩
  | .hbm, ⟨22, _⟩ => ⟨S_, .f32⟩
  | .hbm, ⟨23, _⟩ => ⟨S2304x2x2048, .f32⟩
  | .hbm, ⟨24, _⟩ => ⟨S2304x2x2048, .f32⟩
  | .hbm, ⟨25, _⟩ => ⟨S_, .f32⟩
  | .hbm, ⟨26, _⟩ => ⟨S2x2048, .f32⟩
  | .hbm, ⟨27, _⟩ => ⟨S_, .f32⟩
  | .hbm, ⟨28, _⟩ => ⟨S2304x2x2048, .f32⟩
  | .hbm, ⟨29, _⟩ => ⟨S_, .i32⟩
  | .hbm, ⟨30, _⟩ => ⟨S2304x2x2048, .f32⟩
  | .hbm, ⟨31, _⟩ => ⟨S2304x2x2048, .f32⟩
  | .hbm, ⟨32, _⟩ => ⟨S_, .i32⟩
  | .hbm, ⟨33, _⟩ => ⟨S2x2048, .f32⟩
  | .hbm, ⟨34, _⟩ => ⟨S2304x2x2048, .f32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S1x2x2048, .f32⟩
  | .hbm, ⟨44, _⟩ => ⟨S2x2048, .f32⟩
  | .hbm, ⟨45, _⟩ => ⟨S_, .i32⟩
  | .hbm, ⟨46, _⟩ => ⟨S_, .i32⟩
  | .hbm, ⟨47, _⟩ => ⟨S1x2x2048, .f32⟩
  | .hbm, ⟨48, _⟩ => ⟨S2x2048, .f32⟩
  | .hbm, ⟨49, _⟩ => ⟨S2x2048, .f32⟩
  | .hbm, ⟨50, _⟩ => ⟨S2x2048, .f32⟩
  | .hbm, ⟨51, _⟩ => ⟨S1x2x2048, .f32⟩
  | .hbm, ⟨52, _⟩ => ⟨S_, .i32⟩
  | .hbm, ⟨53, _⟩ => ⟨S_, .i32⟩
  | .hbm, ⟨54, _⟩ => ⟨S2304x2x2048, .f32⟩
  | .hbm, ⟨55, _⟩ => ⟨S_, .i32⟩
  | .hbm, ⟨56, _⟩ => ⟨S_, .i32⟩
  | .hbm, ⟨57, _⟩ => ⟨S2304x1x2048, .f32⟩
  | .hbm, ⟨58, _⟩ => ⟨S2304x2048, .f32⟩
  | .hbm, ⟨59, _⟩ => ⟨S2304x1x2048, .f32⟩
  | .hbm, ⟨60, _⟩ => ⟨S2304x2048, .f32⟩
  | .hbm, ⟨61, _⟩ => ⟨S256x2048, .f32⟩
  | .hbm, ⟨62, _⟩ => ⟨S2048x2048, .f32⟩
  | .hbm, ⟨63, _⟩ => ⟨S2048x2048, .f32⟩
  | .hbm, ⟨64, _⟩ => ⟨S_, .f32⟩
  | .hbm, ⟨65, _⟩ => ⟨S2304x2048, .f32⟩
  | .hbm, ⟨66, _⟩ => ⟨S256x2048, .f32⟩
  | .hbm, ⟨67, _⟩ => ⟨S_, .f32⟩
  | .hbm, ⟨68, _⟩ => ⟨S2304x2048, .f32⟩
  | .hbm, ⟨69, _⟩ => ⟨S2304x2048, .f32⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_c : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev main_v21_4 : Ref sig .tc := ⟨.hbm, 34, rfl⟩
abbrev main_while0c_c_10 : Ref sig .tc := ⟨.hbm, 35, rfl⟩
abbrev main_while0c_v33 : Ref sig .tc := ⟨.hbm, 36, rfl⟩
abbrev main_while0b_c_10 : Ref sig .tc := ⟨.hbm, 37, rfl⟩
abbrev main_while0b_v33 : Ref sig .tc := ⟨.hbm, 38, rfl⟩
abbrev main_while0b_c_11 : Ref sig .tc := ⟨.hbm, 39, rfl⟩
abbrev main_while0b_v34 : Ref sig .tc := ⟨.hbm, 40, rfl⟩
abbrev main_while0b_call6_c : Ref sig .tc := ⟨.hbm, 41, rfl⟩
abbrev main_while0b_call6_c_0 : Ref sig .tc := ⟨.hbm, 42, rfl⟩
abbrev main_while0b_call6_v0 : Ref sig .tc := ⟨.hbm, 43, rfl⟩
abbrev main_while0b_v35 : Ref sig .tc := ⟨.hbm, 44, rfl⟩
abbrev main_while0b_call7_c : Ref sig .tc := ⟨.hbm, 45, rfl⟩
abbrev main_while0b_call7_c_0 : Ref sig .tc := ⟨.hbm, 46, rfl⟩
abbrev main_while0b_call7_v0 : Ref sig .tc := ⟨.hbm, 47, rfl⟩
abbrev main_while0b_v36 : Ref sig .tc := ⟨.hbm, 48, rfl⟩
abbrev main_while0b_v37 : Ref sig .tc := ⟨.hbm, 49, rfl⟩
abbrev main_while0b_v38 : Ref sig .tc := ⟨.hbm, 50, rfl⟩
abbrev main_while0b_call8_v0 : Ref sig .tc := ⟨.hbm, 51, rfl⟩
abbrev main_while0b_call8_c : Ref sig .tc := ⟨.hbm, 52, rfl⟩
abbrev main_while0b_call8_c_0 : Ref sig .tc := ⟨.hbm, 53, rfl⟩
abbrev main_while0b_v39 : Ref sig .tc := ⟨.hbm, 54, rfl⟩
abbrev main_while0b_c_12 : Ref sig .tc := ⟨.hbm, 55, rfl⟩
abbrev main_while0b_v40 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_4 : Ref sig .tc := ⟨.hbm, 64, rfl⟩
abbrev main_v29 : Ref sig .tc := ⟨.hbm, 65, rfl⟩
abbrev main_v30 : Ref sig .tc := ⟨.hbm, 66, rfl⟩
abbrev main_cst_5 : Ref sig .tc := ⟨.hbm, 67, rfl⟩
abbrev main_v31 : Ref sig .tc := ⟨.hbm, 68, rfl⟩
abbrev main_v32 : Ref sig .tc := ⟨.hbm, 69, rfl⟩

abbrev nD : Nat := 1
abbrev τ : Topo := Topo.v7x

variable {F : FTy → Type} [FloatOps F]

abbrev main_while0_count : Scf.Loop 32 := ⟨0#32, 2304#32, 1#32⟩
-- ==== Kernel2.lean ====
abbrev S2048x2048 : Shape := ⟨2, ![2048, 2048]⟩
abbrev S2048x8192 : Shape := ⟨2, ![2048, 8192]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 9
  | .vmem => 28
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S8192x2048, .bf16⟩
  | .hbm, ⟨3, _⟩ => ⟨S2048x2048, .bf16⟩
  | .hbm, ⟨4, _⟩ => ⟨S2048x8192, .f32⟩
  | .hbm, ⟨5, _⟩ => ⟨S2048x8192, .bf16⟩
  | .hbm, ⟨6, _⟩ => ⟨S2048x8192, .bf16⟩
  | .hbm, ⟨7, _⟩ => ⟨S8192x2048, .bf16⟩
  | .hbm, ⟨8, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x2048, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | .local _ .vmem, ⟨16, _⟩ => ⟨S2048x1024, .bf16⟩
  | .local _ .vmem, ⟨17, _⟩ => ⟨S2048x1024, .bf16⟩
  | .local _ .vmem, ⟨18, _⟩ => ⟨S2048x1024, .bf16⟩
  | .local _ .vmem, ⟨19, _⟩ => ⟨S2048x1024, .bf16⟩
  | .local _ .vmem, ⟨20, _⟩ => ⟨S1024x1024, .bf16⟩
  | .local _ .vmem, ⟨21, _⟩ => ⟨S1024x1024, .bf16⟩
  | .local _ .vmem, ⟨22, _⟩ => ⟨S2048x1024, .bf16⟩
  | .local _ .vmem, ⟨23, _⟩ => ⟨S2048x1024, .bf16⟩
  | .local _ .vmem, ⟨24, _⟩ => ⟨S2048x1024, .bf16⟩
  | .local _ .vmem, ⟨25, _⟩ => ⟨S2048x1024, .bf16⟩
  | .local _ .vmem, ⟨26, _⟩ => ⟨S1024x1024, .bf16⟩
  | .local _ .vmem, ⟨27, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== Reference2Ideal.lean ====
abbrev S2048x2048 : Shape := ⟨2, ![2048, 2048]⟩
abbrev S2048x8192 : Shape := ⟨2, ![2048, 8192]⟩
abbrev S8192x2048 : Shape := ⟨2, ![8192, 2048]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S8192x2048, .bf16⟩
  | .hbm, ⟨3, _⟩ => ⟨S2048x2048, .bf16⟩
  | .hbm, ⟨4, _⟩ => ⟨S2048x2048, .f32⟩
  | .hbm, ⟨5, _⟩ => ⟨S2048x8192, .f32⟩
  | .hbm, ⟨6, _⟩ => ⟨S8192x2048, .f32⟩
  | .hbm, ⟨7, _⟩ => ⟨S2048x8192, .f32⟩
  | .hbm, ⟨8, _⟩ => ⟨S_, .f32⟩
  | .hbm, ⟨9, _⟩ => ⟨S2048x8192, .f32⟩
  | .hbm, ⟨10, _⟩ => ⟨S2048x8192, .f32⟩
  | .hbm, ⟨11, _⟩ => ⟨S_, .f32⟩
  | .hbm, ⟨12, _⟩ => ⟨S2048x8192, .f32⟩
  | .hbm, ⟨13, _⟩ => ⟨S2048x8192, .i1⟩
  | .hbm, ⟨14, _⟩ => ⟨S_, .f32⟩
  | .hbm, ⟨15, _⟩ => ⟨S2048x8192, .f32⟩
  | .hbm, ⟨16, _⟩ => ⟨S2048x8192, .f32⟩
  | .hbm, ⟨17, _⟩ => ⟨S_, .f32⟩
  | .hbm, ⟨18, _⟩ => ⟨S2048x8192, .f32⟩
  | .hbm, ⟨19, _⟩ => ⟨S2048x8192, .f32⟩
  | .hbm, ⟨20, _⟩ => ⟨S2048x2048, .f32⟩
  | .hbm, ⟨21, _⟩ => ⟨S2048x2048, .f32⟩
  | .hbm, ⟨22, _⟩ => ⟨S2048x8192, .f32⟩
  | .hbm, ⟨23, _⟩ => ⟨S8192x2048, .f32⟩
  | .hbm, ⟨24, _⟩ => ⟨S2048x8192, .f32⟩
  | .hbm, ⟨25, _⟩ => ⟨S2048x8192, .f32⟩
  | .hbm, ⟨26, _⟩ => ⟨S_, .f32⟩
  | .hbm, ⟨27, _⟩ => ⟨S2048x8192, .f32⟩
  | .hbm, ⟨28, _⟩ => ⟨S2048x8192, .f32⟩
  | .hbm, ⟨29, _⟩ => ⟨S8192x2048, .f32⟩
  | .hbm, ⟨30, _⟩ => ⟨S2048x8192, .f32⟩
  | .hbm, ⟨31, _⟩ => ⟨S2048x2048, .f32⟩
  | .hbm, ⟨32, _⟩ => ⟨S2048x8192, .bf16⟩
  | .hbm, ⟨33, _⟩ => ⟨S8192x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel3.lean ====
abbrev S2048x8192 : Shape := ⟨2, ![2048, 8192]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S2048x8192, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x8192 : Shape := ⟨2, ![2048, 8192]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x8192, .bf16⟩
  | .hbm, ⟨2, _⟩ => ⟨S2048x8192, .f32⟩
  | .hbm, ⟨3, _⟩ => ⟨S2048x8192, .f32⟩
  | .hbm, ⟨4, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S2048x2048 : Shape := ⟨2, ![2048, 2048]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 15
  | .vmem => 36
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S2048x2048, .bf16⟩
  | .hbm, ⟨5, _⟩ => ⟨S2048x2048, .bf16⟩
  | .hbm, ⟨6, _⟩ => ⟨S2048x2048, .bf16⟩
  | .hbm, ⟨7, _⟩ => ⟨S2048x2048, .bf16⟩
  | .hbm, ⟨8, _⟩ => ⟨S2048x2048, .bf16⟩
  | .hbm, ⟨9, _⟩ => ⟨S2048x2048, .f32⟩
  | .hbm, ⟨10, _⟩ => ⟨S2048x2048, .bf16⟩
  | .hbm, ⟨11, _⟩ => ⟨S2048x2048, .bf16⟩
  | .hbm, ⟨12, _⟩ => ⟨S2048x2048, .bf16⟩
  | .hbm, ⟨13, _⟩ => ⟨S2048x2048, .f32⟩
  | .hbm, ⟨14, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x2048, .bf16⟩
  | .local _ .vmem, ⟨13, _⟩ => ⟨S1024x2048, .bf16⟩
  | .local _ .vmem, ⟨14, _⟩ => ⟨S1024x2048, .bf16⟩
  | .local _ .vmem, ⟨15, _⟩ => ⟨S1024x2048, .bf16⟩
  | .local _ .vmem, ⟨16, _⟩ => ⟨S1024x1024, .bf16⟩
  | .local _ .vmem, ⟨17, _⟩ => ⟨S1024x1024, .bf16⟩
  | .local _ .vmem, ⟨18, _⟩ => ⟨S2048x1024, .bf16⟩
  | .local _ .vmem, ⟨19, _⟩ => ⟨S2048x1024, .bf16⟩
  | .local _ .vmem, ⟨20, _⟩ => ⟨S2048x1024, .bf16⟩
  | .local _ .vmem, ⟨21, _⟩ => ⟨S2048x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1024x2048, .bf16⟩
  | .local _ .vmem, ⟨25, _⟩ => ⟨S1024x2048, .bf16⟩
  | .local _ .vmem, ⟨26, _⟩ => ⟨S1024x2048, .bf16⟩
  | .local _ .vmem, ⟨27, _⟩ => ⟨S1024x2048, .bf16⟩
  | .local _ .vmem, ⟨28, _⟩ => ⟨S1024x1024, .f32⟩
  | .local _ .vmem, ⟨29, _⟩ => ⟨S1024x1024, .f32⟩
  | .local _ .vmem, ⟨30, _⟩ => ⟨S2048x1024, .bf16⟩
  | .local _ .vmem, ⟨31, _⟩ => ⟨S2048x1024, .bf16⟩
  | .local _ .vmem, ⟨32, _⟩ => ⟨S2048x1024, .bf16⟩
  | .local _ .vmem, ⟨33, _⟩ => ⟨S2048x1024, .bf16⟩
  | .local _ .vmem, ⟨34, _⟩ => ⟨S1024x1024, .bf16⟩
  | .local _ .vmem, ⟨35, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![2, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1024x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![2, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S2048x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== Reference4Ideal.lean ====
abbrev S2048x2048 : Shape := ⟨2, ![2048, 2048]⟩

abbrev nBuf : Space → Nat
  | .hbm => 34
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S2048x2048, .bf16⟩
  | .hbm, ⟨5, _⟩ => ⟨S2048x2048, .bf16⟩
  | .hbm, ⟨6, _⟩ => ⟨S2048x2048, .bf16⟩
  | .hbm, ⟨7, _⟩ => ⟨S2048x2048, .bf16⟩
  | .hbm, ⟨8, _⟩ => ⟨S2048x2048, .bf16⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .bf16⟩
  | .hbm, ⟨31, _⟩ => ⟨S2048x2048, .bf16⟩
  | .hbm, ⟨32, _⟩ => ⟨S2048x2048, .bf16⟩
  | .hbm, ⟨33, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel5.lean ====
abbrev S2304x2048 : Shape := ⟨2, ![2304, 2048]⟩
abbrev S2304x11264 : Shape := ⟨2, ![2304, 11264]⟩
abbrev S2304x1024 : Shape := ⟨2, ![2304, 1024]⟩
abbrev S1024x11264 : Shape := ⟨2, ![1024, 11264]⟩
abbrev S1024x1024 : Shape := ⟨2, ![1024, 1024]⟩

abbrev nBuf : Space → Nat
  | .hbm => 6
  | .vmem => 10
  | .smem => 0
  | _ => 0

abbrev bufTy : (tb : Table) → Fin (tcTables nBuf tb) → BufTy
  | .hbm, ⟨0, _⟩ => ⟨S2304x2048, .bf16⟩
  | .hbm, ⟨1, _⟩ => ⟨S2304x11264, .bf16⟩
  | .hbm, ⟨2, _⟩ => ⟨S2304x1024, .bf16⟩
  | .hbm, ⟨3, _⟩ => ⟨S1024x11264, .bf16⟩
  | .hbm, ⟨4, _⟩ => ⟨S2304x1024, .bf16⟩
  | .hbm, ⟨5, _⟩ => ⟨S1024x11264, .bf16⟩
  | .local _ .vmem, ⟨0, _⟩ => ⟨S2304x1024, .bf16⟩
  | .local _ .vmem, ⟨1, _⟩ => ⟨S2304x1024, .bf16⟩
  | .local _ .vmem, ⟨2, _⟩ => ⟨S2304x1024, .bf16⟩
  | .local _ .vmem, ⟨3, _⟩ => ⟨S1024x1024, .bf16⟩
  | .local _ .vmem, ⟨4, _⟩ => ⟨S1024x1024, .bf16⟩
  | .local _ .vmem, ⟨5, _⟩ => ⟨S2304x1024, .bf16⟩
  | .local _ .vmem, ⟨6, _⟩ => ⟨S2304x1024, .bf16⟩
  | .local _ .vmem, ⟨7, _⟩ => ⟨S2304x1024, .bf16⟩
  | .local _ .vmem, ⟨8, _⟩ => ⟨S1024x1024, .bf16⟩
  | .local _ .vmem, ⟨9, _⟩ => ⟨S1024x1024, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2304x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S2304x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S2304x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference5Ideal.lean ====
abbrev S2304x2048 : Shape := ⟨2, ![2304, 2048]⟩
abbrev S2304x11264 : Shape := ⟨2, ![2304, 11264]⟩
abbrev S11264x2048 : Shape := ⟨2, ![11264, 2048]⟩
abbrev S2048x11264 : Shape := ⟨2, ![2048, 11264]⟩
abbrev S1024x11264 : Shape := ⟨2, ![1024, 11264]⟩

abbrev nBuf : Space → Nat
  | .hbm => 10
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2304x11264, .bf16⟩
  | .hbm, ⟨2, _⟩ => ⟨S2304x2048, .f32⟩
  | .hbm, ⟨3, _⟩ => ⟨S2304x11264, .f32⟩
  | .hbm, ⟨4, _⟩ => ⟨S11264x2048, .f32⟩
  | .hbm, ⟨5, _⟩ => ⟨S2048x11264, .f32⟩
  | .hbm, ⟨6, _⟩ => ⟨S1024x11264, .f32⟩
  | .hbm, ⟨7, _⟩ => ⟨S1024x11264, .bf16⟩
  | .hbm, ⟨8, _⟩ => ⟨S1024x11264, .f32⟩
  | .hbm, ⟨9, _⟩ => ⟨S1024x11264, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel6.lean ====
abbrev S2304x2048 : Shape := ⟨2, ![2304, 2048]⟩
abbrev S2048x11264 : Shape := ⟨2, ![2048, 11264]⟩
abbrev S2048x2048 : Shape := ⟨2, ![2048, 2048]⟩
abbrev S2304x11264 : Shape := ⟨2, ![2304, 11264]⟩
abbrev S768x2048 : Shape := ⟨2, ![768, 2048]⟩
abbrev S2048x1024 : Shape := ⟨2, ![2048, 1024]⟩
abbrev S768x1024 : Shape := ⟨2, ![768, 1024]⟩
abbrev S1024x2048 : Shape := ⟨2, ![1024, 2048]⟩
abbrev S1024x1024 : Shape := ⟨2, ![1024, 1024]⟩

abbrev nBuf : Space → Nat
  | .hbm => 6
  | .vmem => 12
  | .smem => 0
  | _ => 0

abbrev bufTy : (tb : Table) → Fin (tcTables nBuf tb) → BufTy
  | .hbm, ⟨0, _⟩ => ⟨S2304x2048, .bf16⟩
  | .hbm, ⟨1, _⟩ => ⟨S2048x11264, .bf16⟩
  | .hbm, ⟨2, _⟩ => ⟨S2048x2048, .bf16⟩
  | .hbm, ⟨3, _⟩ => ⟨S2048x2048, .bf16⟩
  | .hbm, ⟨4, _⟩ => ⟨S2304x11264, .f32⟩
  | .hbm, ⟨5, _⟩ => ⟨S2048x2048, .f32⟩
  | .local _ .vmem, ⟨0, _⟩ => ⟨S768x2048, .bf16⟩
  | .local _ .vmem, ⟨1, _⟩ => ⟨S768x2048, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | .local _ .vmem, ⟨6, _⟩ => ⟨S1024x2048, .bf16⟩
  | .local _ .vmem, ⟨7, _⟩ => ⟨S1024x2048, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .f32⟩
  | .local _ .vmem, ⟨11, _⟩ => ⟨S1024x1024, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![3, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference6Ideal.lean ====
abbrev S2304x2048 : Shape := ⟨2, ![2304, 2048]⟩
abbrev S2048x11264 : Shape := ⟨2, ![2048, 11264]⟩
abbrev S2048x2048 : Shape := ⟨2, ![2048, 2048]⟩
abbrev S2304x11264 : Shape := ⟨2, ![2304, 11264]⟩

abbrev nBuf : Space → Nat
  | .hbm => 10
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2048x11264, .bf16⟩
  | .hbm, ⟨2, _⟩ => ⟨S2048x2048, .bf16⟩
  | .hbm, ⟨3, _⟩ => ⟨S2048x2048, .bf16⟩
  | .hbm, ⟨4, _⟩ => ⟨S2304x2048, .f32⟩
  | .hbm, ⟨5, _⟩ => ⟨S2048x11264, .f32⟩
  | .hbm, ⟨6, _⟩ => ⟨S2304x11264, .f32⟩
  | .hbm, ⟨7, _⟩ => ⟨S2048x2048, .f32⟩
  | .hbm, ⟨8, _⟩ => ⟨S2048x2048, .f32⟩
  | .hbm, ⟨9, _⟩ => ⟨S2048x2048, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel7.lean ====
abbrev S2304x11264 : Shape := ⟨2, ![2304, 11264]⟩
abbrev S2048x11264 : Shape := ⟨2, ![2048, 11264]⟩
abbrev S2304x2048 : Shape := ⟨2, ![2304, 2048]⟩
abbrev S768x2816 : Shape := ⟨2, ![768, 2816]⟩
abbrev S1024x2816 : Shape := ⟨2, ![1024, 2816]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x11264, .bf16⟩
  | .hbm, ⟨1, _⟩ => ⟨S2048x11264, .bf16⟩
  | .hbm, ⟨2, _⟩ => ⟨S2304x2048, .f32⟩
  | .local _ .vmem, ⟨0, _⟩ => ⟨S768x2816, .bf16⟩
  | .local _ .vmem, ⟨1, _⟩ => ⟨S768x2816, .bf16⟩
  | .local _ .vmem, ⟨2, _⟩ => ⟨S1024x2816, .bf16⟩
  | .local _ .vmem, ⟨3, _⟩ => ⟨S1024x2816, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S2304x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2304x11264 : Shape := ⟨2, ![2304, 11264]⟩
abbrev S2048x11264 : Shape := ⟨2, ![2048, 11264]⟩
abbrev S2304x2048 : Shape := ⟨2, ![2304, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2304x11264, .bf16⟩
  | .hbm, ⟨1, _⟩ => ⟨S2048x11264, .bf16⟩
  | .hbm, ⟨2, _⟩ => ⟨S2048x11264, .f32⟩
  | .hbm, ⟨3, _⟩ => ⟨S2304x11264, .f32⟩
  | .hbm, ⟨4, _⟩ => ⟨S2304x2048, .f32⟩
  | _, _ => ⟨S2304x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S2048x8192 : Shape := ⟨2, ![2048, 8192]⟩
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x8192, .f32⟩
  | .hbm, ⟨3, _⟩ => ⟨S8192x2048, .f32⟩
  | .hbm, ⟨4, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S2304x2048 : Shape := ⟨2, ![2304, 2048]⟩
abbrev S2304x512 : Shape := ⟨2, ![2304, 512]⟩
abbrev S2304x11264 : Shape := ⟨2, ![2304, 11264]⟩
abbrev S2048x2048 : Shape := ⟨2, ![2048, 2048]⟩
abbrev S2048x4x4x128 : Shape := ⟨4, ![2048, 4, 4, 128]⟩
abbrev S2304x4x128 : Shape := ⟨3, ![2304, 4, 128]⟩
abbrev S4x2304x2048x4 : Shape := ⟨4, ![4, 2304, 2048, 4]⟩
abbrev S4x4x2048x2304 : Shape := ⟨4, ![4, 4, 2048, 2304]⟩
abbrev S_ : Shape := ⟨0, ![]⟩
abbrev S4x4x2048 : Shape := ⟨3, ![4, 4, 2048]⟩
abbrev S4x4x2048x1 : Shape := ⟨4, ![4, 4, 2048, 1]⟩
abbrev S2048x4x4 : Shape := ⟨3, ![2048, 4, 4]⟩
abbrev S2048x4x128 : Shape := ⟨3, ![2048, 4, 128]⟩
abbrev S4x128x4x2048 : Shape := ⟨4, ![4, 128, 4, 2048]⟩
abbrev S2048x512 : Shape := ⟨2, ![2048, 512]⟩
abbrev S256x512 : Shape := ⟨2, ![256, 512]⟩
abbrev S2304x128 : Shape := ⟨2, ![2304, 128]⟩
abbrev S256x128 : Shape := ⟨2, ![256, 128]⟩
abbrev S256 : Shape := ⟨1, ![256]⟩
abbrev S256x1 : Shape := ⟨2, ![256, 1]⟩
abbrev S256x2304 : Shape := ⟨2, ![256, 2304]⟩

abbrev nBuf : Space → Nat
  | .hbm => 59
  | .vmem => 19
  | .smem => 0
  | _ => 0

abbrev bufTy : (tb : Table) → Fin (tcTables nBuf tb) → BufTy
  | .hbm, ⟨0, _⟩ => ⟨S2304x2048, .bf16⟩
  | .hbm, ⟨1, _⟩ => ⟨S2304x512, .bf16⟩
  | .hbm, ⟨2, _⟩ => ⟨S2304x11264, .f32⟩
  | .hbm, ⟨3, _⟩ => ⟨S2048x2048, .bf16⟩
  | .hbm, ⟨4, _⟩ => ⟨S2304x11264, .bf16⟩
  | .hbm, ⟨5, _⟩ => ⟨S2048x2048, .bf16⟩
  | .hbm, ⟨6, _⟩ => ⟨S2048x2048, .f32⟩
  | .hbm, ⟨7, _⟩ => ⟨S2048x4x4x128, .f32⟩
  | .hbm, ⟨8, _⟩ => ⟨S2304x512, .f32⟩
  | .hbm, ⟨9, _⟩ => ⟨S2304x4x128, .f32⟩
  | .hbm, ⟨10, _⟩ => ⟨S2304x512, .f32⟩
  | .hbm, ⟨11, _⟩ => ⟨S2304x4x128, .f32⟩
  | .hbm, ⟨12, _⟩ => ⟨S4x2304x2048x4, .f32⟩
  | .hbm, ⟨13, _⟩ => ⟨S4x4x2048x2304, .f32⟩
  | .hbm, ⟨14, _⟩ => ⟨S_, .f32⟩
  | .hbm, ⟨15, _⟩ => ⟨S_, .f32⟩
  | .hbm, ⟨16, _⟩ => ⟨S4x4x2048x2304, .f32⟩
  | .hbm, ⟨17, _⟩ => ⟨S4x4x2048x2304, .f32⟩
  | .hbm, ⟨18, _⟩ => ⟨S_, .f32⟩
  | .hbm, ⟨19, _⟩ => ⟨S4x4x2048, .f32⟩
  | .hbm, ⟨20, _⟩ => ⟨S4x4x2048x1, .f32⟩
  | .hbm, ⟨21, _⟩ => ⟨S4x4x2048x2304, .f32⟩
  | .hbm, ⟨22, _⟩ => ⟨S4x4x2048x2304, .f32⟩
  | .hbm, ⟨23, _⟩ => ⟨S4x4x2048x2304, .f32⟩
  | .hbm, ⟨24, _⟩ => ⟨S_, .f32⟩
  | .hbm, ⟨25, _⟩ => ⟨S4x4x2048, .f32⟩
  | .hbm, ⟨26, _⟩ => ⟨S4x4x2048, .f32⟩
  | .hbm, ⟨27, _⟩ => ⟨S4x4x2048, .f32⟩
  | .hbm, ⟨28, _⟩ => ⟨S2048x4x4, .f32⟩
  | .hbm, ⟨29, _⟩ => ⟨S_, .f32⟩
  | .hbm, ⟨30, _⟩ => ⟨S2048x4x128, .f32⟩
  | .hbm, ⟨31, _⟩ => ⟨S4x2304x2048x4, .f32⟩
  | .hbm, ⟨32, _⟩ => ⟨S4x4x2048x2304, .f32⟩
  | .hbm, ⟨33, _⟩ => ⟨S_, .f32⟩
  | .hbm, ⟨34, _⟩ => ⟨S_, .f32⟩
  | .hbm, ⟨35, _⟩ => ⟨S4x4x2048x2304, .f32⟩
  | .hbm, ⟨36, _⟩ => ⟨S4x4x2048x2304, .f32⟩
  | .hbm, ⟨37, _⟩ => ⟨S_, .f32⟩
  | .hbm, ⟨38, _⟩ => ⟨S4x4x2048, .f32⟩
  | .hbm, ⟨39, _⟩ => ⟨S_, .f32⟩
  | .hbm, ⟨40, _⟩ => ⟨S4x4x2048, .f32⟩
  | .hbm, ⟨41, _⟩ => ⟨S4x4x2048, .f32⟩
  | .hbm, ⟨42, _⟩ => ⟨S4x4x2048x1, .f32⟩
  | .hbm, ⟨43, _⟩ => ⟨S4x4x2048x2304, .f32⟩
  | .hbm, ⟨44, _⟩ => ⟨S4x4x2048x2304, .f32⟩
  | .hbm, ⟨45, _⟩ => ⟨S4x4x2048x2304, .f32⟩
  | .hbm, ⟨46, _⟩ => ⟨S_, .f32⟩
  | .hbm, ⟨47, _⟩ => ⟨S4x4x2048, .f32⟩
  | .hbm, ⟨48, _⟩ => ⟨S4x4x2048x1, .f32⟩
  | .hbm, ⟨49, _⟩ => ⟨S4x4x2048x2304, .f32⟩
  | .hbm, ⟨50, _⟩ => ⟨S4x4x2048x2304, .f32⟩
  | .hbm, ⟨51, _⟩ => ⟨S4x128x4x2048, .f32⟩
  | .hbm, ⟨52, _⟩ => ⟨S2048x4x4x128, .f32⟩
  | .hbm, ⟨53, _⟩ => ⟨S2048x2048, .f32⟩
  | .hbm, ⟨54, _⟩ => ⟨S2048x2048, .bf16⟩
  | .hbm, ⟨55, _⟩ => ⟨S2048x512, .f32⟩
  | .hbm, ⟨56, _⟩ => ⟨S2048x2048, .f32⟩
  | .hbm, ⟨57, _⟩ => ⟨S2304x512, .f32⟩
  | .hbm, ⟨58, _⟩ => ⟨S2304x11264, .bf16⟩
  | .local _ .vmem, ⟨0, _⟩ => ⟨S256x512, .bf16⟩
  | .local _ .vmem, ⟨1, _⟩ => ⟨S256x512, .bf16⟩
  | .local _ .vmem, ⟨2, _⟩ => ⟨S2304x128, .bf16⟩
  | .local _ .vmem, ⟨3, _⟩ => ⟨S2304x128, .bf16⟩
  | .local _ .vmem, ⟨4, _⟩ => ⟨S2304x128, .f32⟩
  | .local _ .vmem, ⟨5, _⟩ => ⟨S2304x128, .f32⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x128, .f32⟩
  | .local _ .vmem, ⟨11, _⟩ => ⟨S256x128, .f32⟩
  | .local _ .vmem, ⟨12, _⟩ => ⟨S256x512, .f32⟩
  | .local _ .vmem, ⟨13, _⟩ => ⟨S256x512, .f32⟩
  | .local _ .vmem, ⟨14, _⟩ => ⟨S2304x128, .f32⟩
  | .local _ .vmem, ⟨15, _⟩ => ⟨S2304x128, .f32⟩
  | .local _ .vmem, ⟨16, _⟩ => ⟨S2304x128, .bf16⟩
  | .local _ .vmem, ⟨17, _⟩ => ⟨S2304x128, .bf16⟩
  | .local _ .vmem, ⟨18, _⟩ => ⟨S2304x128, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43_0 : Ref sig .tc := ⟨.hbm, 56, rfl⟩
abbrev main_v43_1 : Ref sig .tc := ⟨.hbm, 57, rfl⟩
abbrev main_v43_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v158 : BitVec 1 := Scalar.cmpi .eq arg1 c7_i32
  let v159 : BitVec 32 := Scalar.extui v158
  let c0_i32_101 : BitVec 32 := 0#32
  let v160 : BitVec 1 := Scalar.cmpi .ne v159 c0_i32_101
  v160

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2304x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2304x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Kernel9Ideal.lean ====
variable {F : FTy → Type} [FloatOps F] [Named F]
def κ : String → Option EReal := fun
  | "scale" => some (((Real.sqrt 128)⁻¹ : ℝ) : EReal)
  | _ => none
-- ==== Reference9Ideal.lean ====
abbrev S2304x2048 : Shape := ⟨2, ![2304, 2048]⟩
abbrev S2304x512 : Shape := ⟨2, ![2304, 512]⟩
abbrev S2304x11264 : Shape := ⟨2, ![2304, 11264]⟩
abbrev S2048x2048 : Shape := ⟨2, ![2048, 2048]⟩
abbrev S2048x4x4x128 : Shape := ⟨4, ![2048, 4, 4, 128]⟩
abbrev S2304x4x128 : Shape := ⟨3, ![2304, 4, 128]⟩
abbrev S4x2304x2048x4 : Shape := ⟨4, ![4, 2304, 2048, 4]⟩
abbrev S4x4x2048x2304 : Shape := ⟨4, ![4, 4, 2048, 2304]⟩
abbrev S_ : Shape := ⟨0, ![]⟩
abbrev S4x4x2048 : Shape := ⟨3, ![4, 4, 2048]⟩
abbrev S4x4x2048x1 : Shape := ⟨4, ![4, 4, 2048, 1]⟩
abbrev S4x128x4x2048 : Shape := ⟨4, ![4, 128, 4, 2048]⟩
abbrev S4x128x2304 : Shape := ⟨3, ![4, 128, 2304]⟩
abbrev S4x2048x4x128 : Shape := ⟨4, ![4, 2048, 4, 128]⟩
abbrev S4x2304x128 : Shape := ⟨3, ![4, 2304, 128]⟩
abbrev S2304x2560 : Shape := ⟨2, ![2304, 2560]⟩
abbrev S2304x8192 : Shape := ⟨2, ![2304, 8192]⟩

abbrev nBuf : Space → Nat
  | .hbm => 94
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2304x512, .bf16⟩
  | .hbm, ⟨2, _⟩ => ⟨S2304x11264, .f32⟩
  | .hbm, ⟨3, _⟩ => ⟨S2048x2048, .bf16⟩
  | .hbm, ⟨4, _⟩ => ⟨S2304x11264, .bf16⟩
  | .hbm, ⟨5, _⟩ => ⟨S2048x2048, .bf16⟩
  | .hbm, ⟨6, _⟩ => ⟨S2048x2048, .f32⟩
  | .hbm, ⟨7, _⟩ => ⟨S2048x4x4x128, .f32⟩
  | .hbm, ⟨8, _⟩ => ⟨S2304x512, .f32⟩
  | .hbm, ⟨9, _⟩ => ⟨S2304x4x128, .f32⟩
  | .hbm, ⟨10, _⟩ => ⟨S2304x512, .f32⟩
  | .hbm, ⟨11, _⟩ => ⟨S2304x4x128, .f32⟩
  | .hbm, ⟨12, _⟩ => ⟨S4x2304x2048x4, .f32⟩
  | .hbm, ⟨13, _⟩ => ⟨S4x4x2048x2304, .f32⟩
  | .hbm, ⟨14, _⟩ => ⟨S_, .f32⟩
  | .hbm, ⟨15, _⟩ => ⟨S_, .f32⟩
  | .hbm, ⟨16, _⟩ => ⟨S4x4x2048x2304, .f32⟩
  | .hbm, ⟨17, _⟩ => ⟨S4x4x2048x2304, .f32⟩
  | .hbm, ⟨18, _⟩ => ⟨S_, .f32⟩
  | .hbm, ⟨19, _⟩ => ⟨S4x4x2048, .f32⟩
  | .hbm, ⟨20, _⟩ => ⟨S4x4x2048x1, .f32⟩
  | .hbm, ⟨21, _⟩ => ⟨S4x4x2048x2304, .f32⟩
  | .hbm, ⟨22, _⟩ => ⟨S4x4x2048x2304, .i1⟩
  | .hbm, ⟨23, _⟩ => ⟨S4x4x2048x2304, .f32⟩
  | .hbm, ⟨24, _⟩ => ⟨S_, .f32⟩
  | .hbm, ⟨25, _⟩ => ⟨S4x4x2048, .f32⟩
  | .hbm, ⟨26, _⟩ => ⟨S_, .f32⟩
  | .hbm, ⟨27, _⟩ => ⟨S4x4x2048, .f32⟩
  | .hbm, ⟨28, _⟩ => ⟨S4x4x2048, .f32⟩
  | .hbm, ⟨29, _⟩ => ⟨S_, .f32⟩
  | .hbm, ⟨30, _⟩ => ⟨S4x4x2048, .f32⟩
  | .hbm, ⟨31, _⟩ => ⟨S4x4x2048, .i1⟩
  | .hbm, ⟨32, _⟩ => ⟨S_, .f32⟩
  | .hbm, ⟨33, _⟩ => ⟨S4x4x2048, .f32⟩
  | .hbm, ⟨34, _⟩ => ⟨S4x4x2048, .i1⟩
  | .hbm, ⟨35, _⟩ => ⟨S_, .f32⟩
  | .hbm, ⟨36, _⟩ => ⟨S4x4x2048, .f32⟩
  | .hbm, ⟨37, _⟩ => ⟨S_, .f32⟩
  | .hbm, ⟨38, _⟩ => ⟨S4x4x2048, .f32⟩
  | .hbm, ⟨39, _⟩ => ⟨S_, .f32⟩
  | .hbm, ⟨40, _⟩ => ⟨S4x4x2048, .f32⟩
  | .hbm, ⟨41, _⟩ => ⟨S4x4x2048, .f32⟩
  | .hbm, ⟨42, _⟩ => ⟨S4x4x2048, .f32⟩
  | .hbm, ⟨43, _⟩ => ⟨S4x4x2048x1, .f32⟩
  | .hbm, ⟨44, _⟩ => ⟨S4x4x2048x2304, .f32⟩
  | .hbm, ⟨45, _⟩ => ⟨S4x4x2048x2304, .f32⟩
  | .hbm, ⟨46, _⟩ => ⟨S4x4x2048x2304, .f32⟩
  | .hbm, ⟨47, _⟩ => ⟨S_, .f32⟩
  | .hbm, ⟨48, _⟩ => ⟨S4x4x2048, .f32⟩
  | .hbm, ⟨49, _⟩ => ⟨S4x4x2048x1, .f32⟩
  | .hbm, ⟨50, _⟩ => ⟨S4x4x2048x2304, .f32⟩
  | .hbm, ⟨51, _⟩ => ⟨S4x4x2048x2304, .f32⟩
  | .hbm, ⟨52, _⟩ => ⟨S4x4x2048x1, .f32⟩
  | .hbm, ⟨53, _⟩ => ⟨S_, .f32⟩
  | .hbm, ⟨54, _⟩ => ⟨S4x4x2048x1, .f32⟩
  | .hbm, ⟨55, _⟩ => ⟨S4x4x2048x1, .f32⟩
  | .hbm, ⟨56, _⟩ => ⟨S4x128x4x2048, .f32⟩
  | .hbm, ⟨57, _⟩ => ⟨S2048x4x4x128, .f32⟩
  | .hbm, ⟨58, _⟩ => ⟨S2048x2048, .f32⟩
  | .hbm, ⟨59, _⟩ => ⟨S2048x4x4x128, .f32⟩
  | .hbm, ⟨60, _⟩ => ⟨S4x128x4x2048, .f32⟩
  | .hbm, ⟨61, _⟩ => ⟨S4x4x2048x2304, .f32⟩
  | .hbm, ⟨62, _⟩ => ⟨S4x128x2304, .f32⟩
  | .hbm, ⟨63, _⟩ => ⟨S2304x4x128, .f32⟩
  | .hbm, ⟨64, _⟩ => ⟨S4x4x2048x2304, .f32⟩
  | .hbm, ⟨65, _⟩ => ⟨S4x4x2048x2304, .f32⟩
  | .hbm, ⟨66, _⟩ => ⟨S4x4x2048x2304, .f32⟩
  | .hbm, ⟨67, _⟩ => ⟨S_, .f32⟩
  | .hbm, ⟨68, _⟩ => ⟨S4x4x2048, .f32⟩
  | .hbm, ⟨69, _⟩ => ⟨S4x4x2048x1, .f32⟩
  | .hbm, ⟨70, _⟩ => ⟨S4x4x2048x1, .f32⟩
  | .hbm, ⟨71, _⟩ => ⟨S4x4x2048x2304, .f32⟩
  | .hbm, ⟨72, _⟩ => ⟨S4x4x2048x2304, .f32⟩
  | .hbm, ⟨73, _⟩ => ⟨S_, .f32⟩
  | .hbm, ⟨74, _⟩ => ⟨S4x4x2048, .f32⟩
  | .hbm, ⟨75, _⟩ => ⟨S4x4x2048x2304, .f32⟩
  | .hbm, ⟨76, _⟩ => ⟨S4x4x2048x2304, .f32⟩
  | .hbm, ⟨77, _⟩ => ⟨S4x4x2048x2304, .f32⟩
  | .hbm, ⟨78, _⟩ => ⟨S4x4x2048x2304, .f32⟩
  | .hbm, ⟨79, _⟩ => ⟨S4x4x2048x2304, .f32⟩
  | .hbm, ⟨80, _⟩ => ⟨S4x2304x2048x4, .f32⟩
  | .hbm, ⟨81, _⟩ => ⟨S4x2048x4x128, .f32⟩
  | .hbm, ⟨82, _⟩ => ⟨S2048x4x4x128, .f32⟩
  | .hbm, ⟨83, _⟩ => ⟨S4x2304x128, .f32⟩
  | .hbm, ⟨84, _⟩ => ⟨S2304x4x128, .f32⟩
  | .hbm, ⟨85, _⟩ => ⟨S2304x2560, .bf16⟩
  | .hbm, ⟨86, _⟩ => ⟨S2304x2560, .f32⟩
  | .hbm, ⟨87, _⟩ => ⟨S2304x512, .f32⟩
  | .hbm, ⟨88, _⟩ => ⟨S2304x8192, .bf16⟩
  | .hbm, ⟨89, _⟩ => ⟨S2304x8192, .f32⟩
  | .hbm, ⟨90, _⟩ => ⟨S2304x11264, .f32⟩
  | .hbm, ⟨91, _⟩ => ⟨S2048x2048, .f32⟩
  | .hbm, ⟨92, _⟩ => ⟨S2304x512, .f32⟩
  | .hbm, ⟨93, _⟩ => ⟨S2304x11264, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_10 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_11 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩

abbrev nD : Nat := 1
abbrev τ : Topo := Topo.v7x

variable {F : FTy → Type} [FloatOps F]
-- ==== Kernel10.lean ====
abbrev S2304x2048 : Shape := ⟨2, ![2304, 2048]⟩
abbrev S2304x512 : Shape := ⟨2, ![2304, 512]⟩
abbrev S2304x11264 : Shape := ⟨2, ![2304, 11264]⟩
abbrev S2048x2048 : Shape := ⟨2, ![2048, 2048]⟩
abbrev S2048x512 : Shape := ⟨2, ![2048, 512]⟩
abbrev S256x512 : Shape := ⟨2, ![256, 512]⟩
abbrev S2304x128 : Shape := ⟨2, ![2304, 128]⟩
abbrev S256x128 : Shape := ⟨2, ![256, 128]⟩
abbrev S256x2304 : Shape := ⟨2, ![256, 2304]⟩
abbrev S256 : Shape := ⟨1, ![256]⟩
abbrev S256x1 : Shape := ⟨2, ![256, 1]⟩

abbrev nBuf : Space → Nat
  | .hbm => 5
  | .vmem => 10
  | .smem => 0
  | _ => 0

abbrev bufTy : (tb : Table) → Fin (tcTables nBuf tb) → BufTy
  | .hbm, ⟨0, _⟩ => ⟨S2304x2048, .bf16⟩
  | .hbm, ⟨1, _⟩ => ⟨S2304x512, .bf16⟩
  | .hbm, ⟨2, _⟩ => ⟨S2304x11264, .f32⟩
  | .hbm, ⟨3, _⟩ => ⟨S2048x2048, .bf16⟩
  | .hbm, ⟨4, _⟩ => ⟨S2048x512, .f32⟩
  | .local _ .vmem, ⟨0, _⟩ => ⟨S256x512, .bf16⟩
  | .local _ .vmem, ⟨1, _⟩ => ⟨S256x512, .bf16⟩
  | .local _ .vmem, ⟨2, _⟩ => ⟨S2304x128, .bf16⟩
  | .local _ .vmem, ⟨3, _⟩ => ⟨S2304x128, .bf16⟩
  | .local _ .vmem, ⟨4, _⟩ => ⟨S2304x128, .f32⟩
  | .local _ .vmem, ⟨5, _⟩ => ⟨S2304x128, .f32⟩
  | .local _ .vmem, ⟨6, _⟩ => ⟨S256x512, .bf16⟩
  | .local _ .vmem, ⟨7, _⟩ => ⟨S256x512, .bf16⟩
  | .local _ .vmem, ⟨8, _⟩ => ⟨S256x128, .f32⟩
  | .local _ .vmem, ⟨9, _⟩ => ⟨S256x128, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel10Ideal.lean ====
variable {F : FTy → Type} [FloatOps F] [Named F]
def κ : String → Option EReal := fun
  | "scale" => some (((Real.sqrt 128)⁻¹ : ℝ) : EReal)
  | _ => none
-- ==== Reference10Ideal.lean ====
abbrev S2304x2048 : Shape := ⟨2, ![2304, 2048]⟩
abbrev S2304x512 : Shape := ⟨2, ![2304, 512]⟩
abbrev S2304x11264 : Shape := ⟨2, ![2304, 11264]⟩
abbrev S2048x2048 : Shape := ⟨2, ![2048, 2048]⟩
abbrev S2048x4x4x128 : Shape := ⟨4, ![2048, 4, 4, 128]⟩
abbrev S2304x4x128 : Shape := ⟨3, ![2304, 4, 128]⟩
abbrev S4x2304x2048x4 : Shape := ⟨4, ![4, 2304, 2048, 4]⟩
abbrev S4x4x2048x2304 : Shape := ⟨4, ![4, 4, 2048, 2304]⟩
abbrev S_ : Shape := ⟨0, ![]⟩
abbrev S4x4x2048 : Shape := ⟨3, ![4, 4, 2048]⟩
abbrev S4x4x2048x1 : Shape := ⟨4, ![4, 4, 2048, 1]⟩
abbrev S2048x4x4 : Shape := ⟨3, ![2048, 4, 4]⟩
abbrev S2048x4x128 : Shape := ⟨3, ![2048, 4, 128]⟩
abbrev S4x128x4x2048 : Shape := ⟨4, ![4, 128, 4, 2048]⟩
abbrev S2048x512 : Shape := ⟨2, ![2048, 512]⟩

abbrev nBuf : Space → Nat
  | .hbm => 54
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2304x512, .bf16⟩
  | .hbm, ⟨2, _⟩ => ⟨S2304x11264, .f32⟩
  | .hbm, ⟨3, _⟩ => ⟨S2048x2048, .bf16⟩
  | .hbm, ⟨4, _⟩ => ⟨S2048x2048, .f32⟩
  | .hbm, ⟨5, _⟩ => ⟨S2048x4x4x128, .f32⟩
  | .hbm, ⟨6, _⟩ => ⟨S2304x512, .f32⟩
  | .hbm, ⟨7, _⟩ => ⟨S2304x4x128, .f32⟩
  | .hbm, ⟨8, _⟩ => ⟨S2304x512, .f32⟩
  | .hbm, ⟨9, _⟩ => ⟨S2304x4x128, .f32⟩
  | .hbm, ⟨10, _⟩ => ⟨S4x2304x2048x4, .f32⟩
  | .hbm, ⟨11, _⟩ => ⟨S4x4x2048x2304, .f32⟩
  | .hbm, ⟨12, _⟩ => ⟨S_, .f32⟩
  | .hbm, ⟨13, _⟩ => ⟨S_, .f32⟩
  | .hbm, ⟨14, _⟩ => ⟨S4x4x2048x2304, .f32⟩
  | .hbm, ⟨15, _⟩ => ⟨S4x4x2048x2304, .f32⟩
  | .hbm, ⟨16, _⟩ => ⟨S_, .f32⟩
  | .hbm, ⟨17, _⟩ => ⟨S4x4x2048, .f32⟩
  | .hbm, ⟨18, _⟩ => ⟨S4x4x2048x1, .f32⟩
  | .hbm, ⟨19, _⟩ => ⟨S4x4x2048x2304, .f32⟩
  | .hbm, ⟨20, _⟩ => ⟨S4x4x2048x2304, .f32⟩
  | .hbm, ⟨21, _⟩ => ⟨S4x4x2048x2304, .f32⟩
  | .hbm, ⟨22, _⟩ => ⟨S_, .f32⟩
  | .hbm, ⟨23, _⟩ => ⟨S4x4x2048, .f32⟩
  | .hbm, ⟨24, _⟩ => ⟨S4x4x2048, .f32⟩
  | .hbm, ⟨25, _⟩ => ⟨S4x4x2048, .f32⟩
  | .hbm, ⟨26, _⟩ => ⟨S2048x4x4, .f32⟩
  | .hbm, ⟨27, _⟩ => ⟨S_, .f32⟩
  | .hbm, ⟨28, _⟩ => ⟨S2048x4x128, .f32⟩
  | .hbm, ⟨29, _⟩ => ⟨S4x2304x2048x4, .f32⟩
  | .hbm, ⟨30, _⟩ => ⟨S4x4x2048x2304, .f32⟩
  | .hbm, ⟨31, _⟩ => ⟨S_, .f32⟩
  | .hbm, ⟨32, _⟩ => ⟨S_, .f32⟩
  | .hbm, ⟨33, _⟩ => ⟨S4x4x2048x2304, .f32⟩
  | .hbm, ⟨34, _⟩ => ⟨S4x4x2048x2304, .f32⟩
  | .hbm, ⟨35, _⟩ => ⟨S_, .f32⟩
  | .hbm, ⟨36, _⟩ => ⟨S4x4x2048, .f32⟩
  | .hbm, ⟨37, _⟩ => ⟨S_, .f32⟩
  | .hbm, ⟨38, _⟩ => ⟨S4x4x2048, .f32⟩
  | .hbm, ⟨39, _⟩ => ⟨S4x4x2048, .f32⟩
  | .hbm, ⟨40, _⟩ => ⟨S4x4x2048x1, .f32⟩
  | .hbm, ⟨41, _⟩ => ⟨S4x4x2048x2304, .f32⟩
  | .hbm, ⟨42, _⟩ => ⟨S4x4x2048x2304, .f32⟩
  | .hbm, ⟨43, _⟩ => ⟨S4x4x2048x2304, .f32⟩
  | .hbm, ⟨44, _⟩ => ⟨S_, .f32⟩
  | .hbm, ⟨45, _⟩ => ⟨S4x4x2048, .f32⟩
  | .hbm, ⟨46, _⟩ => ⟨S4x4x2048x1, .f32⟩
  | .hbm, ⟨47, _⟩ => ⟨S4x4x2048x2304, .f32⟩
  | .hbm, ⟨48, _⟩ => ⟨S4x4x2048x2304, .f32⟩
  | .hbm, ⟨49, _⟩ => ⟨S4x128x4x2048, .f32⟩
  | .hbm, ⟨50, _⟩ => ⟨S2048x4x4x128, .f32⟩
  | .hbm, ⟨51, _⟩ => ⟨S2048x2048, .f32⟩
  | .hbm, ⟨52, _⟩ => ⟨S2048x2048, .bf16⟩
  | .hbm, ⟨53, _⟩ => ⟨S2048x512, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== Kernel11.lean ====
abbrev S2048x2048 : Shape := ⟨2, ![2048, 2048]⟩
abbrev S2304x11264 : Shape := ⟨2, ![2304, 11264]⟩
abbrev S256x1024 : Shape := ⟨2, ![256, 1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2304x11264, .f32⟩
  | .hbm, ⟨3, _⟩ => ⟨S2304x11264, .bf16⟩
  | .hbm, ⟨4, _⟩ => ⟨S2048x2048, .bf16⟩
  | .hbm, ⟨5, _⟩ => ⟨S2304x11264, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c7_i32 : BitVec 32 := 7#32
  let v1 : BitVec 32 := Scalar.addi c7_i32 arg1
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c7_i32 : BitVec 32 := 7#32
  let v1 : BitVec 32 := Scalar.addi c7_i32 arg1
  let c0_i32 : BitVec 32 := 0#32
  ![v0.toNat, v1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S2048x2048 : Shape := ⟨2, ![2048, 2048]⟩
abbrev S2304x11264 : Shape := ⟨2, ![2304, 11264]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2304x11264, .f32⟩
  | .hbm, ⟨3, _⟩ => ⟨S2304x11264, .bf16⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .bf16⟩
  | .hbm, ⟨22, _⟩ => ⟨S2048x2048, .bf16⟩
  | .hbm, ⟨23, _⟩ => ⟨S_, .i32⟩
  | .hbm, ⟨24, _⟩ => ⟨S_, .i32⟩
  | .hbm, ⟨25, _⟩ => ⟨S2304x11264, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_c_2 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Kernel12.lean ====
abbrev S2048x2048 : Shape := ⟨2, ![2048, 2048]⟩
abbrev S2304x11264 : Shape := ⟨2, ![2304, 11264]⟩
abbrev S256x1024 : Shape := ⟨2, ![256, 1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2304x11264, .f32⟩
  | .hbm, ⟨3, _⟩ => ⟨S2304x11264, .bf16⟩
  | .hbm, ⟨4, _⟩ => ⟨S2048x2048, .bf16⟩
  | .hbm, ⟨5, _⟩ => ⟨S2304x11264, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c9_i32 : BitVec 32 := 9#32
  let v1 : BitVec 32 := Scalar.addi c9_i32 arg1
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c9_i32 : BitVec 32 := 9#32
  let v1 : BitVec 32 := Scalar.addi c9_i32 arg1
  let c0_i32 : BitVec 32 := 0#32
  ![v0.toNat, v1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference12Ideal.lean ====
abbrev S2048x2048 : Shape := ⟨2, ![2048, 2048]⟩
abbrev S2304x11264 : Shape := ⟨2, ![2304, 11264]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2304x11264, .f32⟩
  | .hbm, ⟨3, _⟩ => ⟨S2304x11264, .bf16⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .bf16⟩
  | .hbm, ⟨22, _⟩ => ⟨S2048x2048, .bf16⟩
  | .hbm, ⟨23, _⟩ => ⟨S_, .i32⟩
  | .hbm, ⟨24, _⟩ => ⟨S_, .i32⟩
  | .hbm, ⟨25, _⟩ => ⟨S2304x11264, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_c_2 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Kernel13.lean ====
abbrev S2048x2048 : Shape := ⟨2, ![2048, 2048]⟩
abbrev S2304x2048 : Shape := ⟨2, ![2304, 2048]⟩
abbrev S2304x11264 : Shape := ⟨2, ![2304, 11264]⟩
abbrev S256x1024 : Shape := ⟨2, ![256, 1024]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2304x2048, .f32⟩
  | .hbm, ⟨2, _⟩ => ⟨S2304x2048, .f32⟩
  | .hbm, ⟨3, _⟩ => ⟨S2304x11264, .f32⟩
  | .hbm, ⟨4, _⟩ => ⟨S2304x11264, .bf16⟩
  | .hbm, ⟨5, _⟩ => ⟨S2048x2048, .f32⟩
  | .hbm, ⟨6, _⟩ => ⟨S2304x11264, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let v1 : BitVec 32 := Scalar.addi c0_i32 arg1
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let v1 : BitVec 32 := Scalar.addi c0_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c5_i32 : BitVec 32 := 5#32
  let v1 : BitVec 32 := Scalar.addi c5_i32 arg1
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c5_i32 : BitVec 32 := 5#32
  let v1 : BitVec 32 := Scalar.addi c5_i32 arg1
  let c0_i32 : BitVec 32 := 0#32
  ![v0.toNat, v1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel13Ideal.lean ====
variable {F : FTy → Type} [FloatOps F] [Named F]
def κ : String → Option EReal := fun
  | "gelu_3a" => some ((26829 / 200000 : ℝ) : EReal)
  | "gelu_a" => some ((8943 / 200000 : ℝ) : EReal)
  | "gelu_c" => some ((Real.sqrt (2 * Real.pi⁻¹) : ℝ) : EReal)
  | _ => none
-- ==== Reference13Ideal.lean ====
abbrev S2048x2048 : Shape := ⟨2, ![2048, 2048]⟩
abbrev S2304x2048 : Shape := ⟨2, ![2304, 2048]⟩
abbrev S2304x11264 : Shape := ⟨2, ![2304, 11264]⟩

abbrev nBuf : Space → Nat
  | .hbm => 7
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2304x2048, .f32⟩
  | .hbm, ⟨2, _⟩ => ⟨S2304x2048, .f32⟩
  | .hbm, ⟨3, _⟩ => ⟨S2304x11264, .f32⟩
  | .hbm, ⟨4, _⟩ => ⟨S2304x11264, .bf16⟩
  | .hbm, ⟨5, _⟩ => ⟨S2048x2048, .f32⟩
  | .hbm, ⟨6, _⟩ => ⟨S2304x11264, .bf16⟩
  | .local _ .vmem, ⟨0, _⟩ => ⟨S2048x2048, .f32⟩
  | .local _ .vmem, ⟨1, _⟩ => ⟨S2304x2048, .f32⟩
  | .local _ .vmem, ⟨2, _⟩ => ⟨S2304x2048, .f32⟩
  | .local _ .vmem, ⟨3, _⟩ => ⟨S2304x11264, .f32⟩
  | .local _ .vmem, ⟨4, _⟩ => ⟨S2304x11264, .bf16⟩
  | .local _ .vmem, ⟨5, _⟩ => ⟨S2048x2048, .f32⟩
  | .local _ .vmem, ⟨6, _⟩ => ⟨S2304x11264, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "gelu_a" => some ((8943 / 200000 : ℝ) : EReal)
  | "gelu_c" => some ((Real.sqrt (2 * Real.pi⁻¹) : ℝ) : EReal)
  | _ => none

abbrev grid0 : Pipeline.Grid := .none

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2304x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2304x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2304x11264 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2304x11264 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2304x11264 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel14.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S2304x2048 : Shape := ⟨2, ![2304, 2048]⟩
abbrev S2304x11264 : Shape := ⟨2, ![2304, 11264]⟩
abbrev S2048x2048 : Shape := ⟨2, ![2048, 2048]⟩
abbrev S256x1024 : Shape := ⟨2, ![256, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2304x2048, .f32⟩
  | .hbm, ⟨1, _⟩ => ⟨S2304x2048, .f32⟩
  | .hbm, ⟨2, _⟩ => ⟨S2304x11264, .f32⟩
  | .hbm, ⟨3, _⟩ => ⟨S2048x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let v1 : BitVec 32 := Scalar.addi c0_i32 arg1
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let v1 : BitVec 32 := Scalar.addi c0_i32 arg1
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c5_i32 : BitVec 32 := 5#32
  let v1 : BitVec 32 := Scalar.addi c5_i32 arg1
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel16Ideal.lean ====
variable {F : FTy → Type} [FloatOps F] [Named F]
def κ : String → Option EReal := fun
  | "gelu_a" => some ((8943 / 200000 : ℝ) : EReal)
  | "gelu_c" => some ((Real.sqrt (2 * Real.pi⁻¹) : ℝ) : EReal)
  | _ => none
-- ==== Reference16Ideal.lean ====
abbrev S2304x2048 : Shape := ⟨2, ![2304, 2048]⟩
abbrev S2304x11264 : Shape := ⟨2, ![2304, 11264]⟩
abbrev S2048x2048 : Shape := ⟨2, ![2048, 2048]⟩

abbrev nBuf : Space → Nat
  | .hbm => 4
  | .vmem => 4
  | .smem => 0
  | _ => 0

abbrev bufTy : (tb : Table) → Fin (tcTables nBuf tb) → BufTy
  | .hbm, ⟨0, _⟩ => ⟨S2304x2048, .f32⟩
  | .hbm, ⟨1, _⟩ => ⟨S2304x2048, .f32⟩
  | .hbm, ⟨2, _⟩ => ⟨S2304x11264, .f32⟩
  | .hbm, ⟨3, _⟩ => ⟨S2048x2048, .bf16⟩
  | .local _ .vmem, ⟨0, _⟩ => ⟨S2304x2048, .f32⟩
  | .local _ .vmem, ⟨1, _⟩ => ⟨S2304x2048, .f32⟩
  | .local _ .vmem, ⟨2, _⟩ => ⟨S2304x11264, .f32⟩
  | .local _ .vmem, ⟨3, _⟩ => ⟨S2048x2048, .bf16⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F] [Named F]

def κ : String → Option EReal := fun
  | "gelu_a" => some ((8943 / 200000 : ℝ) : EReal)
  | "gelu_c" => some ((Real.sqrt (2 * Real.pi⁻¹) : ℝ) : EReal)
  | _ => none

abbrev grid0 : Pipeline.Grid := .none

abbrev stage0_0 : Fin 1 → Memref sig .tc .vmem S2304x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2304x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2304x11264 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Kernel17.lean ====
abbrev S2048x2048 : Shape := ⟨2, ![2048, 2048]⟩
abbrev S2304x11264 : Shape := ⟨2, ![2304, 11264]⟩
abbrev S256x1024 : Shape := ⟨2, ![256, 1024]⟩

abbrev nBuf : Space → Nat
  | .hbm => 4
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2304x11264, .f32⟩
  | .hbm, ⟨3, _⟩ => ⟨S2048x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c7_i32 : BitVec 32 := 7#32
  let v1 : BitVec 32 := Scalar.addi c7_i32 arg1
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c9_i32 : BitVec 32 := 9#32
  let v1 : BitVec 32 := Scalar.addi c9_i32 arg1
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference17Ideal.lean ====
abbrev S2048x2048 : Shape := ⟨2, ![2048, 2048]⟩
abbrev S2304x11264 : Shape := ⟨2, ![2304, 11264]⟩
abbrev S2048x4096 : Shape := ⟨2, ![2048, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2304x11264, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .f32⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel18.lean ====
abbrev S2048x2048 : Shape := ⟨2, ![2048, 2048]⟩
abbrev S1x2048 : Shape := ⟨2, ![1, 2048]⟩
abbrev S3x2048 : Shape := ⟨2, ![3, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 15
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S3x2048, .f32⟩
  | .hbm, ⟨6, _⟩ => ⟨S2048x2048, .f32⟩
  | .hbm, ⟨7, _⟩ => ⟨S2048x2048, .bf16⟩
  | .hbm, ⟨8, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S3x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S8x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference18Ideal.lean ====
abbrev S2048x2048 : Shape := ⟨2, ![2048, 2048]⟩
abbrev S1x2048 : Shape := ⟨2, ![1, 2048]⟩
abbrev S3x2048 : Shape := ⟨2, ![3, 2048]⟩
abbrev S_ : Shape := ⟨0, ![]⟩
abbrev S2048 : Shape := ⟨1, ![2048]⟩
abbrev S2048x1 : Shape := ⟨2, ![2048, 1]⟩
abbrev S4x2048 : Shape := ⟨2, ![4, 2048]⟩
abbrev S8x2048 : Shape := ⟨2, ![8, 2048]⟩

abbrev nBuf : Space → Nat
  | .hbm => 81
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S3x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048, .f32⟩
  | .hbm, ⟨38, _⟩ => ⟨S1x2048, .f32⟩
  | .hbm, ⟨39, _⟩ => ⟨S2048x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x2048, .f32⟩
  | .hbm, ⟨56, _⟩ => ⟨S2048x2048, .f32⟩
  | .hbm, ⟨57, _⟩ => ⟨S2048x2048, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S_, .f32⟩
  | .hbm, ⟨63, _⟩ => ⟨S2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S_, .f32⟩
  | .hbm, ⟨75, _⟩ => ⟨S2048, .f32⟩
  | .hbm, ⟨76, _⟩ => ⟨S1x2048, .f32⟩
  | .hbm, ⟨77, _⟩ => ⟨S2048x2048, .bf16⟩
  | .hbm, ⟨78, _⟩ => ⟨S_, .f32⟩
  | .hbm, ⟨79, _⟩ => ⟨S4x2048, .f32⟩
  | .hbm, ⟨80, _⟩ => ⟨S8x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_10 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_11 : Ref sig .tc := ⟨.hbm, 78, rfl⟩
abbrev main_v60 : Ref sig .tc := ⟨.hbm, 79, rfl⟩
abbrev main_v61 : Ref sig .tc := ⟨.hbm, 80, rfl⟩

abbrev nD : Nat := 1
abbrev τ : Topo := Topo.v7x

variable {F : FTy → Type} [FloatOps F]
-- ==== Kernel19.lean ====
abbrev S256x2048 : Shape := ⟨2, ![256, 2048]⟩
abbrev S2048x2048 : Shape := ⟨2, ![2048, 2048]⟩
abbrev S2304x2048 : Shape := ⟨2, ![2304, 2048]⟩
abbrev S1x2048 : Shape := ⟨2, ![1, 2048]⟩
abbrev S4x2048 : Shape := ⟨2, ![4, 2048]⟩
abbrev S8x2048 : Shape := ⟨2, ![8, 2048]⟩
abbrev S256 : Shape := ⟨1, ![256]⟩
abbrev S256x1 : Shape := ⟨2, ![256, 1]⟩
abbrev S2048 : Shape := ⟨1, ![2048]⟩

abbrev nBuf : Space → Nat
  | .hbm => 8
  | .vmem => 13
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S2304x2048, .f32⟩
  | .hbm, ⟨3, _⟩ => ⟨S2048x2048, .f32⟩
  | .hbm, ⟨4, _⟩ => ⟨S1x2048, .f32⟩
  | .hbm, ⟨5, _⟩ => ⟨S4x2048, .f32⟩
  | .hbm, ⟨6, _⟩ => ⟨S2048x2048, .f32⟩
  | .hbm, ⟨7, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S4x2048, .f32⟩
  | .local _ .vmem, ⟨10, _⟩ => ⟨S256x2048, .f32⟩
  | .local _ .vmem, ⟨11, _⟩ => ⟨S256x2048, .f32⟩
  | .local _ .vmem, ⟨12, _⟩ => ⟨S8x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg0 : BitVec 32 := BitVec.ofNat 32 (i 0).val
  let c1_i32 : BitVec 32 := 1#32
  let v0 : BitVec 1 := Scalar.cmpi .slt arg0 c1_i32
  let v55 : BitVec 32 := Scalar.extui v0
  let c0_i32_23 : BitVec 32 := 0#32
  let v56 : BitVec 1 := Scalar.cmpi .ne v55 c0_i32_23
  v56

def k0_cond3 (i : grid0.Coords) : BitVec 1 :=
  let arg0 : BitVec 32 := BitVec.ofNat 32 (i 0).val
  let c1_i32 : BitVec 32 := 1#32
  let v0 : BitVec 1 := Scalar.cmpi .slt arg0 c1_i32
  let v_true : BitVec 1 := 1#1
  let v57 : BitVec 1 := Scalar.xori v0 v_true
  let v58 : BitVec 32 := Scalar.extui v57
  let c0_i32_24 : BitVec 32 := 0#32
  let v59 : BitVec 1 := Scalar.cmpi .ne v58 c0_i32_24
  v59

def cc0_transform_0 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference19Ideal.lean ====
abbrev S256x2048 : Shape := ⟨2, ![256, 2048]⟩
abbrev S2048x2048 : Shape := ⟨2, ![2048, 2048]⟩
abbrev S2304x2048 : Shape := ⟨2, ![2304, 2048]⟩
abbrev S1x2048 : Shape := ⟨2, ![1, 2048]⟩
abbrev S4x2048 : Shape := ⟨2, ![4, 2048]⟩
abbrev S_ : Shape := ⟨0, ![]⟩
abbrev S2048 : Shape := ⟨1, ![2048]⟩
abbrev S2048x1 : Shape := ⟨2, ![2048, 1]⟩
abbrev S256 : Shape := ⟨1, ![256]⟩
abbrev S256x1 : Shape := ⟨2, ![256, 1]⟩
abbrev S2x2048 : Shape := ⟨2, ![2, 2048]⟩
abbrev S8x2048 : Shape := ⟨2, ![8, 2048]⟩

abbrev nBuf : Space → Nat
  | .hbm => 132
  | .vmem => 0
  | .smem => 0
  | _ => 0

abbrev hbmTy0_0 (i : Nat) : BufTy := match i % 128 with
  | 0 => ⟨S256x2048, .f32⟩
  | 1 => ⟨S2048x2048, .f32⟩
  | 2 => ⟨S2304x2048, .f32⟩
  | 3 => ⟨S2048x2048, .f32⟩
  | 4 => ⟨S1x2048, .f32⟩
  | 5 => ⟨S4x2048, .f32⟩
  | 6 => ⟨S1x2048, .f32⟩
  | 7 => ⟨S1x2048, .f32⟩
  | 8 => ⟨S2048x2048, .f32⟩
  | 9 => ⟨S_, .f32⟩
  | 10 => ⟨S2048, .f32⟩
  | 11 => ⟨S2048x1, .f32⟩
  | 12 => ⟨S_, .f32⟩
  | 13 => ⟨S2048x1, .f32⟩
  | 14 => ⟨S2048x1, .f32⟩
  | 15 => ⟨S_, .f32⟩
  | 16 => ⟨S2048x1, .f32⟩
  | 17 => ⟨S2048x1, .f32⟩
  | 18 => ⟨S2048x1, .f32⟩
  | 19 => ⟨S2048x1, .f32⟩
  | 20 => ⟨S_, .f32⟩
  | 21 => ⟨S2048x1, .f32⟩
  | 22 => ⟨S2048x1, .f32⟩
  | 23 => ⟨S2048x2048, .f32⟩
  | 24 => ⟨S2048x2048, .f32⟩
  | 25 => ⟨S2048x2048, .f32⟩
  | 26 => ⟨S2048x2048, .f32⟩
  | 27 => ⟨S_, .f32⟩
  | 28 => ⟨S1x2048, .f32⟩
  | 29 => ⟨S1x2048, .f32⟩
  | 30 => ⟨S2048x2048, .f32⟩
  | 31 => ⟨S2048x2048, .f32⟩
  | 32 => ⟨S2048x2048, .f32⟩
  | 33 => ⟨S2048x2048, .f32⟩
  | 34 => ⟨S2048x2048, .f32⟩
  | 35 => ⟨S_, .f32⟩
  | 36 => ⟨S2048, .f32⟩
  | 37 => ⟨S1x2048, .f32⟩
  | 38 => ⟨S2048x2048, .f32⟩
  | 39 => ⟨S_, .f32⟩
  | 40 => ⟨S2048, .f32⟩
  | 41 => ⟨S1x2048, .f32⟩
  | 42 => ⟨S2048x2048, .f32⟩
  | 43 => ⟨S2048x2048, .f32⟩
  | 44 => ⟨S2048x2048, .f32⟩
  | 45 => ⟨S_, .f32⟩
  | 46 => ⟨S2048, .f32⟩
  | 47 => ⟨S1x2048, .f32⟩
  | 48 => ⟨S2048x2048, .f32⟩
  | 49 => ⟨S2048x2048, .f32⟩
  | 50 => ⟨S2048x2048, .f32⟩
  | 51 => ⟨S_, .f32⟩
  | 52 => ⟨S2048, .f32⟩
  | 53 => ⟨S2048x1, .f32⟩
  | 54 => ⟨S2048x2048, .f32⟩
  | 55 => ⟨S2048x2048, .f32⟩
  | 56 => ⟨S2048x2048, .f32⟩
  | 57 => ⟨S2048x1, .f32⟩
  | 58 => ⟨S_, .f32⟩
  | 59 => ⟨S2048x1, .f32⟩
  | 60 => ⟨S2048x1, .f32⟩
  | 61 => ⟨S_, .f32⟩
  | 62 => ⟨S2048, .f32⟩
  | 63 => ⟨S2048x2048, .f32⟩
  | 64 => ⟨S2048x2048, .f32⟩
  | 65 => ⟨S2048x2048, .f32⟩
  | 66 => ⟨S2048x2048, .f32⟩
  | 67 => ⟨S2048x2048, .f32⟩
  | 68 => ⟨S1x2048, .f32⟩
  | 69 => ⟨S1x2048, .f32⟩
  | 70 => ⟨S256x2048, .f32⟩
  | 71 => ⟨S_, .f32⟩
  | 72 => ⟨S256, .f32⟩
  | 73 => ⟨S256x1, .f32⟩
  | 74 => ⟨S_, .f32⟩
  | 75 => ⟨S256x1, .f32⟩
  | 76 => ⟨S256x1, .f32⟩
  | 77 => ⟨S_, .f32⟩
  | 78 => ⟨S256x1, .f32⟩
  | 79 => ⟨S256x1, .f32⟩
  | 80 => ⟨S256x1, .f32⟩
  | 81 => ⟨S256x1, .f32⟩
  | 82 => ⟨S_, .f32⟩
  | 83 => ⟨S256x1, .f32⟩
  | 84 => ⟨S256x1, .f32⟩
  | 85 => ⟨S256x2048, .f32⟩
  | 86 => ⟨S256x2048, .f32⟩
  | 87 => ⟨S256x2048, .f32⟩
  | 88 => ⟨S256x2048, .f32⟩
  | 89 => ⟨S_, .f32⟩
  | 90 => ⟨S1x2048, .f32⟩
  | 91 => ⟨S1x2048, .f32⟩
  | 92 => ⟨S256x2048, .f32⟩
  | 93 => ⟨S256x2048, .f32⟩
  | 94 => ⟨S256x2048, .f32⟩
  | 95 => ⟨S256x2048, .f32⟩
  | 96 => ⟨S256x2048, .f32⟩
  | 97 => ⟨S_, .f32⟩
  | 98 => ⟨S2048, .f32⟩
  | 99 => ⟨S1x2048, .f32⟩
  | 100 => ⟨S256x2048, .f32⟩
  | 101 => ⟨S_, .f32⟩
  | 102 => ⟨S2048, .f32⟩
  | 103 => ⟨S1x2048, .f32⟩
  | 104 => ⟨S256x2048, .f32⟩
  | 105 => ⟨S256x2048, .f32⟩
  | 106 => ⟨S256x2048, .f32⟩
  | 107 => ⟨S_, .f32⟩
  | 108 => ⟨S2048, .f32⟩
  | 109 => ⟨S1x2048, .f32⟩
  | 110 => ⟨S256x2048, .f32⟩
  | 111 => ⟨S256x2048, .f32⟩
  | 112 => ⟨S256x2048, .f32⟩
  | 113 => ⟨S_, .f32⟩
  | 114 => ⟨S256, .f32⟩
  | 115 => ⟨S256x1, .f32⟩
  | 116 => ⟨S256x2048, .f32⟩
  | 117 => ⟨S256x2048, .f32⟩
  | 118 => ⟨S256x1, .f32⟩
  | 119 => ⟨S_, .f32⟩
  | 120 => ⟨S256x1, .f32⟩
  | 121 => ⟨S256x1, .f32⟩
  | 122 => ⟨S_, .f32⟩
  | 123 => ⟨S256, .f32⟩
  | 124 => ⟨S256x2048, .f32⟩
  | 125 => ⟨S256x2048, .f32⟩
  | 126 => ⟨S256x2048, .f32⟩
  | 127 => ⟨S256x2048, .f32⟩
  | _ => ⟨S256x2048, .f32⟩

abbrev hbmTy0_1 (i : Nat) : BufTy := match i % 128 with
  | 0 => ⟨S256x2048, .f32⟩
  | 1 => ⟨S_, .f32⟩
  | 2 => ⟨S2x2048, .f32⟩
  | 3 => ⟨S8x2048, .f32⟩
  | _ => ⟨S256x2048, .f32⟩

abbrev hbmTy (i : Nat) : BufTy := match i / 128 with
  | 0 => hbmTy0_0 i
  | 1 => hbmTy0_1 i
  | _ => ⟨S256x2048, .f32⟩

abbrev bufTy : (tb : Table) → Fin (tcTables nBuf tb) → BufTy
  | .hbm, ⟨i, _⟩ => hbmTy i
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_cst_11 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_14 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_15 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_16 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_17 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_18 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_cst_19 : Ref sig .tc := ⟨.hbm, 119, rfl⟩
abbrev main_v93 : Ref sig .tc := ⟨.hbm, 120, rfl⟩
abbrev main_v94 : Ref sig .tc := ⟨.hbm, 121, rfl⟩
abbrev main_cst_20 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_21 : Ref sig .tc := ⟨.hbm, 129, rfl⟩
abbrev main_v101 : Ref sig .tc := ⟨.hbm, 130, rfl⟩
abbrev main_v102 : Ref sig .tc := ⟨.hbm, 131, rfl⟩

abbrev nD : Nat := 1
abbrev τ : Topo := Topo.v7x

variable {F : FTy → Type} [FloatOps F]
-- ==== Kernel20.lean ====
abbrev S2048x2048 : Shape := ⟨2, ![2048, 2048]⟩
abbrev S1x2048 : Shape := ⟨2, ![1, 2048]⟩
abbrev S8x2048 : Shape := ⟨2, ![8, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S2048 : Shape := ⟨1, ![2048]⟩

abbrev nBuf : Space → Nat
  | .hbm => 9
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S8x2048, .f32⟩
  | .hbm, ⟨8, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S8x2048, .f32⟩
  | .local _ .vmem, ⟨13, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference20Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S6x2048 : Shape := ⟨2, ![6, 2048]⟩
abbrev S8x2048 : Shape := ⟨2, ![8, 2048]⟩
abbrev S8x128 : Shape := ⟨2, ![8, 128]⟩

abbrev nBuf : Space → Nat
  | .hbm => 86
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2048, .f32⟩
  | .hbm, ⟨45, _⟩ => ⟨S_, .f32⟩
  | .hbm, ⟨46, _⟩ => ⟨S2048, .f32⟩
  | .hbm, ⟨47, _⟩ => ⟨S2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S_, .f32⟩
  | .hbm, ⟨58, _⟩ => ⟨S2048, .f32⟩
  | .hbm, ⟨59, _⟩ => ⟨S2048x1, .f32⟩
  | .hbm, ⟨60, _⟩ => ⟨S2048x2048, .f32⟩
  | .hbm, ⟨61, _⟩ => ⟨S2048x2048, .f32⟩
  | .hbm, ⟨62, _⟩ => ⟨S2048x1, .f32⟩
  | .hbm, ⟨63, _⟩ => ⟨S_, .f32⟩
  | .hbm, ⟨64, _⟩ => ⟨S2048x1, .f32⟩
  | .hbm, ⟨65, _⟩ => ⟨S2048x1, .f32⟩
  | .hbm, ⟨66, _⟩ => ⟨S_, .f32⟩
  | .hbm, ⟨67, _⟩ => ⟨S2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S2048x2048, .f32⟩
  | .hbm, ⟨76, _⟩ => ⟨S2048x2048, .f32⟩
  | .hbm, ⟨77, _⟩ => ⟨S2048x2048, .f32⟩
  | .hbm, ⟨78, _⟩ => ⟨S_, .f32⟩
  | .hbm, ⟨79, _⟩ => ⟨S2048, .f32⟩
  | .hbm, ⟨80, _⟩ => ⟨S1x2048, .f32⟩
  | .hbm, ⟨81, _⟩ => ⟨S2048x2048, .bf16⟩
  | .hbm, ⟨82, _⟩ => ⟨S_, .f32⟩
  | .hbm, ⟨83, _⟩ => ⟨S6x2048, .f32⟩
  | .hbm, ⟨84, _⟩ => ⟨S8x2048, .f32⟩
  | .hbm, ⟨85, _⟩ => ⟨S8x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_16 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]
-- ==== Proof.Scan.Trip.lean ====
/- One trip of the kernel's loop as mathematics: eight rows of each chain, the carried row going from one to the next. -/
module

public import proofs.«01_k».proof.Proof.Gen.KernelIdeal.Loops
public import Idealize.ShloMosaic.Lib.Pipeline.Value
public import Idealize.ShloMosaic.Lib.Tactic

@[expose] public section

set_option maxRecDepth 16384

noncomputable section

namespace Cert.KernelIdeal.Scan

open Idealize.ShloMosaic Idealize.ShloMosaic.TcCoe Idealize.ShloMosaic.Tactic
open Idealize.SL Idealize.SL.Sem
open Cert.KernelIdeal Cert.KernelIdeal.Gen

variable {F : FTy → Type} [FloatOps F]

/-- The carried row before step `n` of a chain: `c` at the start, then `a · (live · d + carry)` of the step before. -/
def vcarry (live : F .f32) (a d : ℕ → Vec F S1x2048 .f32) (c : Vec F S1x2048 .f32) : ℕ → Vec F S1x2048 .f32
  | 0 => c
  | n + 1 => mulf (a n) (addf (mulf (d n) (broadcast S1x2048 live)) (vcarry live a d c n))

/-- The row that step `n` writes. -/
def vout (live : F .f32) (a d : ℕ → Vec F S1x2048 .f32) (c : Vec F S1x2048 .f32) (n : ℕ) : Vec F S1x2048 .f32 :=
  addf (mulf (d n) (broadcast S1x2048 live)) (vcarry live a d c n)

/-- The row of a block that the descending chain meets at step `n` of trip `k`. -/
def rowDown {M : Memref sig .tc .vmem S256x2048 .f32} (X : BufTy.Contents (Elt F) M.view.ty) (k : Fin k0_t1_loop.trips)
    (n : ℕ) : Vec F S1x2048 .f32 :=
  View.readAt (Elt F) M.view (Rect.unit (s := S256x2048) (k0_off1 k (BitVec.ofNat 32 (7 - n))) S1x2048.size
    (k0_off1_inb k ⟨7 - n, by omega⟩)).toLoadRect X

/-- The row of a block that the ascending chain meets at step `n` of trip `k`. -/
def rowUp {M : Memref sig .tc .vmem S256x2048 .f32} (X : BufTy.Contents (Elt F) M.view.ty) (k : Fin k0_t1_loop.trips)
    (n : ℕ) : Vec F S1x2048 .f32 :=
  View.readAt (Elt F) M.view (Rect.unit (s := S256x2048) (k0_off2 k (BitVec.ofNat 32 (n % 8))) S1x2048.size
    (k0_off2_inb k ⟨n % 8, by omega⟩)).toLoadRect X

section
variable (𝒱 : Variants) (c : Dev nD) (bd : Option 𝒱.V) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S8x2048 .f32) (harg7 : arg7.IsWhole)
  (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (k : Fin k0_t1_loop.trips) (acc : Vec F S1x2048 .f32 × Vec F S1x2048 .f32)

/-- What trip `k` yields. -/
theorem tripR_eq : tripR_k0_t1 𝒱 c bd i arg1 harg1 arg2 harg2 arg3 harg3 arg4 harg4 arg5 harg5 arg6 harg6 arg7 harg7 X_arg1 X_arg2 X_arg3 X_arg4 k acc
    = (vcarry (k0_pay2 i) (rowDown X_arg1 k) (rowDown X_arg2 k) acc.1 8, vcarry (k0_pay3 i) (rowUp X_arg3 k) (rowUp X_arg4 k) acc.2 8) := by
  unfold tripR_k0_t1 trip_k0_t1
  rfl

/-- A piece of the descending chain's result: step `n`'s row. -/
def pieceDown (k : Fin k0_t1_loop.trips) (w : ℕ → Vec F S1x2048 .f32) (n : ℕ) : View.Piece (Elt F) S256x2048 .f32 :=
  ⟨Rect.unit (s := S256x2048) (k0_off1 k (BitVec.ofNat 32 (7 - n))) S1x2048.size (k0_off1_inb k ⟨7 - n, by omega⟩), w n⟩

/-- A piece of the ascending chain's result: step `n`'s row. -/
def pieceUp (k : Fin k0_t1_loop.trips) (w : ℕ → Vec F S1x2048 .f32) (n : ℕ) : View.Piece (Elt F) S256x2048 .f32 :=
  ⟨Rect.unit (s := S256x2048) (k0_off2 k (BitVec.ofNat 32 (n % 8))) S1x2048.size (k0_off2_inb k ⟨n % 8, by omega⟩), w n⟩

/-- What trip `k` writes of the descending chain, newest first. -/
theorem tripL_down : (tripL_k0_t1 𝒱 c bd i arg1 harg1 arg2 harg2 arg3 harg3 arg4 harg4 arg5 harg5 arg6 harg6 arg7 harg7 X_arg1 X_arg2 X_arg3 X_arg4 k acc).1
    = [7, 6, 5, 4, 3, 2, 1, 0].map (pieceDown k (vout (k0_pay2 i) (rowDown X_arg1 k) (rowDown X_arg2 k) acc.1)) := by
  unfold tripL_k0_t1 trip_k0_t1
  rfl

/-- What trip `k` writes of the ascending chain, newest first. -/
theorem tripL_up : (tripL_k0_t1 𝒱 c bd i arg1 harg1 arg2 harg2 arg3 harg3 arg4 harg4 arg5 harg5 arg6 harg6 arg7 harg7 X_arg1 X_arg2 X_arg3 X_arg4 k acc).2
    = [7, 6, 5, 4, 3, 2, 1, 0].map (pieceUp k (vout (k0_pay3 i) (rowUp X_arg3 k) (rowUp X_arg4 k) acc.2)) := by
  unfold tripL_k0_t1 trip_k0_t1
  rfl
end

end Cert.KernelIdeal.Scan

end
-- ==== Proof.Scan.Block.lean ====
/- One grid point's block as mathematics: the loop's 32 trips of eight rows are 256 steps of each chain, per column. -/
module

public import proofs.«01_k».proof.Proof.Scan.Trip
public import Idealize.ShloMosaic.Lib.ValueIdxCore

@[expose] public section

set_option maxRecDepth 16384

noncomputable section

namespace Cert.KernelIdeal.Scan

open Idealize.ShloMosaic Idealize.ShloMosaic.TcCoe Idealize.ShloMosaic.Tactic Idealize.ShloMosaic.ValueIdx
open Idealize.SL Idealize.SL.Sem
open Cert.KernelIdeal Cert.KernelIdeal.Gen

variable {F : FTy → Type} [FloatOps F]

/-! ## A chain of one column -/

/-- The carried number before step `n`: `c` at the start, then `a · (d · live + carry)` of the step before. -/
def carry (live : F .f32) (a d : ℕ → F .f32) (c : F .f32) : ℕ → F .f32
  | 0 => c
  | n + 1 => FloatOps.mulf (a n) (FloatOps.addf (FloatOps.mulf (d n) live) (carry live a d c n))

/-- The number that step `n` writes. -/
def out (live : F .f32) (a d : ℕ → F .f32) (c : F .f32) (n : ℕ) : F .f32 :=
  FloatOps.addf (FloatOps.mulf (d n) live) (carry live a d c n)

/-- A chain is cut at any step `m`: the later steps start from the number carried there. -/
theorem carry_add (live : F .f32) (a d : ℕ → F .f32) (c : F .f32) (m : ℕ) : ∀ n, carry live a d c (m + n)
    = carry live (fun j => a (m + j)) (fun j => d (m + j)) (carry live a d c m) n
  | 0 => rfl
  | n + 1 => by
    show FloatOps.mulf _ (FloatOps.addf _ (carry live a d c (m + n))) = _
    rw [carry_add live a d c m n]; rfl

theorem out_add (live : F .f32) (a d : ℕ → F .f32) (c : F .f32) (m n : ℕ) : out live a d c (m + n)
    = out live (fun j => a (m + j)) (fun j => d (m + j)) (carry live a d c m) n := by
  unfold out; rw [carry_add]

/-- The first `n` carried numbers ask only for the first `n` rows. -/
theorem carry_congr {live : F .f32} {a a' d d' : ℕ → F .f32} (c : F .f32) :
    ∀ n, (∀ j < n, a j = a' j) → (∀ j < n, d j = d' j) → carry live a d c n = carry live a' d' c n
  | 0, _, _ => rfl
  | n + 1, ha, hd => by
    show FloatOps.mulf (a n) (FloatOps.addf (FloatOps.mulf (d n) live) (carry live a d c n)) = _
    rw [carry_congr c n (fun j h => ha j (by omega)) (fun j h => hd j (by omega)), ha n (by omega), hd n (by omega)]; rfl

theorem out_congr {live : F .f32} {a a' d d' : ℕ → F .f32} (c : F .f32) (n : ℕ) (ha : ∀ j < n, a j = a' j)
    (hd : ∀ j ≤ n, d j = d' j) : out live a d c n = out live a' d' c n := by
  unfold out; rw [carry_congr c n ha (fun j h => hd j (by omega)), hd n le_rfl]

/-- A chain of rows is, in each column, a chain of numbers. -/
theorem vcarry_apply (live : F .f32) (a d : ℕ → Vec F S1x2048 .f32) (c : Vec F S1x2048 .f32) (x : S1x2048.Idx) :
    ∀ n, vcarry live a d c n x = carry live (fun n => a n x) (fun n => d n x) (c x) n
  | 0 => rfl
  | n + 1 => by
    show FloatOps.mulf _ (FloatOps.addf _ (vcarry live a d c n x)) = _
    rw [vcarry_apply live a d c x n]; rfl

theorem vout_apply (live : F .f32) (a d : ℕ → Vec F S1x2048 .f32) (c : Vec F S1x2048 .f32) (x : S1x2048.Idx) (n : ℕ) :
    vout live a d c n x = out live (fun n => a n x) (fun n => d n x) (c x) n := by
  show FloatOps.addf _ (vcarry live a d c n x) = _
  rw [vcarry_apply]; rfl

/-! ## The rows a chain meets in a block -/

/-- Column `l` of a block as the descending chain meets it: row 255 first. -/
def down (x : Vec F S256x2048 .f32) (l : Fin 2048) (n : ℕ) : F .f32 := x (ix2 (⟨255 - n, by omega⟩ : Fin 256) l)

/-- Column `l` of a block as the ascending chain meets it: row 0 first. -/
def up (x : Vec F S256x2048 .f32) (l : Fin 2048) (n : ℕ) : F .f32 := x (ix2 (⟨n % 256, by omega⟩ : Fin 256) l)

theorem trips_le : k0_t1_loop.trips ≤ 32 := k0_t1_abs.2.1

theorem off_down (k : Fin k0_t1_loop.trips) (n : ℕ) (hn : n < 8) :
    k0_off1 k (BitVec.ofNat 32 (7 - n)) = ![255 - (8 * k.val + n), 0] := by
  rw [k0_off1_eq k ⟨7 - n, by omega⟩]
  have := k.isLt; have := trips_le
  show ![7 - n + 248 - 8 * k.val, 0] = _
  rw [show 7 - n + 248 - 8 * k.val = 255 - (8 * k.val + n) by omega]

theorem off_up (k : Fin k0_t1_loop.trips) (n : ℕ) (hn : n < 8) :
    k0_off2 k (BitVec.ofNat 32 (n % 8)) = ![8 * k.val + n, 0] := by
  rw [k0_off2_eq k ⟨n % 8, by omega⟩]
  show ![8 * k.val + n % 8, 0] = _
  rw [Nat.mod_eq_of_lt hn]

theorem emb_unit {off : Fin 2 → ℕ} (inb : ∀ a : Fin 2, off a + S1x2048.size a ≤ S256x2048.size a) (y : S1x2048.Idx) (r : Fin 256)
    (h : off = ![r.val, 0]) : (Rect.unit (s := S256x2048) off S1x2048.size inb).emb y = ix2 r (y 1) := by
  subst h
  funext a; apply Fin.ext
  have h0 : (y 0).val < 1 := (y 0).isLt
  match a with
  | ⟨0, _⟩ => show r.val + 1 * (y 0).val = r.val; omega
  | ⟨1, _⟩ => show 0 + 1 * (y 1).val = (y 1).val; omega

theorem row_mem {off : Fin 2 → ℕ} (inb : ∀ a : Fin 2, off a + S1x2048.size a ≤ S256x2048.size a) (y : S256x2048.Idx)
    (h : off = ![(y 0).val, 0]) : y ∈ (Rect.unit (s := S256x2048) off S1x2048.size inb).set := by
  subst h
  rw [Rect.mem_set_unit]
  have h1 : (y 1).val < 2048 := (y 1).isLt
  intro a
  match a with
  | ⟨0, _⟩ => exact ⟨le_rfl, Nat.lt_succ_self _⟩
  | ⟨1, _⟩ => exact ⟨Nat.zero_le _, by show (y 1).val < 0 + 2048; omega⟩

theorem rowDown_apply {M : Memref sig .tc .vmem S256x2048 .f32} (hM : M.IsWhole) (x : Vec F S256x2048 .f32)
    (k : Fin k0_t1_loop.trips) (n : ℕ) (hn : n < 8) (y : S1x2048.Idx) :
    rowDown (M := M) (hM.unread x) k n y = down x (y 1) (8 * k.val + n) := by
  have e : rowDown (M := M) (hM.unread x) k n y = M.view.read (Elt F) (hM.unread x)
    ((Rect.unit (s := S256x2048) (k0_off1 k (BitVec.ofNat 32 (7 - n))) S1x2048.size (k0_off1_inb k ⟨7 - n, by omega⟩)).emb y) := rfl
  rw [e, hM.read_unread, emb_unit _ y ⟨255 - (8 * k.val + n), by omega⟩ (off_down k n hn)]; rfl

theorem rowUp_apply {M : Memref sig .tc .vmem S256x2048 .f32} (hM : M.IsWhole) (x : Vec F S256x2048 .f32)
    (k : Fin k0_t1_loop.trips) (n : ℕ) (hn : n < 8) (y : S1x2048.Idx) :
    rowUp (M := M) (hM.unread x) k n y = up x (y 1) (8 * k.val + n) := by
  have hk := Nat.lt_of_lt_of_le k.isLt trips_le
  have e : rowUp (M := M) (hM.unread x) k n y = M.view.read (Elt F) (hM.unread x)
    ((Rect.unit (s := S256x2048) (k0_off2 k (BitVec.ofNat 32 (n % 8))) S1x2048.size (k0_off2_inb k ⟨n % 8, by omega⟩)).emb y) := rfl
  rw [e, hM.read_unread, emb_unit _ y ⟨(8 * k.val + n) % 256, by omega⟩
    ((off_up k n hn).trans (congrArg (fun r => ![r, 0]) (Nat.mod_eq_of_lt (by omega)).symm))]; rfl

/-! ## The block -/

/-- What the descending chain leaves in its result's block. -/
def blockDown (live : F .f32) (a d : Vec F S256x2048 .f32) (c : Vec F S1x2048 .f32) : Vec F S256x2048 .f32 := fun y =>
  out live (down a (y 1)) (down d (y 1)) (c (ix2 0 (y 1))) (255 - (y 0).val)

/-- What the ascending chain leaves in its result's block. -/
def blockUp (live : F .f32) (a d : Vec F S256x2048 .f32) (c : Vec F S1x2048 .f32) : Vec F S256x2048 .f32 := fun y =>
  out live (up a (y 1)) (up d (y 1)) (c (ix2 0 (y 1))) (y 0).val

/-- The descending chain's carried row after `n` rows of a block. -/
def carryDown (live : F .f32) (a d : Vec F S256x2048 .f32) (c : Vec F S1x2048 .f32) (n : ℕ) : Vec F S1x2048 .f32 := fun y =>
  carry live (down a (y 1)) (down d (y 1)) (c (ix2 0 (y 1))) n

/-- The ascending chain's carried row after `n` rows of a block. -/
def carryUp (live : F .f32) (a d : Vec F S256x2048 .f32) (c : Vec F S1x2048 .f32) (n : ℕ) : Vec F S1x2048 .f32 := fun y =>
  carry live (up a (y 1)) (up d (y 1)) (c (ix2 0 (y 1))) n

theorem row_eta (y : S1x2048.Idx) : ix2 (0 : Fin 1) (y 1) = y := by
  funext a; apply Fin.ext
  have h0 : (y 0).val < 1 := (y 0).isLt
  match a with
  | ⟨0, _⟩ => show 0 = (y 0).val; omega
  | ⟨1, _⟩ => rfl

section
variable (𝒱 : Variants) (c : Dev nD) (bd : Option 𝒱.V) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S8x2048 .f32) (harg7 : arg7.IsWhole)
  (x1 x2 x3 x4 : Vec F S256x2048 .f32) (init : Vec F S1x2048 .f32 × Vec F S1x2048 .f32)

/-- The rows that the descending chain has reached before trip `k`, and what it has written there. -/
def HoldsDown (G : Vec F S256x2048 .f32) (k : ℕ) (L : List (View.Piece (Elt F) S256x2048 .f32)) : Prop :=
  (∀ p ∈ L, ∀ x : p.1.shape.Idx, p.2 x = G (p.1.emb x)) ∧ ∀ y : S256x2048.Idx, 256 - 8 * k ≤ (y 0).val → ∃ p ∈ L, y ∈ p.1.set

/-- The rows that the ascending chain has reached before trip `k`, and what it has written there. -/
def HoldsUp (G : Vec F S256x2048 .f32) (k : ℕ) (L : List (View.Piece (Elt F) S256x2048 .f32)) : Prop :=
  (∀ p ∈ L, ∀ x : p.1.shape.Idx, p.2 x = G (p.1.emb x)) ∧ ∀ y : S256x2048.Idx, (y 0).val < 8 * k → ∃ p ∈ L, y ∈ p.1.set

theorem vcarry_down (k : Fin k0_t1_loop.trips) (live : F .f32) (c0 : Vec F S1x2048 .f32) (n : ℕ) (hn : n ≤ 8) :
    vcarry live (rowDown (M := arg1) (harg1.unread x1) k) (rowDown (M := arg2) (harg2.unread x2) k)
      (carryDown live x1 x2 c0 (8 * k.val)) n = carryDown live x1 x2 c0 (8 * k.val + n) := by
  funext y
  rw [vcarry_apply]
  unfold carryDown
  rw [carry_add]
  exact carry_congr _ n (fun j h => rowDown_apply harg1 x1 k j (by omega) y) (fun j h => rowDown_apply harg2 x2 k j (by omega) y)

theorem vcarry_up (k : Fin k0_t1_loop.trips) (live : F .f32) (c0 : Vec F S1x2048 .f32) (n : ℕ) (hn : n ≤ 8) :
    vcarry live (rowUp (M := arg3) (harg3.unread x3) k) (rowUp (M := arg4) (harg4.unread x4) k)
      (carryUp live x3 x4 c0 (8 * k.val)) n = carryUp live x3 x4 c0 (8 * k.val + n) := by
  funext y
  rw [vcarry_apply]
  unfold carryUp
  rw [carry_add]
  exact carry_congr _ n (fun j h => rowUp_apply harg3 x3 k j (by omega) y) (fun j h => rowUp_apply harg4 x4 k j (by omega) y)

theorem vout_down (k : Fin k0_t1_loop.trips) (live : F .f32) (c0 : Vec F S1x2048 .f32) (n : ℕ) (hn : n < 8) (y : S1x2048.Idx) :
    vout live (rowDown (M := arg1) (harg1.unread x1) k) (rowDown (M := arg2) (harg2.unread x2) k)
      (carryDown live x1 x2 c0 (8 * k.val)) n y = out live (down x1 (y 1)) (down x2 (y 1)) (c0 (ix2 0 (y 1))) (8 * k.val + n) := by
  rw [vout_apply, out_add]
  exact out_congr _ n (fun j h => rowDown_apply harg1 x1 k j (by omega) y) (fun j h => rowDown_apply harg2 x2 k j (by omega) y)

theorem vout_up (k : Fin k0_t1_loop.trips) (live : F .f32) (c0 : Vec F S1x2048 .f32) (n : ℕ) (hn : n < 8) (y : S1x2048.Idx) :
    vout live (rowUp (M := arg3) (harg3.unread x3) k) (rowUp (M := arg4) (harg4.unread x4) k)
      (carryUp live x3 x4 c0 (8 * k.val)) n y = out live (up x3 (y 1)) (up x4 (y 1)) (c0 (ix2 0 (y 1))) (8 * k.val + n) := by
  rw [vout_apply, out_add]
  exact out_congr _ n (fun j h => rowUp_apply harg3 x3 k j (by omega) y) (fun j h => rowUp_apply harg4 x4 k j (by omega) y)

theorem mem_steps {n : ℕ} : n ∈ [7, 6, 5, 4, 3, 2, 1, 0] ↔ n < 8 := by
  simp only [List.mem_cons, List.not_mem_nil, or_false]; omega

theorem down_step (k : Fin k0_t1_loop.trips) (live : F .f32) (c0 : Vec F S1x2048 .f32) (L : List (View.Piece (Elt F) S256x2048 .f32))
    (hL : HoldsDown (blockDown live x1 x2 c0) k.val L) :
    HoldsDown (blockDown live x1 x2 c0) (k.val + 1)
      ([7, 6, 5, 4, 3, 2, 1, 0].map (pieceDown k (vout live (rowDown (M := arg1) (harg1.unread x1) k)
        (rowDown (M := arg2) (harg2.unread x2) k) (carryDown live x1 x2 c0 (8 * k.val)))) ++ L) := by
  have hk := Nat.lt_of_lt_of_le k.isLt trips_le
  constructor
  · intro p hp x
    rcases List.mem_append.mp hp with hp | hp
    · obtain ⟨n, hn, rfl⟩ := List.mem_map.mp hp
      have hn := mem_steps.mp hn
      refine (vout_down _ harg1 _ harg2 x1 x2 k live c0 n hn x).trans ?_
      rw [show (pieceDown k _ n).1.emb x = ix2 ⟨255 - (8 * k.val + n), by omega⟩ (x 1) from
        emb_unit (k0_off1_inb k ⟨7 - n, by omega⟩) x _ (off_down k n hn)]
      show _ = out live _ _ _ (255 - (255 - (8 * k.val + n)))
      rw [show 255 - (255 - (8 * k.val + n)) = 8 * k.val + n by omega]
    · exact hL.1 p hp x
  · intro y hy
    by_cases h : 256 - 8 * k.val ≤ (y 0).val
    · obtain ⟨p, hp, hm⟩ := hL.2 y h
      exact ⟨p, List.mem_append.mpr (.inr hp), hm⟩
    · have hy0 : (y 0).val < 256 := (y 0).isLt
      have hn : 255 - (y 0).val - 8 * k.val < 8 := by omega
      refine ⟨_, List.mem_append.mpr (.inl (List.mem_map.mpr ⟨255 - (y 0).val - 8 * k.val, mem_steps.mpr hn, rfl⟩)), ?_⟩
      exact row_mem (k0_off1_inb k ⟨7 - (255 - (y 0).val - 8 * k.val), by omega⟩) y
        ((off_down k _ hn).trans (by rw [show 255 - (8 * k.val + (255 - (y 0).val - 8 * k.val)) = (y 0).val by omega]))

theorem up_step (k : Fin k0_t1_loop.trips) (live : F .f32) (c0 : Vec F S1x2048 .f32) (L : List (View.Piece (Elt F) S256x2048 .f32))
    (hL : HoldsUp (blockUp live x3 x4 c0) k.val L) :
    HoldsUp (blockUp live x3 x4 c0) (k.val + 1)
      ([7, 6, 5, 4, 3, 2, 1, 0].map (pieceUp k (vout live (rowUp (M := arg3) (harg3.unread x3) k)
        (rowUp (M := arg4) (harg4.unread x4) k) (carryUp live x3 x4 c0 (8 * k.val)))) ++ L) := by
  have hk := Nat.lt_of_lt_of_le k.isLt trips_le
  constructor
  · intro p hp x
    rcases List.mem_append.mp hp with hp | hp
    · obtain ⟨n, hn, rfl⟩ := List.mem_map.mp hp
      have hn := mem_steps.mp hn
      refine (vout_up _ harg3 _ harg4 x3 x4 k live c0 n hn x).trans ?_
      rw [show (pieceUp k _ n).1.emb x = ix2 ⟨8 * k.val + n, by omega⟩ (x 1) from
        emb_unit (k0_off2_inb k ⟨n % 8, by omega⟩) x _ (off_up k n hn)]; rfl
    · exact hL.1 p hp x
  · intro y hy
    by_cases h : (y 0).val < 8 * k.val
    · obtain ⟨p, hp, hm⟩ := hL.2 y h
      exact ⟨p, List.mem_append.mpr (.inr hp), hm⟩
    · have hy0 : (y 0).val < 256 := (y 0).isLt
      have hn : (y 0).val - 8 * k.val < 8 := by omega
      refine ⟨_, List.mem_append.mpr (.inl (List.mem_map.mpr ⟨(y 0).val - 8 * k.val, mem_steps.mpr hn, rfl⟩)), ?_⟩
      exact row_mem (k0_off2_inb k ⟨((y 0).val - 8 * k.val) % 8, by omega⟩) y
        ((off_up k _ hn).trans (by rw [show 8 * k.val + ((y 0).val - 8 * k.val) = (y 0).val by omega]))

/-- The loop's state before trip `k`: each chain's carried row after `8 k` rows, and the rows it has written. -/
theorem st_eq : ∀ k, k ≤ k0_t1_loop.trips →
    (st_k0_t1 𝒱 c bd i arg1 harg1 arg2 harg2 arg3 harg3 arg4 harg4 arg5 harg5 arg6 harg6 arg7 harg7 (harg1.unread x1) (harg2.unread x2) (harg3.unread x3) (harg4.unread x4) init k).1 = (carryDown (k0_pay2 i) x1 x2 init.1 (8 * k), carryUp (k0_pay3 i) x3 x4 init.2 (8 * k))
    ∧ HoldsDown (blockDown (k0_pay2 i) x1 x2 init.1) k (st_k0_t1 𝒱 c bd i arg1 harg1 arg2 harg2 arg3 harg3 arg4 harg4 arg5 harg5 arg6 harg6 arg7 harg7 (harg1.unread x1) (harg2.unread x2) (harg3.unread x3) (harg4.unread x4) init k).2.1
    ∧ HoldsUp (blockUp (k0_pay3 i) x3 x4 init.2) k (st_k0_t1 𝒱 c bd i arg1 harg1 arg2 harg2 arg3 harg3 arg4 harg4 arg5 harg5 arg6 harg6 arg7 harg7 (harg1.unread x1) (harg2.unread x2) (harg3.unread x3) (harg4.unread x4) init k).2.2
  | 0, _ => by
    refine ⟨?_, ⟨fun p hp => absurd hp List.not_mem_nil, fun y h => ?_⟩, fun p hp => absurd hp List.not_mem_nil, fun y h => ?_⟩
    · refine Prod.ext (funext fun y => ?_) (funext fun y => ?_)
      · exact congrArg init.1 (row_eta y).symm
      · exact congrArg init.2 (row_eta y).symm
    · have : (y 0).val < 256 := (y 0).isLt
      omega
    · omega
  | k + 1, hk => by
    obtain ⟨h1, h2, h3⟩ := st_eq k (by omega)
    rw [st_k0_t1_succ 𝒱 c bd i arg1 harg1 arg2 harg2 arg3 harg3 arg4 harg4 arg5 harg5 arg6 harg6 arg7 harg7 (harg1.unread x1) (harg2.unread x2) (harg3.unread x3) (harg4.unread x4) init ⟨k, hk⟩]
    refine ⟨?_, ?_, ?_⟩
    · show tripR_k0_t1 𝒱 c bd i arg1 harg1 arg2 harg2 arg3 harg3 arg4 harg4 arg5 harg5 arg6 harg6 arg7 harg7 (harg1.unread x1) (harg2.unread x2) (harg3.unread x3) (harg4.unread x4) ⟨k, hk⟩ (st_k0_t1 𝒱 c bd i arg1 harg1 arg2 harg2 arg3 harg3 arg4 harg4 arg5 harg5 arg6 harg6 arg7 harg7 (harg1.unread x1) (harg2.unread x2) (harg3.unread x3) (harg4.unread x4) init k).1 = _
      rw [tripR_eq, h1]
      exact Prod.ext (vcarry_down _ harg1 _ harg2 x1 x2 ⟨k, hk⟩ _ _ 8 le_rfl) (vcarry_up _ harg3 _ harg4 x3 x4 ⟨k, hk⟩ _ _ 8 le_rfl)
    · show HoldsDown _ _ ((tripL_k0_t1 𝒱 c bd i arg1 harg1 arg2 harg2 arg3 harg3 arg4 harg4 arg5 harg5 arg6 harg6 arg7 harg7 (harg1.unread x1) (harg2.unread x2) (harg3.unread x3) (harg4.unread x4) ⟨k, hk⟩ (st_k0_t1 𝒱 c bd i arg1 harg1 arg2 harg2 arg3 harg3 arg4 harg4 arg5 harg5 arg6 harg6 arg7 harg7 (harg1.unread x1) (harg2.unread x2) (harg3.unread x3) (harg4.unread x4) init k).1).1 ++ (st_k0_t1 𝒱 c bd i arg1 harg1 arg2 harg2 arg3 harg3 arg4 harg4 arg5 harg5 arg6 harg6 arg7 harg7 (harg1.unread x1) (harg2.unread x2) (harg3.unread x3) (harg4.unread x4) init k).2.1)
      rw [tripL_down, h1]
      exact down_step _ harg1 _ harg2 x1 x2 ⟨k, hk⟩ _ _ _ h2
    · show HoldsUp _ _ ((tripL_k0_t1 𝒱 c bd i arg1 harg1 arg2 harg2 arg3 harg3 arg4 harg4 arg5 harg5 arg6 harg6 arg7 harg7 (harg1.unread x1) (harg2.unread x2) (harg3.unread x3) (harg4.unread x4) ⟨k, hk⟩ (st_k0_t1 𝒱 c bd i arg1 harg1 arg2 harg2 arg3 harg3 arg4 harg4 arg5 harg5 arg6 harg6 arg7 harg7 (harg1.unread x1) (harg2.unread x2) (harg3.unread x3) (harg4.unread x4) init k).1).2 ++ (st_k0_t1 𝒱 c bd i arg1 harg1 arg2 harg2 arg3 harg3 arg4 harg4 arg5 harg5 arg6 harg6 arg7 harg7 (harg1.unread x1) (harg2.unread x2) (harg3.unread x3) (harg4.unread x4) init k).2.2)
      rw [tripL_up, h1]
      exact up_step _ harg3 _ harg4 x3 x4 ⟨k, hk⟩ _ _ _ h3

theorem trips_eq : k0_t1_loop.trips = 32 := by decide

/-- The two carried rows after the loop. -/
theorem st_carry : (st_k0_t1 𝒱 c bd i arg1 harg1 arg2 harg2 arg3 harg3 arg4 harg4 arg5 harg5 arg6 harg6 arg7 harg7 (harg1.unread x1) (harg2.unread x2) (harg3.unread x3) (harg4.unread x4) init k0_t1_loop.trips).1 = (carryDown (k0_pay2 i) x1 x2 init.1 256, carryUp (k0_pay3 i) x3 x4 init.2 256) := by
  rw [(st_eq 𝒱 c bd i arg1 harg1 arg2 harg2 arg3 harg3 arg4 harg4 arg5 harg5 arg6 harg6 arg7 harg7 x1 x2 x3 x4 init _ le_rfl).1, trips_eq]

/-- The descending chain's block after the loop, whatever it held before. -/
theorem st_down (f : BufTy.Contents (Elt F) arg5.view.ty) :
    arg5.view.read (Elt F) (arg5.view.writes (Elt F) f (st_k0_t1 𝒱 c bd i arg1 harg1 arg2 harg2 arg3 harg3 arg4 harg4 arg5 harg5 arg6 harg6 arg7 harg7 (harg1.unread x1) (harg2.unread x2) (harg3.unread x3) (harg4.unread x4) init k0_t1_loop.trips).2.1) = blockDown (k0_pay2 i) x1 x2 init.1 := by
  obtain ⟨_, ⟨h, hc⟩, _⟩ := st_eq 𝒱 c bd i arg1 harg1 arg2 harg2 arg3 harg3 arg4 harg4 arg5 harg5 arg6 harg6 arg7 harg7 x1 x2 x3 x4 init _ le_rfl
  have hc' := fun y => hc y (by rw [trips_eq]; exact Nat.zero_le _)
  rw [View.read_writes_eq_canon _ _ _ hc']
  exact funext fun y => View.canon_apply_of_pieces _ _ h y (hc' y)

/-- The ascending chain's block after the loop, whatever it held before. -/
theorem st_up (f : BufTy.Contents (Elt F) arg6.view.ty) :
    arg6.view.read (Elt F) (arg6.view.writes (Elt F) f (st_k0_t1 𝒱 c bd i arg1 harg1 arg2 harg2 arg3 harg3 arg4 harg4 arg5 harg5 arg6 harg6 arg7 harg7 (harg1.unread x1) (harg2.unread x2) (harg3.unread x3) (harg4.unread x4) init k0_t1_loop.trips).2.2) = blockUp (k0_pay3 i) x3 x4 init.2 := by
  obtain ⟨_, _, ⟨h, hc⟩⟩ := st_eq 𝒱 c bd i arg1 harg1 arg2 harg2 arg3 harg3 arg4 harg4 arg5 harg5 arg6 harg6 arg7 harg7 x1 x2 x3 x4 init _ le_rfl
  have hc' := fun y => hc y (by rw [trips_eq]; exact (y 0).isLt)
  rw [View.read_writes_eq_canon _ _ _ hc']
  exact funext fun y => View.canon_apply_of_pieces _ _ h y (hc' y)
end

end Cert.KernelIdeal.Scan

end
-- ==== Proof.Scan.Body.lean ====
/- The kernel's body at a grid point: it leaves the two chains' blocks in the results' buffers and the two carried rows in
   rows 0 and 1 of the scratch, starting from zero rows at the first point and from the scratch's rows afterwards. -/
module

public import proofs.«01_k».proof.Proof.Scan.Block
public import Idealize.ShloMosaic.Lib.WritesUnit
public import proofs.«01_k».proof.Proof.Gen.KernelIdeal.Frame

@[expose] public section

set_option maxRecDepth 16384

noncomputable section

namespace Cert.KernelIdeal.Scan

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- Row `r` of the scratch. -/
def srow (s : Vec F S8x2048 .f32) (r : Fin 8) : Vec F S1x2048 .f32 := fun y => s (ix2 r (y 1))

/-- The row of zeros. -/
def zrow : Vec F S1x2048 .f32 := broadcast S1x2048 (Scalar.ofBits .f32 0x00000000#32)

/-- What the scratch holds after a point: the descending chain's carried row in row 0, the ascending chain's in row 1. -/
def Holds (s : Vec F S8x2048 .f32) (p : Vec F S1x2048 .f32 × Vec F S1x2048 .f32) : Prop := srow s 0 = p.1 ∧ srow s 1 = p.2

theorem emb_srow {off : Fin 2 → ℕ} (inb : ∀ a : Fin 2, off a + S1x2048.size a ≤ S8x2048.size a) (y : S1x2048.Idx) (r : Fin 8)
    (h : off = ![r.val, 0]) : (Rect.unit (s := S8x2048) off S1x2048.size inb).emb y = ix2 r (y 1) := by
  subst h
  funext a; apply Fin.ext
  have h0 : (y 0).val < 1 := (y 0).isLt
  match a with
  | ⟨0, _⟩ => show r.val + 1 * (y 0).val = r.val; omega
  | ⟨1, _⟩ => show 0 + 1 * (y 1).val = (y 1).val; omega

/-- A load of row `r` of the scratch. -/
theorem load_srow {M : Memref sig .tc .vmem S8x2048 .f32} (hM : M.IsWhole) (s : Vec F S8x2048 .f32) {off : Fin 2 → ℕ}
    (inb : ∀ a : Fin 2, off a + S1x2048.size a ≤ S8x2048.size a) (r : Fin 8) (h : off = ![r.val, 0]) :
    View.readAt (Elt F) M.view (Rect.unit (s := S8x2048) off S1x2048.size inb).toLoadRect (hM.unread s) = srow s r := by
  funext y
  show M.view.read (Elt F) (hM.unread s) ((Rect.unit (s := S8x2048) off S1x2048.size inb).emb y) = _
  rw [hM.read_unread, emb_srow inb y r h]; rfl

/-- The first point's loads read the zeros that the body has just stored. -/
theorem load_zrow (v : View sig .tc .vmem S8x2048 .f32) {off : Fin 2 → ℕ} (inb : ∀ a : Fin 2, off a + S1x2048.size a ≤ S8x2048.size a)
    (inb0 : ∀ a : Fin 2, (![0, 0] : Fin 2 → ℕ) a + S8x2048.size a ≤ S8x2048.size a) :
    v.readCov [(⟨Rect.unit (s := S8x2048) ![0, 0] S8x2048.size inb0, k0_pay1⟩ : View.Piece (Elt F) S8x2048 .f32)]
      (Rect.unit (s := S8x2048) off S1x2048.size inb).toLoadRect = (zrow : Vec F S1x2048 .f32) := by
  have e1 : (k0_pay1 : Vec F S8x2048 .f32) = broadcast S8x2048 (Scalar.ofBits .f32 0x00000000#32) := shapeCast_self _ _
  rw [View.readCov_eq_canon', View.canon_unit_zero (by funext a; match a with | ⟨0, _⟩ => rfl | ⟨1, _⟩ => rfl) inb0, e1]
  rfl

/-- The two stores of the carried rows leave them in rows 0 and 1. -/
theorem holds_writes {M : Memref sig .tc .vmem S8x2048 .f32} (f : BufTy.Contents (Elt F) M.view.ty) (r0 r1 : Vec F S1x2048 .f32)
    (inb0 : ∀ a : Fin 2, (![0, 0] : Fin 2 → ℕ) a + S1x2048.size a ≤ S8x2048.size a)
    (inb1 : ∀ a : Fin 2, (![1, 0] : Fin 2 → ℕ) a + S1x2048.size a ≤ S8x2048.size a) (L : List (View.Piece (Elt F) S8x2048 .f32)) :
    Holds (M.view.read (Elt F) (M.view.writes (Elt F) f
      (⟨Rect.unit (s := S8x2048) ![1, 0] S1x2048.size inb1, k0_pay9 r1⟩ :: ⟨Rect.unit (s := S8x2048) ![0, 0] S1x2048.size inb0, k0_pay8 r0⟩ :: L))) (r0, r1) := by
  have e8 : k0_pay8 r0 = r0 := shapeCast_self _ _
  have e9 : k0_pay9 r1 = r1 := shapeCast_self _ _
  constructor
  · funext y
    have h0 : (y 0).val < 1 := (y 0).isLt
    refine (View.read_writes_cons_rows_of_not_mem M.view f (o := 1) (W := 1) inb1 _ _ (ix2 0 (y 1)) rfl rfl (Or.inl ?_)).trans ?_
    · show 0 < 1; omega
    refine (View.read_writes_cons_rows_of_mem M.view f (o := 0) inb0 _ _ (ix2 0 (y 1)) y rfl ?_ rfl).trans (congrFun e8 y)
    show 0 = 0 + (y 0).val; omega
  · funext y
    have h0 : (y 0).val < 1 := (y 0).isLt
    refine (View.read_writes_cons_rows_of_mem M.view f (o := 1) inb1 _ _ (ix2 1 (y 1)) y rfl ?_ rfl).trans (congrFun e9 y)
    show 1 = 1 + (y 0).val; omega

/-- The same, for any pair that the loop is known to have left. -/
theorem holds_writes_of {M : Memref sig .tc .vmem S8x2048 .f32} (f : BufTy.Contents (Elt F) M.view.ty) (p q : Vec F S1x2048 .f32 × Vec F S1x2048 .f32)
    (inb0 : ∀ a : Fin 2, (![0, 0] : Fin 2 → ℕ) a + S1x2048.size a ≤ S8x2048.size a)
    (inb1 : ∀ a : Fin 2, (![1, 0] : Fin 2 → ℕ) a + S1x2048.size a ≤ S8x2048.size a) (L : List (View.Piece (Elt F) S8x2048 .f32)) (h : p = q) :
    Holds (M.view.read (Elt F) (M.view.writes (Elt F) f
      (⟨Rect.unit (s := S8x2048) ![1, 0] S1x2048.size inb1, k0_pay9 p.2⟩ :: ⟨Rect.unit (s := S8x2048) ![0, 0] S1x2048.size inb0, k0_pay8 p.1⟩ :: L))) q := by
  subst h; exact holds_writes f p.1 p.2 inb0 inb1 L

/-- The body's branch is taken: the first grid coordinate is zero. -/
abbrev cond0 (i : grid0.Coords) : Prop := (Scalar.cmpi .ne (Scalar.extui (Scalar.cmpi .eq (BitVec.ofNat 32 (i 0).val) 0#32)) 0#32) = 1#1

/-- It is taken at the first point only. -/
theorem hcond0 : ∀ t : Fin cfg0.N, cond0 (grid0.coords t) ↔ t.val = 0 :=
  (fun t => by
    have ht : t.val < 9 := Nat.lt_of_lt_of_eq t.isLt N_0
    have e0 : (grid0.coords t 0).val = t.val / 1 % 9 := Pipeline.Grid.coords_val t 0 (by decide) rfl
    simp only [cond0, e0]
    word_cmp
   : ∀ t : Fin grid0.N, cond0 (grid0.coords t) ↔ t.val = 0)

section
variable (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S8x2048 .f32) (harg7 : arg7.IsWhole)
  (x1 x2 x3 x4 : Vec F S256x2048 .f32)

-- the run's proof term is large
set_option maxHeartbeats 1000000 in
/-- The body after the first point. -/
theorem body_later (hc0 : ¬cond0 i) (s : Vec F S8x2048 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ owns (c : Thread nD τ) arg7 fullShare s
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (blockDown (k0_pay2 i) x1 x2 (srow s 0)) ∗ owns (c : Thread nD τ) arg6 fullShare (blockUp (k0_pay3 i) x3 x4 (srow s 1))
            ∗ (∃ s', ⌜Holds s' (carryDown (k0_pay2 i) x1 x2 (srow s 0) 256, carryUp (k0_pay3 i) x3 x4 (srow s 1) 256)⌝ ∗ owns (c : Thread nD τ) arg7 fullShare s')) -∗ K ⟨⟩))
      ⊢ wp frame (wpE (defs₀ (F := F)) Variants.none c none) E (cc0_scan_bwd i arg1 harg1 arg2 harg2 arg3 harg3 arg4 harg4 arg5 harg5 arg6 harg6 arg7 harg7) K := by
  simp only [cc0_scan_bwd_eq_skeleton]; unfold cc0_scan_bwd_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
  obtain rfl := harg1.eq_unread hf0; obtain rfl := harg2.eq_unread hf1; obtain rfl := harg3.eq_unread hf2; obtain rfl := harg4.eq_unread hf3; obtain rfl := harg7.eq_unread hfs0
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    sl_unfold_words
    refine (st_down Variants.none c none i arg1 harg1 arg2 harg2 arg3 harg3 arg4 harg4 arg5 harg5 arg6 harg6 arg7 harg7 x1 x2 x3 x4 _ f4).trans (congrArg (blockDown (k0_pay2 i) x1 x2) ?_)
    exact load_srow harg7 s _ 0 rfl
  isplitl [H5]
  · iexists _; isplitr; swap; · iexact H5
    ipureintro
    sl_unfold_words
    refine (st_up Variants.none c none i arg1 harg1 arg2 harg2 arg3 harg3 arg4 harg4 arg5 harg5 arg6 harg6 arg7 harg7 x1 x2 x3 x4 _ f5).trans (congrArg (blockUp (k0_pay3 i) x3 x4) ?_)
    exact load_srow harg7 s _ 1 rfl
  iexists _
  isplitr; swap
  · iexists _; isplitr; swap; · iexact HS0
    ipureintro; rfl
  ipureintro
  sl_unfold_words
  refine holds_writes_of _ _ _ _ _ _ ((st_carry Variants.none c none i arg1 harg1 arg2 harg2 arg3 harg3 arg4 harg4 arg5 harg5 arg6 harg6 arg7 harg7 x1 x2 x3 x4 _).trans
    (Prod.ext (congrArg (fun r => carryDown (k0_pay2 i) x1 x2 r 256) ?_) (congrArg (fun r => carryUp (k0_pay3 i) x3 x4 r 256) ?_)))
  · exact load_srow harg7 s _ 0 rfl
  · exact load_srow harg7 s _ 1 rfl

-- the run's proof term is large
set_option maxHeartbeats 1000000 in
/-- The body at the first point. -/
theorem body_first (hc0 : cond0 i) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (blockDown (k0_pay2 i) x1 x2 zrow) ∗ owns (c : Thread nD τ) arg6 fullShare (blockUp (k0_pay3 i) x3 x4 zrow)
            ∗ (∃ s', ⌜Holds s' (carryDown (k0_pay2 i) x1 x2 zrow 256, carryUp (k0_pay3 i) x3 x4 zrow 256)⌝ ∗ owns (c : Thread nD τ) arg7 fullShare s')) -∗ K ⟨⟩))
      ⊢ wp frame (wpE (defs₀ (F := F)) Variants.none c none) E (cc0_scan_bwd i arg1 harg1 arg2 harg2 arg3 harg3 arg4 harg4 arg5 harg5 arg6 harg6 arg7 harg7) K := by
  simp only [cc0_scan_bwd_eq_skeleton]; unfold cc0_scan_bwd_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %fs0, -, HS0⟩, Hk⟩
  obtain rfl := harg1.eq_unread hf0; obtain rfl := harg2.eq_unread hf1; obtain rfl := harg3.eq_unread hf2; obtain rfl := harg4.eq_unread hf3
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    sl_unfold_words
    refine (st_down Variants.none c none i arg1 harg1 arg2 harg2 arg3 harg3 arg4 harg4 arg5 harg5 arg6 harg6 arg7 harg7 x1 x2 x3 x4 _ f4).trans (congrArg (blockDown (k0_pay2 i) x1 x2) ?_)
    exact load_zrow _ _ _
  isplitl [H5]
  · iexists _; isplitr; swap; · iexact H5
    ipureintro
    sl_unfold_words
    refine (st_up Variants.none c none i arg1 harg1 arg2 harg2 arg3 harg3 arg4 harg4 arg5 harg5 arg6 harg6 arg7 harg7 x1 x2 x3 x4 _ f5).trans (congrArg (blockUp (k0_pay3 i) x3 x4) ?_)
    exact load_zrow _ _ _
  iexists _
  isplitr; swap
  · iexists _; isplitr; swap; · iexact HS0
    ipureintro; rfl
  ipureintro
  sl_unfold_words
  refine holds_writes_of _ _ _ _ _ _ ((st_carry Variants.none c none i arg1 harg1 arg2 harg2 arg3 harg3 arg4 harg4 arg5 harg5 arg6 harg6 arg7 harg7 x1 x2 x3 x4 _).trans
    (Prod.ext (congrArg (fun r => carryDown (k0_pay2 i) x1 x2 r 256) ?_) (congrArg (fun r => carryUp (k0_pay3 i) x3 x4 r 256) ?_)))
  · exact load_zrow _ _ _
  · exact load_zrow _ _ _

end

end Cert.KernelIdeal.Scan

end
-- ==== Proof.Scan.Run.lean ====
/- The kernel's run: what the two carried rows are before each grid point, the pipeline's proof data with both results' blocks
   named, the body obligation and the launch. -/
module

public import proofs.«01_k».proof.Proof.Scan.Body
public import Idealize.ShloMosaic.Lib.Claim

@[expose] public section

set_option maxRecDepth 16384

noncomputable section

namespace Cert.KernelIdeal.Scan

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current buffer at a point, and the scratch. -/
abbrev st0 (t : Fin cfg0.N) : Memref sig .tc .vmem S256x2048 .f32 := win0_0.stage (cfg0.slots t 0)
abbrev st1 (t : Fin cfg0.N) : Memref sig .tc .vmem S256x2048 .f32 := win0_1.stage (cfg0.slots t 1)
abbrev st2 (t : Fin cfg0.N) : Memref sig .tc .vmem S256x2048 .f32 := win0_2.stage (cfg0.slots t 2)
abbrev st3 (t : Fin cfg0.N) : Memref sig .tc .vmem S256x2048 .f32 := win0_3.stage (cfg0.slots t 3)
abbrev st4 (t : Fin cfg0.N) : Memref sig .tc .vmem S256x2048 .f32 := win0_4.stage (cfg0.slots t 4)
abbrev st5 (t : Fin cfg0.N) : Memref sig .tc .vmem S256x2048 .f32 := win0_5.stage (cfg0.slots t 5)
abbrev scr : Memref sig .tc .vmem S8x2048 .f32 := Memref.whole cc0_scratch0

/-- The region's invariant with the scratch as a memref owned at some contents. -/
theorem ΦA_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- The two carried rows before point `n`: the descending chain's, the ascending chain's. -/
def carried (c : Dev nD) : ℕ → Vec F S1x2048 .f32 × Vec F S1x2048 .f32
  | 0 => (zrow, zrow)
  | n + 1 => if h : n < cfg0.N then
      (carryDown (k0_pay2 (grid0.coords ⟨n, h⟩)) (iblk m c 0 ⟨n, h⟩) (iblk m c 1 ⟨n, h⟩) (carried c n).1 256,
       carryUp (k0_pay3 (grid0.coords ⟨n, h⟩)) (iblk m c 2 ⟨n, h⟩) (iblk m c 3 ⟨n, h⟩) (carried c n).2 256)
    else carried c n

theorem carried_succ (c : Dev nD) (t : Fin cfg0.N) : carried m c (t.val + 1)
    = (carryDown (k0_pay2 (grid0.coords t)) (iblk m c 0 t) (iblk m c 1 t) (carried m c t.val).1 256,
       carryUp (k0_pay3 (grid0.coords t)) (iblk m c 2 t) (iblk m c 3 t) (carried m c t.val).2 256) := by
  rw [carried, dif_pos t.isLt]

/-- The invariant: before the first point the scratch at anything, before a later one its two rows are the carried ones. -/
def inv (c : Dev nD) : ℕ → sProp 𝕄
  | 0 => Pipeline.ΦA spec0 c
  | n + 1 => iprop(iprop(∃ s, ⌜Holds s (carried m c (n + 1))⌝ ∗ owns (c : Thread nD τ) scr fullShare s) ∗ (∃ r, prngReg c r))

theorem inv_pos (c : Dev nD) (n : ℕ) (hz : n ≠ 0) :
    inv m c n = iprop(iprop(∃ s, ⌜Holds s (carried m c n)⌝ ∗ owns (c : Thread nD τ) scr fullShare s) ∗ (∃ r, prngReg c r)) := by
  cases n with
  | zero => exact absurd rfl hz
  | succ n => rfl

/-- The pipeline's proof data: inputs' buffers at their blocks, the results' at the point's blocks of the two chains. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockDown (k0_pay2 (grid0.coords t)) (iblk m c 0 t) (iblk m c 1 t) (carried m c t.val).1
    | ⟨5, _⟩ => blockUp (k0_pay3 (grid0.coords t)) (iblk m c 2 t) (iblk m c 3 t) (carried m c t.val).2
  Φ t := inv m c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t
    = blockDown (k0_pay2 (grid0.coords t)) (iblk m c 0 t) (iblk m c 1 t) (carried m c t.val).1 := by dsimp only [dats]
theorem after_5 (c : Dev nD) (t : Fin cfg0.N) : (dats m 0 c).after 5 t
    = blockUp (k0_pay3 (grid0.coords t)) (iblk m c 2 t) (iblk m c 3 t) (carried m c t.val).2 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The body obligation -/

/-- What the body is called with at a point. -/
def pre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d)))

/-- What it hands back. -/
def post (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t))

set_option maxHeartbeats 3200000 in
/-- The body at any point. -/
theorem body_sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3]
  rw [show (dats m 0 c).owesAt () t.succ = (dats m 0 c).owesAt () t.castSucc from rfl, after_0, after_1, after_2, after_3, after_4, after_5]
  rw [show (dats m 0 c).Φ t.succ = inv m c (t.val + 1) from rfl, show (dats m 0 c).Φ t.castSucc = inv m c t.val from rfl,
    inv_pos m c (t.val + 1) (Nat.succ_ne_zero _), carried_succ]
  by_cases hz : t.val = 0
  · have e : carried m c t.val = (zrow, zrow) := by rw [hz]; rfl
    rw [e, show inv m c t.val = Pipeline.ΦA spec0 c from by rw [hz]; rfl, ΦA_eq]
    iintro ⟨⟨HS0, Hg⟩, Ho, ⟨%d0, H0⟩, ⟨%d1, H1⟩, ⟨%d2, H2⟩, ⟨%d3, H3⟩, ⟨%d4, H4⟩, ⟨%d5, H5⟩⟩
    iapply (body_first c (grid0.coords t) _ _ _ _ _ _ _ _ _ _ _ _ _ _ (iblk m c 0 t) (iblk m c 1 t) (iblk m c 2 t) (iblk m c 3 t) ((hcond0 t).mpr hz) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [inv_pos m c t.val hz]
    iintro ⟨⟨⟨%s, %hs, HS0⟩, Hg⟩, Ho, ⟨%d0, H0⟩, ⟨%d1, H1⟩, ⟨%d2, H2⟩, ⟨%d3, H3⟩, ⟨%d4, H4⟩, ⟨%d5, H5⟩⟩
    rw [← hs.1, ← hs.2]
    iapply (body_later c (grid0.coords t) _ _ _ _ _ _ _ _ _ _ _ _ _ _ (iblk m c 0 t) (iblk m c 1 t) (iblk m c 2 t) (iblk m c 3 t) (fun h => hz ((hcond0 t).mp h)) s Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5

theorem defs_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, defs_row]
  exact triple_restated (body_sound m c t) rfl .rfl fun _ => .rfl

theorem inv_in (c : Dev nD) : Pipeline.ΦA spec0 c ⊢ (dats m 0 c).Φ 0 := by
  rw [show (dats m 0 c).Φ 0 = Pipeline.ΦA spec0 c from rfl]
  try exact Idealize.SL.BI.Entails.refl _

theorem inv_out (c : Dev nD) : (dats m 0 c).Φ (Fin.last cfg0.N) ⊢ Pipeline.ΦA spec0 c := by
  rw [show (dats m 0 c).Φ (Fin.last cfg0.N) = inv m c cfg0.N from rfl,
    inv_pos m c cfg0.N (by have : cfg0.N = 9 := N_0; omega), ΦA_eq]
  iintro ⟨⟨%s, -, HS0⟩, Hg⟩
  isplitl [HS0]
  · iexists _; iexact HS0
  iexact Hg

/-! ## The run -/

-- the implicit arguments of the launch rule are found by unifying its conclusion with this one
set_option backward.isDefEq.respectTransparency.types false in
/-- Every execution ends, with every staged array at the proof data's contents and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := inv_in m) (hout := inv_out m)

/-- The run with the two results named and the arguments unchanged. -/
theorem run : θ_run defs (onTc (τ := τ) (main (F := F))) ⟨m, fun _ => 0, ρ⟩ (fun r => (∀ c : Dev nD,
      (r.2.mem ((c.tc : Thread nD τ).loc main_v0_0) = (dats m 0 c).arrAt 4 cfg0.N
        ∧ r.2.mem ((c.tc : Thread nD τ).loc main_v0_1) = (dats m 0 c).arrAt 5 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨⟨(h.1 c).1 4, (h.1 c).1 5⟩,
      ((h.1 c).1 0).trans (((dats m 0 c).arrAt_in 0 rfl _).trans ((A_eq m c 0).trans (V_main_arg0 m c))),
      ((h.1 c).1 2).trans (((dats m 0 c).arrAt_in 2 rfl _).trans ((A_eq m c 2).trans (V_main_arg1 m c))),
      ((h.1 c).1 3).trans (((dats m 0 c).arrAt_in 3 rfl _).trans ((A_eq m c 3).trans (V_main_arg2 m c)))⟩, h.2⟩) (run_main m ρ)

end Cert.KernelIdeal.Scan

end
-- ==== Proof.Scan.Chain.lean ====
/- The recurrence's gradient as mathematics: a chain `g n = ct n + a (n-1) * g (n-1)`, taken from the last token back to the
   first, and the sequences of coefficients and cotangents that each direction's chain runs over. -/
module

public import Idealize.ShloMosaic.Lib.Pointwise
public import Idealize.ShloMosaic.Lib.IdealHost

@[expose] public section

noncomputable section

namespace Cert.Chain

open Idealize.ShloMosaic

/-- What the chain carries into step `n`: `a (n-1)` times the gradient of step `n - 1`, nothing into step 0. -/
def acc (a ct : ℕ → EReal) : ℕ → EReal
  | 0 => 0
  | n + 1 => a n * (ct n + acc a ct n)

/-- The gradient at step `n`. -/
def grad (a ct : ℕ → EReal) (n : ℕ) : EReal := ct n + acc a ct n

theorem acc_succ (a ct : ℕ → EReal) (n : ℕ) : acc a ct (n + 1) = a n * grad a ct n := rfl

abbrev Full : Shape := ⟨2, ![2304, 2048]⟩
abbrev Lat : Shape := ⟨2, ![2048, 2048]⟩

/-- The tokens' rows as the forward direction's gradient takes them: the last one first. -/
def rowF (n : ℕ) : Fin 2304 := ⟨2303 - n, by omega⟩

/-- The rows as the backward direction's gradient takes them: the latents from the first one up, then the context's. -/
def rowB (n : ℕ) : Fin 2304 := if h : n < 2048 then ⟨256 + n, by omega⟩ else ⟨(n - 2048) % 256, by omega⟩

/-- The coefficients along a chain, in column `l`. -/
def coefF (a : Full.Idx → EReal) (l : Fin 2048) (n : ℕ) : EReal := a (ix2 (rowF n) l)
def coefB (a : Full.Idx → EReal) (l : Fin 2048) (n : ℕ) : EReal := a (ix2 (rowB n) l)

/-- The cotangents along a chain: those of the latents, and zero on the context, whose states the step does not read. -/
def cotF (d : Lat.Idx → EReal) (l : Fin 2048) (n : ℕ) : EReal := if h : n < 2048 then d (ix2 (⟨2047 - n, by omega⟩ : Fin 2048) l) else 0
def cotB (d : Lat.Idx → EReal) (l : Fin 2048) (n : ℕ) : EReal := if h : n < 2048 then d (ix2 (⟨n, h⟩ : Fin 2048) l) else 0

/-- The step at which the backward direction's chain meets row `r`. -/
def stepB (r : ℕ) : ℕ := if r < 256 then 2048 + r else r - 256

/-- The gradient of the forward direction's inputs. -/
def gradF (a : Full.Idx → EReal) (d : Lat.Idx → EReal) : Full.Idx → EReal := fun j =>
  grad (coefF a (j 1)) (cotF d (j 1)) (2303 - (j 0).val)

/-- The gradient of the backward direction's inputs. -/
def gradB (a : Full.Idx → EReal) (d : Lat.Idx → EReal) : Full.Idx → EReal := fun j =>
  grad (coefB a (j 1)) (cotB d (j 1)) (stepB (j 0).val)

end Cert.Chain

end
-- ==== Proof.Scan.Value.lean ====
/- What the kernel's two results hold over the reals: the carried rows are the chains' sums at 256 times the point, each block is a
   stretch of its chain, and the nine blocks cover each result. -/
module

public import proofs.«01_k».proof.Proof.Scan.Run
public import proofs.«01_k».proof.Proof.Scan.Chain
public import Idealize.ShloMosaic.Lib.Pipeline.Value

@[expose] public section

set_option maxRecDepth 16384

noncomputable section

namespace Cert.KernelIdeal.Scan

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Cert.Chain

/-! ## A stretch of a chain -/

/-- From the chain's sum at step `N`, the block's carried numbers are the chain's sums. -/
theorem carry_eq_acc (A C : ℕ → EReal) (live : Ideal .f32) (a d : ℕ → Ideal .f32) (N : ℕ) (ha : ∀ n < 256, a n = A (N + n))
    (hd : ∀ n < 256, (d n * live : EReal) = C (N + n)) : ∀ k ≤ 256, carry live a d (acc A C N : EReal) k = acc A C (N + k)
  | 0, _ => rfl
  | k + 1, hk => by
    show (a k * (d k * live + carry live a d (acc A C N : EReal) k) : EReal) = A (N + k) * (C (N + k) + acc A C (N + k))
    rw [carry_eq_acc A C live a d N ha hd k (by omega), ha k (by omega), hd k (by omega)]

theorem out_eq_grad (A C : ℕ → EReal) (live : Ideal .f32) (a d : ℕ → Ideal .f32) (N : ℕ) (ha : ∀ n < 256, a n = A (N + n))
    (hd : ∀ n < 256, (d n * live : EReal) = C (N + n)) (k : ℕ) (hk : k < 256) :
    out live a d (acc A C N : EReal) k = grad A C (N + k) := by
  show (d k * live + carry live a d (acc A C N : EReal) k : EReal) = C (N + k) + acc A C (N + k)
  rw [carry_eq_acc A C live a d N ha hd k (by omega), hd k hk]

/-! ## The grid's closed forms -/

/-- The chunk of the sequence that the ascending chain takes at a point. -/
def chunkB (t : ℕ) : ℕ := if t < 8 then 1 + t else 0

theorem index0 : ∀ t : Fin grid0.N, win0_0.index t 0 = 8 - t.val ∧ win0_0.index t 1 = 0 := by decide +kernel
theorem index1 : ∀ t : Fin grid0.N, win0_1.index t 0 = 7 - t.val ∧ win0_1.index t 1 = 0 := by decide +kernel
theorem index2 : ∀ t : Fin grid0.N, win0_2.index t 0 = chunkB t.val ∧ win0_2.index t 1 = 0 := by decide +kernel
theorem index3 : ∀ t : Fin grid0.N, win0_3.index t 0 = chunkB t.val - 1 ∧ win0_3.index t 1 = 0 := by decide +kernel
theorem index4 : ∀ t : Fin grid0.N, win0_4.index t 0 = 8 - t.val ∧ win0_4.index t 1 = 0 := by decide +kernel
theorem index5 : ∀ t : Fin grid0.N, win0_5.index t 0 = chunkB t.val ∧ win0_5.index t 1 = 0 := by decide +kernel

theorem bit2 : ∀ t : Fin grid0.N, Scalar.cmpi .sge (Scalar.subi 8#32 (BitVec.ofNat 32 (grid0.coords t 0).val)) 1#32
    = if t.val < 8 then 1#1 else 0#1 := by decide +kernel
theorem bit3 : ∀ t : Fin grid0.N, Scalar.cmpi .sge (Scalar.select (Scalar.cmpi .slt (BitVec.ofNat 32 (grid0.coords t 0).val) 8#32)
      (Scalar.addi 1#32 (BitVec.ofNat 32 (grid0.coords t 0).val)) (Scalar.subi (BitVec.ofNat 32 (grid0.coords t 0).val) 8#32)) 1#32
    = if t.val < 8 then 1#1 else 0#1 := by decide +kernel

theorem zero_word : (Scalar.ofBits .f32 0x00000000#32 : Ideal .f32) = (0 : EReal) := by
  show Ideal.ofBits .f32 0x00000000#32 = 0
  simp [Ideal.ofBits, Ideal.ieee]

theorem one_word : (Scalar.ofBits .f32 0x3F800000#32 : Ideal .f32) = (1 : EReal) := by
  show Ideal.ofBits .f32 0x3F800000#32 = 1
  exact Ideal.ofBits_one_f32

/-- The factor of the cotangents: one on the latents' chunks, zero on the context's. -/
theorem live2 (t : Fin grid0.N) : (k0_pay2 (F := Ideal) (grid0.coords t) : EReal) = if t.val < 8 then 1 else 0 := by
  have e : (k0_pay2 (F := Ideal) (grid0.coords t)) = Scalar.select (Scalar.cmpi .sge (Scalar.subi 8#32 (BitVec.ofNat 32 (grid0.coords t 0).val)) 1#32)
    (Scalar.ofBits .f32 0x3F800000#32 : Ideal .f32) (Scalar.ofBits .f32 0x00000000#32) := rfl
  rw [e, bit2, one_word, zero_word]
  split_ifs <;> rfl

theorem live3 (t : Fin grid0.N) : (k0_pay3 (F := Ideal) (grid0.coords t) : EReal) = if t.val < 8 then 1 else 0 := by
  have e : (k0_pay3 (F := Ideal) (grid0.coords t)) = Scalar.select (Scalar.cmpi .sge (Scalar.select (Scalar.cmpi .slt (BitVec.ofNat 32 (grid0.coords t 0).val) 8#32)
      (Scalar.addi 1#32 (BitVec.ofNat 32 (grid0.coords t 0).val)) (Scalar.subi (BitVec.ofNat 32 (grid0.coords t 0).val) 8#32)) 1#32)
    (Scalar.ofBits .f32 0x3F800000#32 : Ideal .f32) (Scalar.ofBits .f32 0x00000000#32) := rfl
  rw [e, bit3, one_word, zero_word]
  split_ifs <;> rfl

/-! ## The blocks -/

variable (m : (ℓ : Loc nD τ sig) → Buf (Elt Ideal) ℓ) (c : Dev nD)

/-- The three arguments as the kernel finds them. -/
abbrev argF : Full.Idx → EReal := m ((c.tc : Thread nD τ).loc main_arg0)
abbrev argB : Full.Idx → EReal := m ((c.tc : Thread nD τ).loc main_arg1)
abbrev argD : Lat.Idx → EReal := m ((c.tc : Thread nD τ).loc main_arg2)

theorem t_le (t : Fin cfg0.N) : t.val ≤ 8 := by have := t.isLt; have e : cfg0.N = 9 := N_0; omega

theorem iblk0 (t : Fin cfg0.N) (r : Fin 256) (l : Fin 2048) : (iblk m c 0 t : S256x2048.Idx → EReal) (ix2 r l)
    = argF m c (ix2 (⟨256 * (8 - t.val) + r.val, by omega⟩ : Fin 2304) l) := by
  unfold iblk; rw [View.read_apply]
  show V m c main_arg0 _ = m _ _
  rw [V_main_arg0]
  congr 1; funext a; apply Fin.ext
  match a with
  | ⟨0, _⟩ => show win0_0.index t 0 * 256 + 1 * r.val = 256 * (8 - t.val) + r.val; rw [(index0 t).1]; omega
  | ⟨1, _⟩ => show win0_0.index t 1 * 2048 + 1 * l.val = l.val; rw [(index0 t).2]; omega

theorem iblk1 (t : Fin cfg0.N) (r : Fin 256) (l : Fin 2048) : (iblk m c 1 t : S256x2048.Idx → EReal) (ix2 r l)
    = argD m c (ix2 (⟨256 * (7 - t.val) + r.val, by omega⟩ : Fin 2048) l) := by
  unfold iblk; rw [View.read_apply]
  show V m c main_arg2 _ = m _ _
  rw [V_main_arg2]
  congr 1; funext a; apply Fin.ext
  match a with
  | ⟨0, _⟩ => show win0_1.index t 0 * 256 + 1 * r.val = 256 * (7 - t.val) + r.val; rw [(index1 t).1]; omega
  | ⟨1, _⟩ => show win0_1.index t 1 * 2048 + 1 * l.val = l.val; rw [(index1 t).2]; omega

theorem chunkB_le (t : ℕ) : chunkB t ≤ 8 := by unfold chunkB; split_ifs <;> omega

theorem iblk2 (t : Fin cfg0.N) (r : Fin 256) (l : Fin 2048) : (iblk m c 2 t : S256x2048.Idx → EReal) (ix2 r l)
    = argB m c (ix2 (⟨256 * chunkB t.val + r.val, by have := chunkB_le t.val; omega⟩ : Fin 2304) l) := by
  unfold iblk; rw [View.read_apply]
  show V m c main_arg1 _ = m _ _
  rw [V_main_arg1]
  congr 1; funext a; apply Fin.ext
  match a with
  | ⟨0, _⟩ => show win0_2.index t 0 * 256 + 1 * r.val = 256 * chunkB t.val + r.val; rw [(index2 t).1]; omega
  | ⟨1, _⟩ => show win0_2.index t 1 * 2048 + 1 * l.val = l.val; rw [(index2 t).2]; omega

theorem iblk3 (t : Fin cfg0.N) (r : Fin 256) (l : Fin 2048) : (iblk m c 3 t : S256x2048.Idx → EReal) (ix2 r l)
    = argD m c (ix2 (⟨256 * (chunkB t.val - 1) + r.val, by have := chunkB_le t.val; omega⟩ : Fin 2048) l) := by
  unfold iblk; rw [View.read_apply]
  show V m c main_arg2 _ = m _ _
  rw [V_main_arg2]
  congr 1; funext a; apply Fin.ext
  match a with
  | ⟨0, _⟩ => show win0_3.index t 0 * 256 + 1 * r.val = 256 * (chunkB t.val - 1) + r.val; rw [(index3 t).1]; omega
  | ⟨1, _⟩ => show win0_3.index t 1 * 2048 + 1 * l.val = l.val; rw [(index3 t).2]; omega

/-! ## The rows of a point are a stretch of the chain -/

theorem coef_down (t : Fin cfg0.N) (l : Fin 2048) (n : ℕ) (hn : n < 256) :
    down (iblk m c 0 t) l n = coefF (argF m c) l (256 * t.val + n) := by
  have ht := t_le t
  refine (iblk0 m c t ⟨255 - n, by omega⟩ l).trans ?_
  exact congrArg (fun r => argF m c (ix2 r l)) (Fin.ext (by show 256 * (8 - t.val) + (255 - n) = 2303 - (256 * t.val + n); omega))

theorem cot_down (t : Fin cfg0.N) (l : Fin 2048) (n : ℕ) (hn : n < 256) :
    ((down (iblk m c 1 t) l n : Ideal .f32) * k0_pay2 (F := Ideal) (grid0.coords t) : EReal) = cotF (argD m c) l (256 * t.val + n) := by
  have ht := t_le t
  rw [live2]
  unfold cotF
  by_cases h : t.val < 8
  · rw [if_pos h, mul_one, dif_pos (by omega)]
    refine (iblk1 m c t ⟨255 - n, by omega⟩ l).trans ?_
    exact congrArg (fun r => argD m c (ix2 r l)) (Fin.ext (by show 256 * (7 - t.val) + (255 - n) = 2047 - (256 * t.val + n); omega))
  · rw [if_neg h, mul_zero, dif_neg (by omega)]

theorem coef_up (t : Fin cfg0.N) (l : Fin 2048) (n : ℕ) (hn : n < 256) :
    up (iblk m c 2 t) l n = coefB (argB m c) l (256 * t.val + n) := by
  have ht := t_le t
  refine (iblk2 m c t ⟨n % 256, by omega⟩ l).trans ?_
  refine congrArg (fun r => argB m c (ix2 r l)) (Fin.ext ?_)
  show 256 * chunkB t.val + n % 256 = (rowB (256 * t.val + n)).val
  unfold rowB chunkB
  by_cases h : t.val < 8
  · rw [if_pos h, dif_pos (by omega)]; show 256 * (1 + t.val) + n % 256 = 256 + (256 * t.val + n); omega
  · rw [if_neg h, dif_neg (by omega)]; show 256 * 0 + n % 256 = (256 * t.val + n - 2048) % 256; omega

theorem cot_up (t : Fin cfg0.N) (l : Fin 2048) (n : ℕ) (hn : n < 256) :
    ((up (iblk m c 3 t) l n : Ideal .f32) * k0_pay3 (F := Ideal) (grid0.coords t) : EReal) = cotB (argD m c) l (256 * t.val + n) := by
  have ht := t_le t
  rw [live3]
  unfold cotB
  by_cases h : t.val < 8
  · rw [if_pos h, mul_one, dif_pos (by omega)]
    refine (iblk3 m c t ⟨n % 256, by omega⟩ l).trans ?_
    refine congrArg (fun r => argD m c (ix2 r l)) (Fin.ext ?_)
    show 256 * (chunkB t.val - 1) + n % 256 = 256 * t.val + n
    unfold chunkB; rw [if_pos h]; omega
  · rw [if_neg h, mul_zero, dif_neg (by omega)]

/-- The carried rows before a point are the chains' sums. -/
theorem carried_eq (n : ℕ) (hn : n ≤ 9) (l : Fin 2048) :
    (carried m c n).1 (ix2 0 l) = acc (coefF (argF m c) l) (cotF (argD m c) l) (256 * n)
      ∧ (carried m c n).2 (ix2 0 l) = acc (coefB (argB m c) l) (cotB (argD m c) l) (256 * n) := by
  induction n with
  | zero => exact ⟨zero_word, zero_word⟩
  | succ n ih =>
    have hN : n < cfg0.N := by have e : cfg0.N = 9 := N_0; omega
    obtain ⟨h1, h2⟩ := ih (by omega)
    have q1 := carry_eq_acc _ _ _ _ _ (256 * n) (coef_down m c ⟨n, hN⟩ l) (cot_down m c ⟨n, hN⟩ l) 256 le_rfl
    have q2 := carry_eq_acc _ _ _ _ _ (256 * n) (coef_up m c ⟨n, hN⟩ l) (cot_up m c ⟨n, hN⟩ l) 256 le_rfl
    rw [← h1] at q1
    rw [← h2] at q2
    rw [carried_succ m c ⟨n, hN⟩, Nat.mul_succ]
    exact ⟨q1, q2⟩

/-! ## The results -/

theorem flushed4 (t : Fin cfg0.N) (hf : (cfg0.win 4).flush t = true) :
    (dats m 0 c).flushed 4 t = ((cfg0.win 4).blk t).view.read (Elt Ideal) (gradF (argF m c) (argD m c)) := by
  have ht := t_le t
  show (cfg0.win 4).cut (grid0.coords t) ((dats m 0 c).after 4 t) = _
  rw [after_4]
  funext j
  rw [View.read_apply]
  have h0 : (j 0).val < 256 := (j 0).isLt
  have e : ((cfg0.win 4).blk t).view.emb j = ix2 (⟨256 * (8 - t.val) + (j 0).val, by omega⟩ : Fin 2304) (j 1) := by
    funext a; apply Fin.ext
    match a with
    | ⟨0, _⟩ => show win0_4.index t 0 * 256 + 1 * (j 0).val = 256 * (8 - t.val) + (j 0).val; rw [(index4 t).1]; omega
    | ⟨1, _⟩ => show win0_4.index t 1 * 2048 + 1 * (j 1).val = (j 1).val; rw [(index4 t).2]; omega
  refine Eq.trans ?_ (congrArg (gradF (argF m c) (argD m c)) e).symm
  have q := out_eq_grad _ _ _ _ _ (256 * t.val) (coef_down m c t (j 1)) (cot_down m c t (j 1)) (255 - (j 0).val) (by omega)
  rw [← (carried_eq m c t.val (by omega) (j 1)).1] at q
  refine Eq.trans q ?_
  exact congrArg (grad (coefF (argF m c) (j 1)) (cotF (argD m c) (j 1)))
    (show 256 * t.val + (255 - (j 0).val) = 2303 - (256 * (8 - t.val) + (j 0).val) by omega)

theorem flushed5 (t : Fin cfg0.N) (hf : (cfg0.win 5).flush t = true) :
    (dats m 0 c).flushed 5 t = ((cfg0.win 5).blk t).view.read (Elt Ideal) (gradB (argB m c) (argD m c)) := by
  have ht := t_le t
  show (cfg0.win 5).cut (grid0.coords t) ((dats m 0 c).after 5 t) = _
  rw [after_5]
  funext j
  rw [View.read_apply]
  have h0 : (j 0).val < 256 := (j 0).isLt
  have hc := chunkB_le t.val
  have e : ((cfg0.win 5).blk t).view.emb j = ix2 (⟨256 * chunkB t.val + (j 0).val, by omega⟩ : Fin 2304) (j 1) := by
    funext a; apply Fin.ext
    match a with
    | ⟨0, _⟩ => show win0_5.index t 0 * 256 + 1 * (j 0).val = 256 * chunkB t.val + (j 0).val; rw [(index5 t).1]; omega
    | ⟨1, _⟩ => show win0_5.index t 1 * 2048 + 1 * (j 1).val = (j 1).val; rw [(index5 t).2]; omega
  refine Eq.trans ?_ (congrArg (gradB (argB m c) (argD m c)) e).symm
  have q := out_eq_grad _ _ _ _ _ (256 * t.val) (coef_up m c t (j 1)) (cot_up m c t (j 1)) (j 0).val h0
  rw [← (carried_eq m c t.val (by omega) (j 1)).2] at q
  refine Eq.trans q ?_
  refine congrArg (grad (coefB (argB m c) (j 1)) (cotB (argD m c) (j 1))) ?_
  show 256 * t.val + (j 0).val = stepB (256 * chunkB t.val + (j 0).val)
  unfold stepB chunkB
  split_ifs <;> omega

/-- The first result. -/
theorem result4 : (dats m 0 c).arrAt 4 cfg0.N = gradF (argF m c) (argD m c) :=
  (dats m 0 c).arrAt_eq_of_cover 4 (gradF (argF m c) (argD m c)) (flushed4 m c) fun i => by
    have h0 : (i 0).val < 2304 := (i 0).isLt
    have h1 : (i 1).val < 2048 := (i 1).isLt
    have hN : cfg0.N = 9 := N_0
    have ht : 8 - (i 0).val / 256 < cfg0.N := by omega
    refine ⟨⟨8 - (i 0).val / 256, ht⟩, flush0_4 _, ?_⟩
    show i ∈ ((View.whole main_v0_0).slice (win0_4.rect ⟨8 - (i 0).val / 256, ht⟩)).set
    rw [View.set_slice_whole, Rect.mem_set_unit]
    intro a
    match a with
    | ⟨0, _⟩ =>
      show win0_4.index ⟨8 - (i 0).val / 256, ht⟩ 0 * 256 ≤ (i 0 : Nat) ∧ (i 0 : Nat) < win0_4.index ⟨8 - (i 0).val / 256, ht⟩ 0 * 256 + 256
      rw [(index4 ⟨8 - (i 0).val / 256, ht⟩).1]
      show (8 - (8 - (i 0).val / 256)) * 256 ≤ (i 0).val ∧ (i 0).val < (8 - (8 - (i 0).val / 256)) * 256 + 256
      omega
    | ⟨1, _⟩ =>
      show win0_4.index ⟨8 - (i 0).val / 256, ht⟩ 1 * 2048 ≤ (i 1 : Nat) ∧ (i 1 : Nat) < win0_4.index ⟨8 - (i 0).val / 256, ht⟩ 1 * 2048 + 2048
      rw [(index4 ⟨8 - (i 0).val / 256, ht⟩).2]
      omega

/-- The point at which the ascending chain takes chunk `q`. -/
def pointB (q : ℕ) : ℕ := if q = 0 then 8 else q - 1

/-- The second result. -/
theorem result5 : (dats m 0 c).arrAt 5 cfg0.N = gradB (argB m c) (argD m c) :=
  (dats m 0 c).arrAt_eq_of_cover 5 (gradB (argB m c) (argD m c)) (flushed5 m c) fun i => by
    have h0 : (i 0).val < 2304 := (i 0).isLt
    have h1 : (i 1).val < 2048 := (i 1).isLt
    have hN : cfg0.N = 9 := N_0
    have ht : pointB ((i 0).val / 256) < cfg0.N := by unfold pointB; split_ifs <;> omega
    have hq : chunkB (pointB ((i 0).val / 256)) = (i 0).val / 256 := by unfold chunkB pointB; split_ifs <;> omega
    refine ⟨⟨pointB ((i 0).val / 256), ht⟩, flush0_5 _, ?_⟩
    show i ∈ ((View.whole main_v0_1).slice (win0_5.rect ⟨pointB ((i 0).val / 256), ht⟩)).set
    rw [View.set_slice_whole, Rect.mem_set_unit]
    intro a
    match a with
    | ⟨0, _⟩ =>
      show win0_5.index ⟨pointB ((i 0).val / 256), ht⟩ 0 * 256 ≤ (i 0 : Nat) ∧ (i 0 : Nat) < win0_5.index ⟨pointB ((i 0).val / 256), ht⟩ 0 * 256 + 256
      rw [(index5 ⟨pointB ((i 0).val / 256), ht⟩).1]
      show chunkB (pointB ((i 0).val / 256)) * 256 ≤ (i 0).val ∧ (i 0).val < chunkB (pointB ((i 0).val / 256)) * 256 + 256
      rw [hq]
      omega
    | ⟨1, _⟩ =>
      show win0_5.index ⟨pointB ((i 0).val / 256), ht⟩ 1 * 2048 ≤ (i 1 : Nat) ∧ (i 1 : Nat) < win0_5.index ⟨pointB ((i 0).val / 256), ht⟩ 1 * 2048 + 2048
      rw [(index5 ⟨pointB ((i 0).val / 256), ht⟩).2]
      omega

end Cert.KernelIdeal.Scan

end
-- ==== Proof.Scan.Ref.lean ====
/- What the reference computes: its loop's states after any number of trips, and so its two results. -/
module

public import proofs.«01_k».proof.Proof.Scan.Chain
public import proofs.«01_k».proof.Proof.Gen.ReferenceIdeal.Run
public import Idealize.ShloMosaic.Lib.Pointwise
public import Idealize.ShloMosaic.Lib.DynamicIndex
public import Idealize.ShloMosaic.Lib.WordCmp
public import Idealize.ShloMosaic.Lib.Quiescent

@[expose] public section

noncomputable section

namespace Cert.ReferenceIdeal.Scan

open Idealize.ShloMosaic Idealize.ShloMosaic.TcCoe Idealize.ShloMosaic.Tactic Idealize.ShloMosaic.StableHlo
open Cert.ReferenceIdeal Cert.ReferenceIdeal.Gen Cert.ReferenceIdeal.Value Cert.Chain

/-- The array of the cotangents of both directions' states. -/
def ctArr (x2 : Lat.Idx → EReal) : S2304x2x2048.Idx → EReal :=
  addf (F := Ideal) (φ := .f32)
    (pad S2304x2x2048 ![256, 1, 0] ![0, 0, 0] ![0, 0, 0] (broadcastInDim S2048x1x2048 ![0, 2] bcast_S2048x2048_S2048x1x2048_0_2 (Host.reverse (s := S2048x2048) [0] (shapeCast S2048x2048 x2 shapeCasts_S2048x2048_S2048x2048))) (constant (F := Ideal) S_ .f32 0x00000000#32) pads_S2048x1x2048_S2304x2x2048_25600_100_000 h_S_)
    (pad S2304x2x2048 ![256, 0, 0] ![0, 1, 0] ![0, 0, 0] (broadcastInDim S2048x1x2048 ![0, 2] bcast_S2048x2048_S2048x1x2048_0_2 (shapeCast S2048x2048 x2 shapeCasts_S2048x2048_S2048x2048)) (constant (F := Ideal) S_ .f32 0x00000000#32) pads_S2048x1x2048_S2304x2x2048_25600_010_000 h_S_)

/-- The array of both directions' coefficients. -/
def coArr (x0 x1 : Full.Idx → EReal) : S2304x2x2048.Idx → EReal :=
  concatenate S2304x2x2048 1 [⟨S2304x1x2048, broadcastInDim S2304x1x2048 ![0, 2] bcast_S2304x2048_S2304x1x2048_0_2 x0⟩,
    ⟨S2304x1x2048, broadcastInDim S2304x1x2048 ![0, 2] bcast_S2304x2048_S2304x1x2048_0_2
      (concatenate S2304x2048 0 [⟨S256x2048, Host.reverse [0] (extractStridedSlice S256x2048 ![0, 0] x1 slices_S2304x2048_S256x2048_0_0)⟩,
        ⟨S2048x2048, Host.reverse [0] (extractStridedSlice S2048x2048 ![256, 0] x1 slices_S2304x2048_S2048x2048_256_0)⟩]
        concatenates_S256x2048_S2048x2048_S2304x2048_d0)⟩] concatenates_S2304x1x2048_S2304x1x2048_S2304x2x2048_d1

variable (x0 x1 : Full.Idx → EReal) (x2 : Lat.Idx → EReal)

/-- The cotangents at a position of the sequence. -/
theorem ct_apply (p : Fin 2304) (k : Fin 2) (l : Fin 2048) :
    ctArr x2 (ix3 p k l) = if k.val = 0 then cotF x2 l (2303 - p.val) else cotB x2 l (2303 - p.val) := by
  unfold ctArr
  pointwise
  have hp := p.isLt
  match k with
  | 0 =>
    simp [cotF]
    by_cases h : 256 ≤ p.val
    · rw [dif_pos ⟨h, by omega⟩, dif_pos (by omega)]
      exact congrArg (fun r => x2 (ix2 r l)) (Fin.ext (by show p.val - 256 = 2047 - (2303 - p.val); omega))
    · rw [dif_neg (fun h' => h h'.1), dif_neg (by omega)]
  | 1 =>
    simp [cotB]
    by_cases h : 256 ≤ p.val
    · rw [dif_pos ⟨h, by omega⟩, dif_pos (by omega)]
      exact congrArg (fun r => x2 (ix2 r l)) (Fin.ext (by rw [Fin.val_rev]; show 2048 - (p.val - 256 + 1) = 2303 - p.val; omega))
    · rw [dif_neg (fun h' => h h'.1), dif_neg (by omega)]

/-- The coefficients. -/
theorem co_apply (p : Fin 2304) (k : Fin 2) (l : Fin 2048) :
    coArr x0 x1 (ix3 p k l) = if k.val = 0 then coefF x0 l (2303 - p.val) else coefB x1 l (2303 - p.val) := by
  unfold coArr
  pointwise
  have hp := p.isLt
  match k with
  | 0 =>
    simp [coefF, rowF]
    exact congrArg (fun r => x0 (ix2 r l)) (Fin.ext (by show p.val = 2303 - (2303 - p.val); omega))
  | 1 =>
    simp [coefB, rowB]
    by_cases h : p.val < 256
    · rw [dif_pos h, dif_neg (by omega)]
      exact congrArg (fun r => x1 (ix2 r l)) (Fin.ext (by show 255 - p.val = (2303 - p.val - 2048) % 256; omega))
    · rw [dif_neg h, dif_pos (by omega)]
      exact congrArg (fun r => x1 (ix2 r l)) (Fin.ext (by show 256 + (2047 - (p.val - 256)) = 256 + (2303 - p.val); omega))

/-- The second result's operations after the loop. -/
theorem out1_apply (s : Valuation τ sig (Elt Ideal)) (r : Fin 2304) (l : Fin 2048) :
    out_main_v32 s (ix2 r l) = (s (Proc.devRef .tc main_v21_4) : S2304x2x2048.Idx → EReal)
      (ix3 (⟨2303 - stepB r.val, by omega⟩ : Fin 2304) 1 l) := by
  unfold out_main_v32
  pointwise
  have hr := r.isLt
  simp
  by_cases h : 256 ≤ r.val
  · rw [dif_pos ⟨h, by omega⟩, dif_neg (by omega), add_zero]
    exact congrArg (fun q => (s (Proc.devRef .tc main_v21_4) : S2304x2x2048.Idx → EReal) (ix3 q 1 l)) (Fin.ext (by show 256 + (2047 - (r.val - 256)) = 2303 - stepB r.val; rw [show stepB r.val = r.val - 256 from if_neg (by omega)]; omega))
  · rw [dif_neg (fun h' => h h'.1), dif_pos (by omega), zero_add]
    exact congrArg (fun q => (s (Proc.devRef .tc main_v21_4) : S2304x2x2048.Idx → EReal) (ix3 q 1 l)) (Fin.ext (by show 255 - r.val = 2303 - stepB r.val; rw [show stepB r.val = 2048 + r.val from if_pos (by omega)]; omega))

/-- The first result's operations after the loop. -/
theorem out0_apply (s : Valuation τ sig (Elt Ideal)) (r : Fin 2304) (l : Fin 2048) :
    out_main_v23 s (ix2 r l) = (s (Proc.devRef .tc main_v21_4) : S2304x2x2048.Idx → EReal) (ix3 r 0 l) := by
  unfold out_main_v23
  pointwise

/-- What the loop's buffers hold before trip `k`. -/
structure At (V : Valuation τ sig (Elt Ideal)) (k : ℕ) : Prop where
  trip : V (Proc.devRef .tc main_v21_2) = constantI S_ 32 (BitVec.ofNat 32 k)
  ct : V (Proc.devRef .tc main_v21_0) = ctArr x2
  co : V (Proc.devRef .tc main_v21_1) = coArr x0 x1
  carry : ∀ (i : Fin 2) (l : Fin 2048), (V (Proc.devRef .tc main_v21_3) : S2x2048.Idx → EReal) (ix2 i l)
    = if i.val = 0 then acc (coefF x0 l) (cotF x2 l) k else acc (coefB x1 l) (cotB x2 l) k
  out : ∀ (r : Fin 2304) (i : Fin 2) (l : Fin 2048), 2304 - k ≤ r.val → (V (Proc.devRef .tc main_v21_4) : S2304x2x2048.Idx → EReal) (ix3 r i l)
    = if i.val = 0 then grad (coefF x0 l) (cotF x2 l) (2303 - r.val) else grad (coefB x1 l) (cotB x2 l) (2303 - r.val)

section
variable (m : (ℓ : Loc nD τ sig) → Buf (Elt Ideal) ℓ) (c : Dev nD)

set_option maxRecDepth 65536 in
set_option maxHeartbeats 400000 in
theorem entry_trip : entryContents preI m c (Proc.devRef .tc main_v21_2) = constantI S_ 32 (BitVec.ofNat 32 0) := by
  simp only [entryContents, afterL_cons, afterL_nil]; after_reads_simp
  rfl

set_option maxRecDepth 65536 in
set_option maxHeartbeats 400000 in
theorem entry_ct : entryContents preI m c (Proc.devRef .tc main_v21_0) = ctArr (m ((c.tc : Thread nD τ).loc main_arg2)) := by
  simp only [entryContents, afterL_cons, afterL_nil]; after_reads_simp
  rfl

set_option maxRecDepth 65536 in
set_option maxHeartbeats 400000 in
theorem entry_co : entryContents preI m c (Proc.devRef .tc main_v21_1)
    = coArr (m ((c.tc : Thread nD τ).loc main_arg0)) (m ((c.tc : Thread nD τ).loc main_arg1)) := by
  simp only [entryContents, afterL_cons, afterL_nil]; after_reads_simp
  rfl

set_option maxRecDepth 65536 in
set_option maxHeartbeats 400000 in
theorem entry_carry : entryContents preI m c (Proc.devRef .tc main_v21_3)
    = broadcastInDim S2x2048 ![] bcast_S_S2x2048 (constant (F := Ideal) S_ .f32 0x00000000#32) := by
  simp only [entryContents, afterL_cons, afterL_nil]; after_reads_simp
  rfl

/-- The loop's start. -/
theorem at_entry :
    At (m ((c.tc : Thread nD τ).loc main_arg0)) (m ((c.tc : Thread nD τ).loc main_arg1)) (m ((c.tc : Thread nD τ).loc main_arg2))
      (entryContents preI m c) 0 where
  trip := entry_trip m c
  ct := entry_ct m c
  co := entry_co m c
  carry i l := by
    rw [entry_carry]
    pointwise
    simp [acc]
  out r i l h := absurd r.isLt (by omega)

end

/-- A row of the stacked arrays, read at the trip's word. -/
theorem slice_row (X : S2304x2x2048.Idx → EReal) (k : ℕ) (hk : k < 2304) (w : S_.Idx → BitVec 32)
    (hw : ∀ y, (w y).toInt = ((2303 - k : ℕ) : Int)) (i : Fin 2) (l : Fin 2048) :
    shapeCast S2x2048 (Host.dynamicSlice S1x2x2048 X (fun k => (((![w, constantI S_ 32 0#32, constantI S_ 32 0#32] : Fin 3 → (S_.Idx → BitVec 32))) k (Shape.Idx.first h_S_)).toInt) sliceFits_S2304x2x2048_S1x2x2048) shapeCasts_S1x2x2048_S2x2048 (ix2 i l)
      = X (ix3 (⟨2303 - k, by omega⟩ : Fin 2304) i l) := by
  have hs : S2304x2x2048.Slices ![2303 - k, 0, 0] S1x2x2048 := ⟨rfl, fun a => by
    match a with
    | ⟨0, _⟩ => show 2303 - k + 1 ≤ 2304; omega
    | ⟨1, _⟩ => show 0 + 2 ≤ 2; omega
    | ⟨2, _⟩ => show 0 + 2048 ≤ 2048; omega⟩
  rw [WordCmp.dynamicSlice_eq_extract _ _ _ _ ![2303 - k, 0, 0] hs (fun a => by
    match a with
    | ⟨0, _⟩ => exact hw _
    | ⟨1, _⟩ => rfl
    | ⟨2, _⟩ => rfl)]
  pointwise

/-- The stacked rows with the trip's one written. -/
theorem update_row (X : S2304x2x2048.Idx → EReal) (u : S2x2048.Idx → EReal) (k : ℕ) (hk : k < 2304) (w : S_.Idx → BitVec 32)
    (hw : ∀ y, (w y).toInt = ((2303 - k : ℕ) : Int)) (r : Fin 2304) (i : Fin 2) (l : Fin 2048) :
    Host.dynamicUpdateSlice X (broadcastInDim S1x2x2048 ![1, 2] bcast_S2x2048_S1x2x2048_1_2 u) (fun k => (((![w, constantI S_ 32 0#32, constantI S_ 32 0#32] : Fin 3 → (S_.Idx → BitVec 32))) k (Shape.Idx.first h_S_)).toInt) updateFits_S2304x2x2048_S1x2x2048 (ix3 r i l)
      = if r.val = 2303 - k then u (ix2 i l) else X (ix3 r i l) := by
  have hs : S2304x2x2048.Slices ![2303 - k, 0, 0] S1x2x2048 := ⟨rfl, fun a => by
    match a with
    | ⟨0, _⟩ => show 2303 - k + 1 ≤ 2304; omega
    | ⟨1, _⟩ => show 0 + 2 ≤ 2; omega
    | ⟨2, _⟩ => show 0 + 2048 ≤ 2048; omega⟩
  rw [WordCmp.dynamicUpdateSlice_eq_update _ _ _ _ ![2303 - k, 0, 0] hs (fun a => by
    match a with
    | ⟨0, _⟩ => exact hw _
    | ⟨1, _⟩ => rfl
    | ⟨2, _⟩ => rfl)]
  pointwise
  by_cases e : r.val = 2303 - k
  · rw [if_pos e, dif_pos (by omega)]
  · rw [if_neg e, dif_neg (by omega)]

/-- The row that trip `k` reads and writes. -/
theorem row_word (k : ℕ) (hk : k < 2304) (V : Valuation τ sig (Elt Ideal))
    (h : V (Proc.devRef .tc main_v21_2) = constantI S_ 32 (BitVec.ofNat 32 k)) (y : S_.Idx) :
    (res_main_while0b_v34 V y).toInt = ((2303 - k : ℕ) : Int) := by
  have e : res_main_while0b_v34 V y = BitVec.ofNat 32 (2303 - k) := by
    unfold res_main_while0b_v34
    rw [h]
    show (2304#32 - BitVec.ofNat 32 k) - 1#32 = _
    apply BitVec.eq_of_toNat_eq
    simp only [BitVec.toNat_sub, BitVec.toNat_ofNat]
    omega
  rw [e, Idealize.ShloMosaic.toInt_ofNat_of_lt (by omega)]

variable {x0 x1 x2}

/-- The sum that a trip writes. -/
theorem sum_apply {V : Valuation τ sig (Elt Ideal)} {k : ℕ} (hk : k < 2304) (h : At x0 x1 x2 V k) (i : Fin 2) (l : Fin 2048) :
    (res_main_while0b_v37 V : S2x2048.Idx → EReal) (ix2 i l)
      = if i.val = 0 then grad (coefF x0 l) (cotF x2 l) k else grad (coefB x1 l) (cotB x2 l) k := by
  unfold res_main_while0b_v37
  rw [h.ct]
  refine (congrArg₂ (fun p q : EReal => p + q) (h.carry i l) (slice_row (ctArr x2) k hk _ (row_word k hk V h.trip) i l)).trans ?_
  rw [ct_apply]
  have e : 2303 - (2303 - k) = k := by omega
  simp only [e]
  unfold grad
  split_ifs
  · exact add_comm (G := EReal) _ _
  · exact add_comm (G := EReal) _ _

theorem step_trip {V : Valuation τ sig (Elt Ideal)} {k : ℕ} (h : At x0 x1 x2 V k) :
    STEP V (Proc.devRef .tc main_v21_2) = constantI S_ 32 (BitVec.ofNat 32 (k + 1)) := by
  rw [STEP_main_v21_2]; unfold step_main_v21_2; rw [h.trip]
  funext i
  show BitVec.ofNat 32 k + 1#32 = BitVec.ofNat 32 (k + 1)
  simp only [BitVec.ofNat_add]

theorem step_carry {V : Valuation τ sig (Elt Ideal)} {k : ℕ} (hk : k < 2304) (h : At x0 x1 x2 V k) (i : Fin 2) (l : Fin 2048) :
    (STEP V (Proc.devRef .tc main_v21_3) : S2x2048.Idx → EReal) (ix2 i l)
      = if i.val = 0 then acc (coefF x0 l) (cotF x2 l) (k + 1) else acc (coefB x1 l) (cotB x2 l) (k + 1) := by
  rw [STEP_main_v21_3]; unfold step_main_v21_3; rw [h.co]
  refine (congrArg₂ (fun p q : EReal => p * q) (slice_row (coArr x0 x1) k hk _ (row_word k hk V h.trip) i l) (sum_apply hk h i l)).trans ?_
  rw [co_apply]
  have e : 2303 - (2303 - k) = k := by omega
  simp only [e]
  split_ifs
  · exact (acc_succ _ _ _).symm
  · exact (acc_succ _ _ _).symm

theorem step_out {V : Valuation τ sig (Elt Ideal)} {k : ℕ} (hk : k < 2304) (h : At x0 x1 x2 V k) (r : Fin 2304) (i : Fin 2) (l : Fin 2048)
    (hr : 2304 - (k + 1) ≤ r.val) : (STEP V (Proc.devRef .tc main_v21_4) : S2304x2x2048.Idx → EReal) (ix3 r i l)
      = if i.val = 0 then grad (coefF x0 l) (cotF x2 l) (2303 - r.val) else grad (coefB x1 l) (cotB x2 l) (2303 - r.val) := by
  have hX := h.out r i l
  have hu := sum_apply hk h i l
  have hw := row_word k hk V h.trip
  rw [STEP_main_v21_4]; unfold step_main_v21_4
  generalize V (Proc.devRef .tc main_v21_4) = X at hX ⊢
  generalize res_main_while0b_v37 V = u at hu ⊢
  generalize res_main_while0b_v34 V = w at hw ⊢
  rw [id]
  have q := update_row X u k hk w hw r i l
  by_cases e : r.val = 2303 - k
  · rw [if_pos e, hu] at q
    rw [show 2303 - r.val = k by omega]
    exact q
  · rw [if_neg e, hX (by omega)] at q
    exact q

/-- One trip. -/
theorem at_step {V : Valuation τ sig (Elt Ideal)} {k : ℕ} (hk : k < 2304) (h : At x0 x1 x2 V k) : At x0 x1 x2 (STEP V) (k + 1) :=
  ⟨step_trip h, (STEP_main_v21_0 V).trans h.ct, (STEP_main_v21_1 V).trans h.co, step_carry hk h, step_out hk h⟩

/-- Any number of trips. -/
theorem at_iterate {V : Valuation τ sig (Elt Ideal)} (h : At x0 x1 x2 V 0) (k : ℕ) (hk : k ≤ 2304) : At x0 x1 x2 (STEP^[k] V) k := by
  induction k with
  | zero => exact h
  | succ n ih =>
    rw [Function.iterate_succ_apply']
    exact at_step (by omega) (ih (by omega))

/-- The first result after the loop. -/
theorem result0 {V : Valuation τ sig (Elt Ideal)} (h : At x0 x1 x2 V 0) : out_main_v23 (STEP^[2304] V) = gradF x0 x2 := by
  funext j
  refine (congrArg (out_main_v23 (STEP^[2304] V)) (eq_ix2 (n0 := 2304) (n1 := 2048) j)).trans ?_
  refine (out0_apply _ (j 0) (j 1)).trans ?_
  exact ((at_iterate h 2304 le_rfl).out (j 0) 0 (j 1) (Nat.zero_le _)).trans (if_pos rfl)

/-- The second. -/
theorem result1 {V : Valuation τ sig (Elt Ideal)} (h : At x0 x1 x2 V 0) : out_main_v32 (STEP^[2304] V) = gradB x1 x2 := by
  funext j
  refine (congrArg (out_main_v32 (STEP^[2304] V)) (eq_ix2 (n0 := 2304) (n1 := 2048) j)).trans ?_
  refine (out1_apply _ (j 0) (j 1)).trans ?_
  refine ((at_iterate h 2304 le_rfl).out _ 1 (j 1) (Nat.zero_le _)).trans ((if_neg (by decide)).trans ?_)
  have hj : (j 0).val < 2304 := (j 0).isLt
  have e : stepB (j 0).val < 2304 := by unfold stepB; split_ifs <;> omega
  exact congrArg (grad (coefB x1 (j 1)) (cotB x2 (j 1))) (show 2303 - (2303 - stepB (j 0).val) = stepB (j 0).val by omega)

/-- The reference's run, its results named. -/
theorem run (m : (ℓ : Loc nD τ sig) → Buf (Elt Ideal) ℓ) (ρ : Dev nD → PrngReg) :
    θ_run defs (onTc main) ⟨m, fun _ => 0, ρ⟩ (fun r =>
      (∀ c : Dev nD, r.2.mem ((c.tc : Thread nD τ).loc main_v23) = gradF (m ((c.tc : Thread nD τ).loc main_arg0)) (m ((c.tc : Thread nD τ).loc main_arg2))
        ∧ r.2.mem ((c.tc : Thread nD τ).loc main_v32) = gradB (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) :=
  (θ_run defs _ _).mono (fun r h => ⟨fun c => ⟨(h c).1.trans (result0 (at_entry m c)), (h c).2.1.trans (result1 (at_entry m c)),
    (h c).2.2.1, (h c).2.2.2.1, (h c).2.2.2.2⟩, Idealize.ShloMosaic.sem_eq_zero_of_no_sems (by decide) r.2⟩) (Value.run (F := Ideal) m ρ)

end Cert.ReferenceIdeal.Scan

end
-- ==== Proof.Products.Prod.lean ====
/- Products of matrices over the extended reals, read at an element: plain, with the right factor transposed, with the left one. -/
module

public import Idealize.ShloMosaic.Lib.Pointwise

@[expose] public section

noncomputable section

namespace Cert.Prod

open Idealize.ShloMosaic

/-- The shape of a matrix. -/
abbrev Mat (a b : ℕ) : Shape := ⟨2, ![a, b]⟩

variable {M K N : ℕ}

/-- `A B`. -/
def nn (A : (Mat M K).Idx → EReal) (B : (Mat K N).Idx → EReal) : (Mat M N).Idx → EReal :=
  fun i => ∑ k : Fin K, A (ix2 (i 0) k) * B (ix2 k (i 1))
/-- `A Bᵀ`. -/
def nt (A : (Mat M K).Idx → EReal) (B : (Mat N K).Idx → EReal) : (Mat M N).Idx → EReal :=
  fun i => ∑ k : Fin K, A (ix2 (i 0) k) * B (ix2 (i 1) k)
/-- `Aᵀ B`. -/
def tn (A : (Mat K M).Idx → EReal) (B : (Mat K N).Idx → EReal) : (Mat M N).Idx → EReal :=
  fun i => ∑ k : Fin K, A (ix2 k (i 0)) * B (ix2 k (i 1))

/-- One term of a product's sum. -/
abbrev nnTerm (A : (Mat M K).Idx → EReal) (B : (Mat K N).Idx → EReal) (i : (Mat M N).Idx) (k : Fin K) : EReal := A (ix2 (i 0) k) * B (ix2 k (i 1))
abbrev ntTerm (A : (Mat M K).Idx → EReal) (B : (Mat N K).Idx → EReal) (i : (Mat M N).Idx) (k : Fin K) : EReal := A (ix2 (i 0) k) * B (ix2 (i 1) k)

/-! A block of a product is the product of the strips of its factors. -/

variable {m n : ℕ}

theorem nn_block {A : (Mat M K).Idx → EReal} {B : (Mat K N).Idx → EReal} {X : (Mat m K).Idx → EReal} {Y : (Mat K n).Idx → EReal}
    (j : (Mat m n).Idx) (i : (Mat M N).Idx) (hX : ∀ k : Fin K, X (ix2 (j 0) k) = A (ix2 (i 0) k))
    (hY : ∀ k : Fin K, Y (ix2 k (j 1)) = B (ix2 k (i 1))) : nn X Y j = nn A B i :=
  Finset.sum_congr rfl fun k _ => congrArg₂ (fun p q : EReal => p * q) (hX k) (hY k)

theorem nt_block {A : (Mat M K).Idx → EReal} {B : (Mat N K).Idx → EReal} {X : (Mat m K).Idx → EReal} {Y : (Mat n K).Idx → EReal}
    (j : (Mat m n).Idx) (i : (Mat M N).Idx) (hX : ∀ k : Fin K, X (ix2 (j 0) k) = A (ix2 (i 0) k))
    (hY : ∀ k : Fin K, Y (ix2 (j 1) k) = B (ix2 (i 1) k)) : nt X Y j = nt A B i :=
  Finset.sum_congr rfl fun k _ => congrArg₂ (fun p q : EReal => p * q) (hX k) (hY k)

theorem tn_block {A : (Mat K M).Idx → EReal} {B : (Mat K N).Idx → EReal} {X : (Mat K m).Idx → EReal} {Y : (Mat K n).Idx → EReal}
    (j : (Mat m n).Idx) (i : (Mat M N).Idx) (hX : ∀ k : Fin K, X (ix2 k (j 0)) = A (ix2 k (i 0)))
    (hY : ∀ k : Fin K, Y (ix2 k (j 1)) = B (ix2 k (i 1))) : tn X Y j = tn A B i :=
  Finset.sum_congr rfl fun k _ => congrArg₂ (fun p q : EReal => p * q) (hX k) (hY k)

/-- A sum in four equal parts. -/
theorem sum_quarters (n K : ℕ) (hK : K = n + n + n + n) (f : Fin K → EReal) : ∑ k, f k
    = (∑ k : Fin n, f ⟨k.val, by omega⟩ + ∑ k : Fin n, f ⟨n + k.val, by omega⟩ + ∑ k : Fin n, f ⟨n + n + k.val, by omega⟩)
      + ∑ k : Fin n, f ⟨n + n + n + k.val, by omega⟩ := by
  subst hK
  rw [Fin.sum_univ_add, Fin.sum_univ_add, Fin.sum_univ_add]
  rfl

/-- The squared ReLU, and its gradient, at every element. -/
def sqRelu (U : (Mat M N).Idx → EReal) : (Mat M N).Idx → EReal := fun i => max (U i) 0 * max (U i) 0
def sqReluGrad (U C : (Mat M N).Idx → EReal) : (Mat M N).Idx → EReal := fun i => C i * 2 * max (U i) 0

end Cert.Prod

end
-- ==== Proof.Products.Mlp.lean ====
/- The MLP's backward pass: the hidden layer, its cotangent and both weight gradients, as the four calls compute them. -/
module
public import proofs.«01_k».proof.Proof.Gen.Kernel2Ideal.Frame
public import proofs.«01_k».proof.Proof.Products.Prod
public import Idealize.ShloMosaic.Lib.Pipeline.Value
public import Idealize.ShloMosaic.Lib.Pipeline.ValueKit
public import Idealize.ShloMosaic.Lib.Pointwise

@[expose] public section

set_option maxRecDepth 16384

noncomputable section

namespace Cert.Kernel2Ideal.Products

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.Kernel2Ideal Cert.Kernel2Ideal.Gen Cert.Prod

section Regions
-- the buffers' contents when a call starts
variable (V : (c : Dev nD) → (b : Ref sig .tc) → Buf (Elt Ideal) ((c : Thread nD τ).loc b)) (c : Dev nD)

/-- The constant 2. -/
theorem two_word : Ideal.ofBits .f32 0x40000000#32 = 2 := by simp [Ideal.ofBits, Ideal.ieee, ← EReal.coe_mul]; norm_num; rfl

/-! ## mm_up -/

/-- Which blocks a point reads and writes. -/
theorem index0 : ∀ t : Fin grid0.N, win0_0.index t 0 = win0_2.index t 0
    ∧ win0_0.index t 1 = 0
    ∧ win0_1.index t 1 = win0_2.index t 1
    ∧ win0_1.index t 0 = 0
    ∧ win0_2.index t 0 = t.val / 8
    ∧ win0_2.index t 1 = t.val % 8
    ∧ win0_3.index t 0 = win0_2.index t 0
    ∧ win0_3.index t 1 = win0_2.index t 1 := by decide +kernel
/-- The block product the body forms at a point is that block of the whole product. -/
theorem block0 (t : Fin cfg0.N) (j : (Mat 1024 1024).Idx) : nn (M := 1024) (K := 2048) (N := 1024) (iblk0 V c 0 t) (iblk0 V c 1 t) j
    = nn (M := 2048) (K := 2048) (N := 8192) (V c main_arg0) (V c main_arg1) (((cfg0.win 2).blk t).view.emb j) := by
  refine nn_block j (((cfg0.win 2).blk t).view.emb j) (fun k => ?_) (fun k => ?_)
  · unfold iblk0
    rw [View.read_apply]
    refine congrArg (V c main_arg0) (funext fun a => Fin.ext ?_)
    match a with
    | ⟨0, _⟩ =>
      show win0_0.index t 0 * 1024 + 1 * (j 0).val = win0_2.index t 0 * 1024 + 1 * (j 0).val
      rw [(index0 t).1]
    | ⟨1, _⟩ =>
      show win0_0.index t 1 * 2048 + 1 * k.val = k.val
      rw [(index0 t).2.1]; omega
  · unfold iblk0
    rw [View.read_apply]
    refine congrArg (V c main_arg1) (funext fun a => Fin.ext ?_)
    match a with
    | ⟨0, _⟩ =>
      show win0_1.index t 0 * 2048 + 1 * k.val = k.val
      rw [(index0 t).2.2.2.1]; omega
    | ⟨1, _⟩ =>
      show win0_1.index t 1 * 1024 + 1 * (j 1).val = win0_2.index t 1 * 1024 + 1 * (j 1).val
      rw [(index0 t).2.2.1]

/-- What the body stores in window 2, at an element. -/
theorem pay0_2 (X : Vec Ideal S1024x2048 .bf16) (Y : Vec Ideal S2048x1024 .bf16) (j : S1024x1024.Idx) : (k0_pay1 X Y j : EReal) = nn (M := 1024) (K := 2048) (N := 1024) X Y j := by
  unfold k0_pay1 nn
  pointwise
theorem out0_2_apply (X : Vec Ideal S1024x2048 .bf16) (Y : Vec Ideal S2048x1024 .bf16) (j : S1024x1024.Idx) : (out0_2 X Y j : EReal) = nn (M := 1024) (K := 2048) (N := 1024) X Y j := by
  refine Eq.trans ?_ (pay0_2 X Y j)
  frame_out [k0_pay1]
/-- What a point writes back to main_v0_0. -/
theorem flushed0_2 (t : Fin cfg0.N) : (dat0 V c).flushed 2 t = ((cfg0.win 2).blk t).view.read (Elt Ideal) (nn (M := 2048) (K := 2048) (N := 8192) (V c main_arg0) (V c main_arg1)) := by
  show (cfg0.win 2).cut (grid0.coords t) ((dat0 V c).after 2 t) = _
  rw [after0_2]
  funext j
  rw [View.read_apply]
  refine (out0_2_apply (iblk0 V c 0 t) (iblk0 V c 1 t) j).trans ?_
  exact block0 V c t j
/-- main_v0_0 after the call. -/
theorem final0_2 : (dat0 V c).arrAt 2 cfg0.N = nn (M := 2048) (K := 2048) (N := 8192) (V c main_arg0) (V c main_arg1) :=
  (dat0 V c).arrAt_eq_of_cover 2 _ (fun t _ => flushed0_2 V c t) fun i => by
    have h0 : (i 0).val < 2048 := (i 0).isLt
    have h1 : (i 1).val < 8192 := (i 1).isLt
    have hN : cfg0.N = 16 := N_0
    have ht : (i 0).val / 1024 * 8 + (i 1).val / 1024 < cfg0.N := by omega
    have q0 : win0_2.index ⟨_, ht⟩ 0 = ((i 0).val / 1024 * 8 + (i 1).val / 1024) / 8 := (index0 ⟨_, ht⟩).2.2.2.2.1
    have q1 : win0_2.index ⟨_, ht⟩ 1 = ((i 0).val / 1024 * 8 + (i 1).val / 1024) % 8 := (index0 ⟨_, ht⟩).2.2.2.2.2.1
    refine ⟨⟨_, ht⟩, flush0_2 _, ?_⟩
    show i ∈ ((View.whole main_v0_0).slice (win0_2.rect ⟨_, ht⟩)).set
    rw [View.set_slice_whole, Rect.mem_set_unit]
    intro a
    match a with
    | ⟨0, _⟩ =>
      show win0_2.index ⟨_, ht⟩ 0 * 1024 ≤ (i 0 : Nat) ∧ (i 0 : Nat) < win0_2.index ⟨_, ht⟩ 0 * 1024 + 1024
      rw [q0]; omega
    | ⟨1, _⟩ =>
      show win0_2.index ⟨_, ht⟩ 1 * 1024 ≤ (i 1 : Nat) ∧ (i 1 : Nat) < win0_2.index ⟨_, ht⟩ 1 * 1024 + 1024
      rw [q1]; omega

/-- What the body stores in window 3, at an element. -/
theorem pay0_3 (X : Vec Ideal S1024x2048 .bf16) (Y : Vec Ideal S2048x1024 .bf16) (j : S1024x1024.Idx) : (k0_pay2 X Y j : EReal) = sqRelu (M := 1024) (N := 1024) (nn (M := 1024) (K := 2048) (N := 1024) X Y) j := by
  have e := pay0_2 X Y j
  unfold k0_pay2 sqRelu
  pointwise
  rw [e]
theorem out0_3_apply (X : Vec Ideal S1024x2048 .bf16) (Y : Vec Ideal S2048x1024 .bf16) (j : S1024x1024.Idx) : (out0_3 X Y j : EReal) = sqRelu (M := 1024) (N := 1024) (nn (M := 1024) (K := 2048) (N := 1024) X Y) j := by
  refine Eq.trans ?_ (pay0_3 X Y j)
  frame_out [k0_pay2]
/-- What a point writes back to main_v0_1. -/
theorem flushed0_3 (t : Fin cfg0.N) : (dat0 V c).flushed 3 t = ((cfg0.win 3).blk t).view.read (Elt Ideal) (sqRelu (M := 2048) (N := 8192) (nn (M := 2048) (K := 2048) (N := 8192) (V c main_arg0) (V c main_arg1))) := by
  show (cfg0.win 3).cut (grid0.coords t) ((dat0 V c).after 3 t) = _
  rw [after0_3]
  funext j
  rw [View.read_apply]
  refine (out0_3_apply (iblk0 V c 0 t) (iblk0 V c 1 t) j).trans ?_
  refine (congrArg (fun u : EReal => max u 0 * max u 0) (block0 V c t j)).trans ?_
  refine congrArg (sqRelu (M := 2048) (N := 8192) (nn (M := 2048) (K := 2048) (N := 8192) (V c main_arg0) (V c main_arg1))) (funext fun a => Fin.ext ?_)
  match a with
  | ⟨0, _⟩ =>
    show win0_2.index t 0 * 1024 + 1 * (j 0).val = win0_3.index t 0 * 1024 + 1 * (j 0).val
    rw [(index0 t).2.2.2.2.2.2.1]
  | ⟨1, _⟩ =>
    show win0_2.index t 1 * 1024 + 1 * (j 1).val = win0_3.index t 1 * 1024 + 1 * (j 1).val
    rw [(index0 t).2.2.2.2.2.2.2]
/-- main_v0_1 after the call. -/
theorem final0_3 : (dat0 V c).arrAt 3 cfg0.N = sqRelu (M := 2048) (N := 8192) (nn (M := 2048) (K := 2048) (N := 8192) (V c main_arg0) (V c main_arg1)) :=
  (dat0 V c).arrAt_eq_of_cover 3 _ (fun t _ => flushed0_3 V c t) fun i => by
    have h0 : (i 0).val < 2048 := (i 0).isLt
    have h1 : (i 1).val < 8192 := (i 1).isLt
    have hN : cfg0.N = 16 := N_0
    have ht : (i 0).val / 1024 * 8 + (i 1).val / 1024 < cfg0.N := by omega
    have q0 : win0_3.index ⟨_, ht⟩ 0 = ((i 0).val / 1024 * 8 + (i 1).val / 1024) / 8 := ((index0 ⟨_, ht⟩).2.2.2.2.2.2.1).trans (index0 ⟨_, ht⟩).2.2.2.2.1
    have q1 : win0_3.index ⟨_, ht⟩ 1 = ((i 0).val / 1024 * 8 + (i 1).val / 1024) % 8 := ((index0 ⟨_, ht⟩).2.2.2.2.2.2.2).trans (index0 ⟨_, ht⟩).2.2.2.2.2.1
    refine ⟨⟨_, ht⟩, flush0_3 _, ?_⟩
    show i ∈ ((View.whole main_v0_1).slice (win0_3.rect ⟨_, ht⟩)).set
    rw [View.set_slice_whole, Rect.mem_set_unit]
    intro a
    match a with
    | ⟨0, _⟩ =>
      show win0_3.index ⟨_, ht⟩ 0 * 1024 ≤ (i 0 : Nat) ∧ (i 0 : Nat) < win0_3.index ⟨_, ht⟩ 0 * 1024 + 1024
      rw [q0]; omega
    | ⟨1, _⟩ =>
      show win0_3.index ⟨_, ht⟩ 1 * 1024 ≤ (i 1 : Nat) ∧ (i 1 : Nat) < win0_3.index ⟨_, ht⟩ 1 * 1024 + 1024
      rw [q1]; omega

/-! ## mm_d_up -/

/-- Which blocks a point reads and writes. -/
theorem index1 : ∀ t : Fin grid1.N, win1_0.index t 0 = win1_3.index t 0
    ∧ win1_0.index t 1 = 0
    ∧ win1_1.index t 0 = win1_3.index t 1
    ∧ win1_1.index t 1 = 0
    ∧ win1_3.index t 0 = t.val / 8
    ∧ win1_3.index t 1 = t.val % 8
    ∧ win1_2.index t 0 = win1_3.index t 0
    ∧ win1_2.index t 1 = win1_3.index t 1 := by decide +kernel
/-- The block product the body forms at a point is that block of the whole product. -/
theorem block1 (t : Fin cfg1.N) (j : (Mat 1024 1024).Idx) : nt (M := 1024) (K := 2048) (N := 1024) (iblk1 V c 0 t) (iblk1 V c 1 t) j
    = nt (M := 2048) (K := 2048) (N := 8192) (V c main_arg3) (V c main_arg2) (((cfg1.win 3).blk t).view.emb j) := by
  refine nt_block j (((cfg1.win 3).blk t).view.emb j) (fun k => ?_) (fun k => ?_)
  · unfold iblk1
    rw [View.read_apply]
    refine congrArg (V c main_arg3) (funext fun a => Fin.ext ?_)
    match a with
    | ⟨0, _⟩ =>
      show win1_0.index t 0 * 1024 + 1 * (j 0).val = win1_3.index t 0 * 1024 + 1 * (j 0).val
      rw [(index1 t).1]
    | ⟨1, _⟩ =>
      show win1_0.index t 1 * 2048 + 1 * k.val = k.val
      rw [(index1 t).2.1]; omega
  · unfold iblk1
    rw [View.read_apply]
    refine congrArg (V c main_arg2) (funext fun a => Fin.ext ?_)
    match a with
    | ⟨0, _⟩ =>
      show win1_1.index t 0 * 1024 + 1 * (j 1).val = win1_3.index t 1 * 1024 + 1 * (j 1).val
      rw [(index1 t).2.2.1]
    | ⟨1, _⟩ =>
      show win1_1.index t 1 * 2048 + 1 * k.val = k.val
      rw [(index1 t).2.2.2.1]; omega

/-- What the body stores in window 3, at an element. -/
theorem pay1_3 (X : Vec Ideal S1024x2048 .bf16) (Y : Vec Ideal S1024x2048 .bf16) (U : Vec Ideal S1024x1024 .f32) (j : S1024x1024.Idx) : (k1_pay1 X Y U j : EReal) = sqReluGrad (M := 1024) (N := 1024) U (nt (M := 1024) (K := 2048) (N := 1024) X Y) j := by
  unfold k1_pay1 sqReluGrad nt
  pointwise
  rw [show Ideal.ofBits .f32 0x40000000#32 = 2 from two_word]
theorem out1_3_apply (X : Vec Ideal S1024x2048 .bf16) (Y : Vec Ideal S1024x2048 .bf16) (U : Vec Ideal S1024x1024 .f32) (j : S1024x1024.Idx) : (out1_3 X Y U j : EReal) = sqReluGrad (M := 1024) (N := 1024) U (nt (M := 1024) (K := 2048) (N := 1024) X Y) j := by
  refine Eq.trans ?_ (pay1_3 X Y U j)
  frame_out [k1_pay1]
/-- What a point writes back to main_v1. -/
theorem flushed1_3 (t : Fin cfg1.N) : (dat1 V c).flushed 3 t = ((cfg1.win 3).blk t).view.read (Elt Ideal) (sqReluGrad (M := 2048) (N := 8192) (V c main_v0_0) (nt (M := 2048) (K := 2048) (N := 8192) (V c main_arg3) (V c main_arg2))) := by
  show (cfg1.win 3).cut (grid1.coords t) ((dat1 V c).after 3 t) = _
  rw [after1_3]
  funext j
  rw [View.read_apply]
  refine (out1_3_apply (iblk1 V c 0 t) (iblk1 V c 1 t) (iblk1 V c 2 t) j).trans ?_
  refine congrArg₂ (fun p u : EReal => p * 2 * max u 0) (block1 V c t j) ?_
  unfold iblk1
  rw [View.read_apply]
  refine congrArg (V c main_v0_0) (funext fun a => Fin.ext ?_)
  match a with
  | ⟨0, _⟩ =>
    show win1_2.index t 0 * 1024 + 1 * (j 0).val = win1_3.index t 0 * 1024 + 1 * (j 0).val
    rw [(index1 t).2.2.2.2.2.2.1]
  | ⟨1, _⟩ =>
    show win1_2.index t 1 * 1024 + 1 * (j 1).val = win1_3.index t 1 * 1024 + 1 * (j 1).val
    rw [(index1 t).2.2.2.2.2.2.2]
/-- main_v1 after the call. -/
theorem final1_3 : (dat1 V c).arrAt 3 cfg1.N = sqReluGrad (M := 2048) (N := 8192) (V c main_v0_0) (nt (M := 2048) (K := 2048) (N := 8192) (V c main_arg3) (V c main_arg2)) :=
  (dat1 V c).arrAt_eq_of_cover 3 _ (fun t _ => flushed1_3 V c t) fun i => by
    have h0 : (i 0).val < 2048 := (i 0).isLt
    have h1 : (i 1).val < 8192 := (i 1).isLt
    have hN : cfg1.N = 16 := N_1
    have ht : (i 0).val / 1024 * 8 + (i 1).val / 1024 < cfg1.N := by omega
    have q0 : win1_3.index ⟨_, ht⟩ 0 = ((i 0).val / 1024 * 8 + (i 1).val / 1024) / 8 := (index1 ⟨_, ht⟩).2.2.2.2.1
    have q1 : win1_3.index ⟨_, ht⟩ 1 = ((i 0).val / 1024 * 8 + (i 1).val / 1024) % 8 := (index1 ⟨_, ht⟩).2.2.2.2.2.1
    refine ⟨⟨_, ht⟩, flush1_3 _, ?_⟩
    show i ∈ ((View.whole main_v1).slice (win1_3.rect ⟨_, ht⟩)).set
    rw [View.set_slice_whole, Rect.mem_set_unit]
    intro a
    match a with
    | ⟨0, _⟩ =>
      show win1_3.index ⟨_, ht⟩ 0 * 1024 ≤ (i 0 : Nat) ∧ (i 0 : Nat) < win1_3.index ⟨_, ht⟩ 0 * 1024 + 1024
      rw [q0]; omega
    | ⟨1, _⟩ =>
      show win1_3.index ⟨_, ht⟩ 1 * 1024 ≤ (i 1 : Nat) ∧ (i 1 : Nat) < win1_3.index ⟨_, ht⟩ 1 * 1024 + 1024
      rw [q1]; omega

/-! ## mm_g_down -/

/-- Which blocks a point reads and writes. -/
theorem index2 : ∀ t : Fin grid2.N, win2_0.index t 1 = win2_2.index t 0
    ∧ win2_0.index t 0 = 0
    ∧ win2_1.index t 1 = win2_2.index t 1
    ∧ win2_1.index t 0 = 0
    ∧ win2_2.index t 0 = t.val / 2
    ∧ win2_2.index t 1 = t.val % 2 := by decide +kernel
/-- The block product the body forms at a point is that block of the whole product. -/
theorem block2 (t : Fin cfg2.N) (j : (Mat 1024 1024).Idx) : tn (M := 1024) (K := 2048) (N := 1024) (iblk2 V c 0 t) (iblk2 V c 1 t) j
    = tn (M := 8192) (K := 2048) (N := 2048) (V c main_v0_1) (V c main_arg3) (((cfg2.win 2).blk t).view.emb j) := by
  refine tn_block j (((cfg2.win 2).blk t).view.emb j) (fun k => ?_) (fun k => ?_)
  · unfold iblk2
    rw [View.read_apply]
    refine congrArg (V c main_v0_1) (funext fun a => Fin.ext ?_)
    match a with
    | ⟨0, _⟩ =>
      show win2_0.index t 0 * 2048 + 1 * k.val = k.val
      rw [(index2 t).2.1]; omega
    | ⟨1, _⟩ =>
      show win2_0.index t 1 * 1024 + 1 * (j 0).val = win2_2.index t 0 * 1024 + 1 * (j 0).val
      rw [(index2 t).1]
  · unfold iblk2
    rw [View.read_apply]
    refine congrArg (V c main_arg3) (funext fun a => Fin.ext ?_)
    match a with
    | ⟨0, _⟩ =>
      show win2_1.index t 0 * 2048 + 1 * k.val = k.val
      rw [(index2 t).2.2.2.1]; omega
    | ⟨1, _⟩ =>
      show win2_1.index t 1 * 1024 + 1 * (j 1).val = win2_2.index t 1 * 1024 + 1 * (j 1).val
      rw [(index2 t).2.2.1]

/-- What the body stores in window 2, at an element. -/
theorem pay2_2 (X : Vec Ideal S2048x1024 .bf16) (Y : Vec Ideal S2048x1024 .bf16) (j : S1024x1024.Idx) : (k2_pay1 X Y j : EReal) = tn (M := 1024) (K := 2048) (N := 1024) X Y j := by
  unfold k2_pay1 tn
  pointwise
theorem out2_2_apply (X : Vec Ideal S2048x1024 .bf16) (Y : Vec Ideal S2048x1024 .bf16) (j : S1024x1024.Idx) : (out2_2 X Y j : EReal) = tn (M := 1024) (K := 2048) (N := 1024) X Y j := by
  refine Eq.trans ?_ (pay2_2 X Y j)
  frame_out [k2_pay1]
/-- What a point writes back to main_v2. -/
theorem flushed2_2 (t : Fin cfg2.N) : (dat2 V c).flushed 2 t = ((cfg2.win 2).blk t).view.read (Elt Ideal) (tn (M := 8192) (K := 2048) (N := 2048) (V c main_v0_1) (V c main_arg3)) := by
  show (cfg2.win 2).cut (grid2.coords t) ((dat2 V c).after 2 t) = _
  rw [after2_2]
  funext j
  rw [View.read_apply]
  refine (out2_2_apply (iblk2 V c 0 t) (iblk2 V c 1 t) j).trans ?_
  exact block2 V c t j
/-- main_v2 after the call. -/
theorem final2_2 : (dat2 V c).arrAt 2 cfg2.N = tn (M := 8192) (K := 2048) (N := 2048) (V c main_v0_1) (V c main_arg3) :=
  (dat2 V c).arrAt_eq_of_cover 2 _ (fun t _ => flushed2_2 V c t) fun i => by
    have h0 : (i 0).val < 8192 := (i 0).isLt
    have h1 : (i 1).val < 2048 := (i 1).isLt
    have hN : cfg2.N = 16 := N_2
    have ht : (i 0).val / 1024 * 2 + (i 1).val / 1024 < cfg2.N := by omega
    have q0 : win2_2.index ⟨_, ht⟩ 0 = ((i 0).val / 1024 * 2 + (i 1).val / 1024) / 2 := (index2 ⟨_, ht⟩).2.2.2.2.1
    have q1 : win2_2.index ⟨_, ht⟩ 1 = ((i 0).val / 1024 * 2 + (i 1).val / 1024) % 2 := (index2 ⟨_, ht⟩).2.2.2.2.2
    refine ⟨⟨_, ht⟩, flush2_2 _, ?_⟩
    show i ∈ ((View.whole main_v2).slice (win2_2.rect ⟨_, ht⟩)).set
    rw [View.set_slice_whole, Rect.mem_set_unit]
    intro a
    match a with
    | ⟨0, _⟩ =>
      show win2_2.index ⟨_, ht⟩ 0 * 1024 ≤ (i 0 : Nat) ∧ (i 0 : Nat) < win2_2.index ⟨_, ht⟩ 0 * 1024 + 1024
      rw [q0]; omega
    | ⟨1, _⟩ =>
      show win2_2.index ⟨_, ht⟩ 1 * 1024 ≤ (i 1 : Nat) ∧ (i 1 : Nat) < win2_2.index ⟨_, ht⟩ 1 * 1024 + 1024
      rw [q1]; omega

/-! ## mm_g_up -/

/-- Which blocks a point reads and writes. -/
theorem index3 : ∀ t : Fin grid3.N, win3_0.index t 1 = win3_2.index t 0
    ∧ win3_0.index t 0 = 0
    ∧ win3_1.index t 1 = win3_2.index t 1
    ∧ win3_1.index t 0 = 0
    ∧ win3_2.index t 0 = t.val / 8
    ∧ win3_2.index t 1 = t.val % 8 := by decide +kernel
/-- The block product the body forms at a point is that block of the whole product. -/
theorem block3 (t : Fin cfg3.N) (j : (Mat 1024 1024).Idx) : tn (M := 1024) (K := 2048) (N := 1024) (iblk3 V c 0 t) (iblk3 V c 1 t) j
    = tn (M := 2048) (K := 2048) (N := 8192) (V c main_arg0) (V c main_v1) (((cfg3.win 2).blk t).view.emb j) := by
  refine tn_block j (((cfg3.win 2).blk t).view.emb j) (fun k => ?_) (fun k => ?_)
  · unfold iblk3
    rw [View.read_apply]
    refine congrArg (V c main_arg0) (funext fun a => Fin.ext ?_)
    match a with
    | ⟨0, _⟩ =>
      show win3_0.index t 0 * 2048 + 1 * k.val = k.val
      rw [(index3 t).2.1]; omega
    | ⟨1, _⟩ =>
      show win3_0.index t 1 * 1024 + 1 * (j 0).val = win3_2.index t 0 * 1024 + 1 * (j 0).val
      rw [(index3 t).1]
  · unfold iblk3
    rw [View.read_apply]
    refine congrArg (V c main_v1) (funext fun a => Fin.ext ?_)
    match a with
    | ⟨0, _⟩ =>
      show win3_1.index t 0 * 2048 + 1 * k.val = k.val
      rw [(index3 t).2.2.2.1]; omega
    | ⟨1, _⟩ =>
      show win3_1.index t 1 * 1024 + 1 * (j 1).val = win3_2.index t 1 * 1024 + 1 * (j 1).val
      rw [(index3 t).2.2.1]

/-- What the body stores in window 2, at an element. -/
theorem pay3_2 (X : Vec Ideal S2048x1024 .bf16) (Y : Vec Ideal S2048x1024 .bf16) (j : S1024x1024.Idx) : (k3_pay1 X Y j : EReal) = tn (M := 1024) (K := 2048) (N := 1024) X Y j := by
  unfold k3_pay1 tn
  pointwise
theorem out3_2_apply (X : Vec Ideal S2048x1024 .bf16) (Y : Vec Ideal S2048x1024 .bf16) (j : S1024x1024.Idx) : (out3_2 X Y j : EReal) = tn (M := 1024) (K := 2048) (N := 1024) X Y j := by
  refine Eq.trans ?_ (pay3_2 X Y j)
  frame_out [k3_pay1]
/-- What a point writes back to main_v3. -/
theorem flushed3_2 (t : Fin cfg3.N) : (dat3 V c).flushed 2 t = ((cfg3.win 2).blk t).view.read (Elt Ideal) (tn (M := 2048) (K := 2048) (N := 8192) (V c main_arg0) (V c main_v1)) := by
  show (cfg3.win 2).cut (grid3.coords t) ((dat3 V c).after 2 t) = _
  rw [after3_2]
  funext j
  rw [View.read_apply]
  refine (out3_2_apply (iblk3 V c 0 t) (iblk3 V c 1 t) j).trans ?_
  exact block3 V c t j
/-- main_v3 after the call. -/
theorem final3_2 : (dat3 V c).arrAt 2 cfg3.N = tn (M := 2048) (K := 2048) (N := 8192) (V c main_arg0) (V c main_v1) :=
  (dat3 V c).arrAt_eq_of_cover 2 _ (fun t _ => flushed3_2 V c t) fun i => by
    have h0 : (i 0).val < 2048 := (i 0).isLt
    have h1 : (i 1).val < 8192 := (i 1).isLt
    have hN : cfg3.N = 16 := N_3
    have ht : (i 0).val / 1024 * 8 + (i 1).val / 1024 < cfg3.N := by omega
    have q0 : win3_2.index ⟨_, ht⟩ 0 = ((i 0).val / 1024 * 8 + (i 1).val / 1024) / 8 := (index3 ⟨_, ht⟩).2.2.2.2.1
    have q1 : win3_2.index ⟨_, ht⟩ 1 = ((i 0).val / 1024 * 8 + (i 1).val / 1024) % 8 := (index3 ⟨_, ht⟩).2.2.2.2.2
    refine ⟨⟨_, ht⟩, flush3_2 _, ?_⟩
    show i ∈ ((View.whole main_v3).slice (win3_2.rect ⟨_, ht⟩)).set
    rw [View.set_slice_whole, Rect.mem_set_unit]
    intro a
    match a with
    | ⟨0, _⟩ =>
      show win3_2.index ⟨_, ht⟩ 0 * 1024 ≤ (i 0 : Nat) ∧ (i 0 : Nat) < win3_2.index ⟨_, ht⟩ 0 * 1024 + 1024
      rw [q0]; omega
    | ⟨1, _⟩ =>
      show win3_2.index ⟨_, ht⟩ 1 * 1024 ≤ (i 1 : Nat) ∧ (i 1 : Nat) < win3_2.index ⟨_, ht⟩ 1 * 1024 + 1024
      rw [q1]; omega

end Regions

variable (m : (ℓ : Loc nD τ sig) → Buf (Elt Ideal) ℓ) (ρ : Dev nD → PrngReg) (c : Dev nD)

/-- The hidden layer before and after the activation, its cotangent, and the two weight gradients. -/
abbrev up := nn (M := 2048) (K := 2048) (N := 8192) (m ((c : Thread nD τ).loc main_arg0)) (m ((c : Thread nD τ).loc main_arg1))
abbrev act := sqRelu (M := 2048) (N := 8192) (up m c)
abbrev dUp := sqReluGrad (M := 2048) (N := 8192) (up m c) (nt (M := 2048) (K := 2048) (N := 8192) (m ((c : Thread nD τ).loc main_arg3)) (m ((c : Thread nD τ).loc main_arg2)))
abbrev gDown := tn (M := 8192) (K := 2048) (N := 2048) (act m c) (m ((c : Thread nD τ).loc main_arg3))
abbrev gUp := tn (M := 2048) (K := 2048) (N := 8192) (m ((c : Thread nD τ).loc main_arg0)) (dUp m c)

theorem up_at1 : W1 m ρ c (Proc.devRef .tc main_v0_0) = up m c := (W1_arr m ρ c 2).trans (final0_2 (V0 m ρ) c)
theorem act_at1 : W1 m ρ c (Proc.devRef .tc main_v0_1) = act m c := (W1_arr m ρ c 3).trans (final0_3 (V0 m ρ) c)
theorem act_at2 : W2 m ρ c (Proc.devRef .tc main_v0_1) = act m c := (W2_of m ρ c main_v0_1 (by decide)).trans (act_at1 m ρ c)
theorem dUp_at2 : W2 m ρ c (Proc.devRef .tc main_v1) = dUp m c :=
  ((W2_arr m ρ c 3).trans (final1_3 (V1 m ρ) c)).trans (congrArg₂ (sqReluGrad (M := 2048) (N := 8192)) (up_at1 m ρ c)
    (congrArg₂ (nt (M := 2048) (K := 2048) (N := 8192)) (W1_args m ρ c main_arg3 (by decide)) (W1_args m ρ c main_arg2 (by decide))))
theorem dUp_at3 : W3 m ρ c (Proc.devRef .tc main_v1) = dUp m c := (W3_of m ρ c main_v1 (by decide)).trans (dUp_at2 m ρ c)
theorem gDown_at3 : W3 m ρ c (Proc.devRef .tc main_v2) = gDown m c :=
  ((W3_arr m ρ c 2).trans (final2_2 (V2 m ρ) c)).trans (congrArg₂ (tn (M := 8192) (K := 2048) (N := 2048)) (act_at2 m ρ c) (W2_args m ρ c main_arg3 (by decide)))
theorem gDown_end : W4 m ρ c (Proc.devRef .tc main_v2) = gDown m c := (W4_of m ρ c main_v2 (by decide)).trans (gDown_at3 m ρ c)
theorem gUp_end : W4 m ρ c (Proc.devRef .tc main_v3) = gUp m c :=
  ((W4_arr m ρ c 2).trans (final3_2 (V3 m ρ) c)).trans (congrArg₂ (tn (M := 2048) (K := 2048) (N := 8192)) (W3_args m ρ c main_arg0 (by decide)) (dUp_at3 m ρ c))

local notation "𝕄" => MT nD τ sig Unit (Elt Ideal) ℕ (UR sig nD τ) ℕ

set_option backward.isDefEq.respectTransparency.types false in
/-- From any memory with zero counters: the program ends with its results at the products named above, its arguments
    unchanged and every counter at zero. -/
theorem run : θ_run defs (onTc (τ := τ) (main (F := Ideal))) ⟨m, fun _ => 0, ρ⟩ (fun r => (∀ c : Dev nD,
      r.2.mem ((c.tc : Thread nD τ).loc main_v3) = gUp m c
      ∧ r.2.mem ((c.tc : Thread nD τ).loc main_v2) = gDown m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_v3 (by decide))).trans (gUp_end m ρ c),
       (h c _ (mem_uc main_v2 (by decide))).trans (gDown_end m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩), funext fun g => hz g (.inr (no_unscoped g.2))⟩)

end Cert.Kernel2Ideal.Products

end
-- ==== Proof.Products.UpBack.lean ====
/- The cotangent of the MLP's input, summed over four slabs of the hidden axis. -/
module
public import proofs.«01_k».proof.Proof.Gen.Kernel3Ideal.Value
public import proofs.«01_k».proof.Proof.Products.Prod
public import Idealize.ShloMosaic.Lib.Pipeline.Value
public import Idealize.ShloMosaic.Lib.Pipeline.ValueKit
public import Idealize.ShloMosaic.Lib.Pointwise

@[expose] public section

set_option maxRecDepth 16384

noncomputable section

namespace Cert.Kernel3Ideal.Products

open Idealize.ShloMosaic Idealize.ShloMosaic.TcCoe Idealize.ShloMosaic.Tactic
open Idealize.SL Idealize.SL.Sem
open Idealize.ShloMosaic.Pipeline (Dat Cfg Window)
open Cert.Kernel3Ideal Cert.Kernel3Ideal.Gen Cert.Prod

/-! ## What the body does at the first, a middle and the last slab -/

theorem zero_pay (j : S1024x1024.Idx) : (k0_pay1 (F := Ideal) j : EReal) = 0 := by
  unfold k0_pay1
  pointwise
theorem step_pay (S : Vec Ideal S1024x1024 .f32) (X : Vec Ideal S1024x2048 .bf16) (Y : Vec Ideal S1024x2048 .bf16) (j : S1024x1024.Idx) : (k0_pay2 S X Y j : EReal) = S j + nt (M := 1024) (K := 2048) (N := 1024) X Y j := by
  unfold k0_pay2 nt
  pointwise

theorem origin : (![0, 0] : Fin 2 → Nat) = fun _ => 0 := funext fun a => by fin_cases a <;> rfl

variable (c : Dev nD) (i : grid0.Coords)

theorem first (a0 : Memref sig .tc .vmem S1024x2048 .bf16) (h0 : a0.IsWhole) (a1 : Memref sig .tc .vmem S1024x2048 .bf16) (h1 : a1.IsWhole) (a2 : Memref sig .tc .vmem S1024x1024 .f32) (h2 : a2.IsWhole)
    (a3 : Memref sig .tc .vmem S1024x1024 .f32) (h3 : a3.IsWhole) (hc0 : cond0_0 i) (hc1 : ¬cond0_1 i) (X : Vec Ideal S1024x2048 .bf16) (Y : Vec Ideal S1024x2048 .bf16) (j : S1024x1024.Idx) :
    (sout0_A_0 c i a0 h0 a1 h1 a2 h2 a3 h3 hc0 hc1 X Y j : EReal) = nt (M := 1024) (K := 2048) (N := 1024) X Y j := by
  have e : sout0_A_0 c i a0 h0 a1 h1 a2 h2 a3 h3 hc0 hc1 X Y = k0_pay2 k0_pay1 X Y := by
    unfold sout0_A_0
    rw [View.read_writes_eq_canon _ _ _ (scover0_A_0 c i a0 h0 a1 h1 a2 h2 a3 h3 hc0 hc1 X Y)]
    unfold kernelRun0_A
    dsimp only
    sl_unfold_words
    rw [View.canon_cons_unit_zero (S := S1024x1024) origin, View.readCov_unit_zero (S := S1024x1024) _ origin]
    simp only [View.readAt_eq_ld, h0.read_unread, h1.read_unread, View.ld_unit_zero (S := S1024x2048) origin, View.ld_unit_zero (S := S1024x2048) origin]
  rw [e, step_pay, zero_pay, zero_add]
theorem middle (a0 : Memref sig .tc .vmem S1024x2048 .bf16) (h0 : a0.IsWhole) (a1 : Memref sig .tc .vmem S1024x2048 .bf16) (h1 : a1.IsWhole) (a2 : Memref sig .tc .vmem S1024x1024 .f32) (h2 : a2.IsWhole)
    (a3 : Memref sig .tc .vmem S1024x1024 .f32) (h3 : a3.IsWhole) (hc0 : ¬cond0_0 i) (hc1 : ¬cond0_1 i) (X : Vec Ideal S1024x2048 .bf16) (Y : Vec Ideal S1024x2048 .bf16) (S : Vec Ideal S1024x1024 .f32) (j : S1024x1024.Idx) :
    (sout0_B_0 c i a0 h0 a1 h1 a2 h2 a3 h3 hc0 hc1 X Y S j : EReal) = S j + nt (M := 1024) (K := 2048) (N := 1024) X Y j := by
  have e : sout0_B_0 c i a0 h0 a1 h1 a2 h2 a3 h3 hc0 hc1 X Y S = k0_pay2 S X Y := by
    unfold sout0_B_0
    rw [View.read_writes_eq_canon _ _ _ (scover0_B_0 c i a0 h0 a1 h1 a2 h2 a3 h3 hc0 hc1 X Y S)]
    unfold kernelRun0_B
    dsimp only
    rw [View.canon_unit_zero origin]
    simp only [View.readAt_eq_ld, h0.read_unread, h1.read_unread, h3.read_unread, View.ld_unit_zero (S := S1024x2048) origin, View.ld_unit_zero (S := S1024x2048) origin, View.ld_unit_zero (S := S1024x1024) origin]
  rw [e, step_pay]
theorem last (a0 : Memref sig .tc .vmem S1024x2048 .bf16) (h0 : a0.IsWhole) (a1 : Memref sig .tc .vmem S1024x2048 .bf16) (h1 : a1.IsWhole) (a2 : Memref sig .tc .vmem S1024x1024 .f32) (h2 : a2.IsWhole)
    (a3 : Memref sig .tc .vmem S1024x1024 .f32) (h3 : a3.IsWhole) (hc0 : ¬cond0_0 i) (hc1 : cond0_1 i) (X : Vec Ideal S1024x2048 .bf16) (Y : Vec Ideal S1024x2048 .bf16) (S : Vec Ideal S1024x1024 .f32) (j : S1024x1024.Idx) :
    (out0_C_2 c i a0 h0 a1 h1 a2 h2 a3 h3 hc0 hc1 X Y S j : EReal) = S j + nt (M := 1024) (K := 2048) (N := 1024) X Y j := by
  have e : out0_C_2 c i a0 h0 a1 h1 a2 h2 a3 h3 hc0 hc1 X Y S = k0_pay2 S X Y := by
    unfold out0_C_2
    rw [View.read_writes_eq_canon _ _ _ (cover0_C_2 c i a0 h0 a1 h1 a2 h2 a3 h3 hc0 hc1 X Y S)]
    unfold kernelRun0_C
    dsimp only
    sl_unfold_words
    rw [View.canon_unit_zero origin, View.readCov_unit_zero (S := S1024x1024) _ origin]
    simp only [View.readAt_eq_ld, h0.read_unread, h1.read_unread, h3.read_unread, View.ld_unit_zero (S := S1024x2048) origin, View.ld_unit_zero (S := S1024x2048) origin, View.ld_unit_zero (S := S1024x1024) origin, shapeCast_self]
  rw [e, step_pay]

/-! ## The four slabs of a block -/

/-- Which blocks a point reads and writes. -/
theorem index0 : ∀ t : Fin grid0.N, win0_0.index t 0 = win0_2.index t 0 ∧ win0_0.index t 1 = t.val % 4
    ∧ win0_1.index t 0 = win0_2.index t 1 ∧ win0_1.index t 1 = t.val % 4
    ∧ win0_2.index t 0 = t.val / 4 / 2 ∧ win0_2.index t 1 = t.val / 4 % 2 := by decide +kernel

variable (m : (ℓ : Loc nD τ sig) → Buf (Elt Ideal) ℓ) (ρ : Dev nD → PrngReg)

/-- The slab a point multiplies is the part of the whole product's sums that starts at its offset. -/
theorem slab (t u : Fin cfg0.N) (h : t.val / 4 = u.val / 4) (j : (Mat 1024 1024).Idx) : nt (M := 1024) (K := 2048) (N := 1024) (iblk m c 0 t) (iblk m c 1 t) j
    = ∑ k : Fin 2048, ntTerm (M := 2048) (K := 8192) (N := 2048) (m ((c : Thread nD τ).loc main_arg0)) (m ((c : Thread nD τ).loc main_arg1)) (((cfg0.win 2).blk u).view.emb j) ⟨t.val % 4 * 2048 + k.val, by omega⟩ := by
  have e0 : win0_2.index t 0 = win0_2.index u 0 := by rw [(index0 t).2.2.2.2.1, (index0 u).2.2.2.2.1, h]
  have e1 : win0_2.index t 1 = win0_2.index u 1 := by rw [(index0 t).2.2.2.2.2, (index0 u).2.2.2.2.2, h]
  refine Finset.sum_congr rfl fun k _ => congrArg₂ (fun p q : EReal => p * q) ?_ ?_
  · unfold iblk
    rw [View.read_apply]
    refine congrArg (V m c main_arg0) (funext fun a => Fin.ext ?_)
    match a with
    | ⟨0, _⟩ =>
      show win0_0.index t 0 * 1024 + 1 * (j 0).val = win0_2.index u 0 * 1024 + 1 * (j 0).val
      rw [(index0 t).1, e0]
    | ⟨1, _⟩ =>
      show win0_0.index t 1 * 2048 + 1 * k.val = t.val % 4 * 2048 + k.val
      rw [(index0 t).2.1]; omega
  · unfold iblk
    rw [View.read_apply]
    refine congrArg (V m c main_arg1) (funext fun a => Fin.ext ?_)
    match a with
    | ⟨0, _⟩ =>
      show win0_1.index t 0 * 1024 + 1 * (j 1).val = win0_2.index u 1 * 1024 + 1 * (j 1).val
      rw [(index0 t).2.2.1, e1]
    | ⟨1, _⟩ =>
      show win0_1.index t 1 * 2048 + 1 * k.val = t.val % 4 * 2048 + k.val
      rw [(index0 t).2.2.2.1]; omega

/-- The accumulator after a block's first, second and third slab. -/
theorem acc_first (t : Fin cfg0.N) (h : t.val % 4 = 0) (j : S1024x1024.Idx) :
    ((outsAt0 m c t.val t.isLt).2 j : EReal) = nt (M := 1024) (K := 2048) (N := 1024) (iblk m c 0 t) (iblk m c 1 t) j := by
  rw [outsAt0_A m c t h (by omega)]
  dsimp only
  rw [first]
theorem acc_next (t s : Fin cfg0.N) (hs : s.val = t.val - 1) (h0 : ¬t.val % 4 = 0) (h1 : ¬t.val % 4 = 3) (j : S1024x1024.Idx) :
    ((outsAt0 m c t.val t.isLt).2 j : EReal) = (outsAt0 m c s.val s.isLt).2 j + nt (M := 1024) (K := 2048) (N := 1024) (iblk m c 0 t) (iblk m c 1 t) j := by
  obtain ⟨s, hlt⟩ := s
  obtain rfl : s = t.val - 1 := hs
  rw [outsAt0_B m c t h0 h1]
  dsimp only
  rw [middle]
theorem out_last (t s : Fin cfg0.N) (hs : s.val = t.val - 1) (h0 : ¬t.val % 4 = 0) (h1 : t.val % 4 = 3) (j : S1024x1024.Idx) :
    ((outsAt0 m c t.val t.isLt).1 j : EReal) = (outsAt0 m c s.val s.isLt).2 j + nt (M := 1024) (K := 2048) (N := 1024) (iblk m c 0 t) (iblk m c 1 t) j := by
  obtain ⟨s, hlt⟩ := s
  obtain rfl : s = t.val - 1 := hs
  rw [outsAt0_C m c t h0 h1]
  dsimp only
  rw [last]

/-- The whole product. -/
abbrev prod : (Mat 2048 2048).Idx → EReal := nt (M := 2048) (K := 8192) (N := 2048) (m ((c : Thread nD τ).loc main_arg0)) (m ((c : Thread nD τ).loc main_arg1))

theorem flushed_prod (t : Fin cfg0.N) (hf : (cfg0.win 2).flush t = true) :
    (dats m 0 c).flushed 2 t = ((cfg0.win 2).blk t).view.read (Elt Ideal) (prod c m) := by
  have h3 : t.val % 4 = 3 := (flush0_2 t).mp hf
  have hN : t.val < 16 := lt_of_lt_of_eq t.isLt N_0
  have l2 : t.val - 1 < cfg0.N := lt_of_lt_of_eq (by omega : t.val - 1 < 16) N_0.symm
  have l1 : t.val - 2 < cfg0.N := lt_of_lt_of_eq (by omega : t.val - 2 < 16) N_0.symm
  have l0 : t.val - 3 < cfg0.N := lt_of_lt_of_eq (by omega : t.val - 3 < 16) N_0.symm
  show (cfg0.win 2).cut (grid0.coords t) ((dats m 0 c).after 2 t) = _
  rw [after0_2]
  funext j
  rw [View.read_apply]
  refine (out_last c m t ⟨t.val - 1, l2⟩ rfl (by omega) h3 j).trans ?_
  rw [acc_next c m ⟨t.val - 1, l2⟩ ⟨t.val - 2, l1⟩ (by show t.val - 2 = t.val - 1 - 1; omega) (by show ¬(t.val - 1) % 4 = 0; omega) (by show ¬(t.val - 1) % 4 = 3; omega) j,
    acc_next c m ⟨t.val - 2, l1⟩ ⟨t.val - 3, l0⟩ (by show t.val - 3 = t.val - 2 - 1; omega) (by show ¬(t.val - 2) % 4 = 0; omega) (by show ¬(t.val - 2) % 4 = 3; omega) j,
    acc_first c m ⟨t.val - 3, l0⟩ (by show (t.val - 3) % 4 = 0; omega) j,
    slab c m t t rfl j, slab c m ⟨t.val - 1, l2⟩ t (by show (t.val - 1) / 4 = t.val / 4; omega) j,
    slab c m ⟨t.val - 2, l1⟩ t (by show (t.val - 2) / 4 = t.val / 4; omega) j, slab c m ⟨t.val - 3, l0⟩ t (by show (t.val - 3) / 4 = t.val / 4; omega) j]
  generalize ((cfg0.win 2).blk t).view.emb j = i
  refine Eq.trans ?_ (sum_quarters 2048 8192 rfl (ntTerm (M := 2048) (K := 8192) (N := 2048) (m ((c : Thread nD τ).loc main_arg0)) (m ((c : Thread nD τ).loc main_arg1)) i)).symm
  have q0 : (t.val - 3) % 4 = 0 := by omega
  have q1 : (t.val - 2) % 4 = 1 := by omega
  have q2 : (t.val - 1) % 4 = 2 := by omega
  refine congrArg₂ (fun p q : EReal => p + q) (congrArg₂ (fun p q : EReal => p + q) (congrArg₂ (fun p q : EReal => p + q) ?_ ?_) ?_) ?_
  · refine Finset.sum_congr rfl fun k _ => ?_
    have e : (t.val - 3) % 4 * 2048 + k.val = k.val := by omega
    exact congrArg (ntTerm (M := 2048) (K := 8192) (N := 2048) (m ((c : Thread nD τ).loc main_arg0)) (m ((c : Thread nD τ).loc main_arg1)) i) (Fin.ext e)
  · refine Finset.sum_congr rfl fun k _ => ?_
    have e : (t.val - 2) % 4 * 2048 + k.val = 2048 + k.val := by omega
    exact congrArg (ntTerm (M := 2048) (K := 8192) (N := 2048) (m ((c : Thread nD τ).loc main_arg0)) (m ((c : Thread nD τ).loc main_arg1)) i) (Fin.ext e)
  · refine Finset.sum_congr rfl fun k _ => ?_
    have e : (t.val - 1) % 4 * 2048 + k.val = 2048 + 2048 + k.val := by omega
    exact congrArg (ntTerm (M := 2048) (K := 8192) (N := 2048) (m ((c : Thread nD τ).loc main_arg0)) (m ((c : Thread nD τ).loc main_arg1)) i) (Fin.ext e)
  · refine Finset.sum_congr rfl fun k _ => ?_
    have e : (t.val) % 4 * 2048 + k.val = 2048 + 2048 + 2048 + k.val := by omega
    exact congrArg (ntTerm (M := 2048) (K := 8192) (N := 2048) (m ((c : Thread nD τ).loc main_arg0)) (m ((c : Thread nD τ).loc main_arg1)) i) (Fin.ext e)

theorem final_prod : (dats m 0 c).arrAt 2 cfg0.N = prod c m :=
  (dats m 0 c).arrAt_eq_of_cover 2 _ (fun t hf => flushed_prod c m t hf) fun i => by
    have h0 : (i 0).val < 2048 := (i 0).isLt
    have h1 : (i 1).val < 2048 := (i 1).isLt
    have hN : cfg0.N = 16 := N_0
    have ht : 4 * ((i 0).val / 1024 * 2 + (i 1).val / 1024) + 3 < cfg0.N := by omega
    have q0 : win0_2.index ⟨_, ht⟩ 0 = (4 * ((i 0).val / 1024 * 2 + (i 1).val / 1024) + 3) / 4 / 2 := (index0 ⟨_, ht⟩).2.2.2.2.1
    have q1 : win0_2.index ⟨_, ht⟩ 1 = (4 * ((i 0).val / 1024 * 2 + (i 1).val / 1024) + 3) / 4 % 2 := (index0 ⟨_, ht⟩).2.2.2.2.2
    refine ⟨⟨_, ht⟩, (flush0_2 _).mpr (by show (4 * ((i 0).val / 1024 * 2 + (i 1).val / 1024) + 3) % 4 = 3; omega), ?_⟩
    show i ∈ ((View.whole main_v0).slice (win0_2.rect ⟨_, ht⟩)).set
    rw [View.set_slice_whole, Rect.mem_set_unit]
    intro a
    match a with
    | ⟨0, _⟩ =>
      show win0_2.index ⟨_, ht⟩ 0 * 1024 ≤ (i 0 : Nat) ∧ (i 0 : Nat) < win0_2.index ⟨_, ht⟩ 0 * 1024 + 1024
      rw [q0]; omega
    | ⟨1, _⟩ =>
      show win0_2.index ⟨_, ht⟩ 1 * 1024 ≤ (i 1 : Nat) ∧ (i 1 : Nat) < win0_2.index ⟨_, ht⟩ 1 * 1024 + 1024
      rw [q1]; omega

/-- The program's run: its result is the product, its arguments are unchanged. -/
theorem run : θ_run defs (onTc (τ := τ) (main (F := Ideal))) ⟨m, fun _ => 0, ρ⟩ (fun r => ∀ c : Dev nD,
      r.2.mem ((c.tc : Thread nD τ).loc main_v0) = prod c m
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final_prod c m), (h c).2⟩) (Value.run_blocks (F := Ideal) m ρ)

end Cert.Kernel3Ideal.Products

end
-- ==== Proof.Products.Projections.lean ====
/- The backward pass of the three square projections, two products each. -/
module
public import proofs.«01_k».proof.Proof.Gen.Kernel4Ideal.Frame
public import proofs.«01_k».proof.Proof.Products.Prod
public import Idealize.ShloMosaic.Lib.Pipeline.Value
public import Idealize.ShloMosaic.Lib.Pipeline.ValueKit
public import Idealize.ShloMosaic.Lib.Pointwise

@[expose] public section

set_option maxRecDepth 16384

noncomputable section

namespace Cert.Kernel4Ideal.Products

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.Kernel4Ideal Cert.Kernel4Ideal.Gen Cert.Prod

section Regions
-- the buffers' contents when a call starts
variable (V : (c : Dev nD) → (b : Ref sig .tc) → Buf (Elt Ideal) ((c : Thread nD τ).loc b)) (c : Dev nD)

/-! ## mm_d_mrg -/

/-- Which blocks a point reads and writes. -/
theorem index0 : ∀ t : Fin grid0.N, win0_0.index t 0 = win0_2.index t 0
    ∧ win0_0.index t 1 = 0
    ∧ win0_1.index t 0 = win0_2.index t 1
    ∧ win0_1.index t 1 = 0
    ∧ win0_2.index t 0 = t.val / 2
    ∧ win0_2.index t 1 = t.val % 2 := by decide +kernel
/-- The block product the body forms at a point is that block of the whole product. -/
theorem block0 (t : Fin cfg0.N) (j : (Mat 1024 1024).Idx) : nt (M := 1024) (K := 2048) (N := 1024) (iblk0 V c 0 t) (iblk0 V c 1 t) j
    = nt (M := 2048) (K := 2048) (N := 2048) (V c main_arg8) (V c main_arg7) (((cfg0.win 2).blk t).view.emb j) := by
  refine nt_block j (((cfg0.win 2).blk t).view.emb j) (fun k => ?_) (fun k => ?_)
  · unfold iblk0
    rw [View.read_apply]
    refine congrArg (V c main_arg8) (funext fun a => Fin.ext ?_)
    match a with
    | ⟨0, _⟩ =>
      show win0_0.index t 0 * 1024 + 1 * (j 0).val = win0_2.index t 0 * 1024 + 1 * (j 0).val
      rw [(index0 t).1]
    | ⟨1, _⟩ =>
      show win0_0.index t 1 * 2048 + 1 * k.val = k.val
      rw [(index0 t).2.1]; omega
  · unfold iblk0
    rw [View.read_apply]
    refine congrArg (V c main_arg7) (funext fun a => Fin.ext ?_)
    match a with
    | ⟨0, _⟩ =>
      show win0_1.index t 0 * 1024 + 1 * (j 1).val = win0_2.index t 1 * 1024 + 1 * (j 1).val
      rw [(index0 t).2.2.1]
    | ⟨1, _⟩ =>
      show win0_1.index t 1 * 2048 + 1 * k.val = k.val
      rw [(index0 t).2.2.2.1]; omega

/-- What the body stores in window 2, at an element. -/
theorem pay0_2 (X : Vec Ideal S1024x2048 .bf16) (Y : Vec Ideal S1024x2048 .bf16) (j : S1024x1024.Idx) : (k0_pay1 X Y j : EReal) = nt (M := 1024) (K := 2048) (N := 1024) X Y j := by
  unfold k0_pay1 nt
  pointwise
theorem out0_2_apply (X : Vec Ideal S1024x2048 .bf16) (Y : Vec Ideal S1024x2048 .bf16) (j : S1024x1024.Idx) : (out0_2 X Y j : EReal) = nt (M := 1024) (K := 2048) (N := 1024) X Y j := by
  refine Eq.trans ?_ (pay0_2 X Y j)
  frame_out [k0_pay1]
/-- What a point writes back to main_v0. -/
theorem flushed0_2 (t : Fin cfg0.N) : (dat0 V c).flushed 2 t = ((cfg0.win 2).blk t).view.read (Elt Ideal) (nt (M := 2048) (K := 2048) (N := 2048) (V c main_arg8) (V c main_arg7)) := by
  show (cfg0.win 2).cut (grid0.coords t) ((dat0 V c).after 2 t) = _
  rw [after0_2]
  funext j
  rw [View.read_apply]
  refine (out0_2_apply (iblk0 V c 0 t) (iblk0 V c 1 t) j).trans ?_
  exact block0 V c t j
/-- main_v0 after the call. -/
theorem final0_2 : (dat0 V c).arrAt 2 cfg0.N = nt (M := 2048) (K := 2048) (N := 2048) (V c main_arg8) (V c main_arg7) :=
  (dat0 V c).arrAt_eq_of_cover 2 _ (fun t _ => flushed0_2 V c t) fun i => by
    have h0 : (i 0).val < 2048 := (i 0).isLt
    have h1 : (i 1).val < 2048 := (i 1).isLt
    have hN : cfg0.N = 4 := N_0
    have ht : (i 0).val / 1024 * 2 + (i 1).val / 1024 < cfg0.N := by omega
    have q0 : win0_2.index ⟨_, ht⟩ 0 = ((i 0).val / 1024 * 2 + (i 1).val / 1024) / 2 := (index0 ⟨_, ht⟩).2.2.2.2.1
    have q1 : win0_2.index ⟨_, ht⟩ 1 = ((i 0).val / 1024 * 2 + (i 1).val / 1024) % 2 := (index0 ⟨_, ht⟩).2.2.2.2.2
    refine ⟨⟨_, ht⟩, flush0_2 _, ?_⟩
    show i ∈ ((View.whole main_v0).slice (win0_2.rect ⟨_, ht⟩)).set
    rw [View.set_slice_whole, Rect.mem_set_unit]
    intro a
    match a with
    | ⟨0, _⟩ =>
      show win0_2.index ⟨_, ht⟩ 0 * 1024 ≤ (i 0 : Nat) ∧ (i 0 : Nat) < win0_2.index ⟨_, ht⟩ 0 * 1024 + 1024
      rw [q0]; omega
    | ⟨1, _⟩ =>
      show win0_2.index ⟨_, ht⟩ 1 * 1024 ≤ (i 1 : Nat) ∧ (i 1 : Nat) < win0_2.index ⟨_, ht⟩ 1 * 1024 + 1024
      rw [q1]; omega

/-! ## mm_g_out -/

/-- Which blocks a point reads and writes. -/
theorem index1 : ∀ t : Fin grid1.N, win1_0.index t 1 = win1_2.index t 0
    ∧ win1_0.index t 0 = 0
    ∧ win1_1.index t 1 = win1_2.index t 1
    ∧ win1_1.index t 0 = 0
    ∧ win1_2.index t 0 = t.val / 2
    ∧ win1_2.index t 1 = t.val % 2 := by decide +kernel
/-- The block product the body forms at a point is that block of the whole product. -/
theorem block1 (t : Fin cfg1.N) (j : (Mat 1024 1024).Idx) : tn (M := 1024) (K := 2048) (N := 1024) (iblk1 V c 0 t) (iblk1 V c 1 t) j
    = tn (M := 2048) (K := 2048) (N := 2048) (V c main_arg6) (V c main_arg8) (((cfg1.win 2).blk t).view.emb j) := by
  refine tn_block j (((cfg1.win 2).blk t).view.emb j) (fun k => ?_) (fun k => ?_)
  · unfold iblk1
    rw [View.read_apply]
    refine congrArg (V c main_arg6) (funext fun a => Fin.ext ?_)
    match a with
    | ⟨0, _⟩ =>
      show win1_0.index t 0 * 2048 + 1 * k.val = k.val
      rw [(index1 t).2.1]; omega
    | ⟨1, _⟩ =>
      show win1_0.index t 1 * 1024 + 1 * (j 0).val = win1_2.index t 0 * 1024 + 1 * (j 0).val
      rw [(index1 t).1]
  · unfold iblk1
    rw [View.read_apply]
    refine congrArg (V c main_arg8) (funext fun a => Fin.ext ?_)
    match a with
    | ⟨0, _⟩ =>
      show win1_1.index t 0 * 2048 + 1 * k.val = k.val
      rw [(index1 t).2.2.2.1]; omega
    | ⟨1, _⟩ =>
      show win1_1.index t 1 * 1024 + 1 * (j 1).val = win1_2.index t 1 * 1024 + 1 * (j 1).val
      rw [(index1 t).2.2.1]

/-- What the body stores in window 2, at an element. -/
theorem pay1_2 (X : Vec Ideal S2048x1024 .bf16) (Y : Vec Ideal S2048x1024 .bf16) (j : S1024x1024.Idx) : (k1_pay1 X Y j : EReal) = tn (M := 1024) (K := 2048) (N := 1024) X Y j := by
  unfold k1_pay1 tn
  pointwise
theorem out1_2_apply (X : Vec Ideal S2048x1024 .bf16) (Y : Vec Ideal S2048x1024 .bf16) (j : S1024x1024.Idx) : (out1_2 X Y j : EReal) = tn (M := 1024) (K := 2048) (N := 1024) X Y j := by
  refine Eq.trans ?_ (pay1_2 X Y j)
  frame_out [k1_pay1]
/-- What a point writes back to main_v1. -/
theorem flushed1_2 (t : Fin cfg1.N) : (dat1 V c).flushed 2 t = ((cfg1.win 2).blk t).view.read (Elt Ideal) (tn (M := 2048) (K := 2048) (N := 2048) (V c main_arg6) (V c main_arg8)) := by
  show (cfg1.win 2).cut (grid1.coords t) ((dat1 V c).after 2 t) = _
  rw [after1_2]
  funext j
  rw [View.read_apply]
  refine (out1_2_apply (iblk1 V c 0 t) (iblk1 V c 1 t) j).trans ?_
  exact block1 V c t j
/-- main_v1 after the call. -/
theorem final1_2 : (dat1 V c).arrAt 2 cfg1.N = tn (M := 2048) (K := 2048) (N := 2048) (V c main_arg6) (V c main_arg8) :=
  (dat1 V c).arrAt_eq_of_cover 2 _ (fun t _ => flushed1_2 V c t) fun i => by
    have h0 : (i 0).val < 2048 := (i 0).isLt
    have h1 : (i 1).val < 2048 := (i 1).isLt
    have hN : cfg1.N = 4 := N_1
    have ht : (i 0).val / 1024 * 2 + (i 1).val / 1024 < cfg1.N := by omega
    have q0 : win1_2.index ⟨_, ht⟩ 0 = ((i 0).val / 1024 * 2 + (i 1).val / 1024) / 2 := (index1 ⟨_, ht⟩).2.2.2.2.1
    have q1 : win1_2.index ⟨_, ht⟩ 1 = ((i 0).val / 1024 * 2 + (i 1).val / 1024) % 2 := (index1 ⟨_, ht⟩).2.2.2.2.2
    refine ⟨⟨_, ht⟩, flush1_2 _, ?_⟩
    show i ∈ ((View.whole main_v1).slice (win1_2.rect ⟨_, ht⟩)).set
    rw [View.set_slice_whole, Rect.mem_set_unit]
    intro a
    match a with
    | ⟨0, _⟩ =>
      show win1_2.index ⟨_, ht⟩ 0 * 1024 ≤ (i 0 : Nat) ∧ (i 0 : Nat) < win1_2.index ⟨_, ht⟩ 0 * 1024 + 1024
      rw [q0]; omega
    | ⟨1, _⟩ =>
      show win1_2.index ⟨_, ht⟩ 1 * 1024 ≤ (i 1 : Nat) ∧ (i 1 : Nat) < win1_2.index ⟨_, ht⟩ 1 * 1024 + 1024
      rw [q1]; omega

/-! ## mm_d_o -/

/-- Which blocks a point reads and writes. -/
theorem index2 : ∀ t : Fin grid2.N, win2_0.index t 0 = win2_2.index t 0
    ∧ win2_0.index t 1 = 0
    ∧ win2_1.index t 0 = win2_2.index t 1
    ∧ win2_1.index t 1 = 0
    ∧ win2_2.index t 0 = t.val / 2
    ∧ win2_2.index t 1 = t.val % 2 := by decide +kernel
/-- The block product the body forms at a point is that block of the whole product. -/
theorem block2 (t : Fin cfg2.N) (j : (Mat 1024 1024).Idx) : nt (M := 1024) (K := 2048) (N := 1024) (iblk2 V c 0 t) (iblk2 V c 1 t) j
    = nt (M := 2048) (K := 2048) (N := 2048) (V c main_arg2) (V c main_arg1) (((cfg2.win 2).blk t).view.emb j) := by
  refine nt_block j (((cfg2.win 2).blk t).view.emb j) (fun k => ?_) (fun k => ?_)
  · unfold iblk2
    rw [View.read_apply]
    refine congrArg (V c main_arg2) (funext fun a => Fin.ext ?_)
    match a with
    | ⟨0, _⟩ =>
      show win2_0.index t 0 * 1024 + 1 * (j 0).val = win2_2.index t 0 * 1024 + 1 * (j 0).val
      rw [(index2 t).1]
    | ⟨1, _⟩ =>
      show win2_0.index t 1 * 2048 + 1 * k.val = k.val
      rw [(index2 t).2.1]; omega
  · unfold iblk2
    rw [View.read_apply]
    refine congrArg (V c main_arg1) (funext fun a => Fin.ext ?_)
    match a with
    | ⟨0, _⟩ =>
      show win2_1.index t 0 * 1024 + 1 * (j 1).val = win2_2.index t 1 * 1024 + 1 * (j 1).val
      rw [(index2 t).2.2.1]
    | ⟨1, _⟩ =>
      show win2_1.index t 1 * 2048 + 1 * k.val = k.val
      rw [(index2 t).2.2.2.1]; omega

/-- What the body stores in window 2, at an element. -/
theorem pay2_2 (X : Vec Ideal S1024x2048 .bf16) (Y : Vec Ideal S1024x2048 .bf16) (j : S1024x1024.Idx) : (k2_pay1 X Y j : EReal) = nt (M := 1024) (K := 2048) (N := 1024) X Y j := by
  unfold k2_pay1 nt
  pointwise
theorem out2_2_apply (X : Vec Ideal S1024x2048 .bf16) (Y : Vec Ideal S1024x2048 .bf16) (j : S1024x1024.Idx) : (out2_2 X Y j : EReal) = nt (M := 1024) (K := 2048) (N := 1024) X Y j := by
  refine Eq.trans ?_ (pay2_2 X Y j)
  frame_out [k2_pay1]
/-- What a point writes back to main_v2. -/
theorem flushed2_2 (t : Fin cfg2.N) : (dat2 V c).flushed 2 t = ((cfg2.win 2).blk t).view.read (Elt Ideal) (nt (M := 2048) (K := 2048) (N := 2048) (V c main_arg2) (V c main_arg1)) := by
  show (cfg2.win 2).cut (grid2.coords t) ((dat2 V c).after 2 t) = _
  rw [after2_2]
  funext j
  rw [View.read_apply]
  refine (out2_2_apply (iblk2 V c 0 t) (iblk2 V c 1 t) j).trans ?_
  exact block2 V c t j
/-- main_v2 after the call. -/
theorem final2_2 : (dat2 V c).arrAt 2 cfg2.N = nt (M := 2048) (K := 2048) (N := 2048) (V c main_arg2) (V c main_arg1) :=
  (dat2 V c).arrAt_eq_of_cover 2 _ (fun t _ => flushed2_2 V c t) fun i => by
    have h0 : (i 0).val < 2048 := (i 0).isLt
    have h1 : (i 1).val < 2048 := (i 1).isLt
    have hN : cfg2.N = 4 := N_2
    have ht : (i 0).val / 1024 * 2 + (i 1).val / 1024 < cfg2.N := by omega
    have q0 : win2_2.index ⟨_, ht⟩ 0 = ((i 0).val / 1024 * 2 + (i 1).val / 1024) / 2 := (index2 ⟨_, ht⟩).2.2.2.2.1
    have q1 : win2_2.index ⟨_, ht⟩ 1 = ((i 0).val / 1024 * 2 + (i 1).val / 1024) % 2 := (index2 ⟨_, ht⟩).2.2.2.2.2
    refine ⟨⟨_, ht⟩, flush2_2 _, ?_⟩
    show i ∈ ((View.whole main_v2).slice (win2_2.rect ⟨_, ht⟩)).set
    rw [View.set_slice_whole, Rect.mem_set_unit]
    intro a
    match a with
    | ⟨0, _⟩ =>
      show win2_2.index ⟨_, ht⟩ 0 * 1024 ≤ (i 0 : Nat) ∧ (i 0 : Nat) < win2_2.index ⟨_, ht⟩ 0 * 1024 + 1024
      rw [q0]; omega
    | ⟨1, _⟩ =>
      show win2_2.index ⟨_, ht⟩ 1 * 1024 ≤ (i 1 : Nat) ∧ (i 1 : Nat) < win2_2.index ⟨_, ht⟩ 1 * 1024 + 1024
      rw [q1]; omega

/-! ## mm_g_o_attn -/

/-- Which blocks a point reads and writes. -/
theorem index3 : ∀ t : Fin grid3.N, win3_0.index t 1 = win3_2.index t 0
    ∧ win3_0.index t 0 = 0
    ∧ win3_1.index t 1 = win3_2.index t 1
    ∧ win3_1.index t 0 = 0
    ∧ win3_2.index t 0 = t.val / 2
    ∧ win3_2.index t 1 = t.val % 2 := by decide +kernel
/-- The block product the body forms at a point is that block of the whole product. -/
theorem block3 (t : Fin cfg3.N) (j : (Mat 1024 1024).Idx) : tn (M := 1024) (K := 2048) (N := 1024) (iblk3 V c 0 t) (iblk3 V c 1 t) j
    = tn (M := 2048) (K := 2048) (N := 2048) (V c main_arg0) (V c main_arg2) (((cfg3.win 2).blk t).view.emb j) := by
  refine tn_block j (((cfg3.win 2).blk t).view.emb j) (fun k => ?_) (fun k => ?_)
  · unfold iblk3
    rw [View.read_apply]
    refine congrArg (V c main_arg0) (funext fun a => Fin.ext ?_)
    match a with
    | ⟨0, _⟩ =>
      show win3_0.index t 0 * 2048 + 1 * k.val = k.val
      rw [(index3 t).2.1]; omega
    | ⟨1, _⟩ =>
      show win3_0.index t 1 * 1024 + 1 * (j 0).val = win3_2.index t 0 * 1024 + 1 * (j 0).val
      rw [(index3 t).1]
  · unfold iblk3
    rw [View.read_apply]
    refine congrArg (V c main_arg2) (funext fun a => Fin.ext ?_)
    match a with
    | ⟨0, _⟩ =>
      show win3_1.index t 0 * 2048 + 1 * k.val = k.val
      rw [(index3 t).2.2.2.1]; omega
    | ⟨1, _⟩ =>
      show win3_1.index t 1 * 1024 + 1 * (j 1).val = win3_2.index t 1 * 1024 + 1 * (j 1).val
      rw [(index3 t).2.2.1]

/-- What the body stores in window 2, at an element. -/
theorem pay3_2 (X : Vec Ideal S2048x1024 .bf16) (Y : Vec Ideal S2048x1024 .bf16) (j : S1024x1024.Idx) : (k3_pay1 X Y j : EReal) = tn (M := 1024) (K := 2048) (N := 1024) X Y j := by
  unfold k3_pay1 tn
  pointwise
theorem out3_2_apply (X : Vec Ideal S2048x1024 .bf16) (Y : Vec Ideal S2048x1024 .bf16) (j : S1024x1024.Idx) : (out3_2 X Y j : EReal) = tn (M := 1024) (K := 2048) (N := 1024) X Y j := by
  refine Eq.trans ?_ (pay3_2 X Y j)
  frame_out [k3_pay1]
/-- What a point writes back to main_v3. -/
theorem flushed3_2 (t : Fin cfg3.N) : (dat3 V c).flushed 2 t = ((cfg3.win 2).blk t).view.read (Elt Ideal) (tn (M := 2048) (K := 2048) (N := 2048) (V c main_arg0) (V c main_arg2)) := by
  show (cfg3.win 2).cut (grid3.coords t) ((dat3 V c).after 2 t) = _
  rw [after3_2]
  funext j
  rw [View.read_apply]
  refine (out3_2_apply (iblk3 V c 0 t) (iblk3 V c 1 t) j).trans ?_
  exact block3 V c t j
/-- main_v3 after the call. -/
theorem final3_2 : (dat3 V c).arrAt 2 cfg3.N = tn (M := 2048) (K := 2048) (N := 2048) (V c main_arg0) (V c main_arg2) :=
  (dat3 V c).arrAt_eq_of_cover 2 _ (fun t _ => flushed3_2 V c t) fun i => by
    have h0 : (i 0).val < 2048 := (i 0).isLt
    have h1 : (i 1).val < 2048 := (i 1).isLt
    have hN : cfg3.N = 4 := N_3
    have ht : (i 0).val / 1024 * 2 + (i 1).val / 1024 < cfg3.N := by omega
    have q0 : win3_2.index ⟨_, ht⟩ 0 = ((i 0).val / 1024 * 2 + (i 1).val / 1024) / 2 := (index3 ⟨_, ht⟩).2.2.2.2.1
    have q1 : win3_2.index ⟨_, ht⟩ 1 = ((i 0).val / 1024 * 2 + (i 1).val / 1024) % 2 := (index3 ⟨_, ht⟩).2.2.2.2.2
    refine ⟨⟨_, ht⟩, flush3_2 _, ?_⟩
    show i ∈ ((View.whole main_v3).slice (win3_2.rect ⟨_, ht⟩)).set
    rw [View.set_slice_whole, Rect.mem_set_unit]
    intro a
    match a with
    | ⟨0, _⟩ =>
      show win3_2.index ⟨_, ht⟩ 0 * 1024 ≤ (i 0 : Nat) ∧ (i 0 : Nat) < win3_2.index ⟨_, ht⟩ 0 * 1024 + 1024
      rw [q0]; omega
    | ⟨1, _⟩ =>
      show win3_2.index ⟨_, ht⟩ 1 * 1024 ≤ (i 1 : Nat) ∧ (i 1 : Nat) < win3_2.index ⟨_, ht⟩ 1 * 1024 + 1024
      rw [q1]; omega

/-! ## mm_d_u -/

/-- Which blocks a point reads and writes. -/
theorem index4 : ∀ t : Fin grid4.N, win4_0.index t 0 = win4_2.index t 0
    ∧ win4_0.index t 1 = 0
    ∧ win4_1.index t 0 = win4_2.index t 1
    ∧ win4_1.index t 1 = 0
    ∧ win4_2.index t 0 = t.val / 2
    ∧ win4_2.index t 1 = t.val % 2 := by decide +kernel
/-- The block product the body forms at a point is that block of the whole product. -/
theorem block4 (t : Fin cfg4.N) (j : (Mat 1024 1024).Idx) : nt (M := 1024) (K := 2048) (N := 1024) (iblk4 V c 0 t) (iblk4 V c 1 t) j
    = nt (M := 2048) (K := 2048) (N := 2048) (V c main_arg5) (V c main_arg4) (((cfg4.win 2).blk t).view.emb j) := by
  refine nt_block j (((cfg4.win 2).blk t).view.emb j) (fun k => ?_) (fun k => ?_)
  · unfold iblk4
    rw [View.read_apply]
    refine congrArg (V c main_arg5) (funext fun a => Fin.ext ?_)
    match a with
    | ⟨0, _⟩ =>
      show win4_0.index t 0 * 1024 + 1 * (j 0).val = win4_2.index t 0 * 1024 + 1 * (j 0).val
      rw [(index4 t).1]
    | ⟨1, _⟩ =>
      show win4_0.index t 1 * 2048 + 1 * k.val = k.val
      rw [(index4 t).2.1]; omega
  · unfold iblk4
    rw [View.read_apply]
    refine congrArg (V c main_arg4) (funext fun a => Fin.ext ?_)
    match a with
    | ⟨0, _⟩ =>
      show win4_1.index t 0 * 1024 + 1 * (j 1).val = win4_2.index t 1 * 1024 + 1 * (j 1).val
      rw [(index4 t).2.2.1]
    | ⟨1, _⟩ =>
      show win4_1.index t 1 * 2048 + 1 * k.val = k.val
      rw [(index4 t).2.2.2.1]; omega

/-- What the body stores in window 2, at an element. -/
theorem pay4_2 (X : Vec Ideal S1024x2048 .bf16) (Y : Vec Ideal S1024x2048 .bf16) (j : S1024x1024.Idx) : (k4_pay1 X Y j : EReal) = nt (M := 1024) (K := 2048) (N := 1024) X Y j := by
  unfold k4_pay1 nt
  pointwise
theorem out4_2_apply (X : Vec Ideal S1024x2048 .bf16) (Y : Vec Ideal S1024x2048 .bf16) (j : S1024x1024.Idx) : (out4_2 X Y j : EReal) = nt (M := 1024) (K := 2048) (N := 1024) X Y j := by
  refine Eq.trans ?_ (pay4_2 X Y j)
  frame_out [k4_pay1]
/-- What a point writes back to main_v4. -/
theorem flushed4_2 (t : Fin cfg4.N) : (dat4 V c).flushed 2 t = ((cfg4.win 2).blk t).view.read (Elt Ideal) (nt (M := 2048) (K := 2048) (N := 2048) (V c main_arg5) (V c main_arg4)) := by
  show (cfg4.win 2).cut (grid4.coords t) ((dat4 V c).after 2 t) = _
  rw [after4_2]
  funext j
  rw [View.read_apply]
  refine (out4_2_apply (iblk4 V c 0 t) (iblk4 V c 1 t) j).trans ?_
  exact block4 V c t j
/-- main_v4 after the call. -/
theorem final4_2 : (dat4 V c).arrAt 2 cfg4.N = nt (M := 2048) (K := 2048) (N := 2048) (V c main_arg5) (V c main_arg4) :=
  (dat4 V c).arrAt_eq_of_cover 2 _ (fun t _ => flushed4_2 V c t) fun i => by
    have h0 : (i 0).val < 2048 := (i 0).isLt
    have h1 : (i 1).val < 2048 := (i 1).isLt
    have hN : cfg4.N = 4 := N_4
    have ht : (i 0).val / 1024 * 2 + (i 1).val / 1024 < cfg4.N := by omega
    have q0 : win4_2.index ⟨_, ht⟩ 0 = ((i 0).val / 1024 * 2 + (i 1).val / 1024) / 2 := (index4 ⟨_, ht⟩).2.2.2.2.1
    have q1 : win4_2.index ⟨_, ht⟩ 1 = ((i 0).val / 1024 * 2 + (i 1).val / 1024) % 2 := (index4 ⟨_, ht⟩).2.2.2.2.2
    refine ⟨⟨_, ht⟩, flush4_2 _, ?_⟩
    show i ∈ ((View.whole main_v4).slice (win4_2.rect ⟨_, ht⟩)).set
    rw [View.set_slice_whole, Rect.mem_set_unit]
    intro a
    match a with
    | ⟨0, _⟩ =>
      show win4_2.index ⟨_, ht⟩ 0 * 1024 ≤ (i 0 : Nat) ∧ (i 0 : Nat) < win4_2.index ⟨_, ht⟩ 0 * 1024 + 1024
      rw [q0]; omega
    | ⟨1, _⟩ =>
      show win4_2.index ⟨_, ht⟩ 1 * 1024 ≤ (i 1 : Nat) ∧ (i 1 : Nat) < win4_2.index ⟨_, ht⟩ 1 * 1024 + 1024
      rw [q1]; omega

/-! ## mm_g_o_rnn -/

/-- Which blocks a point reads and writes. -/
theorem index5 : ∀ t : Fin grid5.N, win5_0.index t 1 = win5_2.index t 0
    ∧ win5_0.index t 0 = 0
    ∧ win5_1.index t 1 = win5_2.index t 1
    ∧ win5_1.index t 0 = 0
    ∧ win5_2.index t 0 = t.val / 2
    ∧ win5_2.index t 1 = t.val % 2 := by decide +kernel
/-- The block product the body forms at a point is that block of the whole product. -/
theorem block5 (t : Fin cfg5.N) (j : (Mat 1024 1024).Idx) : tn (M := 1024) (K := 2048) (N := 1024) (iblk5 V c 0 t) (iblk5 V c 1 t) j
    = tn (M := 2048) (K := 2048) (N := 2048) (V c main_arg3) (V c main_arg5) (((cfg5.win 2).blk t).view.emb j) := by
  refine tn_block j (((cfg5.win 2).blk t).view.emb j) (fun k => ?_) (fun k => ?_)
  · unfold iblk5
    rw [View.read_apply]
    refine congrArg (V c main_arg3) (funext fun a => Fin.ext ?_)
    match a with
    | ⟨0, _⟩ =>
      show win5_0.index t 0 * 2048 + 1 * k.val = k.val
      rw [(index5 t).2.1]; omega
    | ⟨1, _⟩ =>
      show win5_0.index t 1 * 1024 + 1 * (j 0).val = win5_2.index t 0 * 1024 + 1 * (j 0).val
      rw [(index5 t).1]
  · unfold iblk5
    rw [View.read_apply]
    refine congrArg (V c main_arg5) (funext fun a => Fin.ext ?_)
    match a with
    | ⟨0, _⟩ =>
      show win5_1.index t 0 * 2048 + 1 * k.val = k.val
      rw [(index5 t).2.2.2.1]; omega
    | ⟨1, _⟩ =>
      show win5_1.index t 1 * 1024 + 1 * (j 1).val = win5_2.index t 1 * 1024 + 1 * (j 1).val
      rw [(index5 t).2.2.1]

/-- What the body stores in window 2, at an element. -/
theorem pay5_2 (X : Vec Ideal S2048x1024 .bf16) (Y : Vec Ideal S2048x1024 .bf16) (j : S1024x1024.Idx) : (k5_pay1 X Y j : EReal) = tn (M := 1024) (K := 2048) (N := 1024) X Y j := by
  unfold k5_pay1 tn
  pointwise
theorem out5_2_apply (X : Vec Ideal S2048x1024 .bf16) (Y : Vec Ideal S2048x1024 .bf16) (j : S1024x1024.Idx) : (out5_2 X Y j : EReal) = tn (M := 1024) (K := 2048) (N := 1024) X Y j := by
  refine Eq.trans ?_ (pay5_2 X Y j)
  frame_out [k5_pay1]
/-- What a point writes back to main_v5. -/
theorem flushed5_2 (t : Fin cfg5.N) : (dat5 V c).flushed 2 t = ((cfg5.win 2).blk t).view.read (Elt Ideal) (tn (M := 2048) (K := 2048) (N := 2048) (V c main_arg3) (V c main_arg5)) := by
  show (cfg5.win 2).cut (grid5.coords t) ((dat5 V c).after 2 t) = _
  rw [after5_2]
  funext j
  rw [View.read_apply]
  refine (out5_2_apply (iblk5 V c 0 t) (iblk5 V c 1 t) j).trans ?_
  exact block5 V c t j
/-- main_v5 after the call. -/
theorem final5_2 : (dat5 V c).arrAt 2 cfg5.N = tn (M := 2048) (K := 2048) (N := 2048) (V c main_arg3) (V c main_arg5) :=
  (dat5 V c).arrAt_eq_of_cover 2 _ (fun t _ => flushed5_2 V c t) fun i => by
    have h0 : (i 0).val < 2048 := (i 0).isLt
    have h1 : (i 1).val < 2048 := (i 1).isLt
    have hN : cfg5.N = 4 := N_5
    have ht : (i 0).val / 1024 * 2 + (i 1).val / 1024 < cfg5.N := by omega
    have q0 : win5_2.index ⟨_, ht⟩ 0 = ((i 0).val / 1024 * 2 + (i 1).val / 1024) / 2 := (index5 ⟨_, ht⟩).2.2.2.2.1
    have q1 : win5_2.index ⟨_, ht⟩ 1 = ((i 0).val / 1024 * 2 + (i 1).val / 1024) % 2 := (index5 ⟨_, ht⟩).2.2.2.2.2
    refine ⟨⟨_, ht⟩, flush5_2 _, ?_⟩
    show i ∈ ((View.whole main_v5).slice (win5_2.rect ⟨_, ht⟩)).set
    rw [View.set_slice_whole, Rect.mem_set_unit]
    intro a
    match a with
    | ⟨0, _⟩ =>
      show win5_2.index ⟨_, ht⟩ 0 * 1024 ≤ (i 0 : Nat) ∧ (i 0 : Nat) < win5_2.index ⟨_, ht⟩ 0 * 1024 + 1024
      rw [q0]; omega
    | ⟨1, _⟩ =>
      show win5_2.index ⟨_, ht⟩ 1 * 1024 ≤ (i 1 : Nat) ∧ (i 1 : Nat) < win5_2.index ⟨_, ht⟩ 1 * 1024 + 1024
      rw [q1]; omega

end Regions

variable (m : (ℓ : Loc nD τ sig) → Buf (Elt Ideal) ℓ) (ρ : Dev nD → PrngReg) (c : Dev nD)

/-- The gradients of the three projections. -/
abbrev dMrg := nt (M := 2048) (K := 2048) (N := 2048) (m ((c : Thread nD τ).loc main_arg8)) (m ((c : Thread nD τ).loc main_arg7))
abbrev gOut := tn (M := 2048) (K := 2048) (N := 2048) (m ((c : Thread nD τ).loc main_arg6)) (m ((c : Thread nD τ).loc main_arg8))
abbrev dO := nt (M := 2048) (K := 2048) (N := 2048) (m ((c : Thread nD τ).loc main_arg2)) (m ((c : Thread nD τ).loc main_arg1))
abbrev gOAttn := tn (M := 2048) (K := 2048) (N := 2048) (m ((c : Thread nD τ).loc main_arg0)) (m ((c : Thread nD τ).loc main_arg2))
abbrev dU := nt (M := 2048) (K := 2048) (N := 2048) (m ((c : Thread nD τ).loc main_arg5)) (m ((c : Thread nD τ).loc main_arg4))
abbrev gORnn := tn (M := 2048) (K := 2048) (N := 2048) (m ((c : Thread nD τ).loc main_arg3)) (m ((c : Thread nD τ).loc main_arg5))

theorem dMrg_end : W6 m ρ c (Proc.devRef .tc main_v0) = dMrg m c :=
  (W6_of m ρ c main_v0 (by decide)).trans ((W5_of m ρ c main_v0 (by decide)).trans ((W4_of m ρ c main_v0 (by decide)).trans ((W3_of m ρ c main_v0 (by decide)).trans ((W2_of m ρ c main_v0 (by decide)).trans (((W1_arr m ρ c 2).trans (final0_2 (V0 m ρ) c)).trans
    (congrArg₂ (nt (M := 2048) (K := 2048) (N := 2048)) (W0_args m ρ c main_arg8 (by decide)) (W0_args m ρ c main_arg7 (by decide))))))))
theorem gOut_end : W6 m ρ c (Proc.devRef .tc main_v1) = gOut m c :=
  (W6_of m ρ c main_v1 (by decide)).trans ((W5_of m ρ c main_v1 (by decide)).trans ((W4_of m ρ c main_v1 (by decide)).trans ((W3_of m ρ c main_v1 (by decide)).trans (((W2_arr m ρ c 2).trans (final1_2 (V1 m ρ) c)).trans
    (congrArg₂ (tn (M := 2048) (K := 2048) (N := 2048)) (W1_args m ρ c main_arg6 (by decide)) (W1_args m ρ c main_arg8 (by decide)))))))
theorem dO_end : W6 m ρ c (Proc.devRef .tc main_v2) = dO m c :=
  (W6_of m ρ c main_v2 (by decide)).trans ((W5_of m ρ c main_v2 (by decide)).trans ((W4_of m ρ c main_v2 (by decide)).trans (((W3_arr m ρ c 2).trans (final2_2 (V2 m ρ) c)).trans
    (congrArg₂ (nt (M := 2048) (K := 2048) (N := 2048)) (W2_args m ρ c main_arg2 (by decide)) (W2_args m ρ c main_arg1 (by decide))))))
theorem gOAttn_end : W6 m ρ c (Proc.devRef .tc main_v3) = gOAttn m c :=
  (W6_of m ρ c main_v3 (by decide)).trans ((W5_of m ρ c main_v3 (by decide)).trans (((W4_arr m ρ c 2).trans (final3_2 (V3 m ρ) c)).trans
    (congrArg₂ (tn (M := 2048) (K := 2048) (N := 2048)) (W3_args m ρ c main_arg0 (by decide)) (W3_args m ρ c main_arg2 (by decide)))))
theorem dU_end : W6 m ρ c (Proc.devRef .tc main_v4) = dU m c :=
  (W6_of m ρ c main_v4 (by decide)).trans (((W5_arr m ρ c 2).trans (final4_2 (V4 m ρ) c)).trans
    (congrArg₂ (nt (M := 2048) (K := 2048) (N := 2048)) (W4_args m ρ c main_arg5 (by decide)) (W4_args m ρ c main_arg4 (by decide))))
theorem gORnn_end : W6 m ρ c (Proc.devRef .tc main_v5) = gORnn m c :=
  ((W6_arr m ρ c 2).trans (final5_2 (V5 m ρ) c)).trans
    (congrArg₂ (tn (M := 2048) (K := 2048) (N := 2048)) (W5_args m ρ c main_arg3 (by decide)) (W5_args m ρ c main_arg5 (by decide)))

local notation "𝕄" => MT nD τ sig Unit (Elt Ideal) ℕ (UR sig nD τ) ℕ

set_option backward.isDefEq.respectTransparency.types false in
/-- From any memory with zero counters: the program ends with its results at the products named above, its arguments
    unchanged and every counter at zero. -/
theorem run : θ_run defs (onTc (τ := τ) (main (F := Ideal))) ⟨m, fun _ => 0, ρ⟩ (fun r => (∀ c : Dev nD,
      r.2.mem ((c.tc : Thread nD τ).loc main_v2) = dO m c
      ∧ r.2.mem ((c.tc : Thread nD τ).loc main_v3) = gOAttn m c
      ∧ r.2.mem ((c.tc : Thread nD τ).loc main_v4) = dU m c
      ∧ r.2.mem ((c.tc : Thread nD τ).loc main_v5) = gORnn m c
      ∧ r.2.mem ((c.tc : Thread nD τ).loc main_v0) = dMrg m c
      ∧ r.2.mem ((c.tc : Thread nD τ).loc main_v1) = gOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨(h c _ (mem_uc main_v2 (by decide))).trans (dO_end m ρ c),
       (h c _ (mem_uc main_v3 (by decide))).trans (gOAttn_end m ρ c),
       (h c _ (mem_uc main_v4 (by decide))).trans (dU_end m ρ c),
       (h c _ (mem_uc main_v5 (by decide))).trans (gORnn_end m ρ c),
       (h c _ (mem_uc main_v0 (by decide))).trans (dMrg_end m ρ c),
       (h c _ (mem_uc main_v1 (by decide))).trans (gOut_end m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩), funext fun g => hz g (.inr (no_unscoped g.2))⟩)

end Cert.Kernel4Ideal.Products

end
-- ==== Proof.Products.InGrad.lean ====
/- The weight gradient of the input projection, in two halves. -/
module
public import proofs.«01_k».proof.Proof.Gen.Kernel5Ideal.Frame
public import proofs.«01_k».proof.Proof.Products.Prod
public import Idealize.ShloMosaic.Lib.Pipeline.Value
public import Idealize.ShloMosaic.Lib.Pipeline.ValueKit
public import Idealize.ShloMosaic.Lib.Pointwise

@[expose] public section

set_option maxRecDepth 16384

noncomputable section

namespace Cert.Kernel5Ideal.Products

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.Kernel5Ideal Cert.Kernel5Ideal.Gen Cert.Prod

section Regions
-- the buffers' contents when a call starts
variable (V : (c : Dev nD) → (b : Ref sig .tc) → Buf (Elt Ideal) ((c : Thread nD τ).loc b)) (c : Dev nD)

/-! ## mm_g_in_sibling -/

/-- Which blocks a point reads and writes. -/
theorem index0 : ∀ t : Fin grid0.N, win0_0.index t 1 = win0_2.index t 0
    ∧ win0_0.index t 0 = 0
    ∧ win0_1.index t 1 = win0_2.index t 1
    ∧ win0_1.index t 0 = 0
    ∧ win0_2.index t 0 = t.val / 11
    ∧ win0_2.index t 1 = t.val % 11 := by decide +kernel
/-- The block product the body forms at a point is that block of the whole product. -/
theorem block0 (t : Fin cfg0.N) (j : (Mat 1024 1024).Idx) : tn (M := 1024) (K := 2304) (N := 1024) (iblk0 V c 0 t) (iblk0 V c 1 t) j
    = tn (M := 1024) (K := 2304) (N := 11264) (V c main_v0) (V c main_arg1) (((cfg0.win 2).blk t).view.emb j) := by
  refine tn_block j (((cfg0.win 2).blk t).view.emb j) (fun k => ?_) (fun k => ?_)
  · unfold iblk0
    rw [View.read_apply]
    refine congrArg (V c main_v0) (funext fun a => Fin.ext ?_)
    match a with
    | ⟨0, _⟩ =>
      show win0_0.index t 0 * 2304 + 1 * k.val = k.val
      rw [(index0 t).2.1]; omega
    | ⟨1, _⟩ =>
      show win0_0.index t 1 * 1024 + 1 * (j 0).val = win0_2.index t 0 * 1024 + 1 * (j 0).val
      rw [(index0 t).1]
  · unfold iblk0
    rw [View.read_apply]
    refine congrArg (V c main_arg1) (funext fun a => Fin.ext ?_)
    match a with
    | ⟨0, _⟩ =>
      show win0_1.index t 0 * 2304 + 1 * k.val = k.val
      rw [(index0 t).2.2.2.1]; omega
    | ⟨1, _⟩ =>
      show win0_1.index t 1 * 1024 + 1 * (j 1).val = win0_2.index t 1 * 1024 + 1 * (j 1).val
      rw [(index0 t).2.2.1]

/-- What the body stores in window 2, at an element. -/
theorem pay0_2 (X : Vec Ideal S2304x1024 .bf16) (Y : Vec Ideal S2304x1024 .bf16) (j : S1024x1024.Idx) : (k0_pay1 X Y j : EReal) = tn (M := 1024) (K := 2304) (N := 1024) X Y j := by
  unfold k0_pay1 tn
  pointwise
theorem out0_2_apply (X : Vec Ideal S2304x1024 .bf16) (Y : Vec Ideal S2304x1024 .bf16) (j : S1024x1024.Idx) : (out0_2 X Y j : EReal) = tn (M := 1024) (K := 2304) (N := 1024) X Y j := by
  refine Eq.trans ?_ (pay0_2 X Y j)
  frame_out [k0_pay1]
/-- What a point writes back to main_v1. -/
theorem flushed0_2 (t : Fin cfg0.N) : (dat0 V c).flushed 2 t = ((cfg0.win 2).blk t).view.read (Elt Ideal) (tn (M := 1024) (K := 2304) (N := 11264) (V c main_v0) (V c main_arg1)) := by
  show (cfg0.win 2).cut (grid0.coords t) ((dat0 V c).after 2 t) = _
  rw [after0_2]
  funext j
  rw [View.read_apply]
  refine (out0_2_apply (iblk0 V c 0 t) (iblk0 V c 1 t) j).trans ?_
  exact block0 V c t j
/-- main_v1 after the call. -/
theorem final0_2 : (dat0 V c).arrAt 2 cfg0.N = tn (M := 1024) (K := 2304) (N := 11264) (V c main_v0) (V c main_arg1) :=
  (dat0 V c).arrAt_eq_of_cover 2 _ (fun t _ => flushed0_2 V c t) fun i => by
    have h0 : (i 0).val < 1024 := (i 0).isLt
    have h1 : (i 1).val < 11264 := (i 1).isLt
    have hN : cfg0.N = 11 := N_0
    have ht : (i 0).val / 1024 * 11 + (i 1).val / 1024 < cfg0.N := by omega
    have q0 : win0_2.index ⟨_, ht⟩ 0 = ((i 0).val / 1024 * 11 + (i 1).val / 1024) / 11 := (index0 ⟨_, ht⟩).2.2.2.2.1
    have q1 : win0_2.index ⟨_, ht⟩ 1 = ((i 0).val / 1024 * 11 + (i 1).val / 1024) % 11 := (index0 ⟨_, ht⟩).2.2.2.2.2
    refine ⟨⟨_, ht⟩, flush0_2 _, ?_⟩
    show i ∈ ((View.whole main_v1).slice (win0_2.rect ⟨_, ht⟩)).set
    rw [View.set_slice_whole, Rect.mem_set_unit]
    intro a
    match a with
    | ⟨0, _⟩ =>
      show win0_2.index ⟨_, ht⟩ 0 * 1024 ≤ (i 0 : Nat) ∧ (i 0 : Nat) < win0_2.index ⟨_, ht⟩ 0 * 1024 + 1024
      rw [q0]; omega
    | ⟨1, _⟩ =>
      show win0_2.index ⟨_, ht⟩ 1 * 1024 ≤ (i 1 : Nat) ∧ (i 1 : Nat) < win0_2.index ⟨_, ht⟩ 1 * 1024 + 1024
      rw [q1]; omega

/-! ## mm_g_in_own -/

/-- Which blocks a point reads and writes. -/
theorem index1 : ∀ t : Fin grid1.N, win1_0.index t 1 = win1_2.index t 0
    ∧ win1_0.index t 0 = 0
    ∧ win1_1.index t 1 = win1_2.index t 1
    ∧ win1_1.index t 0 = 0
    ∧ win1_2.index t 0 = t.val / 11
    ∧ win1_2.index t 1 = t.val % 11 := by decide +kernel
/-- The block product the body forms at a point is that block of the whole product. -/
theorem block1 (t : Fin cfg1.N) (j : (Mat 1024 1024).Idx) : tn (M := 1024) (K := 2304) (N := 1024) (iblk1 V c 0 t) (iblk1 V c 1 t) j
    = tn (M := 1024) (K := 2304) (N := 11264) (V c main_v2) (V c main_arg1) (((cfg1.win 2).blk t).view.emb j) := by
  refine tn_block j (((cfg1.win 2).blk t).view.emb j) (fun k => ?_) (fun k => ?_)
  · unfold iblk1
    rw [View.read_apply]
    refine congrArg (V c main_v2) (funext fun a => Fin.ext ?_)
    match a with
    | ⟨0, _⟩ =>
      show win1_0.index t 0 * 2304 + 1 * k.val = k.val
      rw [(index1 t).2.1]; omega
    | ⟨1, _⟩ =>
      show win1_0.index t 1 * 1024 + 1 * (j 0).val = win1_2.index t 0 * 1024 + 1 * (j 0).val
      rw [(index1 t).1]
  · unfold iblk1
    rw [View.read_apply]
    refine congrArg (V c main_arg1) (funext fun a => Fin.ext ?_)
    match a with
    | ⟨0, _⟩ =>
      show win1_1.index t 0 * 2304 + 1 * k.val = k.val
      rw [(index1 t).2.2.2.1]; omega
    | ⟨1, _⟩ =>
      show win1_1.index t 1 * 1024 + 1 * (j 1).val = win1_2.index t 1 * 1024 + 1 * (j 1).val
      rw [(index1 t).2.2.1]

/-- What the body stores in window 2, at an element. -/
theorem pay1_2 (X : Vec Ideal S2304x1024 .bf16) (Y : Vec Ideal S2304x1024 .bf16) (j : S1024x1024.Idx) : (k1_pay1 X Y j : EReal) = tn (M := 1024) (K := 2304) (N := 1024) X Y j := by
  unfold k1_pay1 tn
  pointwise
theorem out1_2_apply (X : Vec Ideal S2304x1024 .bf16) (Y : Vec Ideal S2304x1024 .bf16) (j : S1024x1024.Idx) : (out1_2 X Y j : EReal) = tn (M := 1024) (K := 2304) (N := 1024) X Y j := by
  refine Eq.trans ?_ (pay1_2 X Y j)
  frame_out [k1_pay1]
/-- What a point writes back to main_v3. -/
theorem flushed1_2 (t : Fin cfg1.N) : (dat1 V c).flushed 2 t = ((cfg1.win 2).blk t).view.read (Elt Ideal) (tn (M := 1024) (K := 2304) (N := 11264) (V c main_v2) (V c main_arg1)) := by
  show (cfg1.win 2).cut (grid1.coords t) ((dat1 V c).after 2 t) = _
  rw [after1_2]
  funext j
  rw [View.read_apply]
  refine (out1_2_apply (iblk1 V c 0 t) (iblk1 V c 1 t) j).trans ?_
  exact block1 V c t j
/-- main_v3 after the call. -/
theorem final1_2 : (dat1 V c).arrAt 2 cfg1.N = tn (M := 1024) (K := 2304) (N := 11264) (V c main_v2) (V c main_arg1) :=
  (dat1 V c).arrAt_eq_of_cover 2 _ (fun t _ => flushed1_2 V c t) fun i => by
    have h0 : (i 0).val < 1024 := (i 0).isLt
    have h1 : (i 1).val < 11264 := (i 1).isLt
    have hN : cfg1.N = 11 := N_1
    have ht : (i 0).val / 1024 * 11 + (i 1).val / 1024 < cfg1.N := by omega
    have q0 : win1_2.index ⟨_, ht⟩ 0 = ((i 0).val / 1024 * 11 + (i 1).val / 1024) / 11 := (index1 ⟨_, ht⟩).2.2.2.2.1
    have q1 : win1_2.index ⟨_, ht⟩ 1 = ((i 0).val / 1024 * 11 + (i 1).val / 1024) % 11 := (index1 ⟨_, ht⟩).2.2.2.2.2
    refine ⟨⟨_, ht⟩, flush1_2 _, ?_⟩
    show i ∈ ((View.whole main_v3).slice (win1_2.rect ⟨_, ht⟩)).set
    rw [View.set_slice_whole, Rect.mem_set_unit]
    intro a
    match a with
    | ⟨0, _⟩ =>
      show win1_2.index ⟨_, ht⟩ 0 * 1024 ≤ (i 0 : Nat) ∧ (i 0 : Nat) < win1_2.index ⟨_, ht⟩ 0 * 1024 + 1024
      rw [q0]; omega
    | ⟨1, _⟩ =>
      show win1_2.index ⟨_, ht⟩ 1 * 1024 ≤ (i 1 : Nat) ∧ (i 1 : Nat) < win1_2.index ⟨_, ht⟩ 1 * 1024 + 1024
      rw [q1]; omega

end Regions

variable (m : (ℓ : Loc nD τ sig) → Buf (Elt Ideal) ℓ) (ρ : Dev nD → PrngReg) (c : Dev nD)

/-- The two halves of the columns of the layer's input, and the halves of the weight gradient they give. -/
abbrev right : (Mat 2304 1024).Idx → EReal := extractStridedSlice S2304x1024 ![0, 1024] (show Vec Ideal S2304x2048 .bf16 from (m ((c : Thread nD τ).loc main_arg0))) slices_S2304x2048_S2304x1024_0_1024
abbrev left : (Mat 2304 1024).Idx → EReal := extractStridedSlice S2304x1024 ![0, 0] (show Vec Ideal S2304x2048 .bf16 from (m ((c : Thread nD τ).loc main_arg0))) slices_S2304x2048_S2304x1024_0_0
abbrev gSibling := tn (M := 1024) (K := 2304) (N := 11264) (right m c) (m ((c : Thread nD τ).loc main_arg1))
abbrev gOwn := tn (M := 1024) (K := 2304) (N := 11264) (left m c) (m ((c : Thread nD τ).loc main_arg1))

theorem right_at1 : W1 m ρ c (Proc.devRef .tc main_v0) = right m c := by
  show StableHlo.after hostOps0 (W0 m ρ c) (Proc.devRef .tc main_v0) = _
  after_results
theorem left_at3 : W3 m ρ c (Proc.devRef .tc main_v2) = left m c := by
  have e : W2 m ρ c (Proc.devRef .tc main_arg0) = (m ((c : Thread nD τ).loc main_arg0)) := W2_args m ρ c main_arg0 (by decide)
  show StableHlo.after hostOps1 (W2 m ρ c) (Proc.devRef .tc main_v2) = _
  unfold left
  rw [← e]
  after_results
theorem gSibling_end : W4 m ρ c (Proc.devRef .tc main_v1) = gSibling m c :=
  (W4_of m ρ c main_v1 (by decide)).trans ((W3_of m ρ c main_v1 (by decide)).trans (((W2_arr m ρ c 2).trans (final0_2 (V1 m ρ) c)).trans
    (congrArg₂ (tn (M := 1024) (K := 2304) (N := 11264)) (right_at1 m ρ c) (W1_args m ρ c main_arg1 (by decide)))))
theorem gOwn_end : W4 m ρ c (Proc.devRef .tc main_v3) = gOwn m c :=
  ((W4_arr m ρ c 2).trans (final1_2 (V3 m ρ) c)).trans
    (congrArg₂ (tn (M := 1024) (K := 2304) (N := 11264)) (left_at3 m ρ c) (W3_args m ρ c main_arg1 (by decide)))

local notation "𝕄" => MT nD τ sig Unit (Elt Ideal) ℕ (UR sig nD τ) ℕ

set_option backward.isDefEq.respectTransparency.types false in
/-- From any memory with zero counters: the program ends with its results at the products named above, its arguments
    unchanged and every counter at zero. -/
theorem run : θ_run defs (onTc (τ := τ) (main (F := Ideal))) ⟨m, fun _ => 0, ρ⟩ (fun r => (∀ c : Dev nD,
      r.2.mem ((c.tc : Thread nD τ).loc main_v3) = gOwn m c
      ∧ r.2.mem ((c.tc : Thread nD τ).loc main_v1) = gSibling m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_v3 (by decide))).trans (gOwn_end m ρ c),
       (h c _ (mem_uc main_v1 (by decide))).trans (gSibling_end m ρ c),
       (h c _ (mem_uc main_arg0 (by decide))).trans (W4_main_arg0 m ρ c),
       (h c _ (mem_uc main_arg1 (by decide))).trans (W4_main_arg1 m ρ c)⟩), funext fun g => hz g (.inr (no_unscoped g.2))⟩)

end Cert.Kernel5Ideal.Products

end
-- ==== Proof.Products.Forward.lean ====
/- The input projection and a square projection. -/
module
public import proofs.«01_k».proof.Proof.Gen.Kernel6Ideal.Frame
public import proofs.«01_k».proof.Proof.Products.Prod
public import Idealize.ShloMosaic.Lib.Pipeline.Value
public import Idealize.ShloMosaic.Lib.Pipeline.ValueKit
public import Idealize.ShloMosaic.Lib.Pointwise

@[expose] public section

set_option maxRecDepth 16384

noncomputable section

namespace Cert.Kernel6Ideal.Products

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.Kernel6Ideal Cert.Kernel6Ideal.Gen Cert.Prod

section Regions
-- the buffers' contents when a call starts
variable (V : (c : Dev nD) → (b : Ref sig .tc) → Buf (Elt Ideal) ((c : Thread nD τ).loc b)) (c : Dev nD)

/-! ## mm_in -/

/-- Which blocks a point reads and writes. -/
theorem index0 : ∀ t : Fin grid0.N, win0_0.index t 0 = win0_2.index t 0
    ∧ win0_0.index t 1 = 0
    ∧ win0_1.index t 1 = win0_2.index t 1
    ∧ win0_1.index t 0 = 0
    ∧ win0_2.index t 0 = t.val / 11
    ∧ win0_2.index t 1 = t.val % 11 := by decide +kernel
/-- The block product the body forms at a point is that block of the whole product. -/
theorem block0 (t : Fin cfg0.N) (j : (Mat 768 1024).Idx) : nn (M := 768) (K := 2048) (N := 1024) (iblk0 V c 0 t) (iblk0 V c 1 t) j
    = nn (M := 2304) (K := 2048) (N := 11264) (V c main_arg0) (V c main_arg1) (((cfg0.win 2).blk t).view.emb j) := by
  refine nn_block j (((cfg0.win 2).blk t).view.emb j) (fun k => ?_) (fun k => ?_)
  · unfold iblk0
    rw [View.read_apply]
    refine congrArg (V c main_arg0) (funext fun a => Fin.ext ?_)
    match a with
    | ⟨0, _⟩ =>
      show win0_0.index t 0 * 768 + 1 * (j 0).val = win0_2.index t 0 * 768 + 1 * (j 0).val
      rw [(index0 t).1]
    | ⟨1, _⟩ =>
      show win0_0.index t 1 * 2048 + 1 * k.val = k.val
      rw [(index0 t).2.1]; omega
  · unfold iblk0
    rw [View.read_apply]
    refine congrArg (V c main_arg1) (funext fun a => Fin.ext ?_)
    match a with
    | ⟨0, _⟩ =>
      show win0_1.index t 0 * 2048 + 1 * k.val = k.val
      rw [(index0 t).2.2.2.1]; omega
    | ⟨1, _⟩ =>
      show win0_1.index t 1 * 1024 + 1 * (j 1).val = win0_2.index t 1 * 1024 + 1 * (j 1).val
      rw [(index0 t).2.2.1]

/-- What the body stores in window 2, at an element. -/
theorem pay0_2 (X : Vec Ideal S768x2048 .bf16) (Y : Vec Ideal S2048x1024 .bf16) (j : S768x1024.Idx) : (k0_pay1 X Y j : EReal) = nn (M := 768) (K := 2048) (N := 1024) X Y j := by
  unfold k0_pay1 nn
  pointwise
theorem out0_2_apply (X : Vec Ideal S768x2048 .bf16) (Y : Vec Ideal S2048x1024 .bf16) (j : S768x1024.Idx) : (out0_2 X Y j : EReal) = nn (M := 768) (K := 2048) (N := 1024) X Y j := by
  refine Eq.trans ?_ (pay0_2 X Y j)
  frame_out [k0_pay1]
/-- What a point writes back to main_v0. -/
theorem flushed0_2 (t : Fin cfg0.N) : (dat0 V c).flushed 2 t = ((cfg0.win 2).blk t).view.read (Elt Ideal) (nn (M := 2304) (K := 2048) (N := 11264) (V c main_arg0) (V c main_arg1)) := by
  show (cfg0.win 2).cut (grid0.coords t) ((dat0 V c).after 2 t) = _
  rw [after0_2]
  funext j
  rw [View.read_apply]
  refine (out0_2_apply (iblk0 V c 0 t) (iblk0 V c 1 t) j).trans ?_
  exact block0 V c t j
/-- main_v0 after the call. -/
theorem final0_2 : (dat0 V c).arrAt 2 cfg0.N = nn (M := 2304) (K := 2048) (N := 11264) (V c main_arg0) (V c main_arg1) :=
  (dat0 V c).arrAt_eq_of_cover 2 _ (fun t _ => flushed0_2 V c t) fun i => by
    have h0 : (i 0).val < 2304 := (i 0).isLt
    have h1 : (i 1).val < 11264 := (i 1).isLt
    have hN : cfg0.N = 33 := N_0
    have ht : (i 0).val / 768 * 11 + (i 1).val / 1024 < cfg0.N := by omega
    have q0 : win0_2.index ⟨_, ht⟩ 0 = ((i 0).val / 768 * 11 + (i 1).val / 1024) / 11 := (index0 ⟨_, ht⟩).2.2.2.2.1
    have q1 : win0_2.index ⟨_, ht⟩ 1 = ((i 0).val / 768 * 11 + (i 1).val / 1024) % 11 := (index0 ⟨_, ht⟩).2.2.2.2.2
    refine ⟨⟨_, ht⟩, flush0_2 _, ?_⟩
    show i ∈ ((View.whole main_v0).slice (win0_2.rect ⟨_, ht⟩)).set
    rw [View.set_slice_whole, Rect.mem_set_unit]
    intro a
    match a with
    | ⟨0, _⟩ =>
      show win0_2.index ⟨_, ht⟩ 0 * 768 ≤ (i 0 : Nat) ∧ (i 0 : Nat) < win0_2.index ⟨_, ht⟩ 0 * 768 + 768
      rw [q0]; omega
    | ⟨1, _⟩ =>
      show win0_2.index ⟨_, ht⟩ 1 * 1024 ≤ (i 1 : Nat) ∧ (i 1 : Nat) < win0_2.index ⟨_, ht⟩ 1 * 1024 + 1024
      rw [q1]; omega

/-! ## mm_o_attn -/

/-- Which blocks a point reads and writes. -/
theorem index1 : ∀ t : Fin grid1.N, win1_0.index t 0 = win1_2.index t 0
    ∧ win1_0.index t 1 = 0
    ∧ win1_1.index t 1 = win1_2.index t 1
    ∧ win1_1.index t 0 = 0
    ∧ win1_2.index t 0 = t.val / 2
    ∧ win1_2.index t 1 = t.val % 2 := by decide +kernel
/-- The block product the body forms at a point is that block of the whole product. -/
theorem block1 (t : Fin cfg1.N) (j : (Mat 1024 1024).Idx) : nn (M := 1024) (K := 2048) (N := 1024) (iblk1 V c 0 t) (iblk1 V c 1 t) j
    = nn (M := 2048) (K := 2048) (N := 2048) (V c main_arg2) (V c main_arg3) (((cfg1.win 2).blk t).view.emb j) := by
  refine nn_block j (((cfg1.win 2).blk t).view.emb j) (fun k => ?_) (fun k => ?_)
  · unfold iblk1
    rw [View.read_apply]
    refine congrArg (V c main_arg2) (funext fun a => Fin.ext ?_)
    match a with
    | ⟨0, _⟩ =>
      show win1_0.index t 0 * 1024 + 1 * (j 0).val = win1_2.index t 0 * 1024 + 1 * (j 0).val
      rw [(index1 t).1]
    | ⟨1, _⟩ =>
      show win1_0.index t 1 * 2048 + 1 * k.val = k.val
      rw [(index1 t).2.1]; omega
  · unfold iblk1
    rw [View.read_apply]
    refine congrArg (V c main_arg3) (funext fun a => Fin.ext ?_)
    match a with
    | ⟨0, _⟩ =>
      show win1_1.index t 0 * 2048 + 1 * k.val = k.val
      rw [(index1 t).2.2.2.1]; omega
    | ⟨1, _⟩ =>
      show win1_1.index t 1 * 1024 + 1 * (j 1).val = win1_2.index t 1 * 1024 + 1 * (j 1).val
      rw [(index1 t).2.2.1]

/-- What the body stores in window 2, at an element. -/
theorem pay1_2 (X : Vec Ideal S1024x2048 .bf16) (Y : Vec Ideal S2048x1024 .bf16) (j : S1024x1024.Idx) : (k1_pay1 X Y j : EReal) = nn (M := 1024) (K := 2048) (N := 1024) X Y j := by
  unfold k1_pay1 nn
  pointwise
theorem out1_2_apply (X : Vec Ideal S1024x2048 .bf16) (Y : Vec Ideal S2048x1024 .bf16) (j : S1024x1024.Idx) : (out1_2 X Y j : EReal) = nn (M := 1024) (K := 2048) (N := 1024) X Y j := by
  refine Eq.trans ?_ (pay1_2 X Y j)
  frame_out [k1_pay1]
/-- What a point writes back to main_v1. -/
theorem flushed1_2 (t : Fin cfg1.N) : (dat1 V c).flushed 2 t = ((cfg1.win 2).blk t).view.read (Elt Ideal) (nn (M := 2048) (K := 2048) (N := 2048) (V c main_arg2) (V c main_arg3)) := by
  show (cfg1.win 2).cut (grid1.coords t) ((dat1 V c).after 2 t) = _
  rw [after1_2]
  funext j
  rw [View.read_apply]
  refine (out1_2_apply (iblk1 V c 0 t) (iblk1 V c 1 t) j).trans ?_
  exact block1 V c t j
/-- main_v1 after the call. -/
theorem final1_2 : (dat1 V c).arrAt 2 cfg1.N = nn (M := 2048) (K := 2048) (N := 2048) (V c main_arg2) (V c main_arg3) :=
  (dat1 V c).arrAt_eq_of_cover 2 _ (fun t _ => flushed1_2 V c t) fun i => by
    have h0 : (i 0).val < 2048 := (i 0).isLt
    have h1 : (i 1).val < 2048 := (i 1).isLt
    have hN : cfg1.N = 4 := N_1
    have ht : (i 0).val / 1024 * 2 + (i 1).val / 1024 < cfg1.N := by omega
    have q0 : win1_2.index ⟨_, ht⟩ 0 = ((i 0).val / 1024 * 2 + (i 1).val / 1024) / 2 := (index1 ⟨_, ht⟩).2.2.2.2.1
    have q1 : win1_2.index ⟨_, ht⟩ 1 = ((i 0).val / 1024 * 2 + (i 1).val / 1024) % 2 := (index1 ⟨_, ht⟩).2.2.2.2.2
    refine ⟨⟨_, ht⟩, flush1_2 _, ?_⟩
    show i ∈ ((View.whole main_v1).slice (win1_2.rect ⟨_, ht⟩)).set
    rw [View.set_slice_whole, Rect.mem_set_unit]
    intro a
    match a with
    | ⟨0, _⟩ =>
      show win1_2.index ⟨_, ht⟩ 0 * 1024 ≤ (i 0 : Nat) ∧ (i 0 : Nat) < win1_2.index ⟨_, ht⟩ 0 * 1024 + 1024
      rw [q0]; omega
    | ⟨1, _⟩ =>
      show win1_2.index ⟨_, ht⟩ 1 * 1024 ≤ (i 1 : Nat) ∧ (i 1 : Nat) < win1_2.index ⟨_, ht⟩ 1 * 1024 + 1024
      rw [q1]; omega

end Regions

variable (m : (ℓ : Loc nD τ sig) → Buf (Elt Ideal) ℓ) (ρ : Dev nD → PrngReg) (c : Dev nD)

/-- The two projections. -/
abbrev z := nn (M := 2304) (K := 2048) (N := 11264) (m ((c : Thread nD τ).loc main_arg0)) (m ((c : Thread nD τ).loc main_arg1))
abbrev y := nn (M := 2048) (K := 2048) (N := 2048) (m ((c : Thread nD τ).loc main_arg2)) (m ((c : Thread nD τ).loc main_arg3))

theorem z_end : W2 m ρ c (Proc.devRef .tc main_v0) = z m c :=
  (W2_of m ρ c main_v0 (by decide)).trans ((W1_arr m ρ c 2).trans (final0_2 (V0 m ρ) c))
theorem y_end : W2 m ρ c (Proc.devRef .tc main_v1) = y m c :=
  ((W2_arr m ρ c 2).trans (final1_2 (V1 m ρ) c)).trans
    (congrArg₂ (nn (M := 2048) (K := 2048) (N := 2048)) (W1_args m ρ c main_arg2 (by decide)) (W1_args m ρ c main_arg3 (by decide)))

local notation "𝕄" => MT nD τ sig Unit (Elt Ideal) ℕ (UR sig nD τ) ℕ

set_option backward.isDefEq.respectTransparency.types false in
/-- From any memory with zero counters: the program ends with its results at the products named above, its arguments
    unchanged and every counter at zero. -/
theorem run : θ_run defs (onTc (τ := τ) (main (F := Ideal))) ⟨m, fun _ => 0, ρ⟩ (fun r => (∀ c : Dev nD,
      r.2.mem ((c.tc : Thread nD τ).loc main_v0) = z m c
      ∧ r.2.mem ((c.tc : Thread nD τ).loc main_v1) = y m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨(fun c =>
      ⟨(h c _ (mem_uc main_v0 (by decide))).trans (z_end m ρ c),
       (h c _ (mem_uc main_v1 (by decide))).trans (y_end m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩), funext fun g => hz g (.inr (no_unscoped g.2))⟩)

end Cert.Kernel6Ideal.Products

end
-- ==== Proof.Products.InBack.lean ====
/- The cotangent of the input projection's input, summed over four slabs of the long axis. -/
module
public import proofs.«01_k».proof.Proof.Gen.Kernel7Ideal.Value
public import proofs.«01_k».proof.Proof.Products.Prod
public import Idealize.ShloMosaic.Lib.Pipeline.Value
public import Idealize.ShloMosaic.Lib.Pipeline.ValueKit
public import Idealize.ShloMosaic.Lib.Pointwise

@[expose] public section

set_option maxRecDepth 16384

noncomputable section

namespace Cert.Kernel7Ideal.Products

open Idealize.ShloMosaic Idealize.ShloMosaic.TcCoe Idealize.ShloMosaic.Tactic
open Idealize.SL Idealize.SL.Sem
open Idealize.ShloMosaic.Pipeline (Dat Cfg Window)
open Cert.Kernel7Ideal Cert.Kernel7Ideal.Gen Cert.Prod

/-! ## What the body does at the first, a middle and the last slab -/

theorem zero_pay (j : S768x1024.Idx) : (k0_pay1 (F := Ideal) j : EReal) = 0 := by
  unfold k0_pay1
  pointwise
theorem step_pay (S : Vec Ideal S768x1024 .f32) (X : Vec Ideal S768x2816 .bf16) (Y : Vec Ideal S1024x2816 .bf16) (j : S768x1024.Idx) : (k0_pay2 S X Y j : EReal) = S j + nt (M := 768) (K := 2816) (N := 1024) X Y j := by
  unfold k0_pay2 nt
  pointwise

theorem origin : (![0, 0] : Fin 2 → Nat) = fun _ => 0 := funext fun a => by fin_cases a <;> rfl

variable (c : Dev nD) (i : grid0.Coords)

theorem first (a0 : Memref sig .tc .vmem S768x2816 .bf16) (h0 : a0.IsWhole) (a1 : Memref sig .tc .vmem S1024x2816 .bf16) (h1 : a1.IsWhole) (a2 : Memref sig .tc .vmem S768x1024 .f32) (h2 : a2.IsWhole)
    (a3 : Memref sig .tc .vmem S768x1024 .f32) (h3 : a3.IsWhole) (hc0 : cond0_0 i) (hc1 : ¬cond0_1 i) (X : Vec Ideal S768x2816 .bf16) (Y : Vec Ideal S1024x2816 .bf16) (j : S768x1024.Idx) :
    (sout0_A_0 c i a0 h0 a1 h1 a2 h2 a3 h3 hc0 hc1 X Y j : EReal) = nt (M := 768) (K := 2816) (N := 1024) X Y j := by
  have e : sout0_A_0 c i a0 h0 a1 h1 a2 h2 a3 h3 hc0 hc1 X Y = k0_pay2 k0_pay1 X Y := by
    unfold sout0_A_0
    rw [View.read_writes_eq_canon _ _ _ (scover0_A_0 c i a0 h0 a1 h1 a2 h2 a3 h3 hc0 hc1 X Y)]
    unfold kernelRun0_A
    dsimp only
    sl_unfold_words
    rw [View.canon_cons_unit_zero (S := S768x1024) origin, View.readCov_unit_zero (S := S768x1024) _ origin]
    simp only [View.readAt_eq_ld, h0.read_unread, h1.read_unread, View.ld_unit_zero (S := S768x2816) origin, View.ld_unit_zero (S := S1024x2816) origin]
  rw [e, step_pay, zero_pay, zero_add]
theorem middle (a0 : Memref sig .tc .vmem S768x2816 .bf16) (h0 : a0.IsWhole) (a1 : Memref sig .tc .vmem S1024x2816 .bf16) (h1 : a1.IsWhole) (a2 : Memref sig .tc .vmem S768x1024 .f32) (h2 : a2.IsWhole)
    (a3 : Memref sig .tc .vmem S768x1024 .f32) (h3 : a3.IsWhole) (hc0 : ¬cond0_0 i) (hc1 : ¬cond0_1 i) (X : Vec Ideal S768x2816 .bf16) (Y : Vec Ideal S1024x2816 .bf16) (S : Vec Ideal S768x1024 .f32) (j : S768x1024.Idx) :
    (sout0_B_0 c i a0 h0 a1 h1 a2 h2 a3 h3 hc0 hc1 X Y S j : EReal) = S j + nt (M := 768) (K := 2816) (N := 1024) X Y j := by
  have e : sout0_B_0 c i a0 h0 a1 h1 a2 h2 a3 h3 hc0 hc1 X Y S = k0_pay2 S X Y := by
    unfold sout0_B_0
    rw [View.read_writes_eq_canon _ _ _ (scover0_B_0 c i a0 h0 a1 h1 a2 h2 a3 h3 hc0 hc1 X Y S)]
    unfold kernelRun0_B
    dsimp only
    rw [View.canon_unit_zero origin]
    simp only [View.readAt_eq_ld, h0.read_unread, h1.read_unread, h3.read_unread, View.ld_unit_zero (S := S768x2816) origin, View.ld_unit_zero (S := S1024x2816) origin, View.ld_unit_zero (S := S768x1024) origin]
  rw [e, step_pay]
theorem last (a0 : Memref sig .tc .vmem S768x2816 .bf16) (h0 : a0.IsWhole) (a1 : Memref sig .tc .vmem S1024x2816 .bf16) (h1 : a1.IsWhole) (a2 : Memref sig .tc .vmem S768x1024 .f32) (h2 : a2.IsWhole)
    (a3 : Memref sig .tc .vmem S768x1024 .f32) (h3 : a3.IsWhole) (hc0 : ¬cond0_0 i) (hc1 : cond0_1 i) (X : Vec Ideal S768x2816 .bf16) (Y : Vec Ideal S1024x2816 .bf16) (S : Vec Ideal S768x1024 .f32) (j : S768x1024.Idx) :
    (out0_C_2 c i a0 h0 a1 h1 a2 h2 a3 h3 hc0 hc1 X Y S j : EReal) = S j + nt (M := 768) (K := 2816) (N := 1024) X Y j := by
  have e : out0_C_2 c i a0 h0 a1 h1 a2 h2 a3 h3 hc0 hc1 X Y S = k0_pay2 S X Y := by
    unfold out0_C_2
    rw [View.read_writes_eq_canon _ _ _ (cover0_C_2 c i a0 h0 a1 h1 a2 h2 a3 h3 hc0 hc1 X Y S)]
    unfold kernelRun0_C
    dsimp only
    sl_unfold_words
    rw [View.canon_unit_zero origin, View.readCov_unit_zero (S := S768x1024) _ origin]
    simp only [View.readAt_eq_ld, h0.read_unread, h1.read_unread, h3.read_unread, View.ld_unit_zero (S := S768x2816) origin, View.ld_unit_zero (S := S1024x2816) origin, View.ld_unit_zero (S := S768x1024) origin, shapeCast_self]
  rw [e, step_pay]

/-! ## The four slabs of a block -/

/-- Which blocks a point reads and writes. -/
theorem index0 : ∀ t : Fin grid0.N, win0_0.index t 0 = win0_2.index t 0 ∧ win0_0.index t 1 = t.val % 4
    ∧ win0_1.index t 0 = win0_2.index t 1 ∧ win0_1.index t 1 = t.val % 4
    ∧ win0_2.index t 0 = t.val / 4 / 2 ∧ win0_2.index t 1 = t.val / 4 % 2 := by decide +kernel

variable (m : (ℓ : Loc nD τ sig) → Buf (Elt Ideal) ℓ) (ρ : Dev nD → PrngReg)

/-- The slab a point multiplies is the part of the whole product's sums that starts at its offset. -/
theorem slab (t u : Fin cfg0.N) (h : t.val / 4 = u.val / 4) (j : (Mat 768 1024).Idx) : nt (M := 768) (K := 2816) (N := 1024) (iblk m c 0 t) (iblk m c 1 t) j
    = ∑ k : Fin 2816, ntTerm (M := 2304) (K := 11264) (N := 2048) (m ((c : Thread nD τ).loc main_arg0)) (m ((c : Thread nD τ).loc main_arg1)) (((cfg0.win 2).blk u).view.emb j) ⟨t.val % 4 * 2816 + k.val, by omega⟩ := by
  have e0 : win0_2.index t 0 = win0_2.index u 0 := by rw [(index0 t).2.2.2.2.1, (index0 u).2.2.2.2.1, h]
  have e1 : win0_2.index t 1 = win0_2.index u 1 := by rw [(index0 t).2.2.2.2.2, (index0 u).2.2.2.2.2, h]
  refine Finset.sum_congr rfl fun k _ => congrArg₂ (fun p q : EReal => p * q) ?_ ?_
  · unfold iblk
    rw [View.read_apply]
    refine congrArg (V m c main_arg0) (funext fun a => Fin.ext ?_)
    match a with
    | ⟨0, _⟩ =>
      show win0_0.index t 0 * 768 + 1 * (j 0).val = win0_2.index u 0 * 768 + 1 * (j 0).val
      rw [(index0 t).1, e0]
    | ⟨1, _⟩ =>
      show win0_0.index t 1 * 2816 + 1 * k.val = t.val % 4 * 2816 + k.val
      rw [(index0 t).2.1]; omega
  · unfold iblk
    rw [View.read_apply]
    refine congrArg (V m c main_arg1) (funext fun a => Fin.ext ?_)
    match a with
    | ⟨0, _⟩ =>
      show win0_1.index t 0 * 1024 + 1 * (j 1).val = win0_2.index u 1 * 1024 + 1 * (j 1).val
      rw [(index0 t).2.2.1, e1]
    | ⟨1, _⟩ =>
      show win0_1.index t 1 * 2816 + 1 * k.val = t.val % 4 * 2816 + k.val
      rw [(index0 t).2.2.2.1]; omega

/-- The accumulator after a block's first, second and third slab. -/
theorem acc_first (t : Fin cfg0.N) (h : t.val % 4 = 0) (j : S768x1024.Idx) :
    ((outsAt0 m c t.val t.isLt).2 j : EReal) = nt (M := 768) (K := 2816) (N := 1024) (iblk m c 0 t) (iblk m c 1 t) j := by
  rw [outsAt0_A m c t h (by omega)]
  dsimp only
  rw [first]
theorem acc_next (t s : Fin cfg0.N) (hs : s.val = t.val - 1) (h0 : ¬t.val % 4 = 0) (h1 : ¬t.val % 4 = 3) (j : S768x1024.Idx) :
    ((outsAt0 m c t.val t.isLt).2 j : EReal) = (outsAt0 m c s.val s.isLt).2 j + nt (M := 768) (K := 2816) (N := 1024) (iblk m c 0 t) (iblk m c 1 t) j := by
  obtain ⟨s, hlt⟩ := s
  obtain rfl : s = t.val - 1 := hs
  rw [outsAt0_B m c t h0 h1]
  dsimp only
  rw [middle]
theorem out_last (t s : Fin cfg0.N) (hs : s.val = t.val - 1) (h0 : ¬t.val % 4 = 0) (h1 : t.val % 4 = 3) (j : S768x1024.Idx) :
    ((outsAt0 m c t.val t.isLt).1 j : EReal) = (outsAt0 m c s.val s.isLt).2 j + nt (M := 768) (K := 2816) (N := 1024) (iblk m c 0 t) (iblk m c 1 t) j := by
  obtain ⟨s, hlt⟩ := s
  obtain rfl : s = t.val - 1 := hs
  rw [outsAt0_C m c t h0 h1]
  dsimp only
  rw [last]

/-- The whole product. -/
abbrev prod : (Mat 2304 2048).Idx → EReal := nt (M := 2304) (K := 11264) (N := 2048) (m ((c : Thread nD τ).loc main_arg0)) (m ((c : Thread nD τ).loc main_arg1))

theorem flushed_prod (t : Fin cfg0.N) (hf : (cfg0.win 2).flush t = true) :
    (dats m 0 c).flushed 2 t = ((cfg0.win 2).blk t).view.read (Elt Ideal) (prod c m) := by
  have h3 : t.val % 4 = 3 := (flush0_2 t).mp hf
  have hN : t.val < 24 := lt_of_lt_of_eq t.isLt N_0
  have l2 : t.val - 1 < cfg0.N := lt_of_lt_of_eq (by omega : t.val - 1 < 24) N_0.symm
  have l1 : t.val - 2 < cfg0.N := lt_of_lt_of_eq (by omega : t.val - 2 < 24) N_0.symm
  have l0 : t.val - 3 < cfg0.N := lt_of_lt_of_eq (by omega : t.val - 3 < 24) N_0.symm
  show (cfg0.win 2).cut (grid0.coords t) ((dats m 0 c).after 2 t) = _
  rw [after0_2]
  funext j
  rw [View.read_apply]
  refine (out_last c m t ⟨t.val - 1, l2⟩ rfl (by omega) h3 j).trans ?_
  rw [acc_next c m ⟨t.val - 1, l2⟩ ⟨t.val - 2, l1⟩ (by show t.val - 2 = t.val - 1 - 1; omega) (by show ¬(t.val - 1) % 4 = 0; omega) (by show ¬(t.val - 1) % 4 = 3; omega) j,
    acc_next c m ⟨t.val - 2, l1⟩ ⟨t.val - 3, l0⟩ (by show t.val - 3 = t.val - 2 - 1; omega) (by show ¬(t.val - 2) % 4 = 0; omega) (by show ¬(t.val - 2) % 4 = 3; omega) j,
    acc_first c m ⟨t.val - 3, l0⟩ (by show (t.val - 3) % 4 = 0; omega) j,
    slab c m t t rfl j, slab c m ⟨t.val - 1, l2⟩ t (by show (t.val - 1) / 4 = t.val / 4; omega) j,
    slab c m ⟨t.val - 2, l1⟩ t (by show (t.val - 2) / 4 = t.val / 4; omega) j, slab c m ⟨t.val - 3, l0⟩ t (by show (t.val - 3) / 4 = t.val / 4; omega) j]
  generalize ((cfg0.win 2).blk t).view.emb j = i
  refine Eq.trans ?_ (sum_quarters 2816 11264 rfl (ntTerm (M := 2304) (K := 11264) (N := 2048) (m ((c : Thread nD τ).loc main_arg0)) (m ((c : Thread nD τ).loc main_arg1)) i)).symm
  have q0 : (t.val - 3) % 4 = 0 := by omega
  have q1 : (t.val - 2) % 4 = 1 := by omega
  have q2 : (t.val - 1) % 4 = 2 := by omega
  refine congrArg₂ (fun p q : EReal => p + q) (congrArg₂ (fun p q : EReal => p + q) (congrArg₂ (fun p q : EReal => p + q) ?_ ?_) ?_) ?_
  · refine Finset.sum_congr rfl fun k _ => ?_
    have e : (t.val - 3) % 4 * 2816 + k.val = k.val := by omega
    exact congrArg (ntTerm (M := 2304) (K := 11264) (N := 2048) (m ((c : Thread nD τ).loc main_arg0)) (m ((c : Thread nD τ).loc main_arg1)) i) (Fin.ext e)
  · refine Finset.sum_congr rfl fun k _ => ?_
    have e : (t.val - 2) % 4 * 2816 + k.val = 2816 + k.val := by omega
    exact congrArg (ntTerm (M := 2304) (K := 11264) (N := 2048) (m ((c : Thread nD τ).loc main_arg0)) (m ((c : Thread nD τ).loc main_arg1)) i) (Fin.ext e)
  · refine Finset.sum_congr rfl fun k _ => ?_
    have e : (t.val - 1) % 4 * 2816 + k.val = 2816 + 2816 + k.val := by omega
    exact congrArg (ntTerm (M := 2304) (K := 11264) (N := 2048) (m ((c : Thread nD τ).loc main_arg0)) (m ((c : Thread nD τ).loc main_arg1)) i) (Fin.ext e)
  · refine Finset.sum_congr rfl fun k _ => ?_
    have e : (t.val) % 4 * 2816 + k.val = 2816 + 2816 + 2816 + k.val := by omega
    exact congrArg (ntTerm (M := 2304) (K := 11264) (N := 2048) (m ((c : Thread nD τ).loc main_arg0)) (m ((c : Thread nD τ).loc main_arg1)) i) (Fin.ext e)

theorem final_prod : (dats m 0 c).arrAt 2 cfg0.N = prod c m :=
  (dats m 0 c).arrAt_eq_of_cover 2 _ (fun t hf => flushed_prod c m t hf) fun i => by
    have h0 : (i 0).val < 2304 := (i 0).isLt
    have h1 : (i 1).val < 2048 := (i 1).isLt
    have hN : cfg0.N = 24 := N_0
    have ht : 4 * ((i 0).val / 768 * 2 + (i 1).val / 1024) + 3 < cfg0.N := by omega
    have q0 : win0_2.index ⟨_, ht⟩ 0 = (4 * ((i 0).val / 768 * 2 + (i 1).val / 1024) + 3) / 4 / 2 := (index0 ⟨_, ht⟩).2.2.2.2.1
    have q1 : win0_2.index ⟨_, ht⟩ 1 = (4 * ((i 0).val / 768 * 2 + (i 1).val / 1024) + 3) / 4 % 2 := (index0 ⟨_, ht⟩).2.2.2.2.2
    refine ⟨⟨_, ht⟩, (flush0_2 _).mpr (by show (4 * ((i 0).val / 768 * 2 + (i 1).val / 1024) + 3) % 4 = 3; omega), ?_⟩
    show i ∈ ((View.whole main_v0).slice (win0_2.rect ⟨_, ht⟩)).set
    rw [View.set_slice_whole, Rect.mem_set_unit]
    intro a
    match a with
    | ⟨0, _⟩ =>
      show win0_2.index ⟨_, ht⟩ 0 * 768 ≤ (i 0 : Nat) ∧ (i 0 : Nat) < win0_2.index ⟨_, ht⟩ 0 * 768 + 768
      rw [q0]; omega
    | ⟨1, _⟩ =>
      show win0_2.index ⟨_, ht⟩ 1 * 1024 ≤ (i 1 : Nat) ∧ (i 1 : Nat) < win0_2.index ⟨_, ht⟩ 1 * 1024 + 1024
      rw [q1]; omega

/-- The program's run: its result is the product, its arguments are unchanged. -/
theorem run : θ_run defs (onTc (τ := τ) (main (F := Ideal))) ⟨m, fun _ => 0, ρ⟩ (fun r => ∀ c : Dev nD,
      r.2.mem ((c.tc : Thread nD τ).loc main_v0) = prod c m
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final_prod c m), (h c).2⟩) (Value.run_blocks (F := Ideal) m ρ)

end Cert.Kernel7Ideal.Products

end
-- ==== Proof.Products.Down.lean ====
/- The MLP's output product, summed over four slabs of the hidden axis. -/
module
public import proofs.«01_k».proof.Proof.Gen.Kernel8Ideal.Value
public import proofs.«01_k».proof.Proof.Products.Prod
public import Idealize.ShloMosaic.Lib.Pipeline.Value
public import Idealize.ShloMosaic.Lib.Pipeline.ValueKit
public import Idealize.ShloMosaic.Lib.Pointwise

@[expose] public section

set_option maxRecDepth 16384

noncomputable section

namespace Cert.Kernel8Ideal.Products

open Idealize.ShloMosaic Idealize.ShloMosaic.TcCoe Idealize.ShloMosaic.Tactic
open Idealize.SL Idealize.SL.Sem
open Idealize.ShloMosaic.Pipeline (Dat Cfg Window)
open Cert.Kernel8Ideal Cert.Kernel8Ideal.Gen Cert.Prod

/-! ## What the body does at the first, a middle and the last slab -/

theorem zero_pay (j : S1024x1024.Idx) : (k0_pay1 (F := Ideal) j : EReal) = 0 := by
  unfold k0_pay1
  pointwise
theorem step_pay (S : Vec Ideal S1024x1024 .f32) (X : Vec Ideal S1024x2048 .bf16) (Y : Vec Ideal S2048x1024 .bf16) (j : S1024x1024.Idx) : (k0_pay2 S X Y j : EReal) = S j + nn (M := 1024) (K := 2048) (N := 1024) X Y j := by
  unfold k0_pay2 nn
  pointwise

theorem origin : (![0, 0] : Fin 2 → Nat) = fun _ => 0 := funext fun a => by fin_cases a <;> rfl

variable (c : Dev nD) (i : grid0.Coords)

theorem first (a0 : Memref sig .tc .vmem S1024x2048 .bf16) (h0 : a0.IsWhole) (a1 : Memref sig .tc .vmem S2048x1024 .bf16) (h1 : a1.IsWhole) (a2 : Memref sig .tc .vmem S1024x1024 .f32) (h2 : a2.IsWhole)
    (a3 : Memref sig .tc .vmem S1024x1024 .f32) (h3 : a3.IsWhole) (hc0 : cond0_0 i) (hc1 : ¬cond0_1 i) (X : Vec Ideal S1024x2048 .bf16) (Y : Vec Ideal S2048x1024 .bf16) (j : S1024x1024.Idx) :
    (sout0_A_0 c i a0 h0 a1 h1 a2 h2 a3 h3 hc0 hc1 X Y j : EReal) = nn (M := 1024) (K := 2048) (N := 1024) X Y j := by
  have e : sout0_A_0 c i a0 h0 a1 h1 a2 h2 a3 h3 hc0 hc1 X Y = k0_pay2 k0_pay1 X Y := by
    unfold sout0_A_0
    rw [View.read_writes_eq_canon _ _ _ (scover0_A_0 c i a0 h0 a1 h1 a2 h2 a3 h3 hc0 hc1 X Y)]
    unfold kernelRun0_A
    dsimp only
    sl_unfold_words
    rw [View.canon_cons_unit_zero (S := S1024x1024) origin, View.readCov_unit_zero (S := S1024x1024) _ origin]
    simp only [View.readAt_eq_ld, h0.read_unread, h1.read_unread, View.ld_unit_zero (S := S1024x2048) origin, View.ld_unit_zero (S := S2048x1024) origin]
  rw [e, step_pay, zero_pay, zero_add]
theorem middle (a0 : Memref sig .tc .vmem S1024x2048 .bf16) (h0 : a0.IsWhole) (a1 : Memref sig .tc .vmem S2048x1024 .bf16) (h1 : a1.IsWhole) (a2 : Memref sig .tc .vmem S1024x1024 .f32) (h2 : a2.IsWhole)
    (a3 : Memref sig .tc .vmem S1024x1024 .f32) (h3 : a3.IsWhole) (hc0 : ¬cond0_0 i) (hc1 : ¬cond0_1 i) (X : Vec Ideal S1024x2048 .bf16) (Y : Vec Ideal S2048x1024 .bf16) (S : Vec Ideal S1024x1024 .f32) (j : S1024x1024.Idx) :
    (sout0_B_0 c i a0 h0 a1 h1 a2 h2 a3 h3 hc0 hc1 X Y S j : EReal) = S j + nn (M := 1024) (K := 2048) (N := 1024) X Y j := by
  have e : sout0_B_0 c i a0 h0 a1 h1 a2 h2 a3 h3 hc0 hc1 X Y S = k0_pay2 S X Y := by
    unfold sout0_B_0
    rw [View.read_writes_eq_canon _ _ _ (scover0_B_0 c i a0 h0 a1 h1 a2 h2 a3 h3 hc0 hc1 X Y S)]
    unfold kernelRun0_B
    dsimp only
    rw [View.canon_unit_zero origin]
    simp only [View.readAt_eq_ld, h0.read_unread, h1.read_unread, h3.read_unread, View.ld_unit_zero (S := S1024x2048) origin, View.ld_unit_zero (S := S2048x1024) origin, View.ld_unit_zero (S := S1024x1024) origin]
  rw [e, step_pay]
theorem last (a0 : Memref sig .tc .vmem S1024x2048 .bf16) (h0 : a0.IsWhole) (a1 : Memref sig .tc .vmem S2048x1024 .bf16) (h1 : a1.IsWhole) (a2 : Memref sig .tc .vmem S1024x1024 .f32) (h2 : a2.IsWhole)
    (a3 : Memref sig .tc .vmem S1024x1024 .f32) (h3 : a3.IsWhole) (hc0 : ¬cond0_0 i) (hc1 : cond0_1 i) (X : Vec Ideal S1024x2048 .bf16) (Y : Vec Ideal S2048x1024 .bf16) (S : Vec Ideal S1024x1024 .f32) (j : S1024x1024.Idx) :
    (out0_C_2 c i a0 h0 a1 h1 a2 h2 a3 h3 hc0 hc1 X Y S j : EReal) = S j + nn (M := 1024) (K := 2048) (N := 1024) X Y j := by
  have e : out0_C_2 c i a0 h0 a1 h1 a2 h2 a3 h3 hc0 hc1 X Y S = k0_pay2 S X Y := by
    unfold out0_C_2
    rw [View.read_writes_eq_canon _ _ _ (cover0_C_2 c i a0 h0 a1 h1 a2 h2 a3 h3 hc0 hc1 X Y S)]
    unfold kernelRun0_C
    dsimp only
    sl_unfold_words
    rw [View.canon_unit_zero origin, View.readCov_unit_zero (S := S1024x1024) _ origin]
    simp only [View.readAt_eq_ld, h0.read_unread, h1.read_unread, h3.read_unread, View.ld_unit_zero (S := S1024x2048) origin, View.ld_unit_zero (S := S2048x1024) origin, View.ld_unit_zero (S := S1024x1024) origin, shapeCast_self]
  rw [e, step_pay]

/-! ## The four slabs of a block -/

/-- Which blocks a point reads and writes. -/
theorem index0 : ∀ t : Fin grid0.N, win0_0.index t 0 = win0_2.index t 0 ∧ win0_0.index t 1 = t.val % 4
    ∧ win0_1.index t 1 = win0_2.index t 1 ∧ win0_1.index t 0 = t.val % 4
    ∧ win0_2.index t 0 = t.val / 4 / 2 ∧ win0_2.index t 1 = t.val / 4 % 2 := by decide +kernel

variable (m : (ℓ : Loc nD τ sig) → Buf (Elt Ideal) ℓ) (ρ : Dev nD → PrngReg)

/-- The slab a point multiplies is the part of the whole product's sums that starts at its offset. -/
theorem slab (t u : Fin cfg0.N) (h : t.val / 4 = u.val / 4) (j : (Mat 1024 1024).Idx) : nn (M := 1024) (K := 2048) (N := 1024) (iblk m c 0 t) (iblk m c 1 t) j
    = ∑ k : Fin 2048, nnTerm (M := 2048) (K := 8192) (N := 2048) (m ((c : Thread nD τ).loc main_arg0)) (m ((c : Thread nD τ).loc main_arg1)) (((cfg0.win 2).blk u).view.emb j) ⟨t.val % 4 * 2048 + k.val, by omega⟩ := by
  have e0 : win0_2.index t 0 = win0_2.index u 0 := by rw [(index0 t).2.2.2.2.1, (index0 u).2.2.2.2.1, h]
  have e1 : win0_2.index t 1 = win0_2.index u 1 := by rw [(index0 t).2.2.2.2.2, (index0 u).2.2.2.2.2, h]
  refine Finset.sum_congr rfl fun k _ => congrArg₂ (fun p q : EReal => p * q) ?_ ?_
  · unfold iblk
    rw [View.read_apply]
    refine congrArg (V m c main_arg0) (funext fun a => Fin.ext ?_)
    match a with
    | ⟨0, _⟩ =>
      show win0_0.index t 0 * 1024 + 1 * (j 0).val = win0_2.index u 0 * 1024 + 1 * (j 0).val
      rw [(index0 t).1, e0]
    | ⟨1, _⟩ =>
      show win0_0.index t 1 * 2048 + 1 * k.val = t.val % 4 * 2048 + k.val
      rw [(index0 t).2.1]; omega
  · unfold iblk
    rw [View.read_apply]
    refine congrArg (V m c main_arg1) (funext fun a => Fin.ext ?_)
    match a with
    | ⟨1, _⟩ =>
      show win0_1.index t 1 * 1024 + 1 * (j 1).val = win0_2.index u 1 * 1024 + 1 * (j 1).val
      rw [(index0 t).2.2.1, e1]
    | ⟨0, _⟩ =>
      show win0_1.index t 0 * 2048 + 1 * k.val = t.val % 4 * 2048 + k.val
      rw [(index0 t).2.2.2.1]; omega

/-- The accumulator after a block's first, second and third slab. -/
theorem acc_first (t : Fin cfg0.N) (h : t.val % 4 = 0) (j : S1024x1024.Idx) :
    ((outsAt0 m c t.val t.isLt).2 j : EReal) = nn (M := 1024) (K := 2048) (N := 1024) (iblk m c 0 t) (iblk m c 1 t) j := by
  rw [outsAt0_A m c t h (by omega)]
  dsimp only
  rw [first]
theorem acc_next (t s : Fin cfg0.N) (hs : s.val = t.val - 1) (h0 : ¬t.val % 4 = 0) (h1 : ¬t.val % 4 = 3) (j : S1024x1024.Idx) :
    ((outsAt0 m c t.val t.isLt).2 j : EReal) = (outsAt0 m c s.val s.isLt).2 j + nn (M := 1024) (K := 2048) (N := 1024) (iblk m c 0 t) (iblk m c 1 t) j := by
  obtain ⟨s, hlt⟩ := s
  obtain rfl : s = t.val - 1 := hs
  rw [outsAt0_B m c t h0 h1]
  dsimp only
  rw [middle]
theorem out_last (t s : Fin cfg0.N) (hs : s.val = t.val - 1) (h0 : ¬t.val % 4 = 0) (h1 : t.val % 4 = 3) (j : S1024x1024.Idx) :
    ((outsAt0 m c t.val t.isLt).1 j : EReal) = (outsAt0 m c s.val s.isLt).2 j + nn (M := 1024) (K := 2048) (N := 1024) (iblk m c 0 t) (iblk m c 1 t) j := by
  obtain ⟨s, hlt⟩ := s
  obtain rfl : s = t.val - 1 := hs
  rw [outsAt0_C m c t h0 h1]
  dsimp only
  rw [last]

/-- The whole product. -/
abbrev prod : (Mat 2048 2048).Idx → EReal := nn (M := 2048) (K := 8192) (N := 2048) (m ((c : Thread nD τ).loc main_arg0)) (m ((c : Thread nD τ).loc main_arg1))

theorem flushed_prod (t : Fin cfg0.N) (hf : (cfg0.win 2).flush t = true) :
    (dats m 0 c).flushed 2 t = ((cfg0.win 2).blk t).view.read (Elt Ideal) (prod c m) := by
  have h3 : t.val % 4 = 3 := (flush0_2 t).mp hf
  have hN : t.val < 16 := lt_of_lt_of_eq t.isLt N_0
  have l2 : t.val - 1 < cfg0.N := lt_of_lt_of_eq (by omega : t.val - 1 < 16) N_0.symm
  have l1 : t.val - 2 < cfg0.N := lt_of_lt_of_eq (by omega : t.val - 2 < 16) N_0.symm
  have l0 : t.val - 3 < cfg0.N := lt_of_lt_of_eq (by omega : t.val - 3 < 16) N_0.symm
  show (cfg0.win 2).cut (grid0.coords t) ((dats m 0 c).after 2 t) = _
  rw [after0_2]
  funext j
  rw [View.read_apply]
  refine (out_last c m t ⟨t.val - 1, l2⟩ rfl (by omega) h3 j).trans ?_
  rw [acc_next c m ⟨t.val - 1, l2⟩ ⟨t.val - 2, l1⟩ (by show t.val - 2 = t.val - 1 - 1; omega) (by show ¬(t.val - 1) % 4 = 0; omega) (by show ¬(t.val - 1) % 4 = 3; omega) j,
    acc_next c m ⟨t.val - 2, l1⟩ ⟨t.val - 3, l0⟩ (by show t.val - 3 = t.val - 2 - 1; omega) (by show ¬(t.val - 2) % 4 = 0; omega) (by show ¬(t.val - 2) % 4 = 3; omega) j,
    acc_first c m ⟨t.val - 3, l0⟩ (by show (t.val - 3) % 4 = 0; omega) j,
    slab c m t t rfl j, slab c m ⟨t.val - 1, l2⟩ t (by show (t.val - 1) / 4 = t.val / 4; omega) j,
    slab c m ⟨t.val - 2, l1⟩ t (by show (t.val - 2) / 4 = t.val / 4; omega) j, slab c m ⟨t.val - 3, l0⟩ t (by show (t.val - 3) / 4 = t.val / 4; omega) j]
  generalize ((cfg0.win 2).blk t).view.emb j = i
  refine Eq.trans ?_ (sum_quarters 2048 8192 rfl (nnTerm (M := 2048) (K := 8192) (N := 2048) (m ((c : Thread nD τ).loc main_arg0)) (m ((c : Thread nD τ).loc main_arg1)) i)).symm
  have q0 : (t.val - 3) % 4 = 0 := by omega
  have q1 : (t.val - 2) % 4 = 1 := by omega
  have q2 : (t.val - 1) % 4 = 2 := by omega
  refine congrArg₂ (fun p q : EReal => p + q) (congrArg₂ (fun p q : EReal => p + q) (congrArg₂ (fun p q : EReal => p + q) ?_ ?_) ?_) ?_
  · refine Finset.sum_congr rfl fun k _ => ?_
    have e : (t.val - 3) % 4 * 2048 + k.val = k.val := by omega
    exact congrArg (nnTerm (M := 2048) (K := 8192) (N := 2048) (m ((c : Thread nD τ).loc main_arg0)) (m ((c : Thread nD τ).loc main_arg1)) i) (Fin.ext e)
  · refine Finset.sum_congr rfl fun k _ => ?_
    have e : (t.val - 2) % 4 * 2048 + k.val = 2048 + k.val := by omega
    exact congrArg (nnTerm (M := 2048) (K := 8192) (N := 2048) (m ((c : Thread nD τ).loc main_arg0)) (m ((c : Thread nD τ).loc main_arg1)) i) (Fin.ext e)
  · refine Finset.sum_congr rfl fun k _ => ?_
    have e : (t.val - 1) % 4 * 2048 + k.val = 2048 + 2048 + k.val := by omega
    exact congrArg (nnTerm (M := 2048) (K := 8192) (N := 2048) (m ((c : Thread nD τ).loc main_arg0)) (m ((c : Thread nD τ).loc main_arg1)) i) (Fin.ext e)
  · refine Finset.sum_congr rfl fun k _ => ?_
    have e : (t.val) % 4 * 2048 + k.val = 2048 + 2048 + 2048 + k.val := by omega
    exact congrArg (nnTerm (M := 2048) (K := 8192) (N := 2048) (m ((c : Thread nD τ).loc main_arg0)) (m ((c : Thread nD τ).loc main_arg1)) i) (Fin.ext e)

theorem final_prod : (dats m 0 c).arrAt 2 cfg0.N = prod c m :=
  (dats m 0 c).arrAt_eq_of_cover 2 _ (fun t hf => flushed_prod c m t hf) fun i => by
    have h0 : (i 0).val < 2048 := (i 0).isLt
    have h1 : (i 1).val < 2048 := (i 1).isLt
    have hN : cfg0.N = 16 := N_0
    have ht : 4 * ((i 0).val / 1024 * 2 + (i 1).val / 1024) + 3 < cfg0.N := by omega
    have q0 : win0_2.index ⟨_, ht⟩ 0 = (4 * ((i 0).val / 1024 * 2 + (i 1).val / 1024) + 3) / 4 / 2 := (index0 ⟨_, ht⟩).2.2.2.2.1
    have q1 : win0_2.index ⟨_, ht⟩ 1 = (4 * ((i 0).val / 1024 * 2 + (i 1).val / 1024) + 3) / 4 % 2 := (index0 ⟨_, ht⟩).2.2.2.2.2
    refine ⟨⟨_, ht⟩, (flush0_2 _).mpr (by show (4 * ((i 0).val / 1024 * 2 + (i 1).val / 1024) + 3) % 4 = 3; omega), ?_⟩
    show i ∈ ((View.whole main_v0).slice (win0_2.rect ⟨_, ht⟩)).set
    rw [View.set_slice_whole, Rect.mem_set_unit]
    intro a
    match a with
    | ⟨0, _⟩ =>
      show win0_2.index ⟨_, ht⟩ 0 * 1024 ≤ (i 0 : Nat) ∧ (i 0 : Nat) < win0_2.index ⟨_, ht⟩ 0 * 1024 + 1024
      rw [q0]; omega
    | ⟨1, _⟩ =>
      show win0_2.index ⟨_, ht⟩ 1 * 1024 ≤ (i 1 : Nat) ∧ (i 1 : Nat) < win0_2.index ⟨_, ht⟩ 1 * 1024 + 1024
      rw [q1]; omega

/-- The program's run: its result is the product, its arguments are unchanged. -/
theorem run : θ_run defs (onTc (τ := τ) (main (F := Ideal))) ⟨m, fun _ => 0, ρ⟩ (fun r => ∀ c : Dev nD,
      r.2.mem ((c.tc : Thread nD τ).loc main_v0) = prod c m
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final_prod c m), (h c).2⟩) (Value.run_blocks (F := Ideal) m ρ)

end Cert.Kernel8Ideal.Products

end
-- ==== Proof.Products.Ref.lean ====
/- The plain references' runs, each result read as a product of the arguments (`Prod`). -/
module
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Products.Prod
public import Idealize.ShloMosaic.Lib.Pointwise
public import Idealize.ShloMosaic.Lib.StableHlo.Run
public import Idealize.ShloMosaic.Lib.Quiescent

@[expose] public section

set_option maxRecDepth 16384

noncomputable section

namespace Cert.Reference3Ideal.Products

open Idealize.ShloMosaic Idealize.ShloMosaic.TcCoe Idealize.ShloMosaic.Tactic
open Idealize.SL.Sem
open Cert.Reference3Ideal Cert.Reference3Ideal.Gen Cert.Prod

theorem nt_0 (X : Vec Ideal S2048x8192 .bf16) (Y : Vec Ideal S2048x8192 .bf16) :
    (Host.dotGeneral dot_S2048x8192_S2048x8192_S2048x2048_1_1_0_0_n_n none (extf .f32 X bitsLt_bf16_f32) (extf .f32 Y bitsLt_bf16_f32) : FVec Ideal S2048x2048 .f32) = nt (M := 2048) (K := 8192) (N := 2048) X Y := by
  funext i
  unfold nt
  pointwise

theorem run (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_v2) = nt (M := 2048) (K := 8192) (N := 2048) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨((h c).1).trans (nt_0 _ _), (h c).2⟩,
    Idealize.ShloMosaic.sem_eq_zero_of_no_sems (by decide) r.2⟩) (Value.run (F := Ideal) m ρ)

end Cert.Reference3Ideal.Products

namespace Cert.Reference4Ideal.Products

open Idealize.ShloMosaic Idealize.ShloMosaic.TcCoe Idealize.ShloMosaic.Tactic
open Idealize.SL.Sem
open Cert.Reference4Ideal Cert.Reference4Ideal.Gen Cert.Prod

theorem nt_0 (X : Vec Ideal S2048x2048 .bf16) (Y : Vec Ideal S2048x2048 .bf16) :
    (truncf .bf16 (Host.dotGeneral dot_S2048x2048_S2048x2048_S2048x2048_1_1_0_0_n_n none (extf .f32 X bitsLt_bf16_f32) (extf .f32 Y bitsLt_bf16_f32)) bitsLt_bf16_f32 : FVec Ideal S2048x2048 .bf16) = nt (M := 2048) (K := 2048) (N := 2048) X Y := by
  funext i
  unfold nt
  pointwise

theorem tn_1 (X : Vec Ideal S2048x2048 .bf16) (Y : Vec Ideal S2048x2048 .bf16) :
    (truncf .bf16 (transpose S2048x2048 [1, 0] (Host.dotGeneral dot_S2048x2048_S2048x2048_S2048x2048_0_0_1_1_n_n none (extf .f32 Y bitsLt_bf16_f32) (extf .f32 X bitsLt_bf16_f32)) transposes_S2048x2048_S2048x2048_1_0) bitsLt_bf16_f32 : FVec Ideal S2048x2048 .bf16) = tn (M := 2048) (K := 2048) (N := 2048) X Y := by
  funext i
  unfold tn
  pointwise
  exact Finset.sum_congr rfl fun k _ => mul_comm _ _

theorem nt_2 (X : Vec Ideal S2048x2048 .bf16) (Y : Vec Ideal S2048x2048 .bf16) :
    (Host.dotGeneral dot_S2048x2048_S2048x2048_S2048x2048_1_1_0_0_n_n none (extf .f32 X bitsLt_bf16_f32) (extf .f32 Y bitsLt_bf16_f32) : FVec Ideal S2048x2048 .f32) = nt (M := 2048) (K := 2048) (N := 2048) X Y := by
  funext i
  unfold nt
  pointwise

theorem run (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_v21) = nt (M := 2048) (K := 2048) (N := 2048) (m ((c.tc : Thread nD τ).loc main_arg2)) (m ((c.tc : Thread nD τ).loc main_arg1))
      ∧ r.2.mem ((c.tc : Thread nD τ).loc main_v22) = tn (M := 2048) (K := 2048) (N := 2048) (m ((c.tc : Thread nD τ).loc main_arg0)) (m ((c.tc : Thread nD τ).loc main_arg2))
      ∧ r.2.mem ((c.tc : Thread nD τ).loc main_v13) = nt (M := 2048) (K := 2048) (N := 2048) (m ((c.tc : Thread nD τ).loc main_arg5)) (m ((c.tc : Thread nD τ).loc main_arg4))
      ∧ r.2.mem ((c.tc : Thread nD τ).loc main_v23) = tn (M := 2048) (K := 2048) (N := 2048) (m ((c.tc : Thread nD τ).loc main_arg3)) (m ((c.tc : Thread nD τ).loc main_arg5))
      ∧ r.2.mem ((c.tc : Thread nD τ).loc main_v20) = nt (M := 2048) (K := 2048) (N := 2048) (m ((c.tc : Thread nD τ).loc main_arg8)) (m ((c.tc : Thread nD τ).loc main_arg7))
      ∧ r.2.mem ((c.tc : Thread nD τ).loc main_v24) = tn (M := 2048) (K := 2048) (N := 2048) (m ((c.tc : Thread nD τ).loc main_arg6)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨((h c).1).trans (nt_0 _ _), ((h c).2.1).trans (tn_1 _ _), ((h c).2.2.1).trans (nt_2 _ _), ((h c).2.2.2.1).trans (tn_1 _ _), ((h c).2.2.2.2.1).trans (nt_2 _ _), ((h c).2.2.2.2.2.1).trans (tn_1 _ _), (h c).2.2.2.2.2.2⟩,
    Idealize.ShloMosaic.sem_eq_zero_of_no_sems (by decide) r.2⟩) (Value.run (F := Ideal) m ρ)

end Cert.Reference4Ideal.Products

namespace Cert.Reference6Ideal.Products

open Idealize.ShloMosaic Idealize.ShloMosaic.TcCoe Idealize.ShloMosaic.Tactic
open Idealize.SL.Sem
open Cert.Reference6Ideal Cert.Reference6Ideal.Gen Cert.Prod

theorem nn_0 (X : Vec Ideal S2304x2048 .bf16) (Y : Vec Ideal S2048x11264 .bf16) :
    (Host.dotGeneral dot_S2304x2048_S2048x11264_S2304x11264_1_0_0_1_n_n none (extf .f32 X bitsLt_bf16_f32) (extf .f32 Y bitsLt_bf16_f32) : FVec Ideal S2304x11264 .f32) = nn (M := 2304) (K := 2048) (N := 11264) X Y := by
  funext i
  unfold nn
  pointwise

theorem nn_1 (X : Vec Ideal S2048x2048 .bf16) (Y : Vec Ideal S2048x2048 .bf16) :
    (Host.dotGeneral dot_S2048x2048_S2048x2048_S2048x2048_1_0_0_1_n_n none (extf .f32 X bitsLt_bf16_f32) (extf .f32 Y bitsLt_bf16_f32) : FVec Ideal S2048x2048 .f32) = nn (M := 2048) (K := 2048) (N := 2048) X Y := by
  funext i
  unfold nn
  pointwise

theorem run (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_v2) = nn (M := 2304) (K := 2048) (N := 11264) (m ((c.tc : Thread nD τ).loc main_arg0)) (m ((c.tc : Thread nD τ).loc main_arg1))
      ∧ r.2.mem ((c.tc : Thread nD τ).loc main_v5) = nn (M := 2048) (K := 2048) (N := 2048) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨((h c).1).trans (nn_0 _ _), ((h c).2.1).trans (nn_1 _ _), (h c).2.2⟩,
    Idealize.ShloMosaic.sem_eq_zero_of_no_sems (by decide) r.2⟩) (Value.run (F := Ideal) m ρ)

end Cert.Reference6Ideal.Products

namespace Cert.Reference7Ideal.Products

open Idealize.ShloMosaic Idealize.ShloMosaic.TcCoe Idealize.ShloMosaic.Tactic
open Idealize.SL.Sem
open Cert.Reference7Ideal Cert.Reference7Ideal.Gen Cert.Prod

theorem nt_0 (X : Vec Ideal S2304x11264 .bf16) (Y : Vec Ideal S2048x11264 .bf16) :
    (Host.dotGeneral dot_S2304x11264_S2048x11264_S2304x2048_1_1_0_0_n_n none (extf .f32 X bitsLt_bf16_f32) (extf .f32 Y bitsLt_bf16_f32) : FVec Ideal S2304x2048 .f32) = nt (M := 2304) (K := 11264) (N := 2048) X Y := by
  funext i
  unfold nt
  pointwise

theorem run (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_v2) = nt (M := 2304) (K := 11264) (N := 2048) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨((h c).1).trans (nt_0 _ _), (h c).2⟩,
    Idealize.ShloMosaic.sem_eq_zero_of_no_sems (by decide) r.2⟩) (Value.run (F := Ideal) m ρ)

end Cert.Reference7Ideal.Products

namespace Cert.Reference8Ideal.Products

open Idealize.ShloMosaic Idealize.ShloMosaic.TcCoe Idealize.ShloMosaic.Tactic
open Idealize.SL.Sem
open Cert.Reference8Ideal Cert.Reference8Ideal.Gen Cert.Prod

theorem nn_0 (X : Vec Ideal S2048x8192 .bf16) (Y : Vec Ideal S8192x2048 .bf16) :
    (Host.dotGeneral dot_S2048x8192_S8192x2048_S2048x2048_1_0_0_1_n_n none (extf .f32 X bitsLt_bf16_f32) (extf .f32 Y bitsLt_bf16_f32) : FVec Ideal S2048x2048 .f32) = nn (M := 2048) (K := 8192) (N := 2048) X Y := by
  funext i
  unfold nn
  pointwise

theorem run (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_v2) = nn (M := 2048) (K := 8192) (N := 2048) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨((h c).1).trans (nn_0 _ _), (h c).2⟩,
    Idealize.ShloMosaic.sem_eq_zero_of_no_sems (by decide) r.2⟩) (Value.run (F := Ideal) m ρ)

end Cert.Reference8Ideal.Products

namespace Cert.Reference5Ideal.Products

open Idealize.ShloMosaic Idealize.ShloMosaic.TcCoe Idealize.ShloMosaic.Tactic
open Idealize.SL.Sem
open Cert.Reference5Ideal Cert.Reference5Ideal.Gen Cert.Prod

/-- The columns of the layer's input from `o` on, as many as one half has. -/
def cols (o : ℕ) (X : (Mat 2304 2048).Idx → EReal) (ho : o ≤ 1024) : (Mat 2304 1024).Idx → EReal := fun i => X (ix2 (i 0) ⟨o + (i 1).val, by have h : (i 1).val < 1024 := (i 1).isLt; omega⟩)

theorem half_0 (X : Vec Ideal S2304x2048 .bf16) (Y : Vec Ideal S2304x11264 .bf16) :
    (truncf .bf16 (extractStridedSlice S1024x11264 ![0, 0] (transpose S2048x11264 [1, 0] (Host.dotGeneral dot_S2304x11264_S2304x2048_S11264x2048_0_0_1_1_n_n none (extf .f32 Y bitsLt_bf16_f32) (extf .f32 X bitsLt_bf16_f32)) transposes_S11264x2048_S2048x11264_1_0) slices_S2048x11264_S1024x11264_0_0) bitsLt_bf16_f32 : FVec Ideal S1024x11264 .bf16) = tn (M := 1024) (K := 2304) (N := 11264) (cols 0 X (by decide)) Y := by
  funext i
  unfold tn cols
  pointwise
  exact Finset.sum_congr rfl fun k _ => mul_comm _ _

theorem half_1024 (X : Vec Ideal S2304x2048 .bf16) (Y : Vec Ideal S2304x11264 .bf16) :
    (truncf .bf16 (extractStridedSlice S1024x11264 ![1024, 0] (transpose S2048x11264 [1, 0] (Host.dotGeneral dot_S2304x11264_S2304x2048_S11264x2048_0_0_1_1_n_n none (extf .f32 Y bitsLt_bf16_f32) (extf .f32 X bitsLt_bf16_f32)) transposes_S11264x2048_S2048x11264_1_0) slices_S2048x11264_S1024x11264_1024_0) bitsLt_bf16_f32 : FVec Ideal S1024x11264 .bf16) = tn (M := 1024) (K := 2304) (N := 11264) (cols 1024 X (by decide)) Y := by
  funext i
  unfold tn cols
  pointwise
  exact Finset.sum_congr rfl fun k _ => mul_comm _ _

theorem run (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_v5) = tn (M := 1024) (K := 2304) (N := 11264) (cols 0 (m ((c.tc : Thread nD τ).loc main_arg0)) (by decide)) (m ((c.tc : Thread nD τ).loc main_arg1))
      ∧ r.2.mem ((c.tc : Thread nD τ).loc main_v7) = tn (M := 1024) (K := 2304) (N := 11264) (cols 1024 (m ((c.tc : Thread nD τ).loc main_arg0)) (by decide)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨((h c).1).trans (half_0 _ _), ((h c).2.1).trans (half_1024 _ _), (h c).2.2⟩,
    Idealize.ShloMosaic.sem_eq_zero_of_no_sems (by decide) r.2⟩) (Value.run (F := Ideal) m ρ)

end Cert.Reference5Ideal.Products

namespace Cert.Reference2Ideal.Products

open Idealize.ShloMosaic Idealize.ShloMosaic.TcCoe Idealize.ShloMosaic.Tactic
open Idealize.SL.Sem
open Cert.Reference2Ideal Cert.Reference2Ideal.Gen Cert.Prod

/-- The constant 2. -/
theorem two_word : Ideal.ofBits .f32 0x40000000#32 = 2 := by simp [Ideal.ofBits, Ideal.ieee, ← EReal.coe_mul]; norm_num; rfl
theorem zero_word : Ideal.ofBits .f32 0x00000000#32 = 0 := by simp [Ideal.ofBits, Ideal.ieee]

/-- The hidden layer's cotangent where the sign decides, and where the maximum does. -/
theorem gate (u d : EReal) : (if 0 < u then d * (2 * max u 0) else 0) = d * 2 * max u 0 := by
  split_ifs with h
  · rw [mul_assoc]
  · rw [max_eq_right (not_lt.mp h), mul_zero]

theorem up_eq (X : Vec Ideal S2048x2048 .bf16) (W : Vec Ideal S2048x8192 .bf16) : (Host.dotGeneral dot_S2048x2048_S2048x8192_S2048x8192_1_0_0_1_n_n none (extf .f32 X bitsLt_bf16_f32) (extf .f32 W bitsLt_bf16_f32) : FVec Ideal S2048x8192 .f32) = nn (M := 2048) (K := 2048) (N := 8192) X W := by
  funext i
  unfold nn
  pointwise
theorem back_eq (D : Vec Ideal S2048x2048 .bf16) (V : Vec Ideal S8192x2048 .bf16) : (Host.dotGeneral dot_S2048x2048_S8192x2048_S2048x8192_1_1_0_0_n_n none (extf .f32 D bitsLt_bf16_f32) (extf .f32 V bitsLt_bf16_f32) : FVec Ideal S2048x8192 .f32) = nt (M := 2048) (K := 2048) (N := 8192) D V := by
  funext i
  unfold nt
  pointwise
theorem gate_eq (U C : FVec Ideal S2048x8192 .f32) : (select (cmpf .ogt U (broadcastInDim S2048x8192 ![] bcast_S_S2048x8192 (constant S_ .f32 0x00000000#32))) (mulf C (mulf (broadcastInDim S2048x8192 ![] bcast_S_S2048x8192 (constant S_ .f32 0x40000000#32)) (maximumf U (broadcastInDim S2048x8192 ![] bcast_S_S2048x8192 (constant S_ .f32 0x00000000#32))))) (broadcastInDim S2048x8192 ![] bcast_S_S2048x8192 (constant S_ .f32 0x00000000#32)) : FVec Ideal S2048x8192 .f32) = sqReluGrad (M := 2048) (N := 8192) U C := by
  funext i
  unfold sqReluGrad
  pointwise
  simp only [two_word]
  exact gate _ _
theorem act_eq (U : FVec Ideal S2048x8192 .f32) : (mulf (maximumf U (broadcastInDim S2048x8192 ![] bcast_S_S2048x8192 (constant S_ .f32 0x00000000#32))) (maximumf U (broadcastInDim S2048x8192 ![] bcast_S_S2048x8192 (constant S_ .f32 0x00000000#32))) : FVec Ideal S2048x8192 .f32) = sqRelu (M := 2048) (N := 8192) U := by
  funext i
  unfold sqRelu
  pointwise
theorem gUp_eq (X : Vec Ideal S2048x2048 .bf16) (G : FVec Ideal S2048x8192 .f32) : (truncf .bf16 (transpose S2048x8192 [1, 0] (Host.dotGeneral dot_S2048x8192_S2048x2048_S8192x2048_0_0_1_1_n_n none G (extf .f32 X bitsLt_bf16_f32)) transposes_S8192x2048_S2048x8192_1_0) bitsLt_bf16_f32 : FVec Ideal S2048x8192 .bf16) = tn (M := 2048) (K := 2048) (N := 8192) X G := by
  funext i
  unfold tn
  pointwise
  exact Finset.sum_congr rfl fun k _ => mul_comm _ _
theorem gDown_eq (D : Vec Ideal S2048x2048 .bf16) (R : FVec Ideal S2048x8192 .f32) : (truncf .bf16 (transpose S8192x2048 [1, 0] (Host.dotGeneral dot_S2048x2048_S2048x8192_S2048x8192_0_0_1_1_n_n none (extf .f32 D bitsLt_bf16_f32) R) transposes_S2048x8192_S8192x2048_1_0) bitsLt_bf16_f32 : FVec Ideal S8192x2048 .bf16) = tn (M := 8192) (K := 2048) (N := 2048) R D := by
  funext i
  unfold tn
  pointwise
  exact Finset.sum_congr rfl fun k _ => mul_comm _ _

/-- The two weight gradients of the arguments. -/
abbrev gUp (X : Vec Ideal S2048x2048 .bf16) (W : Vec Ideal S2048x8192 .bf16) (V : Vec Ideal S8192x2048 .bf16) (D : Vec Ideal S2048x2048 .bf16) : (Mat 2048 8192).Idx → EReal :=
  tn (M := 2048) (K := 2048) (N := 8192) X (sqReluGrad (M := 2048) (N := 8192) (nn (M := 2048) (K := 2048) (N := 8192) X W) (nt (M := 2048) (K := 2048) (N := 8192) D V))
abbrev gDown (X : Vec Ideal S2048x2048 .bf16) (W : Vec Ideal S2048x8192 .bf16) (D : Vec Ideal S2048x2048 .bf16) : (Mat 8192 2048).Idx → EReal :=
  tn (M := 8192) (K := 2048) (N := 2048) (sqRelu (M := 2048) (N := 8192) (nn (M := 2048) (K := 2048) (N := 8192) X W)) D
theorem gUp_result (X : Vec Ideal S2048x2048 .bf16) (W : Vec Ideal S2048x8192 .bf16) (V : Vec Ideal S8192x2048 .bf16) (D : Vec Ideal S2048x2048 .bf16) : (truncf .bf16 (transpose S2048x8192 [1, 0] (Host.dotGeneral dot_S2048x8192_S2048x2048_S8192x2048_0_0_1_1_n_n none (select (cmpf .ogt (Host.dotGeneral dot_S2048x2048_S2048x8192_S2048x8192_1_0_0_1_n_n none (extf (F := Ideal) .f32 X bitsLt_bf16_f32) (extf (F := Ideal) .f32 W bitsLt_bf16_f32)) (broadcastInDim S2048x8192 ![] bcast_S_S2048x8192 (constant (F := Ideal) S_ .f32 0x00000000#32))) (mulf (Host.dotGeneral dot_S2048x2048_S8192x2048_S2048x8192_1_1_0_0_n_n none (extf (F := Ideal) .f32 D bitsLt_bf16_f32) (extf (F := Ideal) .f32 V bitsLt_bf16_f32)) (mulf (broadcastInDim S2048x8192 ![] bcast_S_S2048x8192 (constant (F := Ideal) S_ .f32 0x40000000#32)) (maximumf (Host.dotGeneral dot_S2048x2048_S2048x8192_S2048x8192_1_0_0_1_n_n none (extf (F := Ideal) .f32 X bitsLt_bf16_f32) (extf (F := Ideal) .f32 W bitsLt_bf16_f32)) (broadcastInDim S2048x8192 ![] bcast_S_S2048x8192 (constant (F := Ideal) S_ .f32 0x00000000#32))))) (broadcastInDim S2048x8192 ![] bcast_S_S2048x8192 (constant (F := Ideal) S_ .f32 0x00000000#32))) (extf (F := Ideal) .f32 X bitsLt_bf16_f32)) transposes_S8192x2048_S2048x8192_1_0) bitsLt_bf16_f32 : FVec Ideal S2048x8192 .bf16) = gUp X W V D :=
  (gUp_eq X _).trans (congrArg (tn (M := 2048) (K := 2048) (N := 8192) X) ((gate_eq _ _).trans (congrArg₂ (sqReluGrad (M := 2048) (N := 8192)) (up_eq X W) (back_eq D V))))
theorem gDown_result (X : Vec Ideal S2048x2048 .bf16) (W : Vec Ideal S2048x8192 .bf16) (D : Vec Ideal S2048x2048 .bf16) : (truncf .bf16 (transpose S8192x2048 [1, 0] (Host.dotGeneral dot_S2048x2048_S2048x8192_S2048x8192_0_0_1_1_n_n none (extf .f32 D bitsLt_bf16_f32) (mulf (maximumf (Host.dotGeneral dot_S2048x2048_S2048x8192_S2048x8192_1_0_0_1_n_n none (extf .f32 X bitsLt_bf16_f32) (extf .f32 W bitsLt_bf16_f32)) (broadcastInDim S2048x8192 ![] bcast_S_S2048x8192 (constant S_ .f32 0x00000000#32))) (maximumf (Host.dotGeneral dot_S2048x2048_S2048x8192_S2048x8192_1_0_0_1_n_n none (extf .f32 X bitsLt_bf16_f32) (extf .f32 W bitsLt_bf16_f32)) (broadcastInDim S2048x8192 ![] bcast_S_S2048x8192 (constant S_ .f32 0x00000000#32))))) transposes_S2048x8192_S8192x2048_1_0) bitsLt_bf16_f32 : FVec Ideal S8192x2048 .bf16) = gDown X W D :=
  (gDown_eq D _).trans (congrArg (fun R => tn (M := 8192) (K := 2048) (N := 2048) R D) ((act_eq _).trans (congrArg (sqRelu (M := 2048) (N := 8192)) (up_eq X W))))

theorem run (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_v22) = gUp (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v23) = gDown (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h c).1.trans (gUp_result _ _ _ _), (h c).2.1.trans (gDown_result _ _ _), (h c).2.2⟩,
    Idealize.ShloMosaic.sem_eq_zero_of_no_sems (by decide) r.2⟩) (Value.run (F := Ideal) m ρ)

end Cert.Reference2Ideal.Products

end
-- ==== Proof.Products.Claims.lean ====
/- The products' value claims: each program's results and its reference's are the same products of the arguments. -/
module
public import proofs.«01_k».proof.Defs
public import proofs.«01_k».proof.Proof.Products.Mlp
public import proofs.«01_k».proof.Proof.Products.UpBack
public import proofs.«01_k».proof.Proof.Products.Projections
public import proofs.«01_k».proof.Proof.Products.InGrad
public import proofs.«01_k».proof.Proof.Products.Forward
public import proofs.«01_k».proof.Proof.Products.InBack
public import proofs.«01_k».proof.Proof.Products.Down
public import proofs.«01_k».proof.Proof.Products.Ref
public import proofs.«01_k».proof.Proof.Gen.Kernel2
public import proofs.«01_k».proof.Proof.Gen.Kernel2Ideal
public import proofs.«01_k».proof.Proof.Gen.Reference2Ideal
public import proofs.«01_k».proof.Proof.Gen.Kernel2.Frame
public import proofs.«01_k».proof.Proof.Gen.Kernel3
public import proofs.«01_k».proof.Proof.Gen.Kernel3Ideal
public import proofs.«01_k».proof.Proof.Gen.Reference3Ideal
public import proofs.«01_k».proof.Proof.Gen.Kernel3.Frame
public import proofs.«01_k».proof.Proof.Gen.Kernel4
public import proofs.«01_k».proof.Proof.Gen.Kernel4Ideal
public import proofs.«01_k».proof.Proof.Gen.Reference4Ideal
public import proofs.«01_k».proof.Proof.Gen.Kernel4.Frame
public import proofs.«01_k».proof.Proof.Gen.Kernel5
public import proofs.«01_k».proof.Proof.Gen.Kernel5Ideal
public import proofs.«01_k».proof.Proof.Gen.Reference5Ideal
public import proofs.«01_k».proof.Proof.Gen.Kernel5.Frame
public import proofs.«01_k».proof.Proof.Gen.Kernel6
public import proofs.«01_k».proof.Proof.Gen.Kernel6Ideal
public import proofs.«01_k».proof.Proof.Gen.Reference6Ideal
public import proofs.«01_k».proof.Proof.Gen.Kernel6.Frame
public import proofs.«01_k».proof.Proof.Gen.Kernel7
public import proofs.«01_k».proof.Proof.Gen.Kernel7Ideal
public import proofs.«01_k».proof.Proof.Gen.Reference7Ideal
public import proofs.«01_k».proof.Proof.Gen.Kernel7.Frame
public import proofs.«01_k».proof.Proof.Gen.Kernel8
public import proofs.«01_k».proof.Proof.Gen.Kernel8Ideal
public import proofs.«01_k».proof.Proof.Gen.Reference8Ideal
public import proofs.«01_k».proof.Proof.Gen.Kernel8.Frame
public import Idealize.ShloMosaic.Lib.Pointwise

@[expose] public section

set_option maxRecDepth 16384

noncomputable section

namespace Cert.Proof

open Idealize.ShloMosaic Idealize.ShloMosaic.TcCoe Idealize.ShloMosaic.Tactic
open Idealize.SL.Sem
open Cert.Prod

/-- A strided read of the columns is those columns. -/
theorem right_eq (m : (ℓ : Loc Cert.Kernel5Ideal.nD Cert.Kernel5Ideal.τ Cert.Kernel5Ideal.sig) → Buf (Elt Ideal) ℓ) (c : Dev Cert.Kernel5Ideal.nD) :
    Cert.Kernel5Ideal.Products.right m c = Cert.Reference5Ideal.Products.cols 1024 (m ((c : Thread Cert.Kernel5Ideal.nD Cert.Kernel5Ideal.τ).loc Cert.Kernel5Ideal.main_arg0)) (by decide) := by
  funext i
  unfold Cert.Kernel5Ideal.Products.right Cert.Reference5Ideal.Products.cols
  pointwise
theorem left_eq (m : (ℓ : Loc Cert.Kernel5Ideal.nD Cert.Kernel5Ideal.τ Cert.Kernel5Ideal.sig) → Buf (Elt Ideal) ℓ) (c : Dev Cert.Kernel5Ideal.nD) :
    Cert.Kernel5Ideal.Products.left m c = Cert.Reference5Ideal.Products.cols 0 (m ((c : Thread Cert.Kernel5Ideal.nD Cert.Kernel5Ideal.τ).loc Cert.Kernel5Ideal.main_arg0)) (by decide) := by
  funext i
  unfold Cert.Kernel5Ideal.Products.left Cert.Reference5Ideal.Products.cols
  pointwise

theorem frame_reference2 : Cert.quiescent_Reference2Ideal := fun m ρ _ =>
  (θ_run Cert.Reference2Ideal.defs _ _).mono (fun _ h => ⟨fun c => (h.1 c).2.2, h.2⟩) (Cert.Reference2Ideal.Products.run m ρ)

theorem algebraic2 : Cert.algebraic_Kernel2Ideal_Reference2Ideal := fun m ρ m' ρ' _ hag =>
  ⟨fun c => Cert.Kernel2Ideal.Products.gUp m c, fun c => Cert.Kernel2Ideal.Products.gDown m c,
   (θ_run Cert.Kernel2Ideal.defs _ _).mono (fun _ h c => h.1 c) (Cert.Kernel2Ideal.Products.run m ρ),
   (θ_run Cert.Reference2Ideal.defs _ _).mono (fun _ h c => ⟨(h.1 c).1.trans (congrArg₂ (tn (M := 2048) (K := 2048) (N := 8192)) (hag c).1 (congrArg₂ (sqReluGrad (M := 2048) (N := 8192)) (congrArg₂ (nn (M := 2048) (K := 2048) (N := 8192)) (hag c).1 (hag c).2.1) (congrArg₂ (nt (M := 2048) (K := 2048) (N := 8192)) (hag c).2.2.2 (hag c).2.2.1))), (h.1 c).2.1.trans (congrArg₂ (tn (M := 8192) (K := 2048) (N := 2048)) (congrArg (sqRelu (M := 2048) (N := 8192)) (congrArg₂ (nn (M := 2048) (K := 2048) (N := 8192)) (hag c).1 (hag c).2.1)) (hag c).2.2.2), (h.1 c).2.2⟩) (Cert.Reference2Ideal.Products.run m' ρ')⟩

theorem frame_reference3 : Cert.quiescent_Reference3Ideal := fun m ρ _ =>
  (θ_run Cert.Reference3Ideal.defs _ _).mono (fun _ h => ⟨fun c => (h.1 c).2, h.2⟩) (Cert.Reference3Ideal.Products.run m ρ)

theorem algebraic3 : Cert.algebraic_Kernel3Ideal_Reference3Ideal := fun m ρ m' ρ' _ hag =>
  ⟨fun c => Cert.Kernel3Ideal.Products.prod c m,
   (θ_run Cert.Kernel3Ideal.defs _ _).mono (fun _ h c => h c) (Cert.Kernel3Ideal.Products.run m ρ),
   (θ_run Cert.Reference3Ideal.defs _ _).mono (fun _ h c => ⟨(h.1 c).1.trans (congrArg₂ (nt (M := 2048) (K := 8192) (N := 2048)) (hag c).1 (hag c).2), (h.1 c).2⟩) (Cert.Reference3Ideal.Products.run m' ρ')⟩

theorem frame_reference4 : Cert.quiescent_Reference4Ideal := fun m ρ _ =>
  (θ_run Cert.Reference4Ideal.defs _ _).mono (fun _ h => ⟨fun c => (h.1 c).2.2.2.2.2.2, h.2⟩) (Cert.Reference4Ideal.Products.run m ρ)

theorem algebraic4 : Cert.algebraic_Kernel4Ideal_Reference4Ideal := fun m ρ m' ρ' _ hag =>
  ⟨fun c => Cert.Kernel4Ideal.Products.dO m c, fun c => Cert.Kernel4Ideal.Products.gOAttn m c, fun c => Cert.Kernel4Ideal.Products.dU m c, fun c => Cert.Kernel4Ideal.Products.gORnn m c, fun c => Cert.Kernel4Ideal.Products.dMrg m c, fun c => Cert.Kernel4Ideal.Products.gOut m c,
   (θ_run Cert.Kernel4Ideal.defs _ _).mono (fun _ h c => h.1 c) (Cert.Kernel4Ideal.Products.run m ρ),
   (θ_run Cert.Reference4Ideal.defs _ _).mono (fun _ h c => ⟨(h.1 c).1.trans (congrArg₂ (nt (M := 2048) (K := 2048) (N := 2048)) (hag c).2.2.1 (hag c).2.1), (h.1 c).2.1.trans (congrArg₂ (tn (M := 2048) (K := 2048) (N := 2048)) (hag c).1 (hag c).2.2.1), (h.1 c).2.2.1.trans (congrArg₂ (nt (M := 2048) (K := 2048) (N := 2048)) (hag c).2.2.2.2.2.1 (hag c).2.2.2.2.1), (h.1 c).2.2.2.1.trans (congrArg₂ (tn (M := 2048) (K := 2048) (N := 2048)) (hag c).2.2.2.1 (hag c).2.2.2.2.2.1), (h.1 c).2.2.2.2.1.trans (congrArg₂ (nt (M := 2048) (K := 2048) (N := 2048)) (hag c).2.2.2.2.2.2.2.2 (hag c).2.2.2.2.2.2.2.1), (h.1 c).2.2.2.2.2.1.trans (congrArg₂ (tn (M := 2048) (K := 2048) (N := 2048)) (hag c).2.2.2.2.2.2.1 (hag c).2.2.2.2.2.2.2.2), (h.1 c).2.2.2.2.2.2⟩) (Cert.Reference4Ideal.Products.run m' ρ')⟩

theorem frame_reference5 : Cert.quiescent_Reference5Ideal := fun m ρ _ =>
  (θ_run Cert.Reference5Ideal.defs _ _).mono (fun _ h => ⟨fun c => (h.1 c).2.2, h.2⟩) (Cert.Reference5Ideal.Products.run m ρ)

theorem algebraic5 : Cert.algebraic_Kernel5Ideal_Reference5Ideal := fun m ρ m' ρ' _ hag =>
  ⟨fun c => Cert.Kernel5Ideal.Products.gOwn m c, fun c => Cert.Kernel5Ideal.Products.gSibling m c,
   (θ_run Cert.Kernel5Ideal.defs _ _).mono (fun _ h c => h.1 c) (Cert.Kernel5Ideal.Products.run m ρ),
   (θ_run Cert.Reference5Ideal.defs _ _).mono (fun _ h c => ⟨(h.1 c).1.trans (congrArg₂ (tn (M := 1024) (K := 2304) (N := 11264)) ((congrArg (fun X => Cert.Reference5Ideal.Products.cols 0 X (by decide)) (hag c).1).trans (left_eq m c).symm) (hag c).2), (h.1 c).2.1.trans (congrArg₂ (tn (M := 1024) (K := 2304) (N := 11264)) ((congrArg (fun X => Cert.Reference5Ideal.Products.cols 1024 X (by decide)) (hag c).1).trans (right_eq m c).symm) (hag c).2), (h.1 c).2.2⟩) (Cert.Reference5Ideal.Products.run m' ρ')⟩

theorem frame_reference6 : Cert.quiescent_Reference6Ideal := fun m ρ _ =>
  (θ_run Cert.Reference6Ideal.defs _ _).mono (fun _ h => ⟨fun c => (h.1 c).2.2, h.2⟩) (Cert.Reference6Ideal.Products.run m ρ)

theorem algebraic6 : Cert.algebraic_Kernel6Ideal_Reference6Ideal := fun m ρ m' ρ' _ hag =>
  ⟨fun c => Cert.Kernel6Ideal.Products.z m c, fun c => Cert.Kernel6Ideal.Products.y m c,
   (θ_run Cert.Kernel6Ideal.defs _ _).mono (fun _ h c => h.1 c) (Cert.Kernel6Ideal.Products.run m ρ),
   (θ_run Cert.Reference6Ideal.defs _ _).mono (fun _ h c => ⟨(h.1 c).1.trans (congrArg₂ (nn (M := 2304) (K := 2048) (N := 11264)) (hag c).1 (hag c).2.1), (h.1 c).2.1.trans (congrArg₂ (nn (M := 2048) (K := 2048) (N := 2048)) (hag c).2.2.1 (hag c).2.2.2), (h.1 c).2.2⟩) (Cert.Reference6Ideal.Products.run m' ρ')⟩

theorem frame_reference7 : Cert.quiescent_Reference7Ideal := fun m ρ _ =>
  (θ_run Cert.Reference7Ideal.defs _ _).mono (fun _ h => ⟨fun c => (h.1 c).2, h.2⟩) (Cert.Reference7Ideal.Products.run m ρ)

theorem algebraic7 : Cert.algebraic_Kernel7Ideal_Reference7Ideal := fun m ρ m' ρ' _ hag =>
  ⟨fun c => Cert.Kernel7Ideal.Products.prod c m,
   (θ_run Cert.Kernel7Ideal.defs _ _).mono (fun _ h c => h c) (Cert.Kernel7Ideal.Products.run m ρ),
   (θ_run Cert.Reference7Ideal.defs _ _).mono (fun _ h c => ⟨(h.1 c).1.trans (congrArg₂ (nt (M := 2304) (K := 11264) (N := 2048)) (hag c).1 (hag c).2), (h.1 c).2⟩) (Cert.Reference7Ideal.Products.run m' ρ')⟩

theorem frame_reference8 : Cert.quiescent_Reference8Ideal := fun m ρ _ =>
  (θ_run Cert.Reference8Ideal.defs _ _).mono (fun _ h => ⟨fun c => (h.1 c).2, h.2⟩) (Cert.Reference8Ideal.Products.run m ρ)

theorem algebraic8 : Cert.algebraic_Kernel8Ideal_Reference8Ideal := fun m ρ m' ρ' _ hag =>
  ⟨fun c => Cert.Kernel8Ideal.Products.prod c m,
   (θ_run Cert.Kernel8Ideal.defs _ _).mono (fun _ h c => h c) (Cert.Kernel8Ideal.Products.run m ρ),
   (θ_run Cert.Reference8Ideal.defs _ _).mono (fun _ h c => ⟨(h.1 c).1.trans (congrArg₂ (nn (M := 2048) (K := 8192) (N := 2048)) (hag c).1 (hag c).2), (h.1 c).2⟩) (Cert.Reference8Ideal.Products.run m' ρ')⟩

end Cert.Proof

end
-- ==== Proof.Attention.Math.lean ====
/- Attention over the reals, one query row at a time: the scores, their softmax, the row it mixes, and the gradients. Then the
   same numbers as extended reals: sums, maxima and exponentials of reals are real. -/
module

public import Idealize.ShloMosaic.Lib.Pointwise

@[expose] public section

noncomputable section

namespace Cert.Attn

open Idealize.ShloMosaic

/-! ## Reals among the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of the reals `s t`. -/
def top {T : ℕ} (s : Fin T → ℝ) : ℝ := (Finset.univ.fold max (⊥ : EReal) fun t => (s t : EReal)).toReal

theorem coe_top {T : ℕ} [NeZero T] (s : Fin T → ℝ) : (Finset.univ.fold max (⊥ : EReal) fun t => (s t : EReal)) = (top s : EReal) := by
  have hle : (s 0 : EReal) ≤ Finset.univ.fold max (⊥ : EReal) fun t => (s t : EReal) :=
    (Finset.le_fold_max _).2 (.inr ⟨0, Finset.mem_univ _, le_rfl⟩)
  have hlt : (Finset.univ.fold max (⊥ : EReal) fun t => (s t : EReal)) < ⊤ :=
    (Finset.fold_max_lt _).2 ⟨bot_lt_top, fun t _ => EReal.coe_lt_top _⟩
  exact (EReal.coe_toReal hlt.ne (fun h => (EReal.bot_lt_coe (s 0)).not_ge (h ▸ hle))).symm

/-- The bits of `-∞`. -/
theorem ofBits_bot : Ideal.ofBits .f32 0xFF800000#32 = ⊥ := by simp [Ideal.ofBits, Ideal.ieee]

theorem one_div_coe {y : ℝ} (h : y ≠ 0) : Ideal.div 1 (y : EReal) = ((1 / y : ℝ) : EReal) := by
  rw [Ideal.div_coe h, one_mul]

theorem div_coe_coe {y : ℝ} (h : y ≠ 0) (x : ℝ) : Ideal.div (x : EReal) (y : EReal) = ((x / y : ℝ) : EReal) := by
  rw [Ideal.div_coe h, ← EReal.coe_mul, mul_one_div]

theorem log_coe_pos {y : ℝ} (h : 0 < y) : Ideal.log (y : EReal) = ((Real.log y : ℝ) : EReal) := by
  rw [Ideal.log_coe, if_neg (not_le.2 h)]

/-- An index of a matrix by its two coordinates. -/
theorem eq_ix2 {m n : ℕ} (x : (⟨2, ![m, n]⟩ : Shape).Idx) (r : Fin m) (d : Fin n) (hr : (x 0).val = r) (hd : (x 1).val = d) : x = ix2 r d := by
  funext a
  match a with
  | 0 => exact Fin.ext hr
  | 1 => exact Fin.ext hd

/-! ## One row -/

variable {D T : ℕ}

/-- The scaled scores of the query `q` against the keys `k`. -/
def score (c : ℝ) (q : Fin D → ℝ) (k : Fin T → Fin D → ℝ) (t : Fin T) : ℝ := (∑ d, q d * k t d) * c
/-- The softmax's weights, their sum, and the probabilities. -/
def wt (s : Fin T → ℝ) (t : Fin T) : ℝ := Real.exp (s t - top s)
def mass (s : Fin T → ℝ) : ℝ := ∑ t, wt s t
def prob (s : Fin T → ℝ) (t : Fin T) : ℝ := wt s t / mass s
/-- The row's log-sum. -/
def lse (s : Fin T → ℝ) : ℝ := top s + Real.log (mass s)
/-- The values `v` mixed by the weights `p`. -/
def mix (p : Fin T → ℝ) (v : Fin T → Fin D → ℝ) (d : Fin D) : ℝ := ∑ t, p t * v t d
/-- The same of extended reals. -/
def blend (p : Fin T → ℝ) (v : Fin T → Fin D → EReal) (d : Fin D) : EReal := ∑ t, (p t : EReal) * v t d
/-- The cotangent `o` of the mixed row, pulled back to the weights. -/
def pull (o : Fin D → ℝ) (v : Fin T → Fin D → ℝ) (t : Fin T) : ℝ := ∑ d, o d * v t d
/-- The cotangent of the scores. -/
def slope (p dp : Fin T → ℝ) (t : Fin T) : ℝ := p t * (dp t - ∑ u, p u * dp u)

theorem mass_pos [NeZero T] (s : Fin T → ℝ) : 0 < mass s :=
  Finset.sum_pos (fun _ _ => Real.exp_pos _) ⟨0, Finset.mem_univ _⟩

theorem blend_coe (p : Fin T → ℝ) (v : Fin T → Fin D → ℝ) (d : Fin D) : blend p (fun t d => (v t d : EReal)) d = (mix p v d : EReal) := by
  simp only [blend, mix, ← EReal.coe_mul, ← coe_sum]

/-- The probabilities from the saved log-sum. -/
theorem exp_sub_lse [NeZero T] (s : Fin T → ℝ) (t : Fin T) : Real.exp (s t - lse s) = prob s t := by
  have h := mass_pos s
  rw [lse, ← sub_sub, Real.exp_sub, Real.exp_log h]
  rfl

/-- The product of the cotangent with the mixed row is the mean of the pulled-back cotangent. -/
theorem sum_mul_mix (p : Fin T → ℝ) (o : Fin D → ℝ) (v : Fin T → Fin D → ℝ) : ∑ d, o d * mix p v d = ∑ t, p t * pull o v t := by
  simp only [mix, pull, Finset.mul_sum]
  rw [Finset.sum_comm]
  exact Finset.sum_congr rfl fun t _ => Finset.sum_congr rfl fun d _ => by ring

/-- The derivative of `e / l` along `e`, `l` being the sum of the `e`: the cotangent of the scores. -/
theorem slope_eq [NeZero T] (s dp : Fin T → ℝ) (t : Fin T) :
    (dp t / mass s + -∑ u, dp u * (1 / (mass s * mass s)) * wt s u) * wt s t = slope (prob s) dp t := by
  have h : mass s ≠ 0 := (mass_pos s).ne'
  have e : ∑ u, dp u * (1 / (mass s * mass s)) * wt s u = (∑ u, prob s u * dp u) / mass s := by
    rw [Finset.sum_div]
    exact Finset.sum_congr rfl fun u _ => by unfold prob; field_simp
  rw [e]
  unfold slope prob
  field_simp
  ring

/-! ## All heads: `4` heads of keys and values, `4` query heads to each, `2048` queries, `2304` keys, rows of `128`. -/

/-- The scale of the scores. -/
abbrev scale : ℝ := (Real.sqrt 128)⁻¹

/-- Queries (and cotangents of the output) by key head, member of its group, position; keys and values by head and position. -/
abbrev Queries := Fin 4 → Fin 4 → Fin 2048 → Fin 128 → ℝ
abbrev Keys := Fin 4 → Fin 2304 → Fin 128 → ℝ

/-! The arrays hold the heads side by side: the queries' rows begin after 256 context rows, the values' columns at 2560. -/

def queries {α : Type} (A : (⟨2, ![2304, 2048]⟩ : Shape).Idx → α) (h g : Fin 4) (r : Fin 2048) (d : Fin 128) : α :=
  A (ix2 ⟨256 + r, by omega⟩ ⟨512 * h + (128 * g + d), by omega⟩)
def keys {α : Type} (A : (⟨2, ![2304, 512]⟩ : Shape).Idx → α) (h : Fin 4) (t : Fin 2304) (d : Fin 128) : α :=
  A (ix2 t ⟨128 * h + d, by omega⟩)
def values {α : Type} (A : (⟨2, ![2304, 11264]⟩ : Shape).Idx → α) (h : Fin 4) (t : Fin 2304) (d : Fin 128) : α :=
  A (ix2 t ⟨2560 + (128 * h + d), by omega⟩)
def cotangents {α : Type} (A : (⟨2, ![2048, 2048]⟩ : Shape).Idx → α) (h g : Fin 4) (r : Fin 2048) (d : Fin 128) : α :=
  A (ix2 r ⟨512 * h + (128 * g + d), by omega⟩)

variable (q o : Queries) (k v : Keys)

def S (h g : Fin 4) (r : Fin 2048) : Fin 2304 → ℝ := score scale (q h g r) (k h)
def P (h g : Fin 4) (r : Fin 2048) : Fin 2304 → ℝ := prob (S q k h g r)
def DS (h g : Fin 4) (r : Fin 2048) : Fin 2304 → ℝ := slope (P q k h g r) (pull (o h g r) (v h))
/-- The output, and the three gradients. -/
def O (h g : Fin 4) (r : Fin 2048) : Fin 128 → ℝ := mix (P q k h g r) (v h)
def DQ (h g : Fin 4) (r : Fin 2048) (d : Fin 128) : ℝ := (∑ t, DS q o k v h g r t * k h t d) * scale
def DK (h : Fin 4) (t : Fin 2304) (d : Fin 128) : ℝ := (∑ r, ∑ g, DS q o k v h g r t * q h g r d) * scale
def DV (h : Fin 4) (t : Fin 2304) (d : Fin 128) : ℝ := ∑ r, ∑ g, P q k h g r t * o h g r d

end Cert.Attn

end
-- ==== Proof.Attention.Rows.lean ====
/- The attention's forward call: what its body computes, row by row: the softmax's mixture of the values and its log-sum. -/
module

public import proofs.«01_k».proof.Proof.Gen.Kernel10Ideal.Skeleton
public import proofs.«01_k».proof.Proof.Attention.Math
public import Idealize.ShloMosaic.Lib.Pointwise

@[expose] public section

set_option maxRecDepth 16384

noncomputable section

namespace Cert.Kernel10Ideal.Attention

open Idealize.ShloMosaic Idealize.ShloMosaic.TcCoe Idealize.ShloMosaic.Tactic
open Cert.Kernel10Ideal Cert.Kernel10Ideal.Gen Cert.Attn

theorem named : Named.named (F := Ideal) (φ := .f32) κ "scale" 0x3DB504F3#32 = ((scale : ℝ) : EReal) :=
  IdealRules.named_const.ideal_named_scalar κ "scale" _ _ rfl

/-! ## One query head's rows, for real queries, keys and values -/

section Rows
variable (K : S2304x128.Idx → ℝ) (Q : S256x128.Idx → ℝ) (V : S2304x128.Idx → EReal) (r : Fin 256)

/-- The scores of row `r`. -/
abbrev sc : Fin 2304 → ℝ := score scale (fun d => Q (ix2 r d)) (fun t d => K (ix2 t d))

theorem pay_score (t : Fin 2304) : k0_pay9 (F := Ideal) (fun i => (K i : EReal)) (fun i => (Q i : EReal)) (ix2 r t) = (sc K Q r t : EReal) := by
  unfold k0_pay9
  pointwise
  rw [named]
  simp only [← EReal.coe_mul, ← coe_sum]
  rfl

theorem pay_top : k0_pay10 (F := Ideal) (fun i => (K i : EReal)) (fun i => (Q i : EReal)) (ix2 r 0) = (top (sc K Q r) : EReal) := by
  unfold k0_pay10
  pointwise
  simp only [pay_score, ofBits_bot]
  exact coe_top _

theorem pay_wt (t : Fin 2304) : k0_pay11 (F := Ideal) (fun i => (K i : EReal)) (fun i => (Q i : EReal)) (ix2 r t) = (wt (sc K Q r) t : EReal) := by
  unfold k0_pay11
  pointwise
  rw [pay_score, pay_top, ← EReal.coe_sub, Ideal.exp_coe]
  rfl

theorem pay_mass : k0_pay12 (F := Ideal) (fun i => (K i : EReal)) (fun i => (Q i : EReal)) (ix2 r 0) = (mass (sc K Q r) : EReal) := by
  unfold k0_pay12
  pointwise
  simp only [pay_wt, ← coe_sum]
  rfl

theorem pay_mix (d : Fin 128) : k0_pay13 (F := Ideal) (fun i => (K i : EReal)) V (fun i => (Q i : EReal)) (ix2 r d)
    = blend (prob (sc K Q r)) (fun t d => V (ix2 t d)) d := by
  unfold k0_pay13 k0_pay7
  pointwise
  simp only [pay_wt, pay_mass, one_div_coe (mass_pos _).ne', ← EReal.coe_mul, mul_one_div]
  rfl

theorem pay_lse : k0_pay14 (F := Ideal) (fun i => (K i : EReal)) (fun i => (Q i : EReal)) (ix2 r 0) = (lse (sc K Q r) : EReal) := by
  unfold k0_pay14
  pointwise
  rw [pay_top, pay_mass, log_coe_pos (mass_pos _), ← EReal.coe_add]
  rfl
end Rows

end Cert.Kernel10Ideal.Attention

end
-- ==== Proof.Attention.Arrays.lean ====
/- The attention's result arrays, the heads side by side. -/
module

public import proofs.«01_k».proof.Proof.Attention.Math

@[expose] public section

noncomputable section

namespace Cert.Attn

open Idealize.ShloMosaic

theorem exists_ix2 {m n : ℕ} (x : (⟨2, ![m, n]⟩ : Shape).Idx) : ∃ (r : Fin m) (c : Fin n), x = ix2 r c := ⟨x 0, x 1, eq_ix2 x _ _ rfl rfl⟩

/-- The rows of the queries after the context, all real. -/
def RealQ (A : (⟨2, ![2304, 2048]⟩ : Shape).Idx → EReal) : Prop := ∀ i, 256 ≤ (i 0).val → A i = ((A i).toReal : EReal)
/-- A matrix of reals. -/
def RealM {m n : ℕ} (A : (⟨2, ![m, n]⟩ : Shape).Idx → EReal) : Prop := ∀ i, A i = ((A i).toReal : EReal)

/-- The array's reals. -/
abbrev re {s : Shape} (A : s.Idx → EReal) : s.Idx → ℝ := fun i => (A i).toReal

/-- The mixed rows, `128` columns to a query head, `512` to a key head. -/
def outs (q : Queries) (k : Keys) (v : Fin 4 → Fin 2304 → Fin 128 → EReal) : (⟨2, ![2048, 2048]⟩ : Shape).Idx → EReal := fun i =>
  have h : (i 1).val < 2048 := (i 1).2
  blend (P q k ⟨(i 1).val / 512, by omega⟩ ⟨(i 1).val % 512 / 128, by omega⟩ (i 0)) (v ⟨(i 1).val / 512, by omega⟩) ⟨(i 1).val % 128, by omega⟩

/-- The log-sums, `128` columns to a key head, its group's members in the first four. -/
def lses (q : Queries) (k : Keys) : (⟨2, ![2048, 512]⟩ : Shape).Idx → EReal := fun i =>
  have h : (i 1).val < 512 := (i 1).2
  if g : (i 1).val % 128 < 4 then (lse (S q k ⟨(i 1).val / 128, by omega⟩ ⟨(i 1).val % 128, g⟩ (i 0)) : EReal) else 0

theorem outs_at (q : Queries) (k : Keys) (v : Fin 4 → Fin 2304 → Fin 128 → EReal) (h g : Fin 4) (r : Fin 2048) (d : Fin 128)
    (i : (⟨2, ![2048, 2048]⟩ : Shape).Idx) (hr : (i 0).val = r) (hc : (i 1).val = 512 * h + (128 * g + d)) : outs q k v i = blend (P q k h g r) (v h) d := by
  have e : (⟨(i 1).val / 512, by have : (i 1).val < 2048 := (i 1).2; omega⟩ : Fin 4) = h := Fin.ext (by simp only; omega)
  have e' : (⟨(i 1).val % 512 / 128, by omega⟩ : Fin 4) = g := Fin.ext (by simp only; omega)
  have e'' : (⟨(i 1).val % 128, by omega⟩ : Fin 128) = d := Fin.ext (by simp only; omega)
  have e''' : i 0 = r := Fin.ext hr
  unfold outs
  dsimp only
  rw [e, e', e'', e''']

theorem lses_at (q : Queries) (k : Keys) (h g : Fin 4) (r : Fin 2048) (i : (⟨2, ![2048, 512]⟩ : Shape).Idx) (hr : (i 0).val = r)
    (hc : (i 1).val = 128 * h + g) : lses q k i = (lse (S q k h g r) : EReal) := by
  have e : (⟨(i 1).val / 128, by have : (i 1).val < 512 := (i 1).2; omega⟩ : Fin 4) = h := Fin.ext (by simp only; omega)
  have hg : (i 1).val % 128 < 4 := by omega
  have e' : (⟨(i 1).val % 128, hg⟩ : Fin 4) = g := Fin.ext (by simp only; omega)
  have e''' : i 0 = r := Fin.ext hr
  unfold lses
  dsimp only
  rw [dif_pos hg, e, e', e''']

theorem lses_off (q : Queries) (k : Keys) (i : (⟨2, ![2048, 512]⟩ : Shape).Idx) (hc : 4 ≤ (i 1).val % 128) : lses q k i = 0 := by
  unfold lses
  dsimp only
  rw [dif_neg (by omega)]

end Cert.Attn

end
-- ==== Proof.Attention.Members.lean ====
/- A block's columns by the member of the group they belong to, as a body loads them. -/
module

public import proofs.«01_k».proof.Proof.Attention.Math
public import Idealize.ShloMosaic.Lib.Pipeline.ValueKit

@[expose] public section

noncomputable section

namespace Cert.Attn

open Idealize.ShloMosaic

/-- The columns of the group's member `g`. -/
def member (Q : (⟨2, ![256, 512]⟩ : Shape).Idx → ℝ) (g : Fin 4) : (⟨2, ![256, 128]⟩ : Shape).Idx → ℝ := fun i =>
  have h : (i 1).val < 128 := (i 1).2
  Q (ix2 (i 0) ⟨128 * g + (i 1).val, by omega⟩)

/-- Its column of the log-sums. -/
def column (L : (⟨2, ![256, 128]⟩ : Shape).Idx → ℝ) (g : Fin 4) : (⟨2, ![256, 1]⟩ : Shape).Idx → ℝ := fun i => L (ix2 (i 0) ⟨g, by omega⟩)

theorem ld_member (Q : (⟨2, ![256, 512]⟩ : Shape).Idx → ℝ) (g : Fin 4) (o : ℕ) (ho : o = 128 * g.val)
    (inb : ∀ a, ![0, o] a + ![256, 128] a ≤ (⟨2, ![256, 512]⟩ : Shape).size a) :
    View.ld (Val := Elt Ideal) (e' := .bf16) (fun i => (Q i : EReal)) (Rect.unit ![0, o] ![256, 128] inb) = fun i => (member Q g i : EReal) := by
  funext i
  have h : (i 1).val < 128 := (i 1).2
  refine View.ld_unit_apply_of _ _ _ inb i (ix2 (i 0) ⟨128 * g + (i 1).val, by omega⟩) fun a => ?_
  subst ho
  match a with
  | 0 => exact (Nat.zero_add _).symm
  | 1 => rfl

theorem ld_column (L : (⟨2, ![256, 128]⟩ : Shape).Idx → ℝ) (g : Fin 4) (o : ℕ) (ho : o = g.val)
    (inb : ∀ a, ![0, o] a + ![256, 1] a ≤ (⟨2, ![256, 128]⟩ : Shape).size a) :
    View.ld (Val := Elt Ideal) (e' := .f32) (fun i => (L i : EReal)) (Rect.unit ![0, o] ![256, 1] inb) = fun i => (column L g i : EReal) := by
  funext i
  have h : (i 1).val < 1 := (i 1).2
  refine View.ld_unit_apply_of _ _ _ inb i (ix2 (i 0) ⟨g, by omega⟩) fun a => ?_
  subst ho
  match a with
  | 0 => exact (Nat.zero_add _).symm
  | 1 =>
    show g.val = g.val + (i 1).val
    omega

end Cert.Attn

end
-- ==== Proof.Attention.Forward.lean ====
/- The attention's forward call: its two result arrays, read as the mixed values and the rows' log-sums. -/
module

public import proofs.«01_k».proof.Proof.Gen.Kernel10Ideal.Value
public import proofs.«01_k».proof.Proof.Attention.Rows
public import proofs.«01_k».proof.Proof.Attention.Arrays
public import proofs.«01_k».proof.Proof.Attention.Members
public import Idealize.ShloMosaic.Lib.Pipeline.ValueKit

@[expose] public section

set_option maxRecDepth 16384

noncomputable section

namespace Cert.Kernel10Ideal.Attention

open Idealize.ShloMosaic Idealize.ShloMosaic.TcCoe Idealize.ShloMosaic.Tactic
open Idealize.SL.Sem
open Cert.Kernel10Ideal Cert.Kernel10Ideal.Gen Cert.Attn

/-! ## One grid point -/

section Block
variable (Q : S256x512.Idx → ℝ) (K : S2304x128.Idx → ℝ) (V : S2304x128.Idx → EReal)

theorem mix_piece (g : Fin 4) (r : Fin 256) (d : Fin 128) (o : ℕ) (ho : o = 128 * g.val) (inb : ∀ a, ![0, o] a + ![256, 128] a ≤ S256x512.size a)
    (x : S256x128.Idx) (hr : (x 0).val = r) (hd : (x 1).val = d) :
    k0_pay13 (F := Ideal) (fun i => (K i : EReal)) V (View.ld (Val := Elt Ideal) (e' := .bf16) (fun i : S256x512.Idx => (Q i : EReal)) (Rect.unit ![0, o] ![256, 128] inb)) x
      = blend (prob (sc K (member Q g) r)) (fun t d => V (ix2 t d)) d := by
  rw [ld_member Q g o ho, eq_ix2 x r d hr hd]
  exact pay_mix ..

theorem lse_piece (g : Fin 4) (r : Fin 256) (o : ℕ) (ho : o = 128 * g.val) (inb : ∀ a, ![0, o] a + ![256, 128] a ≤ S256x512.size a) :
    k0_pay14 (F := Ideal) (fun i => (K i : EReal)) (View.ld (Val := Elt Ideal) (e' := .bf16) (fun i : S256x512.Idx => (Q i : EReal)) (Rect.unit ![0, o] ![256, 128] inb)) (ix2 r 0)
      = (lse (sc K (member Q g) r) : EReal) := by
  rw [ld_member Q g o ho]
  exact pay_lse ..

/-- A buffer whose last store is one column. -/
theorem canon_col (o : ℕ) (inb : ∀ a, ![0, o] a + ![256, 1] a ≤ S256x128.size a) (w : S256x1.Idx → Elt Ideal .f32) (L : List (View.Piece (Elt Ideal) S256x128 .f32)) (y : S256x128.Idx)
    (r : Fin 256) (hr : (y 0).val = r) :
    View.canon (Val := Elt Ideal) (e := .f32) (⟨Rect.unit ![0, o] ![256, 1] inb, w⟩ :: L) y = if (y 1).val = o then w (ix2 r 0) else View.canon L y := by
  split
  · next h =>
    have e : y = (Rect.unit (s := S256x128) ![0, o] ![256, 1] inb).emb (ix2 r 0) := by
      funext a
      match a with
      | 0 => exact Fin.ext (by rw [hr]; simp)
      | 1 => exact Fin.ext (by rw [h]; simp)
    rw [e]
    exact View.canon_cons_emb (Rect.unit (s := S256x128) ![0, o] ![256, 1] inb) w L (ix2 r 0)
  · next h =>
    refine View.canon_cons_of_not_mem _ _ fun hm => h ?_
    have := (Rect.mem_set_unit (inb := inb)).1 hm 1
    simp at this
    omega

variable (c : Dev nD) (i : grid0.Coords) (a0 : Memref sig .tc .vmem S256x512 .bf16) (h0 : a0.IsWhole) (a1 : Memref sig .tc .vmem S2304x128 .bf16) (h1 : a1.IsWhole)
    (a2 : Memref sig .tc .vmem S2304x128 .f32) (h2 : a2.IsWhole) (a3 : Memref sig .tc .vmem S256x512 .bf16) (h3 : a3.IsWhole) (a4 : Memref sig .tc .vmem S256x128 .f32) (h4 : a4.IsWhole)

theorem out_block (g : Fin 4) (r : Fin 256) (d : Fin 128) (y : S256x512.Idx) (hr : (y 0).val = r) (hd : (y 1).val = 128 * g + d) :
    out0_A_3 (F := Ideal) c i a0 h0 a1 h1 a2 h2 a3 h3 a4 h4 (fun i => (Q i : EReal)) (fun i => (K i : EReal)) V y
      = blend (prob (sc K (member Q g) r)) (fun t d => V (ix2 t d)) d := by
  frame_out
  canon_tiles x h
  case piece0 => obtain rfl : g = 3 := Fin.ext (by omega)
                 exact mix_piece Q K V 3 r d 384 rfl _ x (by omega) (by omega)
  case piece1 => obtain rfl : g = 2 := Fin.ext (by omega)
                 exact mix_piece Q K V 2 r d 256 rfl _ x (by omega) (by omega)
  case piece2 => obtain rfl : g = 1 := Fin.ext (by omega)
                 exact mix_piece Q K V 1 r d 128 rfl _ x (by omega) (by omega)
  case piece3 => obtain rfl : g = 0 := Fin.ext (by omega)
                 exact mix_piece Q K V 0 r d 0 rfl _ x (by omega) (by omega)

theorem lse_block (r : Fin 256) (y : S256x128.Idx) (hr : (y 0).val = r) :
    out0_A_4 (F := Ideal) c i a0 h0 a1 h1 a2 h2 a3 h3 a4 h4 (fun i => (Q i : EReal)) (fun i => (K i : EReal)) V y
      = if g : (y 1).val < 4 then (lse (sc K (member Q ⟨(y 1).val, g⟩) r) : EReal) else 0 := by
  frame_out
  rw [canon_col 3 _ _ _ y r hr, canon_col 2 _ _ _ y r hr, canon_col 1 _ _ _ y r hr, canon_col 0 _ _ _ y r hr]
  have at_col (g : Fin 4) (e : (y 1).val = g) : (if g : (y 1).val < 4 then (lse (sc K (member Q ⟨(y 1).val, g⟩) r) : EReal) else 0) = (lse (sc K (member Q g) r) : EReal) := by
    rw [dif_pos (e ▸ g.2), show (⟨(y 1).val, e ▸ g.2⟩ : Fin 4) = g from Fin.ext e]
  split
  · next e => exact (lse_piece Q K 3 r 384 rfl _).trans (at_col 3 e).symm
  split
  · next e => exact (lse_piece Q K 2 r 256 rfl _).trans (at_col 2 e).symm
  split
  · next e => exact (lse_piece Q K 1 r 128 rfl _).trans (at_col 1 e).symm
  split
  · next e => exact (lse_piece Q K 0 r 0 rfl _).trans (at_col 0 e).symm
  rw [dif_neg (by omega)]
  canon_tiles x h
  unfold k0_pay8
  pointwise
end Block

/-! ## The arrays -/

section Arrays
variable (m : (ℓ : Loc nD τ sig) → Buf (Elt Ideal) ℓ) (c : Dev nD)

theorem i0 : ∀ t : Fin cfg0.N, win0_0.index t = ![1 + (grid0.coords t 1).val, (grid0.coords t 0).val] := (by decide +kernel : ∀ t : Fin grid0.N, _)
theorem i1 : ∀ t : Fin cfg0.N, win0_1.index t = ![0, (grid0.coords t 0).val] := (by decide +kernel : ∀ t : Fin grid0.N, _)
theorem i2 : ∀ t : Fin cfg0.N, win0_2.index t = ![0, 20 + (grid0.coords t 0).val] := (by decide +kernel : ∀ t : Fin grid0.N, _)
theorem i3 : ∀ t : Fin cfg0.N, win0_3.index t = ![(grid0.coords t 1).val, (grid0.coords t 0).val] := (by decide +kernel : ∀ t : Fin grid0.N, _)
theorem i4 : ∀ t : Fin cfg0.N, win0_4.index t = ![(grid0.coords t 1).val, (grid0.coords t 0).val] := (by decide +kernel : ∀ t : Fin grid0.N, _)

theorem at0 (t : Fin cfg0.N) (i : S256x512.Idx) : 256 * (1 + (grid0.coords t 1).val) + (i 0).val < 2304 := by
  have : (grid0.coords t 1).val < 8 := (grid0.coords t 1).2
  have : (i 0).val < 256 := (i 0).2
  omega
theorem at0' (t : Fin cfg0.N) (i : S256x512.Idx) : 512 * (grid0.coords t 0).val + (i 1).val < 2048 := by
  have : (grid0.coords t 0).val < 4 := (grid0.coords t 0).2
  have : (i 1).val < 512 := (i 1).2
  omega
theorem at1 (t : Fin cfg0.N) (i : S2304x128.Idx) : 128 * (grid0.coords t 0).val + (i 1).val < 512 := by
  have : (grid0.coords t 0).val < 4 := (grid0.coords t 0).2
  have : (i 1).val < 128 := (i 1).2
  omega
theorem at2 (t : Fin cfg0.N) (i : S2304x128.Idx) : 2560 + (128 * (grid0.coords t 0).val + (i 1).val) < 11264 := by
  have := at1 t i
  omega

variable (A : S2304x2048.Idx → EReal) (B : S2304x512.Idx → EReal) (Z : S2304x11264.Idx → EReal)
  (hA : m ((c : Thread nD τ).loc main_arg0) = A) (hB : m ((c : Thread nD τ).loc main_arg1) = B) (hZ : m ((c : Thread nD τ).loc main_arg2) = Z)
  (ha : RealQ A) (hb : RealM B)
include hA hB hZ ha hb

omit hB hZ hb in
theorem block0 (t : Fin cfg0.N) : iblk m c 0 t = fun i => (re A (ix2 ⟨256 * (1 + (grid0.coords t 1).val) + (i 0).val, at0 t i⟩ ⟨512 * (grid0.coords t 0).val + (i 1).val, at0' t i⟩) : EReal) := by
  funext i
  refine Eq.trans ?_ (ha _ ?_)
  · rw [← hA]
    blk_ext [iblk, V, i0]
  · show 256 ≤ 256 * (1 + _) + _
    omega

omit hA hZ ha in
theorem block1 (t : Fin cfg0.N) : iblk m c 1 t = fun i => (re B (ix2 ⟨(i 0).val, (i 0).2⟩ ⟨128 * (grid0.coords t 0).val + (i 1).val, at1 t i⟩) : EReal) := by
  funext i
  refine Eq.trans ?_ (hb _)
  rw [← hB]
  blk_ext [iblk, V, i1]

omit hA hB ha hb in
theorem block2 (t : Fin cfg0.N) : iblk m c 2 t = fun i => Z (ix2 ⟨(i 0).val, (i 0).2⟩ ⟨2560 + (128 * (grid0.coords t 0).val + (i 1).val), at2 t i⟩) := by
  funext i
  rw [← hZ]
  blk_ext [iblk, V, i2]

omit hA hB hZ ha hb in
theorem scores_block (t : Fin cfg0.N) (h g : Fin 4) (hh : h.val = (grid0.coords t 0).val) (r : Fin 256) (R : Fin 2048) (hR : R.val = 256 * (grid0.coords t 1).val + r) :
    sc (fun i => re B (ix2 ⟨(i 0).val, (i 0).2⟩ ⟨128 * (grid0.coords t 0).val + (i 1).val, at1 t i⟩))
      (member (fun i => re A (ix2 ⟨256 * (1 + (grid0.coords t 1).val) + (i 0).val, at0 t i⟩ ⟨512 * (grid0.coords t 0).val + (i 1).val, at0' t i⟩)) g) r
      = S (queries (re A)) (keys (re B)) h g R := by
  funext u
  refine congrArg (· * scale) (Finset.sum_congr rfl fun d _ => congrArg₂ (· * ·) (congrArg (re A) (eq_ix2 _ _ _ ?_ ?_)) (congrArg (re B) (eq_ix2 _ _ _ rfl ?_)))
  · show 256 * (1 + _) + r.val = 256 + R.val
    omega
  · show 512 * _ + (128 * g.val + d.val) = 512 * h.val + (128 * g.val + d.val)
    omega
  · show 128 * _ + d.val = 128 * h.val + d.val
    omega

/-- The first result: the mixed values. -/
theorem out_array : (dats m 0 c).arrAt 3 cfg0.N = outs (queries (re A)) (keys (re B)) (values Z) := by
  refine (dats m 0 c).arrAt_eq_of_covers 3 _ (by decide +kernel) fun t hf y => ?_
  blk_simp
  rw [after0_3]
  unfold outsAt0
  dsimp only
  have c0 : (grid0.coords t 0).val < 4 := (grid0.coords t 0).2
  have c1 : (grid0.coords t 1).val < 8 := (grid0.coords t 1).2
  have y0 : (y 0).val < 256 := (y 0).2
  have y1 : (y 1).val < 512 := (y 1).2
  obtain ⟨h, eh⟩ : ∃ h : Fin 4, h.val = (grid0.coords t 0).val := ⟨⟨_, c0⟩, rfl⟩
  obtain ⟨g, eg⟩ : ∃ g : Fin 4, g.val = (y 1).val / 128 := ⟨⟨_, by omega⟩, rfl⟩
  obtain ⟨d, ed⟩ : ∃ d : Fin 128, d.val = (y 1).val % 128 := ⟨⟨_, by omega⟩, rfl⟩
  obtain ⟨r, er⟩ : ∃ r : Fin 256, r.val = (y 0).val := ⟨⟨_, y0⟩, rfl⟩
  obtain ⟨R, eR⟩ : ∃ R : Fin 2048, R.val = 256 * (grid0.coords t 1).val + r.val := ⟨⟨_, by omega⟩, rfl⟩
  rw [block0 m c A hA ha, block1 m c B hB hb, block2 m c Z hZ, out_block _ _ _ c _ _ _ _ _ _ _ _ _ _ _ g r d y er.symm (by omega)]
  refine Eq.trans ?_ (outs_at _ _ _ h g R d _ ?_ ?_).symm
  · rw [scores_block A B t h g eh r R eR]
    refine congrArg (fun v => blend _ v d) ?_
    funext u e
    refine congrArg Z (eq_ix2 _ _ _ rfl ?_)
    show 2560 + (128 * _ + e.val) = 2560 + (128 * h.val + e.val)
    omega
  · blk_simp [i3]
    omega
  · blk_simp [i3]
    omega

omit hZ in
/-- The second: the log-sums. -/
theorem lse_array : (dats m 0 c).arrAt 4 cfg0.N = lses (queries (re A)) (keys (re B)) := by
  refine (dats m 0 c).arrAt_eq_of_covers 4 _ (by decide +kernel) fun t hf y => ?_
  blk_simp
  rw [after0_4]
  unfold outsAt0
  dsimp only
  have c0 : (grid0.coords t 0).val < 4 := (grid0.coords t 0).2
  have c1 : (grid0.coords t 1).val < 8 := (grid0.coords t 1).2
  have y0 : (y 0).val < 256 := (y 0).2
  have y1 : (y 1).val < 128 := (y 1).2
  obtain ⟨h, eh⟩ : ∃ h : Fin 4, h.val = (grid0.coords t 0).val := ⟨⟨_, c0⟩, rfl⟩
  obtain ⟨r, er⟩ : ∃ r : Fin 256, r.val = (y 0).val := ⟨⟨_, y0⟩, rfl⟩
  obtain ⟨R, eR⟩ : ∃ R : Fin 2048, R.val = 256 * (grid0.coords t 1).val + r.val := ⟨⟨_, by omega⟩, rfl⟩
  rw [block0 m c A hA ha, block1 m c B hB hb, block2 m c _ rfl, lse_block _ _ _ c _ _ _ _ _ _ _ _ _ _ _ r y er.symm]
  split
  · next hg =>
    rw [scores_block A B t h _ eh r R eR]
    refine (lses_at _ _ h _ R _ ?_ ?_).symm
    · blk_simp [i4]
      omega
    · blk_simp [i4]
      show _ = 128 * h.val + (y 1).val
      omega
  · next hg =>
    refine (lses_off _ _ _ ?_).symm
    blk_simp [i4]
    omega
end Arrays

/-- The run: both results, the arguments as they were. -/
theorem run (m : (ℓ : Loc nD τ sig) → Buf (Elt Ideal) ℓ) (ρ : Dev nD → PrngReg)
    (ha : ∀ c : Dev nD, RealQ (m ((c : Thread nD τ).loc main_arg0))) (hb : ∀ c : Dev nD, RealM (m := 2304) (n := 512) (m ((c : Thread nD τ).loc main_arg1))) :
    θ_run defs (onTc (τ := τ) (main (F := Ideal))) ⟨m, fun _ => 0, ρ⟩ fun r => ∀ c : Dev nD,
      r.2.mem ((c : Thread nD τ).loc main_v0_0) = outs (queries (re (m ((c : Thread nD τ).loc main_arg0)))) (keys (re (m ((c : Thread nD τ).loc main_arg1)))) (values (m ((c : Thread nD τ).loc main_arg2)))
      ∧ r.2.mem ((c : Thread nD τ).loc main_v0_1) = lses (queries (re (m ((c : Thread nD τ).loc main_arg0)))) (keys (re (m ((c : Thread nD τ).loc main_arg1))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (out_array m c _ _ _ rfl rfl rfl (ha c) (hb c)), (h c).2.1.trans (lse_array m c _ _ rfl rfl (ha c) (hb c)), (h c).2.2⟩)
    (Value.run_blocks m ρ)

end Cert.Kernel10Ideal.Attention

end
-- ==== Proof.Attention.Rows9.lean ====
/- The attention's backward call: what its body computes for one query head of a group, from real queries, keys, values,
   cotangents, outputs and log-sums. -/
module

public import proofs.«01_k».proof.Proof.Gen.Kernel9Ideal.Skeleton
public import proofs.«01_k».proof.Proof.Attention.Math
public import Idealize.ShloMosaic.Lib.Pointwise

@[expose] public section

set_option maxRecDepth 16384

noncomputable section

namespace Cert.Kernel9Ideal.Attention

open Idealize.ShloMosaic Idealize.ShloMosaic.TcCoe Idealize.ShloMosaic.Tactic
open Cert.Kernel9Ideal Cert.Kernel9Ideal.Gen Cert.Attn

theorem named : Named.named (F := Ideal) (φ := .f32) κ "scale" 0x3DB504F3#32 = ((scale : ℝ) : EReal) :=
  IdealRules.named_const.ideal_named_scalar κ "scale" _ _ rfl

section Rows
variable (K V : S2304x128.Idx → ℝ) (Q D O : S256x128.Idx → ℝ) (L : S256x1.Idx → ℝ)

/-- The probabilities from the saved log-sums. -/
def pw (r : Fin 256) (t : Fin 2304) : ℝ := Real.exp (score scale (fun d => Q (ix2 r d)) (fun t d => K (ix2 t d)) t - L (ix2 r 0))
/-- The weights' cotangent, less its mean by way of the saved output. -/
def pe (r : Fin 256) (t : Fin 2304) : ℝ := pull (fun d => D (ix2 r d)) (fun t d => V (ix2 t d)) t - ∑ d, D (ix2 r d) * O (ix2 r d)

theorem pay_p (r : Fin 256) (t : Fin 2304) : k0_pay11 (F := Ideal) (fun i => (K i : EReal)) (fun i => (Q i : EReal)) (fun i => (L i : EReal)) (ix2 r t) = (pw K Q L r t : EReal) := by
  unfold k0_pay11
  pointwise
  rw [named]
  simp only [← EReal.coe_mul, ← coe_sum, ← EReal.coe_sub, Ideal.exp_coe]
  rfl

theorem pay_e (r : Fin 256) (t : Fin 2304) : k0_pay13 (F := Ideal) (fun i => (V i : EReal)) (fun i => (D i : EReal)) (fun i => (O i : EReal)) (ix2 r t) = (pe V D O r t : EReal) := by
  unfold k0_pay13 k0_pay10
  pointwise
  simp only [← EReal.coe_mul, ← coe_sum, ← EReal.coe_sub]
  rfl

/-- What is added to the values' gradient. -/
theorem pay_dv (a : FVec Ideal S2304x128 .f32) (t : Fin 2304) (d : Fin 128) :
    k0_pay12 (F := Ideal) (fun i => (K i : EReal)) (fun i => (Q i : EReal)) (fun i => (D i : EReal)) (fun i => (L i : EReal)) a (ix2 t d)
      = a (ix2 t d) + ((∑ r, pw K Q L r t * D (ix2 r d) : ℝ) : EReal) := by
  unfold k0_pay12
  pointwise
  simp only [pay_p, ← EReal.coe_mul, ← coe_sum]

variable (p e : FVec Ideal S256x2304 .f32) (p' e' : Fin 256 → Fin 2304 → ℝ) (hp : ∀ r t, p (ix2 r t) = (p' r t : EReal)) (he : ∀ r t, e (ix2 r t) = (e' r t : EReal))
include hp he

/-- The queries' gradient, and what is added to the keys'. -/
theorem pay_dq (r : Fin 256) (d : Fin 128) :
    k0_pay15 (F := Ideal) (fun i => (K i : EReal)) p e (ix2 r d) = (((∑ t, p' r t * e' r t * K (ix2 t d)) * scale : ℝ) : EReal) := by
  unfold k0_pay15 k0_pay14
  pointwise
  rw [named]
  simp only [hp, he, ← EReal.coe_mul, ← coe_sum]

theorem pay_dk (a : FVec Ideal S2304x128 .f32) (t : Fin 2304) (d : Fin 128) :
    k0_pay16 (F := Ideal) (fun i => (Q i : EReal)) p e a (ix2 t d) = a (ix2 t d) + ((∑ r, p' r t * e' r t * Q (ix2 r d) : ℝ) : EReal) := by
  unfold k0_pay16 k0_pay14
  pointwise
  simp only [hp, he, ← EReal.coe_mul, ← coe_sum]
end Rows

end Cert.Kernel9Ideal.Attention

end
-- ==== Proof.Attention.Point.lean ====
/- The attention's backward call: one grid point. A block of 256 queries adds its part to the keys' and the values' gradients and
   writes its own queries' gradient. -/
module

public import proofs.«01_k».proof.Proof.Gen.Kernel9Ideal.Value
public import proofs.«01_k».proof.Proof.Attention.Rows9
public import proofs.«01_k».proof.Proof.Attention.Members
public import Idealize.ShloMosaic.Lib.Pipeline.ValueKit

@[expose] public section

set_option maxRecDepth 16384

noncomputable section

namespace Cert.Kernel9Ideal.Attention

open Idealize.ShloMosaic Idealize.ShloMosaic.TcCoe Idealize.ShloMosaic.Tactic
open Cert.Kernel9Ideal Cert.Kernel9Ideal.Gen Cert.Attn

/-! ## The four members of a group run the same operations -/

section Same
variable (x v : Vec Ideal S2304x128 .bf16) (z : Vec Ideal S2304x128 .f32) (q d o : Vec Ideal S256x128 .bf16) (l : Vec Ideal S256x1 .f32) (a : Vec Ideal S2304x128 .f32)

theorem dv1 : k0_pay20 (F := Ideal) (k0_pay19 x q d l a) = k0_pay12 x q d l a := rfl
theorem dv2 : k0_pay26 (F := Ideal) d (k0_pay25 x q l) a = k0_pay12 x q d l a := rfl
theorem dv3 : k0_pay2 (F := Ideal) d (k0_pay31 x q) l a = k0_pay12 x q d l a := rfl
theorem dk1 : k0_pay23 (F := Ideal) (k0_pay10 z) q d (k0_pay17 d o) (k0_pay18 x q l) a = k0_pay16 q (k0_pay11 x q l) (k0_pay13 z d o) a := rfl
theorem dk2 : k0_pay29 (F := Ideal) (k0_pay10 z) q d (k0_pay24 d o) (k0_pay25 x q l) a = k0_pay16 q (k0_pay11 x q l) (k0_pay13 z d o) a := rfl
theorem dk3 : k0_pay5 (F := Ideal) (k0_pay10 z) q d (k0_pay30 d o) (k0_pay31 x q) l a = k0_pay16 q (k0_pay11 x q l) (k0_pay13 z d o) a := rfl
theorem dq1 : k0_pay22 (F := Ideal) x (k0_pay10 z) d (k0_pay17 d o) (k0_pay18 x q l) = k0_pay15 x (k0_pay11 x q l) (k0_pay13 z d o) := rfl
theorem dq2 : k0_pay28 (F := Ideal) x (k0_pay10 z) d (k0_pay24 d o) (k0_pay25 x q l) = k0_pay15 x (k0_pay11 x q l) (k0_pay13 z d o) := rfl
theorem dq3 : k0_pay4 (F := Ideal) x (k0_pay10 z) d (k0_pay30 d o) (k0_pay31 x q) l = k0_pay15 x (k0_pay11 x q l) (k0_pay13 z d o) := rfl
end Same

theorem zero8 (t : Fin 2304) (d : Fin 128) : k0_pay8 (F := Ideal) (ix2 t d) = ((0 : ℝ) : EReal) := by
  unfold k0_pay8
  pointwise
  rfl
theorem zero9 (t : Fin 2304) (d : Fin 128) : k0_pay9 (F := Ideal) (ix2 t d) = ((0 : ℝ) : EReal) := by
  unfold k0_pay9
  pointwise
  rfl
theorem last6 (a : FVec Ideal S2304x128 .f32) (t : Fin 2304) (d : Fin 128) : k0_pay6 (F := Ideal) a (ix2 t d) = a (ix2 t d) * (scale : EReal) := by
  unfold k0_pay6
  pointwise
  rw [named]
theorem last7 (a : FVec Ideal S2304x128 .f32) (t : Fin 2304) (d : Fin 128) : k0_pay7 (F := Ideal) a (ix2 t d) = a (ix2 t d) := by
  unfold k0_pay7
  pointwise

/-! ## A point's part -/

section Block
variable (Q D O : S256x512.Idx → ℝ) (K V : S2304x128.Idx → ℝ) (L : S256x128.Idx → ℝ)

/-- A member's columns of a block, and its column of the log-sums. -/
abbrev cols (X : S256x512.Idx → ℝ) (o : ℕ) (inb : ∀ a, ![0, o] a + ![256, 128] a ≤ S256x512.size a) : Vec Ideal S256x128 .bf16 :=
  View.ld (Val := Elt Ideal) (e' := .bf16) (fun i => (X i : EReal)) (Rect.unit ![0, o] ![256, 128] inb)
abbrev sums (o : ℕ) (inb : ∀ a, ![0, o] a + ![256, 1] a ≤ S256x128.size a) : Vec Ideal S256x1 .f32 :=
  View.ld (Val := Elt Ideal) (e' := .f32) (fun i => (L i : EReal)) (Rect.unit ![0, o] ![256, 1] inb)

/-- Member `g`'s probabilities and the cotangents of its scores. -/
def bp (g : Fin 4) : Fin 256 → Fin 2304 → ℝ := pw K (member Q g) (column L g)
def bs (g : Fin 4) (r : Fin 256) (t : Fin 2304) : ℝ := bp Q K L g r t * pe V (member D g) (member O g) r t
/-- The block's part of the values' gradient, of the keys' before the scale, and its queries' gradient. -/
def gainV (t : Fin 2304) (d : Fin 128) : ℝ := ∑ g, ∑ r, bp Q K L g r t * member D g (ix2 r d)
def gainK (t : Fin 2304) (d : Fin 128) : ℝ := ∑ g, ∑ r, bs Q D O K V L g r t * member Q g (ix2 r d)
def gradQ (g : Fin 4) (r : Fin 256) (d : Fin 128) : ℝ := (∑ t, bs Q D O K V L g r t * K (ix2 t d)) * scale

/-- One member's part of the two sums, and its gradient. -/
theorem part_v (g : Fin 4) (o : ℕ) (ho : o = 128 * g.val) (n : ℕ) (hn : n = g.val) (j j') (k) (a : Vec Ideal S2304x128 .f32) (x : ℝ) (t : Fin 2304) (d : Fin 128) (hx : a (ix2 t d) = (x : EReal)) :
    k0_pay12 (F := Ideal) (fun i => (K i : EReal)) (cols Q o j) (cols D o j') (sums L n k) a (ix2 t d) = ((x + ∑ r, bp Q K L g r t * member D g (ix2 r d) : ℝ) : EReal) := by
  unfold cols sums
  rw [ld_member Q g o ho, ld_member D g o ho, ld_column L g n hn, pay_dv, hx, ← EReal.coe_add]
  rfl
theorem part_k (g : Fin 4) (o : ℕ) (ho : o = 128 * g.val) (n : ℕ) (hn : n = g.val) (j0 j1 j2 j3) (k) (a : Vec Ideal S2304x128 .f32) (x : ℝ) (t : Fin 2304) (d : Fin 128) (hx : a (ix2 t d) = (x : EReal)) :
    k0_pay16 (F := Ideal) (cols Q o j0) (k0_pay11 (fun i => (K i : EReal)) (cols Q o j1) (sums L n k)) (k0_pay13 (fun i => (V i : EReal)) (cols D o j2) (cols O o j3)) a (ix2 t d)
      = ((x + ∑ r, bs Q D O K V L g r t * member Q g (ix2 r d) : ℝ) : EReal) := by
  unfold cols sums
  rw [ld_member Q g o ho, ld_member D g o ho, ld_member O g o ho, ld_column L g n hn, pay_dk _ _ _ _ _ (pay_p _ _ _) (pay_e _ _ _), hx, ← EReal.coe_add]
  rfl
theorem part_q (g : Fin 4) (o : ℕ) (ho : o = 128 * g.val) (n : ℕ) (hn : n = g.val) (j j' j'') (k) (x : S256x128.Idx) (r : Fin 256) (d : Fin 128) (hr : (x 0).val = r) (hd : (x 1).val = d) :
    k0_pay15 (F := Ideal) (fun i => (K i : EReal)) (k0_pay11 (fun i => (K i : EReal)) (cols Q o j) (sums L n k)) (k0_pay13 (fun i => (V i : EReal)) (cols D o j') (cols O o j'')) x
      = (gradQ Q D O K V L g r d : EReal) := by
  unfold cols sums
  rw [ld_member Q g o ho, ld_member D g o ho, ld_member O g o ho, ld_column L g n hn, eq_ix2 x r d hr hd, pay_dq _ _ _ _ _ (pay_p _ _ _) (pay_e _ _ _)]
  rfl

/-- The four members one after the other. -/
theorem chain_v (j0 j1 j2 j3 j0' j1' j2' j3') (k0 k1 k2 k3) (a : Vec Ideal S2304x128 .f32) (x : ℝ) (t : Fin 2304) (d : Fin 128) (hx : a (ix2 t d) = (x : EReal)) :
    k0_pay2 (F := Ideal) (cols D 384 j3) (k0_pay31 (fun i => (K i : EReal)) (cols Q 384 j3')) (sums L 3 k3)
      (k0_pay26 (cols D 256 j2) (k0_pay25 (fun i => (K i : EReal)) (cols Q 256 j2') (sums L 2 k2))
        (k0_pay20 (k0_pay19 (fun i => (K i : EReal)) (cols Q 128 j1) (cols D 128 j1') (sums L 1 k1)
          (k0_pay12 (fun i => (K i : EReal)) (cols Q 0 j0) (cols D 0 j0') (sums L 0 k0) a)))) (ix2 t d)
      = ((x + gainV Q D K L t d : ℝ) : EReal) := by
  rw [dv3, dv2, dv1]
  refine (part_v _ _ _ _ 3 384 rfl 3 rfl _ _ _ _ _ t d (part_v _ _ _ _ 2 256 rfl 2 rfl _ _ _ _ _ t d (part_v _ _ _ _ 1 128 rfl 1 rfl _ _ _ _ _ t d (part_v _ _ _ _ 0 0 rfl 0 rfl _ _ _ _ _ t d hx)))).trans ?_
  rw [gainV, Fin.sum_univ_four]
  exact congrArg (fun x : ℝ => (x : EReal)) (by ring)
theorem chain_k (j0 j1 j2 j3 i0 i1 i2 i3 l0 l1 l2 l3 l0') (k0 k1 k2 k3) (a : Vec Ideal S2304x128 .f32) (x : ℝ) (t : Fin 2304) (d : Fin 128) (hx : a (ix2 t d) = (x : EReal)) :
    k0_pay5 (F := Ideal) (k0_pay10 fun i => (V i : EReal)) (cols Q 384 j3) (cols D 384 i3) (k0_pay30 (cols D 384 i3) (cols O 384 l3)) (k0_pay31 (fun i => (K i : EReal)) (cols Q 384 j3)) (sums L 3 k3)
      (k0_pay29 (k0_pay10 fun i => (V i : EReal)) (cols Q 256 j2) (cols D 256 i2) (k0_pay24 (cols D 256 i2) (cols O 256 l2)) (k0_pay25 (fun i => (K i : EReal)) (cols Q 256 j2) (sums L 2 k2))
        (k0_pay23 (k0_pay10 fun i => (V i : EReal)) (cols Q 128 j1) (cols D 128 i1) (k0_pay17 (cols D 128 i1) (cols O 128 l1)) (k0_pay18 (fun i => (K i : EReal)) (cols Q 128 j1) (sums L 1 k1))
          (k0_pay16 (cols Q 0 j0) (k0_pay11 (fun i => (K i : EReal)) (cols Q 0 l0') (sums L 0 k0)) (k0_pay13 (fun i => (V i : EReal)) (cols D 0 i0) (cols O 0 l0)) a))) (ix2 t d)
      = ((x + gainK Q D O K V L t d : ℝ) : EReal) := by
  rw [dk3, dk2, dk1]
  refine (part_k _ _ _ _ _ _ 3 384 rfl 3 rfl _ _ _ _ _ _ _ t d (part_k _ _ _ _ _ _ 2 256 rfl 2 rfl _ _ _ _ _ _ _ t d (part_k _ _ _ _ _ _ 1 128 rfl 1 rfl _ _ _ _ _ _ _ t d (part_k _ _ _ _ _ _ 0 0 rfl 0 rfl _ _ _ _ _ _ _ t d hx)))).trans ?_
  rw [gainK, Fin.sum_univ_four]
  exact congrArg (fun x : ℝ => (x : EReal)) (by ring)
theorem tiles_q (j0 j1 j2 j3 i0 i1 i2 i3 l0 l1 l2 l3) (k0 k1 k2 k3) (g : Fin 4) (r : Fin 256) (d : Fin 128) (y : S256x512.Idx) (hr : (y 0).val = r) (hd : (y 1).val = 128 * g + d) :
    View.canon (Val := Elt Ideal) (e := .f32) (s := S256x512)
      [⟨Rect.unit ![0, 384] ![256, 128] inb_S256x512_S256x128_0_384, k0_pay4 (F := Ideal) (fun i => (K i : EReal)) (k0_pay10 fun i => (V i : EReal)) (cols D 384 i3) (k0_pay30 (cols D 384 i3) (cols O 384 l3)) (k0_pay31 (fun i => (K i : EReal)) (cols Q 384 j3)) (sums L 3 k3)⟩,
       ⟨Rect.unit ![0, 256] ![256, 128] inb_S256x512_S256x128_0_256, k0_pay28 (F := Ideal) (fun i => (K i : EReal)) (k0_pay10 fun i => (V i : EReal)) (cols D 256 i2) (k0_pay24 (cols D 256 i2) (cols O 256 l2)) (k0_pay25 (fun i => (K i : EReal)) (cols Q 256 j2) (sums L 2 k2))⟩,
       ⟨Rect.unit ![0, 128] ![256, 128] inb_S256x512_S256x128_0_128, k0_pay22 (F := Ideal) (fun i => (K i : EReal)) (k0_pay10 fun i => (V i : EReal)) (cols D 128 i1) (k0_pay17 (cols D 128 i1) (cols O 128 l1)) (k0_pay18 (fun i => (K i : EReal)) (cols Q 128 j1) (sums L 1 k1))⟩,
       ⟨Rect.unit ![0, 0] ![256, 128] inb_S256x512_S256x128_0_0, k0_pay15 (F := Ideal) (fun i => (K i : EReal)) (k0_pay11 (fun i => (K i : EReal)) (cols Q 0 j0) (sums L 0 k0)) (k0_pay13 (fun i => (V i : EReal)) (cols D 0 i0) (cols O 0 l0))⟩] y
      = (gradQ Q D O K V L g r d : EReal) := by
  rw [dq3, dq2, dq1]
  canon_tiles x h
  case piece0 => obtain rfl : g = 3 := Fin.ext (by omega)
                 exact part_q _ _ _ _ _ _ 3 384 rfl 3 rfl _ _ _ _ x r d (by omega) (by omega)
  case piece1 => obtain rfl : g = 2 := Fin.ext (by omega)
                 exact part_q _ _ _ _ _ _ 2 256 rfl 2 rfl _ _ _ _ x r d (by omega) (by omega)
  case piece2 => obtain rfl : g = 1 := Fin.ext (by omega)
                 exact part_q _ _ _ _ _ _ 1 128 rfl 1 rfl _ _ _ _ x r d (by omega) (by omega)
  case piece3 => obtain rfl : g = 0 := Fin.ext (by omega)
                 exact part_q _ _ _ _ _ _ 0 0 rfl 0 rfl _ _ _ _ x r d (by omega) (by omega)

/-! ## The three cases: a head's first block, a middle one, its last -/

variable (c : Dev nD) (i : grid0.Coords) (a0 : Memref sig .tc .vmem S256x512 .bf16) (h0 : a0.IsWhole) (a1 : Memref sig .tc .vmem S2304x128 .bf16) (h1 : a1.IsWhole)
    (a2 : Memref sig .tc .vmem S2304x128 .f32) (h2 : a2.IsWhole) (a3 : Memref sig .tc .vmem S256x512 .bf16) (h3 : a3.IsWhole)
    (a4 : Memref sig .tc .vmem S256x512 .bf16) (h4 : a4.IsWhole) (a5 : Memref sig .tc .vmem S256x128 .f32) (h5 : a5.IsWhole)
    (a6 : Memref sig .tc .vmem S256x512 .f32) (h6 : a6.IsWhole) (a7 : Memref sig .tc .vmem S2304x128 .f32) (h7 : a7.IsWhole)
    (a8 : Memref sig .tc .vmem S2304x128 .bf16) (h8 : a8.IsWhole) (a9 : Memref sig .tc .vmem S2304x128 .f32) (h9 : a9.IsWhole)

theorem dv_A (hc0 : cond0_0 i) (hc1 : ¬cond0_1 i) (t : Fin 2304) (d : Fin 128) :
    sout0_A_0 (F := Ideal) c i a0 h0 a1 h1 a2 h2 a3 h3 a4 h4 a5 h5 a6 h6 a7 h7 a8 h8 a9 h9 hc0 hc1 (fun i => (Q i : EReal)) (fun i => (K i : EReal)) (fun i => (V i : EReal)) (fun i => (D i : EReal)) (fun i => (O i : EReal)) (fun i => (L i : EReal)) (ix2 t d)
      = ((0 + gainV Q D K L t d : ℝ) : EReal) := by
  frame_out
  exact chain_v Q D K L _ _ _ _ _ _ _ _ _ _ _ _ _ _ t d (zero9 t d)

theorem dv_B (hc0 : ¬cond0_0 i) (hc1 : ¬cond0_1 i) (a s : Vec Ideal S2304x128 .f32) (x : ℝ) (t : Fin 2304) (d : Fin 128) (hx : s (ix2 t d) = (x : EReal)) :
    sout0_B_0 (F := Ideal) c i a0 h0 a1 h1 a2 h2 a3 h3 a4 h4 a5 h5 a6 h6 a7 h7 a8 h8 a9 h9 hc0 hc1 (fun i => (Q i : EReal)) (fun i => (K i : EReal)) (fun i => (V i : EReal)) (fun i => (D i : EReal)) (fun i => (O i : EReal)) (fun i => (L i : EReal)) a s (ix2 t d)
      = ((x + gainV Q D K L t d : ℝ) : EReal) := by
  frame_out
  exact chain_v Q D K L _ _ _ _ _ _ _ _ _ _ _ _ _ _ t d hx

theorem dz_C (hc0 : ¬cond0_0 i) (hc1 : cond0_1 i) (a s : Vec Ideal S2304x128 .f32) (x : ℝ) (t : Fin 2304) (d : Fin 128) (hx : s (ix2 t d) = (x : EReal)) :
    out0_C_8 (F := Ideal) c i a0 h0 a1 h1 a2 h2 a3 h3 a4 h4 a5 h5 a6 h6 a7 h7 a8 h8 a9 h9 hc0 hc1 (fun i => (Q i : EReal)) (fun i => (K i : EReal)) (fun i => (V i : EReal)) (fun i => (D i : EReal)) (fun i => (O i : EReal)) (fun i => (L i : EReal)) a s (ix2 t d)
      = ((x + gainV Q D K L t d : ℝ) : EReal) := by
  frame_out
  rw [last7]
  exact chain_v Q D K L _ _ _ _ _ _ _ _ _ _ _ _ _ _ t d hx

theorem dk_A (hc0 : cond0_0 i) (hc1 : ¬cond0_1 i) (t : Fin 2304) (d : Fin 128) :
    out0_A_7 (F := Ideal) c i a0 h0 a1 h1 a2 h2 a3 h3 a4 h4 a5 h5 a6 h6 a7 h7 a8 h8 a9 h9 hc0 hc1 (fun i => (Q i : EReal)) (fun i => (K i : EReal)) (fun i => (V i : EReal)) (fun i => (D i : EReal)) (fun i => (O i : EReal)) (fun i => (L i : EReal)) (ix2 t d)
      = ((0 + gainK Q D O K V L t d : ℝ) : EReal) := by
  frame_out
  exact chain_k Q D O K V L _ _ _ _ _ _ _ _ _ _ _ _ _ _ _ _ _ _ _ t d (zero8 t d)

theorem dk_B (hc0 : ¬cond0_0 i) (hc1 : ¬cond0_1 i) (a s : Vec Ideal S2304x128 .f32) (x : ℝ) (t : Fin 2304) (d : Fin 128) (hx : a (ix2 t d) = (x : EReal)) :
    out0_B_7 (F := Ideal) c i a0 h0 a1 h1 a2 h2 a3 h3 a4 h4 a5 h5 a6 h6 a7 h7 a8 h8 a9 h9 hc0 hc1 (fun i => (Q i : EReal)) (fun i => (K i : EReal)) (fun i => (V i : EReal)) (fun i => (D i : EReal)) (fun i => (O i : EReal)) (fun i => (L i : EReal)) a s (ix2 t d)
      = ((x + gainK Q D O K V L t d : ℝ) : EReal) := by
  frame_out
  exact chain_k Q D O K V L _ _ _ _ _ _ _ _ _ _ _ _ _ _ _ _ _ _ _ t d hx

theorem dk_C (hc0 : ¬cond0_0 i) (hc1 : cond0_1 i) (a s : Vec Ideal S2304x128 .f32) (x : ℝ) (t : Fin 2304) (d : Fin 128) (hx : a (ix2 t d) = (x : EReal)) :
    out0_C_7 (F := Ideal) c i a0 h0 a1 h1 a2 h2 a3 h3 a4 h4 a5 h5 a6 h6 a7 h7 a8 h8 a9 h9 hc0 hc1 (fun i => (Q i : EReal)) (fun i => (K i : EReal)) (fun i => (V i : EReal)) (fun i => (D i : EReal)) (fun i => (O i : EReal)) (fun i => (L i : EReal)) a s (ix2 t d)
      = (((x + gainK Q D O K V L t d) * scale : ℝ) : EReal) := by
  frame_out
  rw [last6, EReal.coe_mul]
  exact congrArg (· * (scale : EReal)) (chain_k Q D O K V L _ _ _ _ _ _ _ _ _ _ _ _ _ _ _ _ _ _ _ t d hx)

theorem dq_A (hc0 : cond0_0 i) (hc1 : ¬cond0_1 i) (g : Fin 4) (r : Fin 256) (d : Fin 128) (y : S256x512.Idx) (hr : (y 0).val = r) (hd : (y 1).val = 128 * g + d) :
    out0_A_6 (F := Ideal) c i a0 h0 a1 h1 a2 h2 a3 h3 a4 h4 a5 h5 a6 h6 a7 h7 a8 h8 a9 h9 hc0 hc1 (fun i => (Q i : EReal)) (fun i => (K i : EReal)) (fun i => (V i : EReal)) (fun i => (D i : EReal)) (fun i => (O i : EReal)) (fun i => (L i : EReal)) y
      = (gradQ Q D O K V L g r d : EReal) := by
  frame_out
  exact tiles_q Q D O K V L _ _ _ _ _ _ _ _ _ _ _ _ _ _ _ _ g r d y hr hd

theorem dq_B (hc0 : ¬cond0_0 i) (hc1 : ¬cond0_1 i) (a s : Vec Ideal S2304x128 .f32) (g : Fin 4) (r : Fin 256) (d : Fin 128) (y : S256x512.Idx) (hr : (y 0).val = r) (hd : (y 1).val = 128 * g + d) :
    out0_B_6 (F := Ideal) c i a0 h0 a1 h1 a2 h2 a3 h3 a4 h4 a5 h5 a6 h6 a7 h7 a8 h8 a9 h9 hc0 hc1 (fun i => (Q i : EReal)) (fun i => (K i : EReal)) (fun i => (V i : EReal)) (fun i => (D i : EReal)) (fun i => (O i : EReal)) (fun i => (L i : EReal)) a s y
      = (gradQ Q D O K V L g r d : EReal) := by
  frame_out
  exact tiles_q Q D O K V L _ _ _ _ _ _ _ _ _ _ _ _ _ _ _ _ g r d y hr hd

theorem dq_C (hc0 : ¬cond0_0 i) (hc1 : cond0_1 i) (a s : Vec Ideal S2304x128 .f32) (g : Fin 4) (r : Fin 256) (d : Fin 128) (y : S256x512.Idx) (hr : (y 0).val = r) (hd : (y 1).val = 128 * g + d) :
    out0_C_6 (F := Ideal) c i a0 h0 a1 h1 a2 h2 a3 h3 a4 h4 a5 h5 a6 h6 a7 h7 a8 h8 a9 h9 hc0 hc1 (fun i => (Q i : EReal)) (fun i => (K i : EReal)) (fun i => (V i : EReal)) (fun i => (D i : EReal)) (fun i => (O i : EReal)) (fun i => (L i : EReal)) a s y
      = (gradQ Q D O K V L g r d : EReal) := by
  frame_out
  exact tiles_q Q D O K V L _ _ _ _ _ _ _ _ _ _ _ _ _ _ _ _ g r d y hr hd
end Block

end Cert.Kernel9Ideal.Attention

end
-- ==== Proof.Attention.Host.lean ====
/- The attention's lines in array operations, read at an index: scores, weights, log-sums and mixed values. -/
module

public import proofs.«01_k».proof.Proof.Gen.Reference10Ideal.Run
public import proofs.«01_k».proof.Proof.Attention.Arrays
public import Idealize.ShloMosaic.Lib.Pointwise

@[expose] public section

set_option maxRecDepth 16384

noncomputable section

namespace Cert.Reference10Ideal.Attention

open Idealize.ShloMosaic Idealize.ShloMosaic.TcCoe Idealize.ShloMosaic.Tactic
open Cert.Reference10Ideal Cert.Reference10Ideal.Gen Cert.Attn

/-- The queries, keys and values, a head to an axis. -/
def hostQ (A : FVec Ideal S2304x2048 .bf16) : FVec Ideal S2048x4x4x128 .f32 :=
  shapeCast _ (extf .f32 (extractStridedSlice S2048x2048 ![256, 0] A slices_S2304x2048_S2048x2048_256_0) bitsLt_bf16_f32) shapeCasts_S2048x2048_S2048x4x4x128
def hostK (B : FVec Ideal S2304x512 .bf16) : FVec Ideal S2304x4x128 .f32 := shapeCast _ (extf .f32 B bitsLt_bf16_f32) shapeCasts_S2304x512_S2304x4x128
def hostV (Z : FVec Ideal S2304x11264 .f32) : FVec Ideal S2304x4x128 .f32 :=
  shapeCast _ (extractStridedSlice S2304x512 ![0, 2560] Z slices_S2304x11264_S2304x512_0_2560) shapeCasts_S2304x512_S2304x4x128

theorem hostQ_at (A : FVec Ideal S2304x2048 .bf16) (h g : Fin 4) (r : Fin 2048) (d : Fin 128) : hostQ A (ix4 r h g d) = queries A h g r d := by
  unfold hostQ
  pointwise
  rw [show (⟨h.val * 512 + g.val * 128 + d.val, by omega⟩ : Fin 2048) = ⟨512 * h + (128 * g + d), by omega⟩ from Fin.ext (by simp only; omega)]
  rfl
theorem hostK_at (B : FVec Ideal S2304x512 .bf16) (h : Fin 4) (t : Fin 2304) (d : Fin 128) : hostK B (ix3 t h d) = keys B h t d := by
  unfold hostK
  pointwise
  rw [show (⟨h.val * 128 + d.val, by omega⟩ : Fin 512) = ⟨128 * h + d, by omega⟩ from Fin.ext (by simp only; omega)]
  rfl
theorem hostV_at (Z : FVec Ideal S2304x11264 .f32) (h : Fin 4) (t : Fin 2304) (d : Fin 128) : hostV Z (ix3 t h d) = values Z h t d := by
  unfold hostV
  pointwise
  rw [show (⟨2560 + (h.val * 128 + d.val), by omega⟩ : Fin 11264) = ⟨2560 + (128 * h + d), by omega⟩ from Fin.ext (by simp only; omega)]
  rfl

/-- The scaled scores. -/
def hostS (q : FVec Ideal S2048x4x4x128 .f32) (k : FVec Ideal S2304x4x128 .f32) : FVec Ideal S4x4x2048x2304 .f32 :=
  Host.divf (transpose S4x4x2048x2304 [0, 3, 2, 1] (Host.dotGeneral dot_S2304x4x128_S2048x4x4x128_S4x2304x2048x4_2_3_0_02_1_1 none k q) transposes_S4x2304x2048x4_S4x4x2048x2304_0_3_2_1)
    (broadcastInDim S4x4x2048x2304 ![] bcast_S_S4x4x2048x2304 (Host.sqrt (constant S_ .f32 0x43000000#32)))

theorem sqrt_word : Ideal.sqrt (Ideal.ofBits .f32 0x43000000#32) = ((Real.sqrt 128 : ℝ) : EReal) := by
  have h : Ideal.ofBits .f32 0x43000000#32 = ((128 : ℝ) : EReal) := by
    simp [Ideal.ofBits, Ideal.ieee, ← EReal.coe_mul]
    norm_num
  rw [h]
  rw [Ideal.sqrt_coe, if_neg (by norm_num)]

theorem hostS_at (q : FVec Ideal S2048x4x4x128 .f32) (k : FVec Ideal S2304x4x128 .f32) (Q : Queries) (K : Keys) (hq : ∀ h g r d, q (ix4 r h g d) = (Q h g r d : EReal))
    (hk : ∀ h t d, k (ix3 t h d) = (K h t d : EReal)) (h g : Fin 4) (r : Fin 2048) (t : Fin 2304) : hostS q k (ix4 h g r t) = (S Q K h g r t : EReal) := by
  unfold hostS
  pointwise
  simp only [hq, hk, ← EReal.coe_mul, ← coe_sum]
  rw [sqrt_word, div_coe_coe (by positivity), div_eq_mul_inv]
  refine congrArg (fun x : ℝ => (x : EReal)) (congrArg (· * scale) (Finset.sum_congr rfl fun d _ => mul_comm _ _))

section
variable (s : FVec Ideal S4x4x2048x2304 .f32)
/-- The rows' maxima, the weights and their sums. -/
def hostM : FVec Ideal S4x4x2048 .f32 := Host.reduce FloatOps.maximumf s (constant S_ .f32 0xFF800000#32) reducesTo_S4x4x2048x2304_S4x4x2048_d3 h_S_
def hostM' : FVec Ideal S4x4x2048 .f32 := maximumf (broadcastInDim S4x4x2048 ![] bcast_S_S4x4x2048 (constant S_ .f32 0xFF800000#32)) (hostM s)
def spread (x : FVec Ideal S4x4x2048 .f32) : FVec Ideal S4x4x2048x2304 .f32 :=
  broadcastInDim S4x4x2048x2304 ![0, 1, 2, 3] bcast_S4x4x2048x1_S4x4x2048x2304_0_1_2_3 (broadcastInDim S4x4x2048x1 ![0, 1, 2] bcast_S4x4x2048_S4x4x2048x1_0_1_2 x)
def hostE (x : FVec Ideal S4x4x2048 .f32) : FVec Ideal S4x4x2048x2304 .f32 := Host.exp (subf s (spread x))
def hostL : FVec Ideal S4x4x2048 .f32 := Host.reduceAdd s (constant S_ .f32 0x00000000#32) reducesTo_S4x4x2048x2304_S4x4x2048_d3 h_S_

theorem hostM_at (h g : Fin 4) (r : Fin 2048) : hostM s (ix3 h g r) = Finset.univ.fold max (⊥ : EReal) fun t => s (ix4 h g r t) := by
  unfold hostM
  pointwise
  rw [ofBits_bot]
theorem maximumf_bot {S : Shape} (b x : FVec Ideal S .f32) (h : ∀ i, b i = ⊥) : maximumf b x = x := by
  funext i
  show max (b i) (x i) = x i
  rw [h, max_bot_left]
theorem hostM'_eq : hostM' s = hostM s := maximumf_bot _ _ fun _ => ofBits_bot
theorem hostE_at (x : FVec Ideal S4x4x2048 .f32) (h g : Fin 4) (r : Fin 2048) (t : Fin 2304) : hostE s x (ix4 h g r t) = Ideal.exp (s (ix4 h g r t) - x (ix3 h g r)) := by
  unfold hostE spread
  pointwise
theorem hostL_at (h g : Fin 4) (r : Fin 2048) : hostL s (ix3 h g r) = ∑ t, s (ix4 h g r t) := by
  unfold hostL
  pointwise
theorem hostP_at (x : FVec Ideal S4x4x2048 .f32) (h g : Fin 4) (r : Fin 2048) (t : Fin 2304) : Host.divf s (spread x) (ix4 h g r t) = Ideal.div (s (ix4 h g r t)) (x (ix3 h g r)) := by
  unfold spread
  pointwise

variable (Q : Queries) (K : Keys) (hs : ∀ h g r t, s (ix4 h g r t) = (S Q K h g r t : EReal))
include hs

theorem hostM_real (h g : Fin 4) (r : Fin 2048) : hostM s (ix3 h g r) = (top (S Q K h g r) : EReal) := by
  rw [hostM_at]
  simp only [hs]
  exact coe_top _
theorem hostE_real (h g : Fin 4) (r : Fin 2048) (t : Fin 2304) : hostE s (hostM s) (ix4 h g r t) = (wt (S Q K h g r) t : EReal) := by
  rw [hostE_at, hs, hostM_real s Q K hs, ← EReal.coe_sub, Ideal.exp_coe]
  rfl
theorem hostL_real (h g : Fin 4) (r : Fin 2048) : hostL (hostE s (hostM s)) (ix3 h g r) = (mass (S Q K h g r) : EReal) := by
  rw [hostL_at]
  simp only [hostE_real s Q K hs, ← coe_sum]
  rfl
theorem hostP_real (h g : Fin 4) (r : Fin 2048) (t : Fin 2304) :
    Host.divf (hostE s (hostM s)) (spread (hostL (hostE s (hostM s)))) (ix4 h g r t) = (P Q K h g r t : EReal) := by
  rw [hostP_at, hostE_real s Q K hs, hostL_real s Q K hs, div_coe_coe (mass_pos _).ne']
  rfl
end

def hostO (v : FVec Ideal S2304x4x128 .f32) (p : FVec Ideal S4x4x2048x2304 .f32) : FVec Ideal S2048x2048 .f32 :=
  shapeCast _ (transpose S2048x4x4x128 [3, 0, 2, 1] (Host.dotGeneral dot_S2304x4x128_S4x4x2048x2304_S4x128x4x2048_0_3_2_12_1_0 none v p) transposes_S4x128x4x2048_S2048x4x4x128_3_0_2_1) shapeCasts_S2048x4x4x128_S2048x2048

theorem hostO_at (v : FVec Ideal S2304x4x128 .f32) (p : FVec Ideal S4x4x2048x2304 .f32) (r : Fin 2048) (c : Fin 2048) :
    hostO v p (ix2 r c) = ∑ t, v (ix3 t ⟨c / 512, by omega⟩ ⟨c % 128, by omega⟩) * p (ix4 ⟨c / 512, by omega⟩ ⟨c / 128 % 4, by omega⟩ r t) := by
  unfold hostO
  pointwise

def hostZ (x : FVec Ideal S4x4x2048 .f32) : FVec Ideal S2048x512 .f32 :=
  shapeCast _ (pad S2048x4x128 ![0, 0, 0] ![0, 0, 124] ![0, 0, 0] (transpose S2048x4x4 [2, 0, 1] x transposes_S4x4x2048_S2048x4x4_2_0_1) (constant S_ .f32 0x00000000#32) pads_S2048x4x4_S2048x4x128_000_000_01240 h_S_) shapeCasts_S2048x4x128_S2048x512

theorem hostZ_at (x : FVec Ideal S4x4x2048 .f32) (r : Fin 2048) (c : Fin 512) :
    hostZ x (ix2 r c) = if h : c.val / 128 < 4 ∧ c.val % 128 < 4 then x (ix3 ⟨c / 128, by omega⟩ ⟨c % 128, h.2⟩ r) else 0 := by
  unfold hostZ
  pointwise

theorem add_log_at (x y : FVec Ideal S4x4x2048 .f32) (h g : Fin 4) (r : Fin 2048) : addf x (Host.log y) (ix3 h g r) = x (ix3 h g r) + Ideal.log (y (ix3 h g r)) := by
  pointwise

/-! ## The results -/

section
variable (s : FVec Ideal S4x4x2048x2304 .f32) (Q : Queries) (K : Keys) (hs : ∀ h g r t, s (ix4 h g r t) = (S Q K h g r t : EReal))
include hs

theorem host_outs (v : FVec Ideal S2304x4x128 .f32) (V : Fin 4 → Fin 2304 → Fin 128 → EReal) (hv : ∀ h t d, v (ix3 t h d) = V h t d) :
    hostO v (Host.divf (hostE s (hostM s)) (spread (hostL (hostE s (hostM s))))) = outs Q K V := by
  funext i
  obtain ⟨r, c, rfl⟩ := exists_ix2 i
  rw [hostO_at]
  refine Eq.trans ?_ (outs_at Q K V ⟨c.val / 512, by omega⟩ ⟨c.val / 128 % 4, by omega⟩ r ⟨c.val % 128, by omega⟩ _ rfl ?_).symm
  · refine Finset.sum_congr rfl fun t _ => ?_
    rw [hostP_real s Q K hs, hv, mul_comm]
  · show c.val = 512 * (c.val / 512) + (128 * (c.val / 128 % 4) + c.val % 128)
    omega

theorem host_lses : hostZ (addf (hostM s) (Host.log (hostL (hostE s (hostM s))))) = lses Q K := by
  funext i
  obtain ⟨r, c, rfl⟩ := exists_ix2 i
  rw [hostZ_at]
  split
  · next h =>
    refine Eq.trans ?_ (lses_at Q K ⟨c.val / 128, h.1⟩ ⟨c.val % 128, h.2⟩ r _ rfl ?_).symm
    · rw [add_log_at, hostM_real s Q K hs, hostL_real s Q K hs, log_coe_pos (mass_pos _), ← EReal.coe_add]
      rfl
    · show c.val = 128 * (c.val / 128) + c.val % 128
      omega
  · next h =>
    refine (lses_off Q K _ ?_).symm
    show 4 ≤ c.val % 128
    omega
end

/-- The scores of the argument arrays. -/
theorem scores_at (A : FVec Ideal S2304x2048 .bf16) (B : FVec Ideal S2304x512 .bf16) (ha : RealQ A) (hb : RealM (m := 2304) (n := 512) B) (h g : Fin 4) (r : Fin 2048) (t : Fin 2304) :
    hostS (hostQ A) (hostK B) (ix4 h g r t) = (S (queries (re A)) (keys (re B)) h g r t : EReal) :=
  hostS_at _ _ _ _ (fun h g r d => (hostQ_at A h g r d).trans (ha _ (Nat.le_add_right _ _))) (fun h t d => (hostK_at B h t d).trans (hb _)) h g r t

end Cert.Reference10Ideal.Attention

end
-- ==== Proof.Attention.Reference.lean ====
/- The attention's plain lines as a program of their own: its run. -/
module

public import proofs.«01_k».proof.Proof.Attention.Host
public import Idealize.ShloMosaic.Lib.StableHlo.Run
public import Idealize.ShloMosaic.Lib.Quiescent

@[expose] public section

set_option maxRecDepth 16384

noncomputable section

namespace Cert.Reference10Ideal.Attention

open Idealize.ShloMosaic Idealize.ShloMosaic.TcCoe Idealize.ShloMosaic.Tactic
open Idealize.SL.Sem
open Cert.Reference10Ideal Cert.Reference10Ideal.Gen Cert.Attn

theorem truncf_eq {S : Shape} (x : FVec Ideal S .f32) : truncf .bf16 x bitsLt_bf16_f32 = x := rfl

/-- The mixed values and the log-sums, as the lines compute them. -/
def lineO (A : FVec Ideal S2304x2048 .bf16) (B : FVec Ideal S2304x512 .bf16) (Z : FVec Ideal S2304x11264 .f32) : FVec Ideal S2048x2048 .bf16 :=
  truncf .bf16 (hostO (hostV Z) (Host.divf (hostE (hostS (hostQ A) (hostK B)) (hostM' (hostS (hostQ A) (hostK B)))) (spread (hostL (hostE (hostS (hostQ A) (hostK B)) (hostM' (hostS (hostQ A) (hostK B)))))))) bitsLt_bf16_f32
def lineL (A : FVec Ideal S2304x2048 .bf16) (B : FVec Ideal S2304x512 .bf16) : FVec Ideal S2048x512 .f32 :=
  hostZ (addf (hostM (hostS (hostQ A) (hostK B))) (Host.log (hostL (hostE (hostS (hostQ A) (hostK B)) (hostM (hostS (hostQ A) (hostK B)))))))

section
variable (A : FVec Ideal S2304x2048 .bf16) (B : FVec Ideal S2304x512 .bf16) (ha : RealQ A) (hb : RealM (m := 2304) (n := 512) B)
include ha hb

theorem lineO_eq (Z : FVec Ideal S2304x11264 .f32) : lineO A B Z = outs (queries (re A)) (keys (re B)) (values Z) := by
  unfold lineO
  rw [truncf_eq, hostM'_eq]
  exact host_outs _ _ _ (scores_at A B ha hb) _ _ (hostV_at Z)

theorem lineL_eq : lineL A B = lses (queries (re A)) (keys (re B)) := host_lses _ _ _ (scores_at A B ha hb)
end

theorem run (m : (ℓ : Loc nD τ sig) → Buf (Elt Ideal) ℓ) (ρ : Dev nD → PrngReg)
    (ha : ∀ c : Dev nD, RealQ (m ((c : Thread nD τ).loc main_arg0))) (hb : ∀ c : Dev nD, RealM (m := 2304) (n := 512) (m ((c : Thread nD τ).loc main_arg1))) :
    θ_run defs (onTc (τ := τ) (main (F := Ideal))) ⟨m, fun _ => 0, ρ⟩ (fun r => (∀ c : Dev nD,
      r.2.mem ((c.tc : Thread nD τ).loc main_v41) = outs (queries (re (m ((c : Thread nD τ).loc main_arg0)))) (keys (re (m ((c : Thread nD τ).loc main_arg1)))) (values (m ((c : Thread nD τ).loc main_arg2)))
      ∧ r.2.mem ((c.tc : Thread nD τ).loc main_v42) = lses (queries (re (m ((c : Thread nD τ).loc main_arg0)))) (keys (re (m ((c : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(show _ = lineO _ _ _ from (h c).1).trans (lineO_eq _ _ (ha c) (hb c) _),
      (show _ = lineL _ _ from (h c).2.1).trans (lineL_eq _ _ (ha c) (hb c)), (h c).2.2⟩,
    Idealize.ShloMosaic.sem_eq_zero_of_no_sems (by decide) r.2⟩) (Value.run (F := Ideal) m ρ)

end Cert.Reference10Ideal.Attention

end
-- ==== Proof.Attention.Saved.lean ====
/- The attention's backward program: what its host lines leave in the arrays the call reads. -/
module

public import proofs.«01_k».proof.Proof.Gen.Kernel9Ideal.Value
public import proofs.«01_k».proof.Proof.Attention.Reference
public import Idealize.ShloMosaic.Lib.Pipeline.ValueKit

@[expose] public section

set_option maxRecDepth 16384

noncomputable section

namespace Cert.Kernel9Ideal.Attention

open Idealize.ShloMosaic Idealize.ShloMosaic.TcCoe Idealize.ShloMosaic.Tactic
open Cert.Kernel9Ideal Cert.Kernel9Ideal.Gen Cert.Attn
open Cert.Reference10Ideal.Attention (lineO lineL)

variable (m : (ℓ : Loc nD τ sig) → Buf (Elt Ideal) ℓ) (c : Dev nD)

theorem saved_q : V m c main_arg0 = m ((c : Thread nD τ).loc main_arg0) := by
  unfold V
  after_results_simp <;> rfl
theorem saved_k : V m c main_arg1 = m ((c : Thread nD τ).loc main_arg1) := by
  unfold V
  after_results_simp <;> rfl
theorem saved_z : V m c main_arg2 = m ((c : Thread nD τ).loc main_arg2) := by
  unfold V
  after_results_simp <;> rfl
theorem saved_d : V m c main_arg3 = m ((c : Thread nD τ).loc main_arg3) := by
  unfold V
  after_results_simp <;> rfl
theorem saved_o : V m c main_v41 = lineO (m ((c : Thread nD τ).loc main_arg0)) (m ((c : Thread nD τ).loc main_arg1)) (m ((c : Thread nD τ).loc main_arg2)) := by
  unfold V
  after_results_simp <;> rfl
theorem saved_l : V m c main_v42 = lineL (m ((c : Thread nD τ).loc main_arg0)) (m ((c : Thread nD τ).loc main_arg1)) := by
  unfold V
  after_results_simp <;> rfl
theorem saved_g : V m c (Pipeline.arrRef spec0 8) = m ((c : Thread nD τ).loc main_arg4) := by
  show V m c main_v43_2 = _
  unfold V
  after_results_simp <;> rfl

end Cert.Kernel9Ideal.Attention

end
-- ==== Proof.Attention.Gradients.lean ====
/- The attention's gradients as arrays, the heads side by side, and as sums over blocks of 256 queries. -/
module

public import proofs.«01_k».proof.Proof.Attention.Arrays

@[expose] public section

noncomputable section

namespace Cert.Attn

open Idealize.ShloMosaic

/-- The values' columns, all real. -/
def RealV (A : (⟨2, ![2304, 11264]⟩ : Shape).Idx → EReal) : Prop := ∀ i, 2560 ≤ (i 1).val → (i 1).val < 3072 → A i = ((A i).toReal : EReal)

theorem values_real {Z : (⟨2, ![2304, 11264]⟩ : Shape).Idx → EReal} (hz : RealV Z) (h : Fin 4) (t : Fin 2304) (d : Fin 128) : values Z h t d = ((values (re Z) h t d : ℝ) : EReal) := by
  refine hz _ (Nat.le_add_right _ _) ?_
  show 2560 + (128 * h.val + d.val) < 3072
  omega

section
variable (q o : Queries) (k v : Keys)

/-- The queries' gradient, the keys', and the cotangent of the merged product with the values' gradient in its columns. -/
def dqs : (⟨2, ![2048, 2048]⟩ : Shape).Idx → EReal := fun i =>
  have h : (i 1).val < 2048 := (i 1).2
  (DQ q o k v ⟨(i 1).val / 512, by omega⟩ ⟨(i 1).val % 512 / 128, by omega⟩ (i 0) ⟨(i 1).val % 128, by omega⟩ : EReal)
def dks : (⟨2, ![2304, 512]⟩ : Shape).Idx → EReal := fun i =>
  have h : (i 1).val < 512 := (i 1).2
  (DK q o k v ⟨(i 1).val / 128, by omega⟩ (i 0) ⟨(i 1).val % 128, by omega⟩ : EReal)
def dzs (G : (⟨2, ![2304, 11264]⟩ : Shape).Idx → EReal) : (⟨2, ![2304, 11264]⟩ : Shape).Idx → EReal := fun i =>
  if h : 2560 ≤ (i 1).val ∧ (i 1).val < 3072 then (DV q o k ⟨((i 1).val - 2560) / 128, by omega⟩ (i 0) ⟨(i 1).val % 128, by omega⟩ : EReal) else G i

theorem dqs_at (h g : Fin 4) (r : Fin 2048) (d : Fin 128) (i : (⟨2, ![2048, 2048]⟩ : Shape).Idx) (hr : (i 0).val = r) (hc : (i 1).val = 512 * h + (128 * g + d)) :
    dqs q o k v i = (DQ q o k v h g r d : EReal) := by
  have e : (⟨(i 1).val / 512, by have : (i 1).val < 2048 := (i 1).2; omega⟩ : Fin 4) = h := Fin.ext (by simp only; omega)
  have e' : (⟨(i 1).val % 512 / 128, by omega⟩ : Fin 4) = g := Fin.ext (by simp only; omega)
  have e'' : (⟨(i 1).val % 128, by omega⟩ : Fin 128) = d := Fin.ext (by simp only; omega)
  have e''' : i 0 = r := Fin.ext hr
  unfold dqs
  dsimp only
  rw [e, e', e'', e''']

theorem dks_at (h : Fin 4) (t : Fin 2304) (d : Fin 128) (i : (⟨2, ![2304, 512]⟩ : Shape).Idx) (ht : (i 0).val = t) (hc : (i 1).val = 128 * h + d) :
    dks q o k v i = (DK q o k v h t d : EReal) := by
  have e : (⟨(i 1).val / 128, by have : (i 1).val < 512 := (i 1).2; omega⟩ : Fin 4) = h := Fin.ext (by simp only; omega)
  have e' : (⟨(i 1).val % 128, by omega⟩ : Fin 128) = d := Fin.ext (by simp only; omega)
  have e'' : i 0 = t := Fin.ext ht
  unfold dks
  dsimp only
  rw [e, e', e'']

variable (G : (⟨2, ![2304, 11264]⟩ : Shape).Idx → EReal)

theorem dzs_at (h : Fin 4) (t : Fin 2304) (d : Fin 128) (i : (⟨2, ![2304, 11264]⟩ : Shape).Idx) (ht : (i 0).val = t) (hc : (i 1).val = 2560 + (128 * h + d)) :
    dzs q o k G i = (DV q o k h t d : EReal) := by
  have hi : 2560 ≤ (i 1).val ∧ (i 1).val < 3072 := by omega
  have e : (⟨((i 1).val - 2560) / 128, by omega⟩ : Fin 4) = h := Fin.ext (by simp only; omega)
  have e' : (⟨(i 1).val % 128, by omega⟩ : Fin 128) = d := Fin.ext (by simp only; omega)
  have e'' : i 0 = t := Fin.ext ht
  unfold dzs
  rw [dif_pos hi, e, e', e'']

theorem dzs_off (i : (⟨2, ![2304, 11264]⟩ : Shape).Idx) (h : ¬(2560 ≤ (i 1).val ∧ (i 1).val < 3072)) : dzs q o k G i = G i := by
  unfold dzs
  rw [dif_neg h]
end

/-! ## Blocks of queries -/

/-- Row `r` of block `b`. -/
def row (b : ℕ) (r : Fin 256) : Fin 2048 := ⟨(256 * b + r) % 2048, Nat.mod_lt _ (by norm_num)⟩

theorem sum_rows (f : Fin 4 → Fin 2048 → ℝ) : ∑ b ∈ Finset.range 8, ∑ g, ∑ r, f g (row b r) = ∑ R, ∑ g, f g R := by
  have e (g : Fin 4) : ∑ R, f g R = ∑ b ∈ Finset.range 8, ∑ r, f g (row b r) := by
    rw [Finset.sum_range, ← (finProdFinEquiv (m := 8) (n := 256)).sum_comp (f g), Fintype.sum_prod_type]
    refine Finset.sum_congr rfl fun b _ => Finset.sum_congr rfl fun r _ => congrArg (f g) (Fin.ext ?_)
    show r.val + 256 * b.val = (256 * b.val + r.val) % 2048
    omega
  exact (Finset.sum_comm.trans (Finset.sum_congr rfl fun g _ => (e g).symm)).trans Finset.sum_comm

section
variable (q o : Queries) (k v : Keys)

/-- Block `b`'s part of the values' gradient, and of the keys' before the scale. -/
def partV (h : Fin 4) (b : ℕ) (t : Fin 2304) (d : Fin 128) : ℝ := ∑ g, ∑ r, P q k h g (row b r) t * o h g (row b r) d
def partK (h : Fin 4) (b : ℕ) (t : Fin 2304) (d : Fin 128) : ℝ := ∑ g, ∑ r, DS q o k v h g (row b r) t * q h g (row b r) d

theorem sum_partV (h : Fin 4) (t : Fin 2304) (d : Fin 128) : ∑ b ∈ Finset.range 8, partV q o k h b t d = DV q o k h t d :=
  sum_rows fun g R => P q k h g R t * o h g R d
theorem sum_partK (h : Fin 4) (t : Fin 2304) (d : Fin 128) : (∑ b ∈ Finset.range 8, partK q o k v h b t d) * scale = DK q o k v h t d :=
  congrArg (· * scale) (sum_rows fun g R => DS q o k v h g R t * q h g R d)
end

end Cert.Attn

end
-- ==== Proof.Attention.Backward.lean ====
/- The attention's backward call: its three result arrays, read as the gradients. -/
module

public import proofs.«01_k».proof.Proof.Attention.Point
public import proofs.«01_k».proof.Proof.Attention.Saved
public import proofs.«01_k».proof.Proof.Attention.Gradients

@[expose] public section

set_option maxRecDepth 16384

noncomputable section

namespace Cert.Kernel9Ideal.Attention

open Idealize.ShloMosaic Idealize.ShloMosaic.TcCoe Idealize.ShloMosaic.Tactic
open Idealize.SL.Sem
open Cert.Kernel9Ideal Cert.Kernel9Ideal.Gen Cert.Attn

/-! ## What a point's blocks say -/

section Reads
variable {q o : Queries} {k v : Keys} {h : Fin 4} {b : ℕ} {Qb Db Ob : S256x512.Idx → ℝ} {Kb Vb : S2304x128.Idx → ℝ} {Lb : S256x128.Idx → ℝ}

/-- The blocks of head `h`, queries' block `b`. -/
structure Reads (q o : Queries) (k v : Keys) (h : Fin 4) (b : ℕ) (Qb Db Ob : S256x512.Idx → ℝ) (Kb Vb : S2304x128.Idx → ℝ) (Lb : S256x128.Idx → ℝ) : Prop where
  query : ∀ g r d, member Qb g (ix2 r d) = q h g (row b r) d
  cotangent : ∀ g r d, member Db g (ix2 r d) = o h g (row b r) d
  mixed : ∀ g r d, member Ob g (ix2 r d) = O q k v h g (row b r) d
  key : ∀ t d, Kb (ix2 t d) = k h t d
  value : ∀ t d, Vb (ix2 t d) = v h t d
  logsum : ∀ g r, column Lb g (ix2 r 0) = lse (S q k h g (row b r))

variable (R : Reads q o k v h b Qb Db Ob Kb Vb Lb)
include R

theorem bp_eq (g : Fin 4) (r : Fin 256) (t : Fin 2304) : bp Qb Kb Lb g r t = P q k h g (row b r) t := by
  unfold bp pw
  simp only [R.query, R.key, R.logsum]
  exact exp_sub_lse _ _
theorem bs_eq (g : Fin 4) (r : Fin 256) (t : Fin 2304) : bs Qb Db Ob Kb Vb Lb g r t = DS q o k v h g (row b r) t := by
  unfold bs pe
  rw [bp_eq R]
  simp only [R.cotangent, R.value, R.mixed]
  unfold O
  rw [sum_mul_mix]
  rfl
theorem gainV_eq (t : Fin 2304) (d : Fin 128) : gainV Qb Db Kb Lb t d = partV q o k h b t d := by
  unfold gainV partV
  simp only [bp_eq R, R.cotangent]
theorem gainK_eq (t : Fin 2304) (d : Fin 128) : gainK Qb Db Ob Kb Vb Lb t d = partK q o k v h b t d := by
  unfold gainK partK
  simp only [bs_eq R, R.query]
theorem gradQ_eq (g : Fin 4) (r : Fin 256) (d : Fin 128) : gradQ Qb Db Ob Kb Vb Lb g r d = DQ q o k v h g (row b r) d := by
  unfold gradQ DQ
  simp only [bs_eq R, R.key]
end Reads

/-! ## The blocks -/

theorem i0 : ∀ t : Fin cfg0.N, win0_0.index t = ![1 + t.val % 8, t.val / 8] := (by decide +kernel : ∀ t : Fin grid0.N, _)
theorem i1 : ∀ t : Fin cfg0.N, win0_1.index t = ![0, t.val / 8] := (by decide +kernel : ∀ t : Fin grid0.N, _)
theorem i2 : ∀ t : Fin cfg0.N, win0_2.index t = ![0, 20 + t.val / 8] := (by decide +kernel : ∀ t : Fin grid0.N, _)
theorem i3 : ∀ t : Fin cfg0.N, win0_3.index t = ![t.val % 8, t.val / 8] := (by decide +kernel : ∀ t : Fin grid0.N, _)
theorem i4 : ∀ t : Fin cfg0.N, win0_4.index t = ![t.val % 8, t.val / 8] := (by decide +kernel : ∀ t : Fin grid0.N, _)
theorem i5 : ∀ t : Fin cfg0.N, win0_5.index t = ![t.val % 8, t.val / 8] := (by decide +kernel : ∀ t : Fin grid0.N, _)
theorem i6 : ∀ t : Fin cfg0.N, win0_6.index t = ![t.val % 8, t.val / 8] := (by decide +kernel : ∀ t : Fin grid0.N, _)
theorem i7 : ∀ t : Fin cfg0.N, win0_7.index t = ![0, t.val / 8] := (by decide +kernel : ∀ t : Fin grid0.N, _)
theorem i8 : ∀ t : Fin cfg0.N, win0_8.index t = ![0, 20 + t.val / 8] := (by decide +kernel : ∀ t : Fin grid0.N, _)

theorem flush7 : ∀ t : Fin cfg0.N, (cfg0.win 7).flush t = true → t.val % 8 = 7 := (by decide +kernel : ∀ t : Fin grid0.N, _)
theorem flush8 : ∀ t : Fin cfg0.N, (cfg0.win 8).flush t = true → t.val % 8 = 7 := (by decide +kernel : ∀ t : Fin grid0.N, _)
theorem lt32 (t : Fin cfg0.N) : t.val < 32 := lt_of_lt_of_eq t.isLt N_0
theorem last_lt (h : Fin 4) : 8 * h.val + 7 < cfg0.N := lt_of_lt_of_eq (show 8 * h.val + 7 < 32 by omega) N_0.symm

/-- A block of rows and columns of a matrix of reals. -/
def cut {m n a b : ℕ} (A : (⟨2, ![m, n]⟩ : Shape).Idx → EReal) (r s : ℕ) (hr : r + a ≤ m) (hs : s + b ≤ n) : (⟨2, ![a, b]⟩ : Shape).Idx → ℝ := fun i =>
  have h0 : (i 0).val < a := (i 0).2
  have h1 : (i 1).val < b := (i 1).2
  re A (ix2 ⟨r + (i 0).val, by omega⟩ ⟨s + (i 1).val, by omega⟩)
theorem member_cut {m n : ℕ} (A : (⟨2, ![m, n]⟩ : Shape).Idx → EReal) (r s : ℕ) (hr : r + 256 ≤ m) (hs : s + 512 ≤ n) (g : Fin 4) (i : Fin 256) (d : Fin 128) :
    member (cut A r s hr hs) g (ix2 i d) = (A (ix2 ⟨r + i, by omega⟩ ⟨s + (128 * g + d), by omega⟩)).toReal := rfl

section Arrays
variable (m : (ℓ : Loc nD τ sig) → Buf (Elt Ideal) ℓ) (c : Dev nD)

section Blocks
variable (A : S2304x2048.Idx → EReal) (B : S2304x512.Idx → EReal) (Z : S2304x11264.Idx → EReal) (D E : S2048x2048.Idx → EReal) (L : S2048x512.Idx → EReal) (t : Fin cfg0.N)

theorem block0 (hA : V m c main_arg0 = A) (ha : RealQ A) : iblk m c 0 t = fun i : S256x512.Idx =>
    (cut A (256 * (1 + t.val % 8)) (512 * (t.val / 8)) (by omega) (by have := lt32 t; omega) i : EReal) := by
  funext i
  refine Eq.trans ?_ (ha _ ?_)
  · rw [← hA]
    blk_ext [iblk, i0]
  · show 256 ≤ 256 * (1 + _) + _
    omega
theorem block1 (hB : V m c main_arg1 = B) (hb : RealM B) : iblk m c 1 t = fun i : S2304x128.Idx =>
    (cut B 0 (128 * (t.val / 8)) (by omega) (by have := lt32 t; omega) i : EReal) := by
  funext i
  refine Eq.trans ?_ (hb _)
  rw [← hB]
  blk_ext [iblk, i1]
theorem block2 (hZ : V m c main_arg2 = Z) (hz : RealV Z) : iblk m c 2 t = fun i : S2304x128.Idx =>
    (cut Z 0 (2560 + 128 * (t.val / 8)) (by omega) (by have := lt32 t; omega) i : EReal) := by
  funext i
  have := lt32 t
  have : (i 1).val < 128 := (i 1).2
  refine Eq.trans ?_ (hz _ ?_ ?_)
  · rw [← hZ]
    blk_ext [iblk, i2]
  · show 2560 ≤ 2560 + 128 * (t.val / 8) + (i 1).val
    omega
  · show 2560 + 128 * (t.val / 8) + (i 1).val < 3072
    omega
theorem block3 (hD : V m c main_arg3 = D) (hd : RealM D) : iblk m c 3 t = fun i : S256x512.Idx =>
    (cut D (256 * (t.val % 8)) (512 * (t.val / 8)) (by omega) (by have := lt32 t; omega) i : EReal) := by
  funext i
  refine Eq.trans ?_ (hd _)
  rw [← hD]
  blk_ext [iblk, i3]
theorem block4 (hE : V m c main_v41 = E) (he : RealM E) : iblk m c 4 t = fun i : S256x512.Idx =>
    (cut E (256 * (t.val % 8)) (512 * (t.val / 8)) (by omega) (by have := lt32 t; omega) i : EReal) := by
  funext i
  refine Eq.trans ?_ (he _)
  rw [← hE]
  blk_ext [iblk, i4]
theorem block5 (hL : V m c main_v42 = L) (hl : RealM L) : iblk m c 5 t = fun i : S256x128.Idx =>
    (cut L (256 * (t.val % 8)) (128 * (t.val / 8)) (by omega) (by have := lt32 t; omega) i : EReal) := by
  funext i
  refine Eq.trans ?_ (hl _)
  rw [← hL]
  blk_ext [iblk, i5]
end Blocks

/-- The saved output and log-sums are real. -/
theorem outs_real (q : Queries) (k v : Keys) : RealM (outs q k fun h t d => (v h t d : EReal)) := fun i => by
  unfold outs
  dsimp only
  rw [blend_coe]
  rfl
theorem lses_real (q : Queries) (k : Keys) : RealM (lses q k) := fun i => by
  unfold lses
  dsimp only
  split <;> rfl

variable (A : S2304x2048.Idx → EReal) (B : S2304x512.Idx → EReal) (Z : S2304x11264.Idx → EReal) (D : S2048x2048.Idx → EReal)

/-- The blocks of point `t`, as reals. -/
abbrev xq (t : Fin cfg0.N) : S256x512.Idx → ℝ := cut A (256 * (1 + t.val % 8)) (512 * (t.val / 8)) (by omega) (by have := lt32 t; omega)
abbrev xk (t : Fin cfg0.N) : S2304x128.Idx → ℝ := cut B 0 (128 * (t.val / 8)) (by omega) (by have := lt32 t; omega)
abbrev xv (t : Fin cfg0.N) : S2304x128.Idx → ℝ := cut Z 0 (2560 + 128 * (t.val / 8)) (by omega) (by have := lt32 t; omega)
abbrev xd (t : Fin cfg0.N) : S256x512.Idx → ℝ := cut D (256 * (t.val % 8)) (512 * (t.val / 8)) (by omega) (by have := lt32 t; omega)
abbrev xo (t : Fin cfg0.N) : S256x512.Idx → ℝ :=
  cut (outs (queries (re A)) (keys (re B)) fun h t d => ((values (re Z) h t d : ℝ) : EReal)) (256 * (t.val % 8)) (512 * (t.val / 8)) (by omega) (by have := lt32 t; omega)
abbrev xl (t : Fin cfg0.N) : S256x128.Idx → ℝ := cut (lses (queries (re A)) (keys (re B))) (256 * (t.val % 8)) (128 * (t.val / 8)) (by omega) (by have := lt32 t; omega)

theorem reads (t : Fin cfg0.N) (h : Fin 4) (b : ℕ) (hh : t.val / 8 = h.val) (hb : t.val % 8 = b) :
    Reads (queries (re A)) (cotangents (re D)) (keys (re B)) (values (re Z)) h b (xq A t) (xd D t) (xo A B Z t) (xk B t) (xv Z t) (xl A B t) where
  query g r d := by
    refine congrArg (re A) (eq_ix2 _ _ _ ?_ ?_)
    · show 256 * (1 + t.val % 8) + r.val = 256 + (256 * b + r.val) % 2048
      omega
    · show 512 * (t.val / 8) + (128 * g.val + d.val) = 512 * h.val + (128 * g.val + d.val)
      omega
  cotangent g r d := by
    refine congrArg (re D) (eq_ix2 _ _ _ ?_ ?_)
    · show 256 * (t.val % 8) + r.val = (256 * b + r.val) % 2048
      omega
    · show 512 * (t.val / 8) + (128 * g.val + d.val) = 512 * h.val + (128 * g.val + d.val)
      omega
  mixed g r d := by
    rw [member_cut, outs_at _ _ _ h g (row b r) d _ ?_ ?_, blend_coe, EReal.toReal_coe]
    · rfl
    · show 256 * (t.val % 8) + r.val = (256 * b + r.val) % 2048
      omega
    · show 512 * (t.val / 8) + (128 * g.val + d.val) = 512 * h.val + (128 * g.val + d.val)
      omega
  key u d := by
    refine congrArg (re B) (eq_ix2 _ _ _ ?_ ?_)
    · show 0 + u.val = u.val
      omega
    · show 128 * (t.val / 8) + d.val = 128 * h.val + d.val
      omega
  value u d := by
    refine congrArg (re Z) (eq_ix2 _ _ _ ?_ ?_)
    · show 0 + u.val = u.val
      omega
    · show 2560 + 128 * (t.val / 8) + d.val = 2560 + (128 * h.val + d.val)
      omega
  logsum g r := by
    refine (congrArg EReal.toReal (lses_at _ _ h g (row b r) _ ?_ ?_)).trans (EReal.toReal_coe _)
    · show 256 * (t.val % 8) + r.val = (256 * b + r.val) % 2048
      omega
    · show 128 * (t.val / 8) + g.val = 128 * h.val + g.val
      omega

variable (hA : V m c main_arg0 = A) (hB : V m c main_arg1 = B) (hZ : V m c main_arg2 = Z) (hD : V m c main_arg3 = D)
  (hE : V m c main_v41 = outs (queries (re A)) (keys (re B)) fun h t d => ((values (re Z) h t d : ℝ) : EReal)) (hL : V m c main_v42 = lses (queries (re A)) (keys (re B)))
  (ha : RealQ A) (hb : RealM B) (hz : RealV Z) (hd : RealM D)
include hA hB hZ hD hE hL ha hb hz hd

/-! ## The accumulators over a head's blocks -/

theorem sums_at (h : Fin 4) (u : Fin 2304) (d : Fin 128) (b : ℕ) (hb8 : b < 7) (ht : 8 * h.val + b < cfg0.N) :
    (outsAt0 m c (8 * h.val + b) ht).2.2.2 (ix2 u d) = ((∑ j ∈ Finset.range (b + 1), partV (queries (re A)) (cotangents (re D)) (keys (re B)) h j u d : ℝ) : EReal)
    ∧ (outsAt0 m c (8 * h.val + b) ht).2.1 (ix2 u d) = ((∑ j ∈ Finset.range (b + 1), partK (queries (re A)) (cotangents (re D)) (keys (re B)) (values (re Z)) h j u d : ℝ) : EReal) := by
  induction b with
  | zero =>
    have R := reads A B Z D ⟨8 * h.val + 0, ht⟩ h 0 (by simp only; omega) (by simp only; omega)
    have e := outsAt0_A m c ⟨8 * h.val + 0, ht⟩ (by simp only; omega) (by simp only; omega)
    dsimp only at e
    rw [e, block0 m c A _ hA ha, block1 m c B _ hB hb, block2 m c Z _ hZ hz, block3 m c D _ hD hd, block4 m c _ _ hE (outs_real _ _ _), block5 m c _ _ hL (lses_real _ _)]
    dsimp only
    rw [dv_A, dk_A, gainV_eq R, gainK_eq R, Finset.sum_range_one, Finset.sum_range_one, zero_add, zero_add]
    exact ⟨rfl, rfl⟩
  | succ b ih =>
    have R := reads A B Z D ⟨8 * h.val + (b + 1), ht⟩ h (b + 1) (by simp only; omega) (by simp only; omega)
    have e := outsAt0_B m c ⟨8 * h.val + (b + 1), ht⟩ (by simp only; omega) (by simp only; omega)
    dsimp only at e
    obtain ⟨iv, ik⟩ := ih (by omega) (by omega)
    rw [e, block0 m c A _ hA ha, block1 m c B _ hB hb, block2 m c Z _ hZ hz, block3 m c D _ hD hd, block4 m c _ _ hE (outs_real _ _ _), block5 m c _ _ hL (lses_real _ _)]
    dsimp only
    refine ⟨(dv_B (hx := iv) ..).trans ?_, (dk_B (hx := ik) ..).trans ?_⟩
    · rw [gainV_eq R, ← Finset.sum_range_succ]
    · rw [gainK_eq R, ← Finset.sum_range_succ]

/-- After a head's last block. -/
theorem done_at (h : Fin 4) (u : Fin 2304) (d : Fin 128) (ht : 8 * h.val + 7 < cfg0.N) :
    (outsAt0 m c (8 * h.val + 7) ht).2.2.1 (ix2 u d) = (DV (queries (re A)) (cotangents (re D)) (keys (re B)) h u d : EReal)
    ∧ (outsAt0 m c (8 * h.val + 7) ht).2.1 (ix2 u d) = (DK (queries (re A)) (cotangents (re D)) (keys (re B)) (values (re Z)) h u d : EReal) := by
  have R := reads A B Z D ⟨8 * h.val + 7, ht⟩ h 7 (by simp only; omega) (by simp only; omega)
  have e := outsAt0_C m c ⟨8 * h.val + 7, ht⟩ (by simp only; omega) (by simp only; omega)
  dsimp only at e
  obtain ⟨iv, ik⟩ := sums_at m c A B Z D hA hB hZ hD hE hL ha hb hz hd h u d 6 (by norm_num) (by omega)
  rw [e, block0 m c A _ hA ha, block1 m c B _ hB hb, block2 m c Z _ hZ hz, block3 m c D _ hD hd, block4 m c _ _ hE (outs_real _ _ _), block5 m c _ _ hL (lses_real _ _)]
  dsimp only
  refine ⟨(dz_C (hx := iv) ..).trans ?_, (dk_C (hx := ik) ..).trans ?_⟩
  · rw [gainV_eq R, ← Finset.sum_range_succ, sum_partV]
  · rw [gainK_eq R, ← Finset.sum_range_succ, sum_partK]

theorem grad_at (t : Fin cfg0.N) (h g : Fin 4) (b : ℕ) (hh : t.val / 8 = h.val) (hb8 : t.val % 8 = b) (r : Fin 256) (d : Fin 128) (y : S256x512.Idx) (hr : (y 0).val = r)
    (hc : (y 1).val = 128 * g + d) :
    (outsAt0 m c t.val t.isLt).1 y = (DQ (queries (re A)) (cotangents (re D)) (keys (re B)) (values (re Z)) h g (row b r) d : EReal) := by
  have R := reads A B Z D t h b hh hb8
  by_cases h0 : t.val % 8 = 0
  · have e := outsAt0_A m c t h0 (by omega)
    rw [e, block0 m c A _ hA ha, block1 m c B _ hB hb, block2 m c Z _ hZ hz, block3 m c D _ hD hd, block4 m c _ _ hE (outs_real _ _ _), block5 m c _ _ hL (lses_real _ _)]
    dsimp only
    refine (dq_A (hr := hr) (hd := hc) ..).trans ?_
    rw [gradQ_eq R]
  by_cases h7 : t.val % 8 = 7
  · have e := outsAt0_C m c t h0 h7
    rw [e, block0 m c A _ hA ha, block1 m c B _ hB hb, block2 m c Z _ hZ hz, block3 m c D _ hD hd, block4 m c _ _ hE (outs_real _ _ _), block5 m c _ _ hL (lses_real _ _)]
    dsimp only
    refine (dq_C (hr := hr) (hd := hc) ..).trans ?_
    rw [gradQ_eq R]
  · have e := outsAt0_B m c t h0 h7
    rw [e, block0 m c A _ hA ha, block1 m c B _ hB hb, block2 m c Z _ hZ hz, block3 m c D _ hD hd, block4 m c _ _ hE (outs_real _ _ _), block5 m c _ _ hL (lses_real _ _)]
    dsimp only
    refine (dq_B (hr := hr) (hd := hc) ..).trans ?_
    rw [gradQ_eq R]

/-! ## The arrays -/

theorem dq_array : (dats m 0 c).arrAt 6 cfg0.N = dqs (queries (re A)) (cotangents (re D)) (keys (re B)) (values (re Z)) := by
  refine (dats m 0 c).arrAt_eq_of_covers 6 _ (by decide +kernel) fun t hf y => ?_
  blk_simp
  rw [after0_6]
  have := lt32 t
  have y0 : (y 0).val < 256 := (y 0).2
  have y1 : (y 1).val < 512 := (y 1).2
  obtain ⟨h, eh⟩ : ∃ h : Fin 4, h.val = t.val / 8 := ⟨⟨_, by omega⟩, rfl⟩
  obtain ⟨g, eg⟩ : ∃ g : Fin 4, g.val = (y 1).val / 128 := ⟨⟨_, by omega⟩, rfl⟩
  obtain ⟨d, ed⟩ : ∃ d : Fin 128, d.val = (y 1).val % 128 := ⟨⟨_, by omega⟩, rfl⟩
  obtain ⟨r, er⟩ : ∃ r : Fin 256, r.val = (y 0).val := ⟨⟨_, y0⟩, rfl⟩
  rw [grad_at m c A B Z D hA hB hZ hD hE hL ha hb hz hd t h g _ eh.symm rfl r d y er.symm (by omega)]
  refine (dqs_at _ _ _ _ h g _ d _ ?_ ?_).symm
  · blk_simp [i6]
    show _ = (256 * (t.val % 8) + r.val) % 2048
    omega
  · blk_simp [i6]
    omega

theorem dk_array : (dats m 0 c).arrAt 7 cfg0.N = dks (queries (re A)) (cotangents (re D)) (keys (re B)) (values (re Z)) := by
  refine (dats m 0 c).arrAt_eq_of_covers 7 _ (by decide +kernel) fun t hf y => ?_
  have := flush7 t hf
  blk_simp
  rw [after0_7]
  have := lt32 t
  obtain ⟨h, eh⟩ : ∃ h : Fin 4, h.val = t.val / 8 := ⟨⟨_, by omega⟩, rfl⟩
  obtain rfl : t = ⟨8 * h.val + 7, last_lt h⟩ := Fin.ext (by simp only; omega)
  obtain ⟨u, d, rfl⟩ := exists_ix2 y
  rw [(done_at m c A B Z D hA hB hZ hD hE hL ha hb hz hd h u d _).2]
  refine (dks_at _ _ _ _ h u d _ ?_ ?_).symm
  · blk_simp [i7]
  · blk_simp [i7]
    omega

theorem dz_array (G : S2304x11264.Idx → EReal) (hG : V m c (Pipeline.arrRef spec0 8) = G) :
    (dats m 0 c).arrAt 8 cfg0.N = dzs (queries (re A)) (cotangents (re D)) (keys (re B)) G := by
  refine (dats m 0 c).arrAt_eq_of_coversWhere_of_agree 8 _ (fun β => 20 ≤ β (1 : Fin _) ∧ β (1 : Fin _) < 24) (by decide +kernel) (fun t hf y => ?_) (fun j hj => ?_)
  · have := flush8 t hf
    blk_simp
    rw [after0_8]
    have := lt32 t
    obtain ⟨h, eh⟩ : ∃ h : Fin 4, h.val = t.val / 8 := ⟨⟨_, by omega⟩, rfl⟩
    obtain rfl : t = ⟨8 * h.val + 7, last_lt h⟩ := Fin.ext (by simp only; omega)
    obtain ⟨u, d, rfl⟩ := exists_ix2 y
    rw [(done_at m c A B Z D hA hB hZ hD hE hL ha hb hz hd h u d _).1]
    refine (dzs_at _ _ _ _ h u d _ ?_ ?_).symm
    · blk_simp [i8]
    · blk_simp [i8]
      omega
  · blk_simp [Pipeline.Window.cell_apply] at hj
    rw [A_eq, dzs_off]
    · exact congrFun hG _
    · blk_simp
      omega

end Arrays

/-- The run: the three gradients, the arguments as they were. -/
theorem run (m : (ℓ : Loc nD τ sig) → Buf (Elt Ideal) ℓ) (ρ : Dev nD → PrngReg)
    (ha : ∀ c : Dev nD, RealQ (m ((c : Thread nD τ).loc main_arg0))) (hb : ∀ c : Dev nD, RealM (m := 2304) (n := 512) (m ((c : Thread nD τ).loc main_arg1)))
    (hz : ∀ c : Dev nD, RealV (m ((c : Thread nD τ).loc main_arg2))) (hd : ∀ c : Dev nD, RealM (m := 2048) (n := 2048) (m ((c : Thread nD τ).loc main_arg3))) :
    θ_run defs (onTc (τ := τ) (main (F := Ideal))) ⟨m, fun _ => 0, ρ⟩ fun r => ∀ c : Dev nD,
      r.2.mem ((c : Thread nD τ).loc main_v43_0) = dqs (queries (re (m ((c : Thread nD τ).loc main_arg0)))) (cotangents (re (m ((c : Thread nD τ).loc main_arg3)))) (keys (re (m ((c : Thread nD τ).loc main_arg1)))) (values (re (m ((c : Thread nD τ).loc main_arg2))))
      ∧ r.2.mem ((c : Thread nD τ).loc main_v43_1) = dks (queries (re (m ((c : Thread nD τ).loc main_arg0)))) (cotangents (re (m ((c : Thread nD τ).loc main_arg3)))) (keys (re (m ((c : Thread nD τ).loc main_arg1)))) (values (re (m ((c : Thread nD τ).loc main_arg2))))
      ∧ r.2.mem ((c : Thread nD τ).loc main_v43_2) = dzs (queries (re (m ((c : Thread nD τ).loc main_arg0)))) (cotangents (re (m ((c : Thread nD τ).loc main_arg3)))) (keys (re (m ((c : Thread nD τ).loc main_arg1)))) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    have hE := (saved_o m c).trans ((Cert.Reference10Ideal.Attention.lineO_eq _ _ (ha c) (hb c) _).trans
      (congrArg (outs (queries (re (m ((c : Thread nD τ).loc main_arg0)))) (keys (re (m ((c : Thread nD τ).loc main_arg1))))) (funext fun h => funext fun t => funext fun d => values_real (hz c) h t d)))
    have hL := (saved_l m c).trans (Cert.Reference10Ideal.Attention.lineL_eq _ _ (ha c) (hb c))
    ⟨(h c).1.trans (dq_array m c _ _ _ _ (saved_q m c) (saved_k m c) (saved_z m c) (saved_d m c) hE hL (ha c) (hb c) (hz c) (hd c)),
     (h c).2.1.trans (dk_array m c _ _ _ _ (saved_q m c) (saved_k m c) (saved_z m c) (saved_d m c) hE hL (ha c) (hb c) (hz c) (hd c)),
     (h c).2.2.1.trans (dz_array m c _ _ _ _ (saved_q m c) (saved_k m c) (saved_z m c) (saved_d m c) hE hL (ha c) (hb c) (hz c) (hd c) _ (saved_g m c)), (h c).2.2.2⟩)
    (Value.run_blocks m ρ)

end Cert.Kernel9Ideal.Attention

end
-- ==== Proof.Attention.HostGrad.lean ====
/- The derivative of the attention's lines, in array operations, read at an index: the cotangents of the weights and the scores, the
   three gradients. -/
module

public import proofs.«01_k».proof.Proof.Gen.Reference9Ideal.Run
public import proofs.«01_k».proof.Proof.Attention.Reference
public import proofs.«01_k».proof.Proof.Attention.Gradients

@[expose] public section

set_option maxRecDepth 16384

noncomputable section

namespace Cert.Reference9Ideal.Attention

open Idealize.ShloMosaic Idealize.ShloMosaic.TcCoe Idealize.ShloMosaic.Tactic
open Cert.Reference9Ideal Cert.Reference9Ideal.Gen Cert.Attn
open Cert.Reference10Ideal.Attention

/-- The cotangent of the mixed rows, a head to an axis. -/
def hostD (D : FVec Ideal S2048x2048 .bf16) : FVec Ideal S4x128x4x2048 .f32 :=
  transpose S4x128x4x2048 [1, 3, 2, 0] (shapeCast S2048x4x4x128 (extf .f32 D bitsLt_bf16_f32) shapeCasts_S2048x2048_S2048x4x4x128) transposes_S2048x4x4x128_S4x128x4x2048_1_3_2_0
/-- Pulled back to the weights. -/
def hostW (d : FVec Ideal S4x128x4x2048 .f32) (v : FVec Ideal S2304x4x128 .f32) : FVec Ideal S4x4x2048x2304 .f32 :=
  Host.dotGeneral dot_S4x128x4x2048_S2304x4x128_S4x4x2048x2304_1_2_23_0_0_1 none d v

theorem hostD_at (D : FVec Ideal S2048x2048 .bf16) (h g : Fin 4) (r : Fin 2048) (d : Fin 128) : hostD D (ix4 h d g r) = cotangents D h g r d := by
  unfold hostD
  pointwise
  rw [show (⟨h.val * 512 + g.val * 128 + d.val, by omega⟩ : Fin 2048) = ⟨512 * h + (128 * g + d), by omega⟩ from Fin.ext (by simp only; omega)]
  rfl
theorem hostW_at (d : FVec Ideal S4x128x4x2048 .f32) (v : FVec Ideal S2304x4x128 .f32) (h g : Fin 4) (r : Fin 2048) (t : Fin 2304) :
    hostW d v (ix4 h g r t) = ∑ x, d (ix4 h x g r) * v (ix3 t h x) := by
  unfold hostW
  pointwise

section
variable (w e : FVec Ideal S4x4x2048x2304 .f32) (l : FVec Ideal S4x4x2048 .f32)
/-- `1 / l²`, what every weight's share of the sum gets, and the scores' cotangent. -/
def hostI : FVec Ideal S4x4x2048x1 .f32 :=
  Host.divf (broadcastInDim S4x4x2048x1 ![] bcast_S_S4x4x2048x1 (constant S_ .f32 0x3F800000#32))
    (mulf (broadcastInDim S4x4x2048x1 ![0, 1, 2] bcast_S4x4x2048_S4x4x2048x1_0_1_2 l) (broadcastInDim S4x4x2048x1 ![0, 1, 2] bcast_S4x4x2048_S4x4x2048x1_0_1_2 l))
def hostJ : FVec Ideal S4x4x2048 .f32 :=
  Host.reduceAdd (mulf (mulf w (broadcastInDim S4x4x2048x2304 ![0, 1, 2, 3] bcast_S4x4x2048x1_S4x4x2048x2304_0_1_2_3 (hostI l))) e) (constant S_ .f32 0x00000000#32) reducesTo_S4x4x2048x2304_S4x4x2048_d3 h_S_
def hostN (x : FVec Ideal S4x4x2048 .f32) : FVec Ideal S4x4x2048 .f32 :=
  Host.reduceAdd (Host.negf (shapeCast S4x4x2048x1 x shapeCasts_S4x4x2048_S4x4x2048x1)) (constant S_ .f32 0x00000000#32) reducesTo_S4x4x2048x1_S4x4x2048_d3 h_S_
def hostG (x : FVec Ideal S4x4x2048 .f32) : FVec Ideal S4x4x2048x2304 .f32 :=
  Host.divf (mulf (addf (Host.divf w (spread l)) (broadcastInDim S4x4x2048x2304 ![0, 1, 2] bcast_S4x4x2048_S4x4x2048x2304_0_1_2 x)) e)
    (broadcastInDim S4x4x2048x2304 ![] bcast_S_S4x4x2048x2304 (Host.sqrt (constant S_ .f32 0x43000000#32)))

theorem hostJ_at (h g : Fin 4) (r : Fin 2048) :
    hostJ w e l (ix3 h g r) = ∑ t, w (ix4 h g r t) * Ideal.div 1 (l (ix3 h g r) * l (ix3 h g r)) * e (ix4 h g r t) := by
  unfold hostJ hostI
  pointwise
theorem hostN_at (x : FVec Ideal S4x4x2048 .f32) (h g : Fin 4) (r : Fin 2048) : hostN x (ix3 h g r) = -x (ix3 h g r) := by
  unfold hostN
  pointwise
  exact Fintype.sum_unique _
theorem hostG_at (x : FVec Ideal S4x4x2048 .f32) (h g : Fin 4) (r : Fin 2048) (t : Fin 2304) :
    hostG w e l x (ix4 h g r t) = Ideal.div ((Ideal.div (w (ix4 h g r t)) (l (ix3 h g r)) + x (ix3 h g r)) * e (ix4 h g r t)) (Ideal.sqrt (Ideal.ofBits .f32 0x43000000#32)) := by
  unfold hostG spread
  pointwise
end

/-- The three gradients. -/
def hostDQ (k : FVec Ideal S2304x4x128 .f32) (x : FVec Ideal S4x4x2048x2304 .f32) : FVec Ideal S2048x2048 .f32 :=
  shapeCast _ (transpose S2048x4x4x128 [1, 0, 2, 3] (Host.dotGeneral dot_S4x2304x2048x4_S2304x4x128_S4x2048x4x128_1_0_23_2_0_1 none
    (transpose S4x2304x2048x4 [0, 3, 2, 1] x transposes_S4x4x2048x2304_S4x2304x2048x4_0_3_2_1) k) transposes_S4x2048x4x128_S2048x4x4x128_1_0_2_3) shapeCasts_S2048x4x4x128_S2048x2048
def hostDK (q : FVec Ideal S2048x4x4x128 .f32) (x : FVec Ideal S4x4x2048x2304 .f32) : FVec Ideal S2304x512 .f32 :=
  shapeCast _ (transpose S2304x4x128 [1, 0, 2] (Host.dotGeneral dot_S4x2304x2048x4_S2048x4x4x128_S4x2304x128_23_02_1_3_0_1 none
    (transpose S4x2304x2048x4 [0, 3, 2, 1] x transposes_S4x4x2048x2304_S4x2304x2048x4_0_3_2_1) q) transposes_S4x2304x128_S2304x4x128_1_0_2) shapeCasts_S2304x4x128_S2304x512
def hostDV (d : FVec Ideal S4x128x4x2048 .f32) (p : FVec Ideal S4x4x2048x2304 .f32) : FVec Ideal S2304x512 .f32 :=
  shapeCast _ (transpose S2304x4x128 [2, 0, 1] (Host.dotGeneral dot_S4x128x4x2048_S4x4x2048x2304_S4x128x2304_23_12_1_3_0_0 none d p) transposes_S4x128x2304_S2304x4x128_2_0_1) shapeCasts_S2304x4x128_S2304x512
def hostDZ (G : FVec Ideal S2304x11264 .bf16) (v : FVec Ideal S2304x512 .f32) : FVec Ideal S2304x11264 .bf16 :=
  truncf .bf16 (concatenate S2304x11264 1 [⟨S2304x2560, ((extf .f32 (extractStridedSlice S2304x2560 ![0, 0] G slices_S2304x11264_S2304x2560_0_0) bitsLt_bf16_f32) : (⟨S2304x2560, .f32⟩ : BufTy).Contents (Elt Ideal))⟩,
    ⟨S2304x512, (v : (⟨S2304x512, .f32⟩ : BufTy).Contents (Elt Ideal))⟩,
    ⟨S2304x8192, ((extf .f32 (extractStridedSlice S2304x8192 ![0, 3072] G slices_S2304x11264_S2304x8192_0_3072) bitsLt_bf16_f32) : (⟨S2304x8192, .f32⟩ : BufTy).Contents (Elt Ideal))⟩]
    concatenates_S2304x2560_S2304x512_S2304x8192_S2304x11264_d1 : (⟨S2304x11264, .f32⟩ : BufTy).Contents (Elt Ideal)) bitsLt_bf16_f32

theorem hostDQ_at (k : FVec Ideal S2304x4x128 .f32) (x : FVec Ideal S4x4x2048x2304 .f32) (r c : Fin 2048) :
    hostDQ k x (ix2 r c) = ∑ t, x (ix4 ⟨c / 512, by omega⟩ ⟨c / 128 % 4, by omega⟩ r t) * k (ix3 t ⟨c / 512, by omega⟩ ⟨c % 128, by omega⟩) := by
  unfold hostDQ
  pointwise
theorem hostDK_at (q : FVec Ideal S2048x4x4x128 .f32) (x : FVec Ideal S4x4x2048x2304 .f32) (t : Fin 2304) (c : Fin 512) :
    hostDK q x (ix2 t c) = ∑ r, ∑ g, x (ix4 ⟨c / 128, by omega⟩ g r t) * q (ix4 r ⟨c / 128, by omega⟩ g ⟨c % 128, by omega⟩) := by
  unfold hostDK
  pointwise
theorem hostDV_at (d : FVec Ideal S4x128x4x2048 .f32) (p : FVec Ideal S4x4x2048x2304 .f32) (t : Fin 2304) (c : Fin 512) :
    hostDV d p (ix2 t c) = ∑ g, ∑ r, d (ix4 ⟨c / 128, by omega⟩ ⟨c % 128, by omega⟩ g r) * p (ix4 ⟨c / 128, by omega⟩ g r t) := by
  unfold hostDV
  pointwise
theorem hostDZ_at (G : FVec Ideal S2304x11264 .bf16) (v : FVec Ideal S2304x512 .f32) (t : Fin 2304) (c : Fin 11264) :
    hostDZ G v (ix2 t c) = if h : 2560 ≤ c.val ∧ c.val < 3072 then v (ix2 t ⟨c - 2560, by omega⟩) else G (ix2 t c) := by
  unfold hostDZ
  pointwise
  split
  · rw [dif_neg (by omega)]
  split
  · rw [dif_pos (by omega)]
  · rw [dif_neg (by omega)]
    exact congrArg G (congrArg (ix2 t) (Fin.ext (by simp only; omega)))

/-! ## Of reals -/

section
variable (s : FVec Ideal S4x4x2048x2304 .f32) (q o : Queries) (k v : Keys) (hs : ∀ h g r t, s (ix4 h g r t) = (S q k h g r t : EReal))
  (w : FVec Ideal S4x4x2048x2304 .f32) (hw : ∀ h g r t, w (ix4 h g r t) = (pull (o h g r) (v h) t : EReal))
include hs hw

/-- The scores' cotangent, scaled. -/
theorem hostG_real (h g : Fin 4) (r : Fin 2048) (t : Fin 2304) :
    hostG w (hostE s (hostM s)) (hostL (hostE s (hostM s))) (hostN (hostJ w (hostE s (hostM s)) (hostL (hostE s (hostM s))))) (ix4 h g r t) = ((DS q o k v h g r t * scale : ℝ) : EReal) := by
  have hm : mass (S q k h g r) ≠ 0 := (mass_pos _).ne'
  rw [hostG_at, hostN_at, hostJ_at]
  simp only [hostE_real s q k hs, hostL_real s q k hs, hw]
  rw [← EReal.coe_mul, one_div_coe (mul_ne_zero hm hm)]
  simp only [← EReal.coe_mul, ← coe_sum, ← EReal.coe_neg]
  rw [div_coe_coe hm, ← EReal.coe_add, ← EReal.coe_mul, sqrt_word, div_coe_coe (by positivity), slope_eq, div_eq_mul_inv]
  rfl
end

section
variable (q o : Queries) (k v : Keys) (x : FVec Ideal S4x4x2048x2304 .f32) (hx : ∀ h g r t, x (ix4 h g r t) = ((DS q o k v h g r t * scale : ℝ) : EReal))
include hx

theorem host_dqs (k' : FVec Ideal S2304x4x128 .f32) (hk : ∀ h t d, k' (ix3 t h d) = (k h t d : EReal)) : hostDQ k' x = dqs q o k v := by
  funext i
  obtain ⟨r, c, rfl⟩ := exists_ix2 i
  rw [hostDQ_at, dqs_at q o k v ⟨c.val / 512, by omega⟩ ⟨c.val / 128 % 4, by omega⟩ r ⟨c.val % 128, by omega⟩ _ rfl (by show c.val = 512 * (c.val / 512) + (128 * (c.val / 128 % 4) + c.val % 128); omega)]
  simp only [hx, hk, ← EReal.coe_mul, ← coe_sum]
  refine congrArg (fun x : ℝ => (x : EReal)) ?_
  unfold DQ
  rw [Finset.sum_mul]
  exact Finset.sum_congr rfl fun t _ => by ring

theorem host_dks (q' : FVec Ideal S2048x4x4x128 .f32) (hq : ∀ h g r d, q' (ix4 r h g d) = (q h g r d : EReal)) : hostDK q' x = dks q o k v := by
  funext i
  obtain ⟨t, c, rfl⟩ := exists_ix2 i
  rw [hostDK_at, dks_at q o k v ⟨c.val / 128, by omega⟩ t ⟨c.val % 128, by omega⟩ _ rfl (by show c.val = 128 * (c.val / 128) + c.val % 128; omega)]
  simp only [hx, hq, ← EReal.coe_mul, ← coe_sum]
  refine congrArg (fun x : ℝ => (x : EReal)) ?_
  unfold DK
  rw [Finset.sum_mul]
  refine Finset.sum_congr rfl fun r _ => ?_
  rw [Finset.sum_mul]
  exact Finset.sum_congr rfl fun g _ => by ring
end

theorem host_dzs (q o : Queries) (k : Keys) (G : FVec Ideal S2304x11264 .bf16) (d : FVec Ideal S4x128x4x2048 .f32) (p : FVec Ideal S4x4x2048x2304 .f32)
    (hd : ∀ h g r x, d (ix4 h x g r) = (o h g r x : EReal)) (hp : ∀ h g r t, p (ix4 h g r t) = (P q k h g r t : EReal)) : hostDZ G (hostDV d p) = dzs q o k G := by
  funext i
  obtain ⟨t, c, rfl⟩ := exists_ix2 i
  rw [hostDZ_at]
  split
  · next h =>
    rw [hostDV_at, dzs_at q o k G ⟨(c.val - 2560) / 128, by omega⟩ t ⟨(c.val - 2560) % 128, by omega⟩ _ rfl (by show c.val = 2560 + (128 * ((c.val - 2560) / 128) + (c.val - 2560) % 128); omega)]
    simp only [hd, hp, ← EReal.coe_mul, ← coe_sum]
    refine congrArg (fun x : ℝ => (x : EReal)) ?_
    unfold DV
    rw [Finset.sum_comm]
    exact Finset.sum_congr rfl fun r _ => Finset.sum_congr rfl fun g _ => mul_comm _ _
  · next h => exact (dzs_off q o k G _ h).symm

end Cert.Reference9Ideal.Attention

end
-- ==== Proof.Attention.Derivative.lean ====
/- The derivative of the attention's lines as a program of its own: its run. -/
module

public import proofs.«01_k».proof.Proof.Attention.HostGrad
public import Idealize.ShloMosaic.Lib.StableHlo.Run
public import Idealize.ShloMosaic.Lib.Quiescent

@[expose] public section

set_option maxRecDepth 16384

noncomputable section

namespace Cert.Reference9Ideal.Attention

open Idealize.ShloMosaic Idealize.ShloMosaic.TcCoe Idealize.ShloMosaic.Tactic
open Idealize.SL.Sem
open Cert.Reference9Ideal Cert.Reference9Ideal.Gen Cert.Attn
open Cert.Reference10Ideal.Attention

section
variable (A : FVec Ideal S2304x2048 .bf16) (B : FVec Ideal S2304x512 .bf16) (Z : FVec Ideal S2304x11264 .f32) (D : FVec Ideal S2048x2048 .bf16)

/-- The exponentials, and the scores' cotangent, as the lines compute them. -/
def lineE : FVec Ideal S4x4x2048x2304 .f32 := hostE (hostS (hostQ A) (hostK B)) (hostM' (hostS (hostQ A) (hostK B)))
def lineG : FVec Ideal S4x4x2048x2304 .f32 :=
  hostG (hostW (hostD D) (hostV Z)) (lineE A B) (hostL (lineE A B)) (hostN (hostJ (hostW (hostD D) (hostV Z)) (lineE A B) (hostL (lineE A B))))

variable (ha : RealQ A) (hb : RealM (m := 2304) (n := 512) B) (hz : RealV Z) (hd : RealM (m := 2048) (n := 2048) D)

include hz hd in
theorem weights_at (h g : Fin 4) (r : Fin 2048) (t : Fin 2304) :
    hostW (hostD D) (hostV Z) (ix4 h g r t) = (pull (cotangents (re D) h g r) (values (re Z) h) t : EReal) := by
  rw [hostW_at]
  simp only [hostD_at, hostV_at, values_real hz, show ∀ x, cotangents D h g r x = ((cotangents (re D) h g r x : ℝ) : EReal) from fun _ => hd _, ← EReal.coe_mul, ← coe_sum]
  rfl

include ha hb hz hd in
theorem lineG_at (h g : Fin 4) (r : Fin 2048) (t : Fin 2304) :
    lineG A B Z D (ix4 h g r t) = ((DS (queries (re A)) (cotangents (re D)) (keys (re B)) (values (re Z)) h g r t * scale : ℝ) : EReal) := by
  unfold lineG lineE
  rw [hostM'_eq]
  exact hostG_real _ _ _ _ _ (scores_at A B ha hb) _ (weights_at Z D hz hd) h g r t

include ha hb hz hd in
theorem lineQ_eq : hostDQ (hostK B) (lineG A B Z D) = dqs (queries (re A)) (cotangents (re D)) (keys (re B)) (values (re Z)) :=
  host_dqs _ _ _ _ _ (lineG_at A B Z D ha hb hz hd) _ fun h t d => (hostK_at B h t d).trans (hb _)

include ha hb hz hd in
theorem lineK_eq : hostDK (hostQ A) (lineG A B Z D) = dks (queries (re A)) (cotangents (re D)) (keys (re B)) (values (re Z)) :=
  host_dks _ _ _ _ _ (lineG_at A B Z D ha hb hz hd) _ fun h g r d => (hostQ_at A h g r d).trans (ha _ (Nat.le_add_right _ _))

include ha hb hd in
theorem lineZ_eq (G : FVec Ideal S2304x11264 .bf16) : hostDZ G (hostDV (hostD D) (Host.divf (lineE A B) (spread (hostL (lineE A B))))) =
    dzs (queries (re A)) (cotangents (re D)) (keys (re B)) G := by
  unfold lineE
  rw [hostM'_eq]
  exact host_dzs _ _ _ _ _ _ (fun h g r x => (hostD_at D h g r x).trans (hd _)) (hostP_real _ _ _ (scores_at A B ha hb))
end

/-- The run: the three gradients, the arguments as they were. -/
theorem run (m : (ℓ : Loc nD τ sig) → Buf (Elt Ideal) ℓ) (ρ : Dev nD → PrngReg)
    (ha : ∀ c : Dev nD, RealQ (m ((c : Thread nD τ).loc main_arg0))) (hb : ∀ c : Dev nD, RealM (m := 2304) (n := 512) (m ((c : Thread nD τ).loc main_arg1)))
    (hz : ∀ c : Dev nD, RealV (m ((c : Thread nD τ).loc main_arg2))) (hd : ∀ c : Dev nD, RealM (m := 2048) (n := 2048) (m ((c : Thread nD τ).loc main_arg3))) :
    θ_run defs (onTc (τ := τ) (main (F := Ideal))) ⟨m, fun _ => 0, ρ⟩ (fun r => (∀ c : Dev nD,
      r.2.mem ((c.tc : Thread nD τ).loc main_v73) = dqs (queries (re (m ((c : Thread nD τ).loc main_arg0)))) (cotangents (re (m ((c : Thread nD τ).loc main_arg3)))) (keys (re (m ((c : Thread nD τ).loc main_arg1)))) (values (re (m ((c : Thread nD τ).loc main_arg2))))
      ∧ r.2.mem ((c.tc : Thread nD τ).loc main_v74) = dks (queries (re (m ((c : Thread nD τ).loc main_arg0)))) (cotangents (re (m ((c : Thread nD τ).loc main_arg3)))) (keys (re (m ((c : Thread nD τ).loc main_arg1)))) (values (re (m ((c : Thread nD τ).loc main_arg2))))
      ∧ r.2.mem ((c.tc : Thread nD τ).loc main_v75) = dzs (queries (re (m ((c : Thread nD τ).loc main_arg0)))) (cotangents (re (m ((c : Thread nD τ).loc main_arg3)))) (keys (re (m ((c : Thread nD τ).loc main_arg1)))) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(show _ = hostDQ (hostK _) (lineG _ _ _ _) from (h c).1).trans (lineQ_eq _ _ _ _ (ha c) (hb c) (hz c) (hd c)),
      (show _ = hostDK (hostQ _) (lineG _ _ _ _) from (h c).2.1).trans (lineK_eq _ _ _ _ (ha c) (hb c) (hz c) (hd c)),
      (show _ = hostDZ _ (hostDV (hostD _) (Host.divf (lineE _ _) (spread (hostL (lineE _ _))))) from (h c).2.2.1).trans (lineZ_eq _ _ _ (ha c) (hb c) (hd c) _), (h c).2.2.2⟩,
    Idealize.ShloMosaic.sem_eq_zero_of_no_sems (by decide) r.2⟩) (Value.run (F := Ideal) m ρ)

end Cert.Reference9Ideal.Attention

end
-- ==== Proof.Attention.Claims.lean ====
/- The attention's claims: of finite arguments, each program's results and its reference's are the same arrays. -/
module

public import proofs.«01_k».proof.Defs
public import proofs.«01_k».proof.Proof.Attention.Forward
public import proofs.«01_k».proof.Proof.Attention.Backward
public import proofs.«01_k».proof.Proof.Attention.Derivative
public import proofs.«01_k».proof.Proof.Gen.Pre_finite9
public import proofs.«01_k».proof.Proof.Gen.Pre_finite10
public import proofs.«01_k».proof.Proof.Gen.Kernel9.Frame
public import proofs.«01_k».proof.Proof.Gen.Kernel10.Frame

@[expose] public section

set_option maxRecDepth 16384

noncomputable section

namespace Cert.Proof

open Idealize.ShloMosaic Idealize.ShloMosaic.TcCoe Idealize.ShloMosaic.Tactic
open Idealize.SL.Sem
open Cert.Attn

/-! ## What the preconditions say -/

theorem real_of_abs_lt (x : EReal) (h : max x (-x) < ⊤) : x = (x.toReal : EReal) := by
  refine (EReal.coe_toReal (fun e => ?_) (fun e => ?_)).symm <;> subst e <;> simp at h

/-- An array whose absolute values are all below infinity is of reals. -/
theorem real_of_finite {S : Shape} (x b : FVec Ideal S .f32) (hb : ∀ i, b i = Ideal.ofBits .f32 0x7F800000#32) (h : cmpf .olt (Host.absf x) b = fun _ => 1#1) (i : S.Idx) :
    x i = ((x i).toReal : EReal) := by
  have e := congrFun h i
  have t : Ideal.ofBits .f32 0x7F800000#32 = ⊤ := by simp [Ideal.ofBits, Ideal.ieee]
  change BitVec.ofBool (decide (max (x i) (-x i) < b i)) = 1#1 at e
  rw [hb, t] at e
  refine real_of_abs_lt _ ?_
  by_contra n
  rw [decide_eq_false n] at e
  exact absurd e (by decide)

section
variable (A : FVec Ideal Cert.Pre_finite9.S2304x2048 .bf16) (B : FVec Ideal Cert.Pre_finite9.S2304x512 .bf16) (Z : FVec Ideal Cert.Pre_finite9.S2304x11264 .f32)
  (D : FVec Ideal Cert.Pre_finite9.S2048x2048 .bf16) (G : FVec Ideal Cert.Pre_finite9.S2304x11264 .bf16)

theorem finite_queries (h : (Cert.Pre_finite10.fn (F := Ideal) A B Z).1 = fun _ => 1#1) : RealQ A := fun i hi => by
  obtain ⟨r, c, rfl⟩ := exists_ix2 i
  have hr : 256 ≤ r.val := hi
  have e := real_of_finite _ _ (fun i => rfl) h (ix2 (⟨r.val - 256, by omega⟩ : Fin 2048) c)
  have w : extf .f32 (extractStridedSlice Cert.Pre_finite10.S2048x2048 ![256, 0] A Cert.Pre_finite10.Facts.slices_S2304x2048_S2048x2048_256_0) Cert.Pre_finite10.Facts.bitsLt_bf16_f32
      (ix2 (⟨r.val - 256, by omega⟩ : Fin 2048) c) = A (ix2 r c) := by
    pointwise
    exact congrArg A (congrArg (ix2 · c) (Fin.ext (by simp only; omega)))
  rw [← w]
  exact e

theorem finite_keys (h : (Cert.Pre_finite10.fn (F := Ideal) A B Z).2 = fun _ => 1#1) : RealM (m := 2304) (n := 512) B := fun i =>
  real_of_finite _ _ (fun i => rfl) h i

theorem finite_values (h : (Cert.Pre_finite9.fn (F := Ideal) A B Z D G).2.2.1 = fun _ => 1#1) : RealV Z := fun i hi hj => by
  obtain ⟨t, c, rfl⟩ := exists_ix2 i
  have hc : 2560 ≤ c.val := hi
  have hc' : c.val < 3072 := hj
  have e := real_of_finite _ _ (fun i => rfl) h (ix2 t (⟨c.val - 2560, by omega⟩ : Fin 512))
  have w : extractStridedSlice Cert.Pre_finite9.S2304x512 ![0, 2560] Z Cert.Pre_finite9.Facts.slices_S2304x11264_S2304x512_0_2560
      (ix2 t (⟨c.val - 2560, by omega⟩ : Fin 512)) = Z (ix2 t c) := by
    pointwise
    exact congrArg Z (congrArg (ix2 t) (Fin.ext (by simp only; omega)))
  rw [← w]
  exact e

theorem finite_cotangent (h : (Cert.Pre_finite9.fn (F := Ideal) A B Z D G).2.2.2 = fun _ => 1#1) : RealM (m := 2048) (n := 2048) D := fun i =>
  real_of_finite _ _ (fun i => rfl) h i
end

/-! ## The forward call -/

theorem frame_reference10 : Cert.quiescent_Reference10Ideal := fun m ρ _ =>
  (θ_run Cert.Reference10Ideal.defs _ _).mono (fun r h => ⟨fun c => (h c).2.2, Idealize.ShloMosaic.sem_eq_zero_of_no_sems (by decide) r.2⟩)
    (Cert.Reference10Ideal.Value.run (F := Ideal) m ρ)

theorem preserves10 : Cert.preserves_Kernel10_Kernel10Ideal := IdealRules.named_const.statement _ _ _ _ _ rfl

theorem algebraic10 : Cert.algebraic_Kernel10Ideal_Reference10Ideal_pre_finite10 := fun m ρ m' ρ' hp hag =>
  have ha := fun c => finite_queries _ _ _ (hp c).1
  have hb := fun c => finite_keys _ _ _ (hp c).2
  ⟨_, _, Cert.Kernel10Ideal.Attention.run m ρ ha hb,
   (θ_run Cert.Reference10Ideal.defs _ _).mono (fun _ h c => by
      have := h.1 c
      rw [(hag c).1, (hag c).2.1, (hag c).2.2] at this
      rw [(hag c).1, (hag c).2.1, (hag c).2.2]
      exact this)
    (Cert.Reference10Ideal.Attention.run m' ρ' (fun c => by rw [(hag c).1]; exact ha c) (fun c => by rw [(hag c).2.1]; exact hb c))⟩

/-! ## The backward call -/

theorem frame_reference9 : Cert.quiescent_Reference9Ideal := fun m ρ _ =>
  (θ_run Cert.Reference9Ideal.defs _ _).mono (fun r h => ⟨fun c => (h c).2.2.2, Idealize.ShloMosaic.sem_eq_zero_of_no_sems (by decide) r.2⟩)
    (Cert.Reference9Ideal.Value.run (F := Ideal) m ρ)

theorem preserves9 : Cert.preserves_Kernel9_Kernel9Ideal := IdealRules.named_const.statement _ _ _ _ _ rfl

theorem algebraic9 : Cert.algebraic_Kernel9Ideal_Reference9Ideal_pre_finite9 := fun m ρ m' ρ' hp hag =>
  have ha := fun c : Dev Cert.Kernel9Ideal.nD => finite_queries _ (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (hp c).1
  have hb := fun c : Dev Cert.Kernel9Ideal.nD => finite_keys (m ((c.tc : Thread Cert.Kernel9Ideal.nD Cert.Kernel9Ideal.τ).loc Cert.Kernel9Ideal.main_arg0)) _ (m ((c.tc : Thread Cert.Kernel9Ideal.nD Cert.Kernel9Ideal.τ).loc Cert.Kernel9Ideal.main_arg2)) (hp c).2.1
  have hz := fun c => finite_values _ _ _ _ _ (hp c).2.2.1
  have hd := fun c => finite_cotangent _ _ _ _ _ (hp c).2.2.2
  ⟨_, _, _, Cert.Kernel9Ideal.Attention.run m ρ ha hb hz hd,
   (θ_run Cert.Reference9Ideal.defs _ _).mono (fun _ h c => by
      have := h.1 c
      rw [(hag c).1, (hag c).2.1, (hag c).2.2.1, (hag c).2.2.2.1, (hag c).2.2.2.2] at this
      rw [(hag c).1, (hag c).2.1, (hag c).2.2.1, (hag c).2.2.2.1, (hag c).2.2.2.2]
      exact this)
    (Cert.Reference9Ideal.Attention.run m' ρ' (fun c => by rw [(hag c).1]; exact ha c) (fun c => by rw [(hag c).2.1]; exact hb c)
      (fun c => by rw [(hag c).2.2.1]; exact hz c) (fun c => by rw [(hag c).2.2.2.1]; exact hd c))⟩

end Cert.Proof

end
-- ==== Proof.Gates.Arrays.lean ====
/- The gates as mathematics: the columns of the projections' array a gate reads, and the array its gradient is put into. -/
module

public import proofs.«01_k».proof.Proof.Attention.Arrays
public import Idealize.ShloMosaic.Lib.Pipeline.ValueKit
public import Idealize.ShloMosaic.Lib.Pipeline.Value
public import Idealize.ShloMosaic.Lib.Pointwise

@[expose] public section

noncomputable section

namespace Cert.Gate

open Idealize.ShloMosaic
open Cert.Attn (eq_ix2 exists_ix2 RealM)

abbrev Square : Shape := ⟨2, ![2048, 2048]⟩
abbrev Wide : Shape := ⟨2, ![2304, 11264]⟩

/-- The latent rows of the 2048 columns that start at `off`. -/
def part (off : ℕ) (h : off + 2048 ≤ 11264) (Z : Wide.Idx → EReal) : Square.Idx → EReal := fun i =>
  have h0 : (i 0).val < 2048 := (i 0).2
  have h1 : (i 1).val < 2048 := (i 1).2
  Z (ix2 ⟨256 + (i 0).val, by omega⟩ ⟨off + (i 1).val, by omega⟩)

/-- `G` with those entries replaced by `U`. -/
def put (off : ℕ) (G : Wide.Idx → EReal) (U : Square.Idx → EReal) : Wide.Idx → EReal := fun i =>
  have h0 : (i 0).val < 2304 := (i 0).2
  if h : 256 ≤ (i 0).val ∧ off ≤ (i 1).val ∧ (i 1).val < off + 2048 then U (ix2 ⟨(i 0).val - 256, by omega⟩ ⟨(i 1).val - off, by omega⟩) else G i

theorem put_at (off : ℕ) (G : Wide.Idx → EReal) (U : Square.Idx → EReal) (i : Wide.Idx) (j : Square.Idx) (h0 : (i 0).val = 256 + (j 0).val) (h1 : (i 1).val = off + (j 1).val) :
    put off G U i = U j := by
  have : (j 1).val < 2048 := (j 1).2
  unfold put
  rw [dif_pos ⟨by omega, by omega, by omega⟩]
  exact congrArg U (eq_ix2 j _ _ (by simp only; omega) (by simp only; omega)).symm

theorem put_off (off : ℕ) (G : Wide.Idx → EReal) (U : Square.Idx → EReal) (i : Wide.Idx) (h : ¬(256 ≤ (i 0).val ∧ off ≤ (i 1).val ∧ (i 1).val < off + 2048)) :
    put off G U i = G i := dif_neg h

/-- Where the entry `y` of the block `(a, b)` lies: the gates' calls cut their arrays into 8 × 2 blocks. -/
def place (a : Fin 8) (b : Fin 2) (y : (⟨2, ![256, 1024]⟩ : Shape).Idx) : Square.Idx :=
  have h0 : (y 0).val < 256 := (y 0).2
  have h1 : (y 1).val < 1024 := (y 1).2
  ix2 ⟨256 * a.val + (y 0).val, by omega⟩ ⟨1024 * b.val + (y 1).val, by omega⟩

/-- A slice of the reference is that part. -/
theorem slice_eq (off : ℕ) (h : off + 2048 ≤ 11264) (Z : Wide.Idx → EReal) (hs : Wide.Slices ![256, off] Square) : extractStridedSlice Square ![256, off] Z hs = part off h Z := by
  funext i
  obtain ⟨r, c, rfl⟩ := exists_ix2 i
  pointwise
  rfl

/-- Its update at those indices is that replacement. -/
theorem update_eq (off : ℕ) (h : off + 2048 ≤ 11264) (G : Wide.Idx → EReal) (U : Square.Idx → EReal) (start : Fin 2 → ℤ) (s0 : start 0 = 256) (s1 : start 1 = off)
    (hs : Wide.Slices (fun _ => 0) Square) : Host.dynamicUpdateSlice G U start hs = put off G U := by
  have c0 : Host.clampedStart Wide Square hs.1 start 0 = 256 := by
    simp [Host.clampedStart, s0]
  have c1 : Host.clampedStart Wide Square hs.1 start 1 = off := by
    simp [Host.clampedStart, s1]
    omega
  funext i
  by_cases hi : 256 ≤ (i 0).val ∧ off ≤ (i 1).val ∧ (i 1).val < off + 2048
  · have b0 : (i 0).val < 2304 := (i 0).2
    rw [put_at off G U i (ix2 ⟨(i 0).val - 256, by omega⟩ ⟨(i 1).val - off, by omega⟩) (by show _ = 256 + ((i 0).val - 256); omega) (by show _ = off + ((i 1).val - off); omega), Host.dynamicUpdateSlice_apply, dif_pos]
    · refine congrArg U (eq_ix2 _ _ _ ?_ ?_)
      · exact congrArg (fun x => (i 0).val - x) c0
      · exact congrArg (fun x => (i 1).val - x) c1
    · intro a
      match a with
      | 0 => exact ⟨c0.symm ▸ hi.1, by show _ < _ + 2048; omega⟩
      | 1 => exact ⟨c1.symm ▸ hi.2.1, by show _ < _ + 2048; omega⟩
  · rw [put_off off G U i hi, Host.dynamicUpdateSlice_apply, dif_neg]
    intro ha
    have h0 := ha 0
    have h1 := ha 1
    rw [c0] at h0
    rw [c1] at h1
    exact hi ⟨h0.1, h1.1, h1.2⟩

/-- The merge's gate `σ(x) · y`, its gradients of the cotangent `d`: by `y` … -/
def dy (D X : Square.Idx → EReal) : Square.Idx → EReal := fun i => D i * Ideal.logistic (X i)

/-- … and by `x`. -/
def dx (D Y X : Square.Idx → EReal) : Square.Idx → EReal := fun i => D i * Y i * (Ideal.logistic (X i) * (1 - Ideal.logistic (X i)))

/-! ## The reference's lines -/

section Lines
variable (off : ℕ) (h : off + 2048 ≤ 11264) (Z : Wide.Idx → EReal) (hb : (⟨0, ![]⟩ : Shape).BroadcastsInDim Square (![] : Fin 0 → Fin Square.rank)) (hl : FTy.bits .bf16 < FTy.bits .f32)
  (hs : Wide.Slices ![256, off] Square)

/-- The reference's logistic function, written out. -/
theorem sigmoid_eq (X : FVec Ideal Square .f32) (i : Square.Idx) :
    Host.divf (F := Ideal) (broadcastInDim Square ![] hb (constant ⟨0, ![]⟩ .f32 0x3F800000#32)) (addf (broadcastInDim Square ![] hb (constant ⟨0, ![]⟩ .f32 0x3F800000#32)) (Host.exp (Host.negf X))) i
      = Ideal.logistic (X i) := by
  obtain ⟨r, c, rfl⟩ := exists_ix2 i
  unfold Ideal.logistic
  pointwise

theorem one_eq (i : Square.Idx) : (broadcastInDim Square ![] hb (constant (F := Ideal) ⟨0, ![]⟩ .f32 0x3F800000#32) : FVec Ideal Square .f32) i = (1 : EReal) := by
  obtain ⟨r, c, rfl⟩ := exists_ix2 i
  pointwise

include h in
theorem line_dy (D : FVec Ideal Square .f32) :
    truncf (F := Ideal) .bf16 (mulf (Host.divf (broadcastInDim Square ![] hb (constant ⟨0, ![]⟩ .f32 0x3F800000#32)) (addf (broadcastInDim Square ![] hb (constant ⟨0, ![]⟩ .f32 0x3F800000#32))
      (Host.exp (Host.negf (extractStridedSlice Square ![256, off] Z hs : FVec Ideal Square .f32))))) D) hl = dy D (part off h Z) := by
  funext i
  refine (congrArg (fun x : EReal => x * D i) ((sigmoid_eq hb _ i).trans (congrArg Ideal.logistic (congrFun (slice_eq off h Z hs) i)))).trans ?_
  exact mul_comm _ _

include h in
theorem line_dx (D Y : FVec Ideal Square .f32) :
    truncf (F := Ideal) .bf16 (mulf (mulf D Y) (mulf (Host.divf (broadcastInDim Square ![] hb (constant ⟨0, ![]⟩ .f32 0x3F800000#32)) (addf (broadcastInDim Square ![] hb (constant ⟨0, ![]⟩ .f32 0x3F800000#32))
      (Host.exp (Host.negf (extractStridedSlice Square ![256, off] Z hs : FVec Ideal Square .f32)))))
      (subf (broadcastInDim Square ![] hb (constant ⟨0, ![]⟩ .f32 0x3F800000#32)) (Host.divf (broadcastInDim Square ![] hb (constant ⟨0, ![]⟩ .f32 0x3F800000#32)) (addf (broadcastInDim Square ![] hb (constant ⟨0, ![]⟩ .f32 0x3F800000#32))
        (Host.exp (Host.negf (extractStridedSlice Square ![256, off] Z hs : FVec Ideal Square .f32)))))))) hl = dx D Y (part off h Z) := by
  funext i
  have e := (sigmoid_eq hb _ i).trans (congrArg Ideal.logistic (congrFun (slice_eq off h Z hs) i))
  exact congrArg (fun x : EReal => D i * Y i * x) (congrArg₂ (fun x y : EReal => x * y) e (congrArg₂ (fun x y : EReal => x - y) (one_eq hb i) e))

end Lines

end Cert.Gate

end
-- ==== Proof.Gates.MergeAttention.lean ====
/- The merge's gate before the attention branch, backward: the call's two results. -/
module

public import proofs.«01_k».proof.Proof.Gen.Kernel11Ideal.Value
public import proofs.«01_k».proof.Proof.Gen.Reference11Ideal.Run
public import proofs.«01_k».proof.Proof.Gates.Arrays

@[expose] public section

set_option maxRecDepth 16384

noncomputable section

namespace Cert.Kernel11Ideal.Gate

open Idealize.ShloMosaic Idealize.ShloMosaic.TcCoe Idealize.ShloMosaic.Tactic
open Idealize.SL.Sem
open Cert.Kernel11Ideal Cert.Kernel11Ideal.Gen Cert.Gate
open Cert.Attn (eq_ix2 exists_ix2)

/-! ## One grid point -/

section Block
variable (D Y X : Vec Ideal S256x1024 .f32) (c : Dev nD) (i : grid0.Coords) (a0 : Memref sig .tc .vmem S256x1024 .f32) (h0 : a0.IsWhole) (a1 : Memref sig .tc .vmem S256x1024 .f32) (h1 : a1.IsWhole)
    (a2 : Memref sig .tc .vmem S256x1024 .f32) (h2 : a2.IsWhole) (a3 : Memref sig .tc .vmem S256x1024 .bf16) (h3 : a3.IsWhole) (a4 : Memref sig .tc .vmem S256x1024 .bf16) (h4 : a4.IsWhole)

theorem dy_block (y : S256x1024.Idx) : out0_A_3 (F := Ideal) c i a0 h0 a1 h1 a2 h2 a3 h3 a4 h4 D Y X y = D y * Ideal.logistic (X y) := by
  frame_out
  rfl

theorem dx_block (y : S256x1024.Idx) :
    out0_A_4 (F := Ideal) c i a0 h0 a1 h1 a2 h2 a3 h3 a4 h4 D Y X y = D y * Y y * (Ideal.logistic (X y) * (1 - Ideal.logistic (X y))) := by
  frame_out
  rw [← mul_assoc]
  obtain ⟨r, d, rfl⟩ := exists_ix2 y
  unfold k0_pay3 k0_pay1
  pointwise

end Block

/-! ## The arrays -/

section Arrays
variable (m : (ℓ : Loc nD τ sig) → Buf (Elt Ideal) ℓ) (c : Dev nD)

theorem i0 : ∀ t : Fin cfg0.N, win0_0.index t = ![(grid0.coords t 0).val, (grid0.coords t 1).val] := (by decide +kernel : ∀ t : Fin grid0.N, _)
theorem i1 : ∀ t : Fin cfg0.N, win0_1.index t = ![(grid0.coords t 0).val, (grid0.coords t 1).val] := (by decide +kernel : ∀ t : Fin grid0.N, _)
theorem i2 : ∀ t : Fin cfg0.N, win0_2.index t = ![1 + (grid0.coords t 0).val, 7 + (grid0.coords t 1).val] := (by decide +kernel : ∀ t : Fin grid0.N, _)
theorem i3 : ∀ t : Fin cfg0.N, win0_3.index t = ![(grid0.coords t 0).val, (grid0.coords t 1).val] := (by decide +kernel : ∀ t : Fin grid0.N, _)
theorem i4 : ∀ t : Fin cfg0.N, win0_4.index t = ![1 + (grid0.coords t 0).val, 7 + (grid0.coords t 1).val] := (by decide +kernel : ∀ t : Fin grid0.N, _)

variable (D Y : Square.Idx → EReal) (Z : Wide.Idx → EReal)
  (hD : m ((c : Thread nD τ).loc main_arg0) = D) (hY : m ((c : Thread nD τ).loc main_arg1) = Y) (hZ : m ((c : Thread nD τ).loc main_arg2) = Z)

include hD in
theorem block0 (t : Fin cfg0.N) (y : S256x1024.Idx) : iblk m c 0 t y = D (place (grid0.coords t 0) (grid0.coords t 1) y) := by
  rw [← hD]
  unfold place
  blk_ext [iblk, V, i0]
include hY in
theorem block1 (t : Fin cfg0.N) (y : S256x1024.Idx) : iblk m c 1 t y = Y (place (grid0.coords t 0) (grid0.coords t 1) y) := by
  rw [← hY]
  unfold place
  blk_ext [iblk, V, i1]
include hZ in
theorem block2 (t : Fin cfg0.N) (y : S256x1024.Idx) : iblk m c 2 t y = part 7168 (by omega) Z (place (grid0.coords t 0) (grid0.coords t 1) y) := by
  rw [← hZ]
  unfold place part
  blk_ext [iblk, V, i2]

include hD hZ in
/-- The first result: the gradient by the branch's output. -/
theorem dy_array : (dats m 0 c).arrAt 3 cfg0.N = dy D (part 7168 (by omega) Z) := by
  refine (dats m 0 c).arrAt_eq_of_covers 3 _ (by decide +kernel) fun t hf y => ?_
  blk_simp
  rw [after0_3]
  unfold outsAt0
  dsimp only
  rw [dy_block, block0 m c D hD, block2 m c Z hZ]
  refine congrArg (dy D (part 7168 (by omega) Z)) (eq_ix2 _ _ _ ?_ ?_).symm
  · show _ = 256 * (grid0.coords t 0).val + (y 0).val
    blk_simp [i3]
    omega
  · show _ = 1024 * (grid0.coords t 1).val + (y 1).val
    blk_simp [i3]
    omega

include hD hY hZ in
/-- The second: the gradient by the gate's logits, in its columns. -/
theorem dz_array (G : Wide.Idx → EReal) (hG : m ((c : Thread nD τ).loc main_arg3) = G) : (dats m 0 c).arrAt 4 cfg0.N = put 7168 G (dx D Y (part 7168 (by omega) Z)) := by
  refine (dats m 0 c).arrAt_eq_of_coversWhere_of_agree 4 _ (fun β => 1 ≤ β (0 : Fin _) ∧ 7 ≤ β (1 : Fin _) ∧ β (1 : Fin _) < 9) (by decide +kernel) (fun t hf y => ?_) (fun j hj => ?_)
  · blk_simp
    rw [after0_4]
    unfold outsAt0
    dsimp only
    rw [dx_block, block0 m c D hD, block1 m c Y hY, block2 m c Z hZ]
    refine (put_at 7168 G (dx D Y (part 7168 (by omega) Z)) _ (place (grid0.coords t 0) (grid0.coords t 1) y) ?_ ?_).symm
    · show _ = 256 + (256 * (grid0.coords t 0).val + (y 0).val)
      blk_simp [i4]
      omega
    · show _ = 7168 + (1024 * (grid0.coords t 1).val + (y 1).val)
      blk_simp [i4]
      omega
  · blk_simp [Pipeline.Window.cell_apply] at hj
    rw [A_eq, put_off]
    · rw [← hG]
      rfl
    · blk_simp
      omega

end Arrays

/-- The run: both gradients, the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) = dy (m ((c : Thread nD τ).loc main_arg0)) (part 7168 (by omega) (m ((c : Thread nD τ).loc main_arg2)))
      ∧ r.2.mem ((c : Thread nD τ).loc main_v0_1) = put 7168 (m ((c : Thread nD τ).loc main_arg3))
          (dx (m ((c : Thread nD τ).loc main_arg0)) (m ((c : Thread nD τ).loc main_arg1)) (part 7168 (by omega) (m ((c : Thread nD τ).loc main_arg2))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (dy_array m c _ _ rfl rfl), (h c).2.1.trans (dz_array m c _ _ _ rfl rfl rfl _ rfl), (h c).2.2⟩) (Value.run_blocks m ρ)

end Cert.Kernel11Ideal.Gate

namespace Cert.Reference11Ideal.Gate

open Idealize.ShloMosaic Idealize.ShloMosaic.TcCoe Idealize.ShloMosaic.Tactic
open Idealize.SL.Sem
open Cert.Reference11Ideal Cert.Reference11Ideal.Gen Cert.Gate

/-- The reference's run: the same two arrays. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v14) = dy (m ((c : Thread nD τ).loc main_arg0)) (part 7168 (by omega) (m ((c : Thread nD τ).loc main_arg2)))
      ∧ r.2.mem ((c : Thread nD τ).loc main_v16) = put 7168 (m ((c : Thread nD τ).loc main_arg3))
          (dx (m ((c : Thread nD τ).loc main_arg0)) (m ((c : Thread nD τ).loc main_arg1)) (part 7168 (by omega) (m ((c : Thread nD τ).loc main_arg2))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (line_dy ..),
    (h c).2.1.trans ((update_eq 7168 (by omega) _ _ _ rfl rfl _).trans (congrArg (put 7168 _) (line_dx ..))), (h c).2.2⟩) (Value.run m ρ)

end Cert.Reference11Ideal.Gate

end
-- ==== Proof.Gates.MergeRecurrence.lean ====
/- The merge's gate before the recurrent branch, backward: the call's two results. -/
module

public import proofs.«01_k».proof.Proof.Gen.Kernel12Ideal.Value
public import proofs.«01_k».proof.Proof.Gen.Reference12Ideal.Run
public import proofs.«01_k».proof.Proof.Gates.Arrays

@[expose] public section

set_option maxRecDepth 16384

noncomputable section

namespace Cert.Kernel12Ideal.Gate

open Idealize.ShloMosaic Idealize.ShloMosaic.TcCoe Idealize.ShloMosaic.Tactic
open Idealize.SL.Sem
open Cert.Kernel12Ideal Cert.Kernel12Ideal.Gen Cert.Gate
open Cert.Attn (eq_ix2 exists_ix2)

/-! ## One grid point -/

section Block
variable (D Y X : Vec Ideal S256x1024 .f32) (c : Dev nD) (i : grid0.Coords) (a0 : Memref sig .tc .vmem S256x1024 .f32) (h0 : a0.IsWhole) (a1 : Memref sig .tc .vmem S256x1024 .f32) (h1 : a1.IsWhole)
    (a2 : Memref sig .tc .vmem S256x1024 .f32) (h2 : a2.IsWhole) (a3 : Memref sig .tc .vmem S256x1024 .bf16) (h3 : a3.IsWhole) (a4 : Memref sig .tc .vmem S256x1024 .bf16) (h4 : a4.IsWhole)

theorem dy_block (y : S256x1024.Idx) : out0_A_3 (F := Ideal) c i a0 h0 a1 h1 a2 h2 a3 h3 a4 h4 D Y X y = D y * Ideal.logistic (X y) := by
  frame_out
  rfl

theorem dx_block (y : S256x1024.Idx) :
    out0_A_4 (F := Ideal) c i a0 h0 a1 h1 a2 h2 a3 h3 a4 h4 D Y X y = D y * Y y * (Ideal.logistic (X y) * (1 - Ideal.logistic (X y))) := by
  frame_out
  rw [← mul_assoc]
  obtain ⟨r, d, rfl⟩ := exists_ix2 y
  unfold k0_pay3 k0_pay1
  pointwise

end Block

/-! ## The arrays -/

section Arrays
variable (m : (ℓ : Loc nD τ sig) → Buf (Elt Ideal) ℓ) (c : Dev nD)

theorem i0 : ∀ t : Fin cfg0.N, win0_0.index t = ![(grid0.coords t 0).val, (grid0.coords t 1).val] := (by decide +kernel : ∀ t : Fin grid0.N, _)
theorem i1 : ∀ t : Fin cfg0.N, win0_1.index t = ![(grid0.coords t 0).val, (grid0.coords t 1).val] := (by decide +kernel : ∀ t : Fin grid0.N, _)
theorem i2 : ∀ t : Fin cfg0.N, win0_2.index t = ![1 + (grid0.coords t 0).val, 9 + (grid0.coords t 1).val] := (by decide +kernel : ∀ t : Fin grid0.N, _)
theorem i3 : ∀ t : Fin cfg0.N, win0_3.index t = ![(grid0.coords t 0).val, (grid0.coords t 1).val] := (by decide +kernel : ∀ t : Fin grid0.N, _)
theorem i4 : ∀ t : Fin cfg0.N, win0_4.index t = ![1 + (grid0.coords t 0).val, 9 + (grid0.coords t 1).val] := (by decide +kernel : ∀ t : Fin grid0.N, _)

variable (D Y : Square.Idx → EReal) (Z : Wide.Idx → EReal)
  (hD : m ((c : Thread nD τ).loc main_arg0) = D) (hY : m ((c : Thread nD τ).loc main_arg1) = Y) (hZ : m ((c : Thread nD τ).loc main_arg2) = Z)

include hD in
theorem block0 (t : Fin cfg0.N) (y : S256x1024.Idx) : iblk m c 0 t y = D (place (grid0.coords t 0) (grid0.coords t 1) y) := by
  rw [← hD]
  unfold place
  blk_ext [iblk, V, i0]
include hY in
theorem block1 (t : Fin cfg0.N) (y : S256x1024.Idx) : iblk m c 1 t y = Y (place (grid0.coords t 0) (grid0.coords t 1) y) := by
  rw [← hY]
  unfold place
  blk_ext [iblk, V, i1]
include hZ in
theorem block2 (t : Fin cfg0.N) (y : S256x1024.Idx) : iblk m c 2 t y = part 9216 (by omega) Z (place (grid0.coords t 0) (grid0.coords t 1) y) := by
  rw [← hZ]
  unfold place part
  blk_ext [iblk, V, i2]

include hD hZ in
/-- The first result: the gradient by the branch's output. -/
theorem dy_array : (dats m 0 c).arrAt 3 cfg0.N = dy D (part 9216 (by omega) Z) := by
  refine (dats m 0 c).arrAt_eq_of_covers 3 _ (by decide +kernel) fun t hf y => ?_
  blk_simp
  rw [after0_3]
  unfold outsAt0
  dsimp only
  rw [dy_block, block0 m c D hD, block2 m c Z hZ]
  refine congrArg (dy D (part 9216 (by omega) Z)) (eq_ix2 _ _ _ ?_ ?_).symm
  · show _ = 256 * (grid0.coords t 0).val + (y 0).val
    blk_simp [i3]
    omega
  · show _ = 1024 * (grid0.coords t 1).val + (y 1).val
    blk_simp [i3]
    omega

include hD hY hZ in
/-- The second: the gradient by the gate's logits, in its columns. -/
theorem dz_array (G : Wide.Idx → EReal) (hG : m ((c : Thread nD τ).loc main_arg3) = G) : (dats m 0 c).arrAt 4 cfg0.N = put 9216 G (dx D Y (part 9216 (by omega) Z)) := by
  refine (dats m 0 c).arrAt_eq_of_coversWhere_of_agree 4 _ (fun β => 1 ≤ β (0 : Fin _) ∧ 9 ≤ β (1 : Fin _) ∧ β (1 : Fin _) < 11) (by decide +kernel) (fun t hf y => ?_) (fun j hj => ?_)
  · blk_simp
    rw [after0_4]
    unfold outsAt0
    dsimp only
    rw [dx_block, block0 m c D hD, block1 m c Y hY, block2 m c Z hZ]
    refine (put_at 9216 G (dx D Y (part 9216 (by omega) Z)) _ (place (grid0.coords t 0) (grid0.coords t 1) y) ?_ ?_).symm
    · show _ = 256 + (256 * (grid0.coords t 0).val + (y 0).val)
      blk_simp [i4]
      omega
    · show _ = 9216 + (1024 * (grid0.coords t 1).val + (y 1).val)
      blk_simp [i4]
      omega
  · blk_simp [Pipeline.Window.cell_apply] at hj
    rw [A_eq, put_off]
    · rw [← hG]
      rfl
    · blk_simp
      omega

end Arrays

/-- The run: both gradients, the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) = dy (m ((c : Thread nD τ).loc main_arg0)) (part 9216 (by omega) (m ((c : Thread nD τ).loc main_arg2)))
      ∧ r.2.mem ((c : Thread nD τ).loc main_v0_1) = put 9216 (m ((c : Thread nD τ).loc main_arg3))
          (dx (m ((c : Thread nD τ).loc main_arg0)) (m ((c : Thread nD τ).loc main_arg1)) (part 9216 (by omega) (m ((c : Thread nD τ).loc main_arg2))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (dy_array m c _ _ rfl rfl), (h c).2.1.trans (dz_array m c _ _ _ rfl rfl rfl _ rfl), (h c).2.2⟩) (Value.run_blocks m ρ)

end Cert.Kernel12Ideal.Gate

namespace Cert.Reference12Ideal.Gate

open Idealize.ShloMosaic Idealize.ShloMosaic.TcCoe Idealize.ShloMosaic.Tactic
open Idealize.SL.Sem
open Cert.Reference12Ideal Cert.Reference12Ideal.Gen Cert.Gate

/-- The reference's run: the same two arrays. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v14) = dy (m ((c : Thread nD τ).loc main_arg0)) (part 9216 (by omega) (m ((c : Thread nD τ).loc main_arg2)))
      ∧ r.2.mem ((c : Thread nD τ).loc main_v16) = put 9216 (m ((c : Thread nD τ).loc main_arg3))
          (dx (m ((c : Thread nD τ).loc main_arg0)) (m ((c : Thread nD τ).loc main_arg1)) (part 9216 (by omega) (m ((c : Thread nD τ).loc main_arg2))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (line_dy ..),
    (h c).2.1.trans ((update_eq 9216 (by omega) _ _ _ rfl rfl _).trans (congrArg (put 9216 _) (line_dx ..))), (h c).2.2⟩) (Value.run m ρ)

end Cert.Reference12Ideal.Gate

end
-- ==== Proof.Gates.Gelu.lean ====
/- The recurrent branch's gate `h · gelu(x)`, its gradients, and the equality of the two ways to write the second. -/
module

public import proofs.«01_k».proof.Proof.Gates.Arrays

@[expose] public section

noncomputable section

namespace Cert.Gate

open Idealize.ShloMosaic

abbrev cubic : ℝ := 8943 / 200000
abbrev gain : ℝ := Real.sqrt (2 * Real.pi⁻¹)

/-- The approximation's hyperbolic tangent. -/
def bend (x : EReal) : EReal := Ideal.tanh ((gain : EReal) * (x + (cubic : EReal) * x * x * x))

/-- The gelu's derivative, as the kernel takes it. -/
def geluSlope (x : EReal) : EReal :=
  ((1 / 2 : ℝ) : EReal) * (1 + bend x) + ((1 / 2 : ℝ) : EReal) * x * (1 - bend x * bend x) * (gain : EReal) * (1 + ((26829 / 200000 : ℝ) : EReal) * x * x)

/-- What the differentiated reference sums: the parts of `u` times the derivative. -/
def spread (u x : EReal) : EReal :=
  let w := (gain : EReal) * (((1 / 2 : ℝ) : EReal) * (x * u) * ((1 + bend x) * (1 - bend x)))
  u * (((1 / 2 : ℝ) : EReal) * (1 + bend x)) + w + (cubic : EReal) * w * (((3 : ℝ) : EReal) * (x * x))

theorem gain_pos : 0 < gain := Real.sqrt_pos.2 (by positivity)

theorem bend_real (x : ℝ) : bend (x : EReal) = (Real.tanh (gain * (x + cubic * x * x * x)) : EReal) := by
  unfold bend
  rw [← EReal.coe_mul, ← EReal.coe_mul, ← EReal.coe_mul, ← EReal.coe_add, ← EReal.coe_mul, Ideal.tanh_coe]

theorem bend_top : bend ⊤ = 1 := by
  unfold bend
  rw [EReal.coe_mul_top_of_pos (by norm_num), EReal.top_mul_top, EReal.top_mul_top, EReal.top_add_top, EReal.coe_mul_top_of_pos gain_pos]
  simp

theorem bend_bot : bend ⊥ = -1 := by
  unfold bend
  rw [EReal.coe_mul_bot_of_pos (by norm_num), EReal.bot_mul_bot, EReal.top_mul_bot, EReal.bot_add, EReal.coe_mul_bot_of_pos gain_pos]
  simp

/-- Of a real `u` the two are one, at infinite `x` too. -/
theorem geluSlope_eq (u : ℝ) (x : EReal) : (u : EReal) * geluSlope x = spread u x := by
  unfold geluSlope spread
  have one : (1 : EReal) = ((1 : ℝ) : EReal) := rfl
  induction x with
  | coe x =>
    rw [bend_real, one]
    simp only [← EReal.coe_mul, ← EReal.coe_add, ← EReal.coe_sub]
    congr 1
    ring
  | top =>
    rw [bend_top]
    have z : (1 : EReal) - 1 = 0 := by rw [one, ← EReal.coe_sub]; simp
    simp [z]
  | bot =>
    rw [bend_bot]
    have z : (1 : EReal) + -1 = 0 := by rw [one, ← EReal.coe_neg, ← EReal.coe_add]; simp
    have z' : (1 : EReal) - 1 = 0 := by rw [one, ← EReal.coe_sub]; simp
    simp [z, z']

theorem half_eq : Ideal.ofBits .f32 0x3F000000#32 = ((1 / 2 : ℝ) : EReal) := by
  simp only [Ideal.ofBits, Ideal.ieee]
  simp
  rw [← EReal.coe_mul]
  norm_num
theorem three_eq : Ideal.ofBits .f32 0x40400000#32 = ((3 : ℝ) : EReal) := by
  simp only [Ideal.ofBits, Ideal.ieee]
  simp
  rw [← EReal.coe_mul]
  norm_num

/-! ## The arrays -/

abbrev Tall : Shape := ⟨2, ![2304, 2048]⟩

/-- The latent rows of a state. -/
def latent (H : Tall.Idx → EReal) : Square.Idx → EReal := fun i =>
  have h0 : (i 0).val < 2048 := (i 0).2
  H (ix2 ⟨256 + (i 0).val, by omega⟩ (i 1))

/-- The gradient by the states: the cotangent times the gelu. -/
def dh (D X : Square.Idx → EReal) : Square.Idx → EReal := fun i => D i * (((1 / 2 : ℝ) : EReal) * X i * (1 + bend (X i)))

/-- The gradient by the gate's input. -/
def dg (D A B X : Square.Idx → EReal) : Square.Idx → EReal := fun i => D i * (A i + B i) * geluSlope (X i)

end Cert.Gate

end
-- ==== Proof.Gates.Recurrence.lean ====
/- The recurrent branch's gate, backward: the call's two results. -/
module

public import proofs.«01_k».proof.Proof.Gen.Kernel13Ideal.Value
public import proofs.«01_k».proof.Proof.Gates.Gelu
public import Idealize.ShloMosaic.PureOps.IdealRules

@[expose] public section

set_option maxRecDepth 16384

noncomputable section

namespace Cert.Kernel13Ideal.Gate

open Idealize.ShloMosaic Idealize.ShloMosaic.TcCoe Idealize.ShloMosaic.Tactic
open Idealize.SL.Sem
open Cert.Kernel13Ideal Cert.Kernel13Ideal.Gen Cert.Gate
open Cert.Attn (eq_ix2 exists_ix2)

theorem named_c : Named.named (F := Ideal) (φ := .f32) κ "gelu_c" 0x3F4C422A#32 = (gain : EReal) :=
  IdealRules.named_const.ideal_named_scalar κ "gelu_c" _ _ rfl
theorem named_a : Named.named (F := Ideal) (φ := .f32) κ "gelu_a" 0x3D372713#32 = (cubic : EReal) :=
  IdealRules.named_const.ideal_named_scalar κ "gelu_a" _ _ rfl
theorem named_3a : Named.named (F := Ideal) (φ := .f32) κ "gelu_3a" 0x3E095D4F#32 = ((26829 / 200000 : ℝ) : EReal) :=
  IdealRules.named_const.ideal_named_scalar κ "gelu_3a" _ _ rfl

/-! ## One grid point -/

section Block
variable (D A B X : Vec Ideal S256x1024 .f32) (c : Dev nD) (i : grid0.Coords) (a0 : Memref sig .tc .vmem S256x1024 .f32) (h0 : a0.IsWhole) (a1 : Memref sig .tc .vmem S256x1024 .f32) (h1 : a1.IsWhole)
    (a2 : Memref sig .tc .vmem S256x1024 .f32) (h2 : a2.IsWhole) (a3 : Memref sig .tc .vmem S256x1024 .f32) (h3 : a3.IsWhole)
    (a4 : Memref sig .tc .vmem S256x1024 .f32) (h4 : a4.IsWhole) (a5 : Memref sig .tc .vmem S256x1024 .bf16) (h5 : a5.IsWhole)

theorem dh_block (y : S256x1024.Idx) :
    out0_A_4 (F := Ideal) c i a0 h0 a1 h1 a2 h2 a3 h3 a4 h4 a5 h5 D A B X y = D y * (((1 / 2 : ℝ) : EReal) * X y * (1 + bend (X y))) := by
  frame_out
  obtain ⟨r, d, rfl⟩ := exists_ix2 y
  unfold k0_pay2 bend
  pointwise
  rw [half_eq, named_c, named_a]

theorem dg_block (y : S256x1024.Idx) :
    out0_A_5 (F := Ideal) c i a0 h0 a1 h1 a2 h2 a3 h3 a4 h4 a5 h5 D A B X y = D y * (A y + B y) * geluSlope (X y) := by
  frame_out
  obtain ⟨r, d, rfl⟩ := exists_ix2 y
  unfold k0_pay1 k0_pay3 k0_pay5 k0_pay6 k0_pay7 k0_pay4 k0_pay8 geluSlope bend
  pointwise
  rw [half_eq, named_c, named_a, named_3a]

end Block

/-! ## The arrays -/

section Arrays
variable (m : (ℓ : Loc nD τ sig) → Buf (Elt Ideal) ℓ) (c : Dev nD)

theorem i0 : ∀ t : Fin cfg0.N, win0_0.index t = ![(grid0.coords t 0).val, (grid0.coords t 1).val] := (by decide +kernel : ∀ t : Fin grid0.N, _)
theorem i1 : ∀ t : Fin cfg0.N, win0_1.index t = ![1 + (grid0.coords t 0).val, (grid0.coords t 1).val] := (by decide +kernel : ∀ t : Fin grid0.N, _)
theorem i2 : ∀ t : Fin cfg0.N, win0_2.index t = ![1 + (grid0.coords t 0).val, (grid0.coords t 1).val] := (by decide +kernel : ∀ t : Fin grid0.N, _)
theorem i3 : ∀ t : Fin cfg0.N, win0_3.index t = ![1 + (grid0.coords t 0).val, 5 + (grid0.coords t 1).val] := (by decide +kernel : ∀ t : Fin grid0.N, _)
theorem i4 : ∀ t : Fin cfg0.N, win0_4.index t = ![(grid0.coords t 0).val, (grid0.coords t 1).val] := (by decide +kernel : ∀ t : Fin grid0.N, _)
theorem i5 : ∀ t : Fin cfg0.N, win0_5.index t = ![1 + (grid0.coords t 0).val, 5 + (grid0.coords t 1).val] := (by decide +kernel : ∀ t : Fin grid0.N, _)

variable (D : Square.Idx → EReal) (A B : Tall.Idx → EReal) (Z : Wide.Idx → EReal)
  (hD : m ((c : Thread nD τ).loc main_arg0) = D) (hA : m ((c : Thread nD τ).loc main_arg1) = A) (hB : m ((c : Thread nD τ).loc main_arg2) = B)
  (hZ : m ((c : Thread nD τ).loc main_arg3) = Z)

include hD in
theorem block0 (t : Fin cfg0.N) (y : S256x1024.Idx) : iblk m c 0 t y = D (place (grid0.coords t 0) (grid0.coords t 1) y) := by
  rw [← hD]
  unfold place
  blk_ext [iblk, V, i0]
include hA in
theorem block1 (t : Fin cfg0.N) (y : S256x1024.Idx) : iblk m c 1 t y = latent A (place (grid0.coords t 0) (grid0.coords t 1) y) := by
  rw [← hA]
  unfold place latent
  blk_ext [iblk, V, i1]
include hB in
theorem block2 (t : Fin cfg0.N) (y : S256x1024.Idx) : iblk m c 2 t y = latent B (place (grid0.coords t 0) (grid0.coords t 1) y) := by
  rw [← hB]
  unfold place latent
  blk_ext [iblk, V, i2]
include hZ in
theorem block3 (t : Fin cfg0.N) (y : S256x1024.Idx) : iblk m c 3 t y = part 5120 (by omega) Z (place (grid0.coords t 0) (grid0.coords t 1) y) := by
  rw [← hZ]
  unfold place part
  blk_ext [iblk, V, i3]

include hD hZ in
/-- The first result: the gradient by the states. -/
theorem dh_array : (dats m 0 c).arrAt 4 cfg0.N = dh D (part 5120 (by omega) Z) := by
  refine (dats m 0 c).arrAt_eq_of_covers 4 _ (by decide +kernel) fun t hf y => ?_
  blk_simp
  rw [after0_4]
  unfold outsAt0
  dsimp only
  rw [dh_block, block0 m c D hD, block3 m c Z hZ]
  refine congrArg (dh D (part 5120 (by omega) Z)) (eq_ix2 _ _ _ ?_ ?_).symm
  · show _ = 256 * (grid0.coords t 0).val + (y 0).val
    blk_simp [i4]
    omega
  · show _ = 1024 * (grid0.coords t 1).val + (y 1).val
    blk_simp [i4]
    omega

include hD hA hB hZ in
/-- The second: the gradient by the gate's input, in its columns. -/
theorem dz_array (G : Wide.Idx → EReal) (hG : m ((c : Thread nD τ).loc main_arg4) = G) :
    (dats m 0 c).arrAt 5 cfg0.N = put 5120 G (dg D (latent A) (latent B) (part 5120 (by omega) Z)) := by
  refine (dats m 0 c).arrAt_eq_of_coversWhere_of_agree 5 _ (fun β => 1 ≤ β (0 : Fin _) ∧ 5 ≤ β (1 : Fin _) ∧ β (1 : Fin _) < 7) (by decide +kernel) (fun t hf y => ?_) (fun j hj => ?_)
  · blk_simp
    rw [after0_5]
    unfold outsAt0
    dsimp only
    rw [dg_block, block0 m c D hD, block1 m c A hA, block2 m c B hB, block3 m c Z hZ]
    refine (put_at 5120 G (dg D (latent A) (latent B) (part 5120 (by omega) Z)) _ (place (grid0.coords t 0) (grid0.coords t 1) y) ?_ ?_).symm
    · show _ = 256 + (256 * (grid0.coords t 0).val + (y 0).val)
      blk_simp [i5]
      omega
    · show _ = 5120 + (1024 * (grid0.coords t 1).val + (y 1).val)
      blk_simp [i5]
      omega
  · blk_simp [Pipeline.Window.cell_apply] at hj
    rw [A_eq, put_off]
    · rw [← hG]
      rfl
    · blk_simp
      omega

end Arrays

/-- The run: both gradients, the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) = dh (m ((c : Thread nD τ).loc main_arg0)) (part 5120 (by omega) (m ((c : Thread nD τ).loc main_arg3)))
      ∧ r.2.mem ((c : Thread nD τ).loc main_v0_1) = put 5120 (m ((c : Thread nD τ).loc main_arg4))
          (dg (m ((c : Thread nD τ).loc main_arg0)) (latent (m ((c : Thread nD τ).loc main_arg1))) (latent (m ((c : Thread nD τ).loc main_arg2))) (part 5120 (by omega) (m ((c : Thread nD τ).loc main_arg3))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (dh_array m c _ _ rfl rfl), (h c).2.1.trans (dz_array m c _ _ _ _ rfl rfl rfl rfl _ rfl), (h c).2.2⟩) (Value.run_blocks m ρ)

end Cert.Kernel13Ideal.Gate

end
-- ==== Proof.Gates.Reference.lean ====
/- The reference of the recurrent branch's gate: its two results, of real cotangents and states. -/
module

public import proofs.«01_k».proof.Proof.Gen.Reference13Ideal.Value
public import proofs.«01_k».proof.Proof.Gates.Gelu
public import Idealize.ShloMosaic.PureOps.IdealRules

@[expose] public section

set_option maxRecDepth 16384

noncomputable section

namespace Cert.Reference13Ideal.Gate

open Idealize.ShloMosaic Idealize.ShloMosaic.TcCoe Idealize.ShloMosaic.Tactic
open Idealize.SL.Sem
open Cert.Reference13Ideal Cert.Reference13Ideal.Gen Cert.Gate
open Cert.Attn (eq_ix2 exists_ix2 RealM)

theorem named_c : Named.named (F := Ideal) (φ := .f32) κ "gelu_c" 0x3F4C422A#32 = (gain : EReal) :=
  IdealRules.named_const.ideal_named_scalar κ "gelu_c" _ _ rfl
theorem named_a : Named.named (F := Ideal) (φ := .f32) κ "gelu_a" 0x3D372713#32 = (cubic : EReal) :=
  IdealRules.named_const.ideal_named_scalar κ "gelu_a" _ _ rfl

/-! ## The lines -/

theorem bend_eq (x : EReal) : Ideal.tanh ((gain : EReal) * (x + (cubic : EReal) * (x * (x * x)))) = bend x := by
  unfold bend
  rw [mul_assoc (cubic : EReal), mul_assoc (cubic : EReal), mul_assoc x]

section Lines
variable (D A B X : Vec Ideal S2048x2048 .f32)

/-- The first stored array. -/
theorem line_dh : k0_pay4 (F := Ideal) X D = dh D X := by
  funext i
  obtain ⟨r, d, rfl⟩ := exists_ix2 i
  unfold k0_pay4 k0_pay3 k0_pay2 dh
  pointwise
  rw [half_eq, named_c, named_a, bend_eq, mul_left_comm (X (ix2 r d)), mul_assoc]

/-- The second. -/
theorem line_dg (hd : RealM (m := 2048) (n := 2048) D) (ha : RealM (m := 2048) (n := 2048) A) (hb : RealM (m := 2048) (n := 2048) B) :
    k0_pay1 (k0_pay5 (F := Ideal) A B X D) = dg D A B X := by
  funext i
  obtain ⟨r, d, rfl⟩ := exists_ix2 i
  unfold k0_pay1 k0_pay5 k0_pay3 k0_pay2
  pointwise
  rw [half_eq, three_eq, named_c, named_a, bend_eq]
  have hu : (A (ix2 r d) + B (ix2 r d)) * D (ix2 r d) = ((((A (ix2 r d)).toReal + (B (ix2 r d)).toReal) * (D (ix2 r d)).toReal : ℝ) : EReal) := by
    rw [EReal.coe_mul, EReal.coe_add, ← ha, ← hb, ← hd]
  unfold dg
  rw [mul_comm (D (ix2 r d)), hu]
  exact (geluSlope_eq _ (X (ix2 r d))).symm

end Lines

/-! ## The one grid point -/

theorem part_load (Z : Vec Ideal S2304x11264 .f32) (inb : ∀ a, ![256, 5120] a + ![2048, 2048] a ≤ S2304x11264.size a) :
    View.ld (Val := Elt Ideal) (e' := .f32) Z (Rect.unit (s := S2304x11264) ![256, 5120] ![2048, 2048] inb) = part 5120 (by omega) Z := by
  funext y
  refine View.ld_unit_apply_of Z _ _ _ y _ fun a => ?_
  fin_cases a <;> rfl

theorem latent_load (H : Vec Ideal S2304x2048 .f32) (inb : ∀ a, ![256, 0] a + ![2048, 2048] a ≤ S2304x2048.size a) :
    View.ld (Val := Elt Ideal) (e' := .f32) H (Rect.unit (s := S2304x2048) ![256, 0] ![2048, 2048] inb) = latent H := by
  funext y
  refine View.ld_unit_apply_of H _ _ _ y _ fun a => ?_
  fin_cases a
  · rfl
  · exact (Nat.zero_add _).symm

/-- A store of `U` into those columns' latent rows, after one of `G` into the whole array. -/
theorem put_stores (G : Vec Ideal S2304x11264 .bf16) (U : Square.Idx → EReal) (inb : ∀ a, ![256, 5120] a + ![2048, 2048] a ≤ S2304x11264.size a) (inb' : ∀ a, ![0, 0] a + S2304x11264.size a ≤ S2304x11264.size a)
    (y : S2304x11264.Idx) :
    View.canon (Val := Elt Ideal) (s := S2304x11264) (e := .bf16) [⟨Rect.unit ![256, 5120] ![2048, 2048] inb, U⟩, ⟨Rect.unit ![0, 0] S2304x11264.size inb', G⟩] y = put 5120 G U y := by
  by_cases hi : 256 ≤ (y 0).val ∧ 5120 ≤ (y 1).val ∧ (y 1).val < 5120 + 2048
  · have b0 : (y 0).val < 2304 := (y 0).2
    obtain ⟨x, x0, x1⟩ : ∃ x : Square.Idx, (y 0).val = 256 + (x 0).val ∧ (y 1).val = 5120 + (x 1).val :=
      ⟨ix2 ⟨(y 0).val - 256, by omega⟩ ⟨(y 1).val - 5120, by omega⟩, by show _ = 256 + ((y 0).val - 256); omega, by show _ = 5120 + ((y 1).val - 5120); omega⟩
    have e : (Rect.unit (s := S2304x11264) ![256, 5120] ![2048, 2048] inb).emb x = y := funext fun a => Fin.ext (by
      refine (Rect.idx_unit_val _ _ _ x a).trans ?_
      match a with
      | 0 => exact x0.symm
      | 1 => exact x1.symm)
    have h := View.canon_cons_emb (Val := Elt Ideal) (s := S2304x11264) (e := .bf16) (Rect.unit (s := S2304x11264) ![256, 5120] ![2048, 2048] inb) U [⟨Rect.unit ![0, 0] S2304x11264.size inb', G⟩] x
    rw [e] at h
    exact h.trans (put_at 5120 G U y x x0 x1).symm
  · rw [put_off 5120 G _ y hi, View.canon_cons_of_not_mem]
    · exact congrFun (View.canon_cons_unit_lit _ G [] fun a => by fin_cases a <;> rfl) y
    · rw [Rect.mem_set_unit]
      intro h
      exact hi ⟨(h 0).1, h 1⟩

section Block
variable (D : Vec Ideal S2048x2048 .f32) (A B : Vec Ideal S2304x2048 .f32) (Z : Vec Ideal S2304x11264 .f32) (G : Vec Ideal S2304x11264 .bf16)
  (c : Dev nD) (a0 : Memref sig .tc .vmem S2048x2048 .f32) (h0 : a0.IsWhole) (a1 : Memref sig .tc .vmem S2304x2048 .f32) (h1 : a1.IsWhole)
    (a2 : Memref sig .tc .vmem S2304x2048 .f32) (h2 : a2.IsWhole) (a3 : Memref sig .tc .vmem S2304x11264 .f32) (h3 : a3.IsWhole)
    (a4 : Memref sig .tc .vmem S2304x11264 .bf16) (h4 : a4.IsWhole) (a5 : Memref sig .tc .vmem S2048x2048 .f32) (h5 : a5.IsWhole) (a6 : Memref sig .tc .vmem S2304x11264 .bf16) (h6 : a6.IsWhole)

theorem dh_block : out0_A_5 (F := Ideal) c a0 h0 a1 h1 a2 h2 a3 h3 a4 h4 a5 h5 a6 h6 D A B Z G = dh D (part 5120 (by omega) Z) := by
  funext y
  frame_out
  rw [part_load, line_dh]

theorem dz_block (hd : RealM (m := 2048) (n := 2048) D) (ha : RealM (m := 2048) (n := 2048) (latent A)) (hb : RealM (m := 2048) (n := 2048) (latent B)) :
    out0_A_6 (F := Ideal) c a0 h0 a1 h1 a2 h2 a3 h3 a4 h4 a5 h5 a6 h6 D A B Z G = put 5120 G (dg D (latent A) (latent B) (part 5120 (by omega) Z)) := by
  funext y
  frame_out
  rw [part_load, latent_load, latent_load, line_dg _ _ _ _ hd ha hb]
  exact put_stores G _ _ _ y

end Block

/-! ## The run -/

section Arrays
variable (m : (ℓ : Loc nD τ sig) → Buf (Elt Ideal) ℓ) (c : Dev nD)

/-- Each window is its whole array. -/
theorem index_eq : ∀ t : Fin cfg0.N, win0_0.index t = ![0, 0] ∧ win0_1.index t = ![0, 0] ∧ win0_2.index t = ![0, 0] ∧ win0_3.index t = ![0, 0] ∧ win0_4.index t = ![0, 0]
    ∧ win0_5.index t = ![0, 0] ∧ win0_6.index t = ![0, 0] := (by decide +kernel : ∀ t : Fin grid0.N, _)

theorem blocks (t : Fin cfg0.N) : iblk m c 0 t = m ((c : Thread nD τ).loc main_arg0) ∧ iblk m c 1 t = m ((c : Thread nD τ).loc main_arg1) ∧ iblk m c 2 t = m ((c : Thread nD τ).loc main_arg2)
    ∧ iblk m c 3 t = m ((c : Thread nD τ).loc main_arg3) ∧ iblk m c 4 t = m ((c : Thread nD τ).loc main_arg4) := by
  obtain ⟨i0, i1, i2, i3, i4, -⟩ := index_eq t
  refine ⟨?_, ?_, ?_, ?_, ?_⟩ <;> (funext y; blk_ext [iblk, V, i0, i1, i2, i3, i4])

theorem dh_array : (dats m 0 c).arrAt 5 cfg0.N = dh (m ((c : Thread nD τ).loc main_arg0)) (part 5120 (by omega) (m ((c : Thread nD τ).loc main_arg3))) := by
  refine (dats m 0 c).arrAt_eq_of_covers 5 _ (by decide +kernel) fun t hf y => ?_
  obtain ⟨b0, b1, b2, b3, b4⟩ := blocks m c t
  blk_simp
  rw [after0_5]
  unfold outsAt0
  dsimp only
  rw [dh_block, b0, b3]
  obtain ⟨-, -, -, -, -, i5, -⟩ := index_eq t
  refine congrArg (dh _ _) (funext fun a => Fin.ext ?_)
  fin_cases a <;> blk_simp [i5] <;> omega

theorem dz_array (hd : RealM (m := 2048) (n := 2048) (m ((c : Thread nD τ).loc main_arg0)))
    (ha : RealM (m := 2048) (n := 2048) (latent (m ((c : Thread nD τ).loc main_arg1)))) (hb : RealM (m := 2048) (n := 2048) (latent (m ((c : Thread nD τ).loc main_arg2)))) :
    (dats m 0 c).arrAt 6 cfg0.N = put 5120 (m ((c : Thread nD τ).loc main_arg4))
          (dg (m ((c : Thread nD τ).loc main_arg0)) (latent (m ((c : Thread nD τ).loc main_arg1))) (latent (m ((c : Thread nD τ).loc main_arg2))) (part 5120 (by omega) (m ((c : Thread nD τ).loc main_arg3)))) := by
  refine (dats m 0 c).arrAt_eq_of_covers 6 _ (by decide +kernel) fun t hf y => ?_
  obtain ⟨b0, b1, b2, b3, b4⟩ := blocks m c t
  blk_simp
  rw [after0_6]
  unfold outsAt0
  dsimp only
  rw [b0, b1, b2, b3, b4, dz_block _ _ _ _ _ _ _ _ _ _ _ _ _ _ _ _ _ _ _ _ hd ha hb]
  obtain ⟨-, -, -, -, -, -, i6⟩ := index_eq t
  refine congrArg (put 5120 _ _) (funext fun a => Fin.ext ?_)
  fin_cases a <;> blk_simp [i6] <;> omega

end Arrays

/-- The run: both gradients, the arguments as they were. -/
theorem run (m : (ℓ : Loc nD τ sig) → Buf (Elt Ideal) ℓ) (ρ : Dev nD → PrngReg)
    (hd : ∀ c : Dev nD, RealM (m := 2048) (n := 2048) (m ((c : Thread nD τ).loc main_arg0)))
    (ha : ∀ c : Dev nD, RealM (m := 2048) (n := 2048) (latent (m ((c : Thread nD τ).loc main_arg1)))) (hb : ∀ c : Dev nD, RealM (m := 2048) (n := 2048) (latent (m ((c : Thread nD τ).loc main_arg2)))) :
    θ_run defs (onTc (τ := τ) (main (F := Ideal))) ⟨m, fun _ => 0, ρ⟩ fun r => ∀ c : Dev nD,
      r.2.mem ((c : Thread nD τ).loc main_v0_0) = dh (m ((c : Thread nD τ).loc main_arg0)) (part 5120 (by omega) (m ((c : Thread nD τ).loc main_arg3)))
      ∧ r.2.mem ((c : Thread nD τ).loc main_v0_1) = put 5120 (m ((c : Thread nD τ).loc main_arg4))
          (dg (m ((c : Thread nD τ).loc main_arg0)) (latent (m ((c : Thread nD τ).loc main_arg1))) (latent (m ((c : Thread nD τ).loc main_arg2))) (part 5120 (by omega) (m ((c : Thread nD τ).loc main_arg3))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (dh_array m c), (h c).2.1.trans (dz_array m c (hd c) (ha c) (hb c)), (h c).2.2⟩) (Value.run_blocks m ρ)

end Cert.Reference13Ideal.Gate

end
-- ==== Proof.Gates.Forward.lean ====
/- The recurrent branch's gate and the merge, forward: the two calls' results and their references'. -/
module

public import proofs.«01_k».proof.Proof.Gen.Kernel16Ideal.Value
public import proofs.«01_k».proof.Proof.Gen.Reference16Ideal.Value
public import proofs.«01_k».proof.Proof.Gen.Kernel17Ideal.Value
public import proofs.«01_k».proof.Proof.Gen.Reference17Ideal.Run
public import proofs.«01_k».proof.Proof.Gates.Reference
public import Idealize.ShloMosaic.PureOps.IdealRules

@[expose] public section

set_option maxRecDepth 16384

noncomputable section

namespace Cert.Gate

open Idealize.ShloMosaic

/-- The gated states: their sum times the gelu. -/
def gated (A B X : Square.Idx → EReal) : Square.Idx → EReal := dh (fun i => A i + B i) X

/-- The two branches, weighted and added. -/
def merged (Y U X V : Square.Idx → EReal) : Square.Idx → EReal := fun i => Ideal.logistic (X i) * Y i + Ideal.logistic (V i) * U i

end Cert.Gate

namespace Cert.Kernel16Ideal.Gate

open Idealize.ShloMosaic Idealize.ShloMosaic.TcCoe Idealize.ShloMosaic.Tactic
open Idealize.SL.Sem
open Cert.Kernel16Ideal Cert.Kernel16Ideal.Gen Cert.Gate
open Cert.Attn (eq_ix2 exists_ix2)

theorem named_c : Named.named (F := Ideal) (φ := .f32) κ "gelu_c" 0x3F4C422A#32 = (gain : EReal) :=
  IdealRules.named_const.ideal_named_scalar κ "gelu_c" _ _ rfl
theorem named_a : Named.named (F := Ideal) (φ := .f32) κ "gelu_a" 0x3D372713#32 = (cubic : EReal) :=
  IdealRules.named_const.ideal_named_scalar κ "gelu_a" _ _ rfl

/-- One grid point. -/
theorem block (A B X : Vec Ideal S256x1024 .f32) (y : S256x1024.Idx) :
    out0_3 (F := Ideal) A B X y = (A y + B y) * (((1 / 2 : ℝ) : EReal) * X y * (1 + bend (X y))) := by
  frame_out
  obtain ⟨r, d, rfl⟩ := exists_ix2 y
  unfold k0_pay1 bend
  pointwise
  rw [half_eq, named_c, named_a]

section Arrays
variable (m : (ℓ : Loc nD τ sig) → Buf (Elt Ideal) ℓ) (c : Dev nD)

theorem i0 : ∀ t : Fin cfg0.N, win0_0.index t = ![1 + (grid0.coords t 0).val, (grid0.coords t 1).val] := (by decide +kernel : ∀ t : Fin grid0.N, _)
theorem i1 : ∀ t : Fin cfg0.N, win0_1.index t = ![1 + (grid0.coords t 0).val, (grid0.coords t 1).val] := (by decide +kernel : ∀ t : Fin grid0.N, _)
theorem i2 : ∀ t : Fin cfg0.N, win0_2.index t = ![1 + (grid0.coords t 0).val, 5 + (grid0.coords t 1).val] := (by decide +kernel : ∀ t : Fin grid0.N, _)
theorem i3 : ∀ t : Fin cfg0.N, win0_3.index t = ![(grid0.coords t 0).val, (grid0.coords t 1).val] := (by decide +kernel : ∀ t : Fin grid0.N, _)

variable (A B : Tall.Idx → EReal) (Z : Wide.Idx → EReal)
  (hA : m ((c : Thread nD τ).loc main_arg0) = A) (hB : m ((c : Thread nD τ).loc main_arg1) = B) (hZ : m ((c : Thread nD τ).loc main_arg2) = Z)

include hA in
theorem block0 (t : Fin cfg0.N) (y : S256x1024.Idx) : iblk m c 0 t y = latent A (place (grid0.coords t 0) (grid0.coords t 1) y) := by
  rw [← hA]
  unfold place latent
  blk_ext [iblk, V, i0]
include hB in
theorem block1 (t : Fin cfg0.N) (y : S256x1024.Idx) : iblk m c 1 t y = latent B (place (grid0.coords t 0) (grid0.coords t 1) y) := by
  rw [← hB]
  unfold place latent
  blk_ext [iblk, V, i1]
include hZ in
theorem block2 (t : Fin cfg0.N) (y : S256x1024.Idx) : iblk m c 2 t y = part 5120 (by omega) Z (place (grid0.coords t 0) (grid0.coords t 1) y) := by
  rw [← hZ]
  unfold place part
  blk_ext [iblk, V, i2]

include hA hB hZ in
theorem array : (dats m 0 c).arrAt 3 cfg0.N = gated (latent A) (latent B) (part 5120 (by omega) Z) := by
  refine (dats m 0 c).arrAt_eq_of_covers 3 _ (by decide +kernel) fun t hf y => ?_
  blk_simp
  rw [after0_3]
  rw [block, block0 m c A hA, block1 m c B hB, block2 m c Z hZ]
  refine congrArg (gated (latent A) (latent B) (part 5120 (by omega) Z)) (eq_ix2 _ _ _ ?_ ?_).symm
  · show _ = 256 * (grid0.coords t 0).val + (y 0).val
    blk_simp [i3]
    omega
  · show _ = 1024 * (grid0.coords t 1).val + (y 1).val
    blk_simp [i3]
    omega

end Arrays

/-- The run: the gated states, the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0)
          = gated (latent (m ((c : Thread nD τ).loc main_arg0))) (latent (m ((c : Thread nD τ).loc main_arg1))) (part 5120 (by omega) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (array m c _ _ _ rfl rfl rfl), (h c).2⟩) (Value.run_blocks m ρ)

end Cert.Kernel16Ideal.Gate

namespace Cert.Reference16Ideal.Gate

open Idealize.ShloMosaic Idealize.ShloMosaic.TcCoe Idealize.ShloMosaic.Tactic
open Idealize.SL.Sem
open Cert.Reference16Ideal Cert.Reference16Ideal.Gen Cert.Gate
open Cert.Attn (eq_ix2 exists_ix2)
open Cert.Reference13Ideal.Gate (bend_eq part_load latent_load)

theorem named_c : Named.named (F := Ideal) (φ := .f32) κ "gelu_c" 0x3F4C422A#32 = (gain : EReal) :=
  IdealRules.named_const.ideal_named_scalar κ "gelu_c" _ _ rfl
theorem named_a : Named.named (F := Ideal) (φ := .f32) κ "gelu_a" 0x3D372713#32 = (cubic : EReal) :=
  IdealRules.named_const.ideal_named_scalar κ "gelu_a" _ _ rfl

/-- The stored array. -/
theorem line (A B X : Vec Ideal S2048x2048 .f32) : k0_pay1 (F := Ideal) A B X = gated A B X := by
  funext i
  obtain ⟨r, d, rfl⟩ := exists_ix2 i
  unfold k0_pay1 gated dh
  pointwise
  rw [half_eq, named_c, named_a, bend_eq, mul_left_comm (X (ix2 r d)), mul_assoc]

/-- The one grid point. -/
theorem block (A B : Vec Ideal S2304x2048 .f32) (Z : Vec Ideal S2304x11264 .f32) :
    out0_3 (F := Ideal) A B Z = gated (latent A) (latent B) (part 5120 (by omega) Z) := by
  funext y
  frame_out
  rw [part_load, latent_load, latent_load, line]

section Arrays
variable (m : (ℓ : Loc nD τ sig) → Buf (Elt Ideal) ℓ) (c : Dev nD)

/-- Each window is its whole array. -/
theorem index_eq : ∀ t : Fin cfg0.N, win0_0.index t = ![0, 0] ∧ win0_1.index t = ![0, 0] ∧ win0_2.index t = ![0, 0] ∧ win0_3.index t = ![0, 0] := (by decide +kernel : ∀ t : Fin grid0.N, _)

theorem blocks (t : Fin cfg0.N) : iblk m c 0 t = m ((c : Thread nD τ).loc main_arg0) ∧ iblk m c 1 t = m ((c : Thread nD τ).loc main_arg1) ∧ iblk m c 2 t = m ((c : Thread nD τ).loc main_arg2) := by
  obtain ⟨i0, i1, i2, -⟩ := index_eq t
  refine ⟨?_, ?_, ?_⟩ <;> (funext y; blk_ext [iblk, V, i0, i1, i2])

theorem array : (dats m 0 c).arrAt 3 cfg0.N
    = gated (latent (m ((c : Thread nD τ).loc main_arg0))) (latent (m ((c : Thread nD τ).loc main_arg1))) (part 5120 (by omega) (m ((c : Thread nD τ).loc main_arg2))) := by
  refine (dats m 0 c).arrAt_eq_of_covers 3 _ (by decide +kernel) fun t hf y => ?_
  obtain ⟨b0, b1, b2⟩ := blocks m c t
  blk_simp
  rw [after0_3]
  rw [block, b0, b1, b2]
  obtain ⟨-, -, -, i3⟩ := index_eq t
  refine congrArg (gated _ _ _) (funext fun a => Fin.ext ?_)
  fin_cases a <;> blk_simp [i3] <;> omega

end Arrays

/-- The run: the same array. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0)
          = gated (latent (m ((c : Thread nD τ).loc main_arg0))) (latent (m ((c : Thread nD τ).loc main_arg1))) (part 5120 (by omega) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (array m c), (h c).2⟩) (Value.run_blocks m ρ)

end Cert.Reference16Ideal.Gate

namespace Cert.Kernel17Ideal.Gate

open Idealize.ShloMosaic Idealize.ShloMosaic.TcCoe Idealize.ShloMosaic.Tactic
open Idealize.SL.Sem
open Cert.Kernel17Ideal Cert.Kernel17Ideal.Gen Cert.Gate
open Cert.Attn (eq_ix2 exists_ix2)

/-- One grid point. -/
theorem block (Y U X W : Vec Ideal S256x1024 .f32) (y : S256x1024.Idx) :
    out0_4 (F := Ideal) Y U X W y = Ideal.logistic (X y) * Y y + Ideal.logistic (W y) * U y := by
  frame_out
  rfl

section Arrays
variable (m : (ℓ : Loc nD τ sig) → Buf (Elt Ideal) ℓ) (c : Dev nD)

theorem i0 : ∀ t : Fin cfg0.N, win0_0.index t = ![(grid0.coords t 0).val, (grid0.coords t 1).val] := (by decide +kernel : ∀ t : Fin grid0.N, _)
theorem i1 : ∀ t : Fin cfg0.N, win0_1.index t = ![(grid0.coords t 0).val, (grid0.coords t 1).val] := (by decide +kernel : ∀ t : Fin grid0.N, _)
theorem i2 : ∀ t : Fin cfg0.N, win0_2.index t = ![1 + (grid0.coords t 0).val, 7 + (grid0.coords t 1).val] := (by decide +kernel : ∀ t : Fin grid0.N, _)
theorem i3 : ∀ t : Fin cfg0.N, win0_3.index t = ![1 + (grid0.coords t 0).val, 9 + (grid0.coords t 1).val] := (by decide +kernel : ∀ t : Fin grid0.N, _)
theorem i4 : ∀ t : Fin cfg0.N, win0_4.index t = ![(grid0.coords t 0).val, (grid0.coords t 1).val] := (by decide +kernel : ∀ t : Fin grid0.N, _)

variable (Y U : Square.Idx → EReal) (Z : Wide.Idx → EReal)
  (hY : m ((c : Thread nD τ).loc main_arg0) = Y) (hU : m ((c : Thread nD τ).loc main_arg1) = U) (hZ : m ((c : Thread nD τ).loc main_arg2) = Z)

include hY in
theorem block0 (t : Fin cfg0.N) (y : S256x1024.Idx) : iblk m c 0 t y = Y (place (grid0.coords t 0) (grid0.coords t 1) y) := by
  rw [← hY]
  unfold place
  blk_ext [iblk, V, i0]
include hU in
theorem block1 (t : Fin cfg0.N) (y : S256x1024.Idx) : iblk m c 1 t y = U (place (grid0.coords t 0) (grid0.coords t 1) y) := by
  rw [← hU]
  unfold place
  blk_ext [iblk, V, i1]
include hZ in
theorem block2 (t : Fin cfg0.N) (y : S256x1024.Idx) : iblk m c 2 t y = part 7168 (by omega) Z (place (grid0.coords t 0) (grid0.coords t 1) y) := by
  rw [← hZ]
  unfold place part
  blk_ext [iblk, V, i2]
include hZ in
theorem block3 (t : Fin cfg0.N) (y : S256x1024.Idx) : iblk m c 3 t y = part 9216 (by omega) Z (place (grid0.coords t 0) (grid0.coords t 1) y) := by
  rw [← hZ]
  unfold place part
  blk_ext [iblk, V, i3]

include hY hU hZ in
theorem array : (dats m 0 c).arrAt 4 cfg0.N = merged Y U (part 7168 (by omega) Z) (part 9216 (by omega) Z) := by
  refine (dats m 0 c).arrAt_eq_of_covers 4 _ (by decide +kernel) fun t hf y => ?_
  blk_simp
  rw [after0_4]
  rw [block, block0 m c Y hY, block1 m c U hU, block2 m c Z hZ, block3 m c Z hZ]
  refine congrArg (merged Y U (part 7168 (by omega) Z) (part 9216 (by omega) Z)) (eq_ix2 _ _ _ ?_ ?_).symm
  · show _ = 256 * (grid0.coords t 0).val + (y 0).val
    blk_simp [i4]
    omega
  · show _ = 1024 * (grid0.coords t 1).val + (y 1).val
    blk_simp [i4]
    omega

end Arrays

/-- The run: the merged branches, the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0)
          = merged (m ((c : Thread nD τ).loc main_arg0)) (m ((c : Thread nD τ).loc main_arg1)) (part 7168 (by omega) (m ((c : Thread nD τ).loc main_arg2))) (part 9216 (by omega) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (array m c _ _ _ rfl rfl rfl), (h c).2⟩) (Value.run_blocks m ρ)

end Cert.Kernel17Ideal.Gate

namespace Cert.Reference17Ideal.Gate

open Idealize.ShloMosaic Idealize.ShloMosaic.TcCoe Idealize.ShloMosaic.Tactic
open Idealize.SL.Sem
open Cert.Reference17Ideal Cert.Reference17Ideal.Gen Cert.Gate
open Cert.Attn (eq_ix2 exists_ix2)

/-- The run: the same array. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v12)
          = merged (m ((c : Thread nD τ).loc main_arg0)) (m ((c : Thread nD τ).loc main_arg1)) (part 7168 (by omega) (m ((c : Thread nD τ).loc main_arg2))) (part 9216 (by omega) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨(h c).1.trans (funext fun i => ?_), (h c).2⟩) (Value.run m ρ)
  obtain ⟨r, d, rfl⟩ := exists_ix2 i
  unfold merged part Ideal.logistic
  pointwise
  have e : 7168 + (2048 + d.val) = 9216 + d.val := by omega
  simp only [e]

end Cert.Reference17Ideal.Gate

end
-- ==== Proof.Products.RecurrenceOut.lean ====
/- The recurrent branch's output projection: the call's product is the reference's. -/
module

public import proofs.«01_k».proof.Proof.Gen.Kernel14Ideal.Value
public import proofs.«01_k».proof.Proof.Gen.Reference14Ideal.Run
public import proofs.«01_k».proof.Proof.Products.Ref
public import Idealize.ShloMosaic.Lib.Pipeline.ValueKit

@[expose] public section

set_option maxRecDepth 16384

noncomputable section

namespace Cert.Kernel14Ideal.Products

open Idealize.ShloMosaic Idealize.ShloMosaic.TcCoe Idealize.ShloMosaic.Tactic
open Idealize.SL.Sem
open Cert.Kernel14Ideal Cert.Kernel14Ideal.Gen Cert.Prod

theorem pay (X : Vec Ideal S1024x2048 .bf16) (Y : Vec Ideal S2048x1024 .bf16) (j : S1024x1024.Idx) : (out0_2 X Y j : EReal) = nn (M := 1024) (K := 2048) (N := 1024) X Y j := by
  frame_out
  unfold k0_pay1 nn
  pointwise

variable (m : (ℓ : Loc nD τ sig) → Buf (Elt Ideal) ℓ) (c : Dev nD)

theorem i0 : ∀ t : Fin cfg0.N, win0_0.index t = ![win0_2.index t 0, 0] := (by decide +kernel : ∀ t : Fin grid0.N, _)
theorem i1 : ∀ t : Fin cfg0.N, win0_1.index t = ![0, win0_2.index t 1] := (by decide +kernel : ∀ t : Fin grid0.N, _)

theorem array : (dats m 0 c).arrAt 2 cfg0.N = nn (M := 2048) (K := 2048) (N := 2048) (m ((c : Thread nD τ).loc main_arg0)) (m ((c : Thread nD τ).loc main_arg1)) := by
  refine (dats m 0 c).arrAt_eq_of_covers 2 _ (by decide +kernel) fun t hf y => ?_
  blk_simp
  rw [after0_2]
  rw [pay]
  refine nn_block _ _ (fun k => ?_) (fun k => ?_)
  · blk_ext [iblk, V, i0]
  · blk_ext [iblk, V, i1]

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = nn (M := 2048) (K := 2048) (N := 2048) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Value.run_blocks m ρ)

end Cert.Kernel14Ideal.Products

namespace Cert.Reference14Ideal.Products

open Idealize.ShloMosaic Idealize.ShloMosaic.TcCoe Idealize.ShloMosaic.Tactic
open Idealize.SL.Sem
open Cert.Reference14Ideal Cert.Reference14Ideal.Gen Cert.Prod

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = nn (M := 2048) (K := 2048) (N := 2048) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (Cert.Reference6Ideal.Products.nn_1 _ _), (h c).2⟩) (Value.run m ρ)

end Cert.Reference14Ideal.Products

end
-- ==== Proof.Products.Out.lean ====
/- The output projection: the call's product is the reference's. -/
module

public import proofs.«01_k».proof.Proof.Gen.Kernel15Ideal.Value
public import proofs.«01_k».proof.Proof.Gen.Reference15Ideal.Run
public import proofs.«01_k».proof.Proof.Products.Ref
public import Idealize.ShloMosaic.Lib.Pipeline.ValueKit

@[expose] public section

set_option maxRecDepth 16384

noncomputable section

namespace Cert.Kernel15Ideal.Products

open Idealize.ShloMosaic Idealize.ShloMosaic.TcCoe Idealize.ShloMosaic.Tactic
open Idealize.SL.Sem
open Cert.Kernel15Ideal Cert.Kernel15Ideal.Gen Cert.Prod

theorem pay (X : Vec Ideal S1024x2048 .bf16) (Y : Vec Ideal S2048x1024 .bf16) (j : S1024x1024.Idx) : (out0_2 X Y j : EReal) = nn (M := 1024) (K := 2048) (N := 1024) X Y j := by
  frame_out
  unfold k0_pay1 nn
  pointwise

variable (m : (ℓ : Loc nD τ sig) → Buf (Elt Ideal) ℓ) (c : Dev nD)

theorem i0 : ∀ t : Fin cfg0.N, win0_0.index t = ![win0_2.index t 0, 0] := (by decide +kernel : ∀ t : Fin grid0.N, _)
theorem i1 : ∀ t : Fin cfg0.N, win0_1.index t = ![0, win0_2.index t 1] := (by decide +kernel : ∀ t : Fin grid0.N, _)

theorem array : (dats m 0 c).arrAt 2 cfg0.N = nn (M := 2048) (K := 2048) (N := 2048) (m ((c : Thread nD τ).loc main_arg0)) (m ((c : Thread nD τ).loc main_arg1)) := by
  refine (dats m 0 c).arrAt_eq_of_covers 2 _ (by decide +kernel) fun t hf y => ?_
  blk_simp
  rw [after0_2]
  rw [pay]
  refine nn_block _ _ (fun k => ?_) (fun k => ?_)
  · blk_ext [iblk, V, i0]
  · blk_ext [iblk, V, i1]

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = nn (M := 2048) (K := 2048) (N := 2048) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array m c), (h c).2⟩) (Value.run_blocks m ρ)

end Cert.Kernel15Ideal.Products

namespace Cert.Reference15Ideal.Products

open Idealize.ShloMosaic Idealize.ShloMosaic.TcCoe Idealize.ShloMosaic.Tactic
open Idealize.SL.Sem
open Cert.Reference15Ideal Cert.Reference15Ideal.Gen Cert.Prod

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = nn (M := 2048) (K := 2048) (N := 2048) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (Cert.Reference6Ideal.Products.nn_1 _ _), (h c).2⟩) (Value.run m ρ)

end Cert.Reference15Ideal.Products

end
-- ==== Proof.Gates.Claims.lean ====
/- The gates' claims, and those of the two remaining projections: each program's results and its reference's are the same arrays. -/
module

public import proofs.«01_k».proof.Defs
public import proofs.«01_k».proof.Proof.Gates.MergeAttention
public import proofs.«01_k».proof.Proof.Gates.MergeRecurrence
public import proofs.«01_k».proof.Proof.Gates.Recurrence
public import proofs.«01_k».proof.Proof.Gates.Reference
public import proofs.«01_k».proof.Proof.Gates.Forward
public import proofs.«01_k».proof.Proof.Products.RecurrenceOut
public import proofs.«01_k».proof.Proof.Products.Out
public import proofs.«01_k».proof.Proof.Attention.Claims
public import proofs.«01_k».proof.Proof.Gen.Pre_finite13

@[expose] public section

set_option maxRecDepth 16384

noncomputable section

namespace Cert.Proof

open Idealize.ShloMosaic Idealize.ShloMosaic.TcCoe Idealize.ShloMosaic.Tactic
open Idealize.SL.Sem
open Cert.Attn (exists_ix2 RealM)
open Cert.Gate (latent)

/-! ## The merge's two gates -/

theorem frame_reference11 : Cert.quiescent_Reference11Ideal := fun m ρ _ =>
  (θ_run Cert.Reference11Ideal.defs _ _).mono (fun r h => ⟨fun c => (h c).2.2, sem_eq_zero_of_no_sems (by decide) r.2⟩) (Cert.Reference11Ideal.Gate.run m ρ)

theorem algebraic11 : Cert.algebraic_Kernel11Ideal_Reference11Ideal := fun m ρ m' ρ' _ hag =>
  ⟨_, _, Cert.Kernel11Ideal.Gate.run m ρ,
   (θ_run Cert.Reference11Ideal.defs _ _).mono (fun _ h c => by
      have := h c
      rw [(hag c).1, (hag c).2.1, (hag c).2.2.1, (hag c).2.2.2] at this
      rw [(hag c).1, (hag c).2.1, (hag c).2.2.1, (hag c).2.2.2]
      exact this) (Cert.Reference11Ideal.Gate.run m' ρ')⟩

theorem frame_reference12 : Cert.quiescent_Reference12Ideal := fun m ρ _ =>
  (θ_run Cert.Reference12Ideal.defs _ _).mono (fun r h => ⟨fun c => (h c).2.2, sem_eq_zero_of_no_sems (by decide) r.2⟩) (Cert.Reference12Ideal.Gate.run m ρ)

theorem algebraic12 : Cert.algebraic_Kernel12Ideal_Reference12Ideal := fun m ρ m' ρ' _ hag =>
  ⟨_, _, Cert.Kernel12Ideal.Gate.run m ρ,
   (θ_run Cert.Reference12Ideal.defs _ _).mono (fun _ h c => by
      have := h c
      rw [(hag c).1, (hag c).2.1, (hag c).2.2.1, (hag c).2.2.2] at this
      rw [(hag c).1, (hag c).2.1, (hag c).2.2.1, (hag c).2.2.2]
      exact this) (Cert.Reference12Ideal.Gate.run m' ρ')⟩

/-! ## The recurrent branch's gate -/

section
variable (D : FVec Ideal Cert.Pre_finite13.S2048x2048 .f32) (A B : FVec Ideal Cert.Pre_finite13.S2304x2048 .f32) (Z : FVec Ideal Cert.Pre_finite13.S2304x11264 .f32)
  (G : FVec Ideal Cert.Pre_finite13.S2304x11264 .bf16)

/-- A state whose latent rows are finite has real latent rows. -/
theorem real_latent (H : FVec Ideal Cert.Pre_finite13.S2304x2048 .f32) (b : FVec Ideal Cert.Pre_finite13.S2048x2048 .f32) (hb : ∀ i, b i = Ideal.ofBits .f32 0x7F800000#32)
    (h : cmpf .olt (Host.absf (extractStridedSlice Cert.Pre_finite13.S2048x2048 ![256, 0] H Cert.Pre_finite13.Facts.slices_S2304x2048_S2048x2048_256_0)) b = fun _ => 1#1) :
    RealM (m := 2048) (n := 2048) (latent H) := fun i => by
  have e := real_of_finite _ _ hb h i
  have w : extractStridedSlice Cert.Pre_finite13.S2048x2048 ![256, 0] H Cert.Pre_finite13.Facts.slices_S2304x2048_S2048x2048_256_0 i = latent H i := by
    obtain ⟨r, d, rfl⟩ := exists_ix2 i
    unfold latent
    pointwise
  rw [← w]
  exact e

theorem finite_cotangent13 (h : (Cert.Pre_finite13.fn (F := Ideal) D A B Z G).1 = fun _ => 1#1) : RealM (m := 2048) (n := 2048) D := fun i =>
  real_of_finite _ _ (fun i => rfl) h i
theorem finite_forward13 (h : (Cert.Pre_finite13.fn (F := Ideal) D A B Z G).2.1 = fun _ => 1#1) : RealM (m := 2048) (n := 2048) (latent A) :=
  real_latent A _ (fun i => rfl) h
theorem finite_backward13 (h : (Cert.Pre_finite13.fn (F := Ideal) D A B Z G).2.2 = fun _ => 1#1) : RealM (m := 2048) (n := 2048) (latent B) :=
  real_latent B _ (fun i => rfl) h
end

theorem preserves13 : Cert.preserves_Kernel13_Kernel13Ideal :=
  ⟨IdealRules.named_const.statement _ _ _ _ _ rfl, IdealRules.named_const.statement _ _ _ _ _ rfl, IdealRules.named_const.statement _ _ _ _ _ rfl⟩

theorem algebraic13 : Cert.algebraic_Kernel13Ideal_Reference13Ideal_pre_finite13 := fun m ρ m' ρ' hp hag =>
  have hd := fun c => finite_cotangent13 _ _ _ _ _ (hp c).1
  have ha := fun c => finite_forward13 _ _ _ _ _ (hp c).2.1
  have hb := fun c => finite_backward13 _ _ _ _ _ (hp c).2.2
  ⟨_, _, Cert.Kernel13Ideal.Gate.run m ρ,
   (θ_run Cert.Reference13Ideal.defs _ _).mono (fun _ h c => by
      have := h c
      rw [(hag c).1, (hag c).2.1, (hag c).2.2.1, (hag c).2.2.2.1, (hag c).2.2.2.2] at this
      rw [(hag c).1, (hag c).2.1, (hag c).2.2.1, (hag c).2.2.2.1, (hag c).2.2.2.2]
      exact this)
    (Cert.Reference13Ideal.Gate.run m' ρ' (fun c => by rw [(hag c).1]; exact hd c) (fun c => by rw [(hag c).2.1]; exact ha c) (fun c => by rw [(hag c).2.2.1]; exact hb c))⟩

/-! ## The gates, forward -/

theorem preserves16 : Cert.preserves_Kernel16_Kernel16Ideal :=
  ⟨IdealRules.named_const.statement _ _ _ _ _ rfl, IdealRules.named_const.statement _ _ _ _ _ rfl⟩

theorem algebraic16 : Cert.algebraic_Kernel16Ideal_Reference16Ideal := fun m ρ m' ρ' _ hag =>
  ⟨_, Cert.Kernel16Ideal.Gate.run m ρ,
   (θ_run Cert.Reference16Ideal.defs _ _).mono (fun _ h c => by
      have := h c
      rw [(hag c).1, (hag c).2.1, (hag c).2.2] at this
      rw [(hag c).1, (hag c).2.1, (hag c).2.2]
      exact this) (Cert.Reference16Ideal.Gate.run m' ρ')⟩

theorem frame_reference17 : Cert.quiescent_Reference17Ideal := fun m ρ _ =>
  (θ_run Cert.Reference17Ideal.defs _ _).mono (fun r h => ⟨fun c => (h c).2, sem_eq_zero_of_no_sems (by decide) r.2⟩) (Cert.Reference17Ideal.Gate.run m ρ)

theorem algebraic17 : Cert.algebraic_Kernel17Ideal_Reference17Ideal := fun m ρ m' ρ' _ hag =>
  ⟨_, Cert.Kernel17Ideal.Gate.run m ρ,
   (θ_run Cert.Reference17Ideal.defs _ _).mono (fun _ h c => by
      have := h c
      rw [(hag c).1, (hag c).2.1, (hag c).2.2] at this
      rw [(hag c).1, (hag c).2.1, (hag c).2.2]
      exact this) (Cert.Reference17Ideal.Gate.run m' ρ')⟩

/-! ## The remaining projections -/

theorem frame_reference14 : Cert.quiescent_Reference14Ideal := fun m ρ _ =>
  (θ_run Cert.Reference14Ideal.defs _ _).mono (fun r h => ⟨fun c => (h c).2, sem_eq_zero_of_no_sems (by decide) r.2⟩) (Cert.Reference14Ideal.Products.run m ρ)

theorem algebraic14 : Cert.algebraic_Kernel14Ideal_Reference14Ideal := fun m ρ m' ρ' _ hag =>
  ⟨_, Cert.Kernel14Ideal.Products.run m ρ,
   (θ_run Cert.Reference14Ideal.defs _ _).mono (fun _ h c => by
      have := h c
      rw [(hag c).1, (hag c).2] at this
      rw [(hag c).1, (hag c).2]
      exact this) (Cert.Reference14Ideal.Products.run m' ρ')⟩

theorem frame_reference15 : Cert.quiescent_Reference15Ideal := fun m ρ _ =>
  (θ_run Cert.Reference15Ideal.defs _ _).mono (fun r h => ⟨fun c => (h c).2, sem_eq_zero_of_no_sems (by decide) r.2⟩) (Cert.Reference15Ideal.Products.run m ρ)

theorem algebraic15 : Cert.algebraic_Kernel15Ideal_Reference15Ideal := fun m ρ m' ρ' _ hag =>
  ⟨_, Cert.Kernel15Ideal.Products.run m ρ,
   (θ_run Cert.Reference15Ideal.defs _ _).mono (fun _ h c => by
      have := h c
      rw [(hag c).1, (hag c).2] at this
      rw [(hag c).1, (hag c).2]
      exact this) (Cert.Reference15Ideal.Products.run m' ρ')⟩

end Cert.Proof

end
-- ==== Proof.Norm.Math.lean ====
/- The gradients of the modulated norm as mathematics, over arrays of any number of rows: a block's are the whole arrays' at its rows. -/
module

public import proofs.«01_k».proof.Proof.Attention.Arrays
public import proofs.«01_k».proof.Proof.Attention.Math
public import Idealize.ShloMosaic.Lib.Pipeline.ValueKit
public import Idealize.ShloMosaic.Lib.Pipeline.Value
public import Idealize.ShloMosaic.Lib.Pointwise

@[expose] public section

noncomputable section

namespace Cert.Norm

open Idealize.ShloMosaic

/-- The arrays of `n` rows. -/
abbrev Rows (n : ℕ) : Shape := ⟨2, ![n, 2048]⟩

/-- The number of columns, and what is added to a row's mean square: the words that both programs hold. -/
abbrev wide : EReal := Ideal.ofBits .f32 0x45000000#32
abbrev eps : EReal := Ideal.ofBits .f32 0x358637BD#32

section
variable {n : ℕ} (X D E W : (Rows n).Idx → EReal) (G : (Rows 1).Idx → EReal) (M : (Rows 3).Idx → EReal)

/-- A row's mean square, … -/
def power (r : Fin n) : EReal := Ideal.div (∑ k, X (ix2 r k) * X (ix2 r k)) wide + eps

/-- … what its entries are multiplied by, … -/
def rate (r : Fin n) : EReal := Ideal.rsqrt (power X r)

/-- … and the normed entries. -/
def unit (r : Fin n) (k : Fin 2048) : EReal := X (ix2 r k) * rate X r

/-- The cotangent of the normed entries. -/
def tilt (r : Fin n) (k : Fin 2048) : EReal := D (ix2 r k) * (1 + M (ix2 2 k)) * G (ix2 0 k)

/-- The gradient by the norm's input, added to the residual's cotangent `E`. -/
def dx (r : Fin n) (k : Fin 2048) : EReal :=
  E (ix2 r k) + rate X r * (tilt D G M r k - unit X r k * Ideal.div (∑ j, tilt D G M r j * unit X r j) wide)

/-- What a row adds to the gradients by the shift, the scale, the norm's gain and the residual's gate. -/
def share (k : ℕ) (r : Fin n) (c : Fin 2048) : EReal :=
  match k with
  | 0 => D (ix2 r c)
  | 1 => D (ix2 r c) * unit X r c * G (ix2 0 c)
  | 2 => D (ix2 r c) * (1 + M (ix2 2 c)) * unit X r c
  | 3 => dx X D E G M r c * W (ix2 r c)
  | _ => 0

/-! The three results: the gradient by the norm's input, what of it passes to the branch through its gate, and the sums. -/

def dxs : (Rows n).Idx → EReal := fun i => dx X D E G M (i 0) (i 1)
def dmixes : (Rows n).Idx → EReal := fun i => dx X D E G M (i 0) (i 1) * M (ix2 0 (i 1))
def sums : (Rows 8).Idx → EReal := fun i => ∑ r, share X D E W G M (i 0).val r (i 1)

end

/-- The 256 rows that start at row `256 t`. -/
def cut (t : Fin 8) (X : (Rows 2048).Idx → EReal) : (Rows 256).Idx → EReal := fun y =>
  have h0 : (y 0).val < 256 := (y 0).2
  X (ix2 ⟨256 * t.val + (y 0).val, by omega⟩ (y 1))

/-- Row `r` of them. -/
def row (t : Fin 8) (r : Fin 256) : Fin 2048 := ⟨256 * t.val + r.val, by omega⟩

section
variable (t : Fin 8) (X D E W : (Rows 2048).Idx → EReal) (G : (Rows 1).Idx → EReal) (M : (Rows 3).Idx → EReal)

theorem dx_cut (r : Fin 256) (k : Fin 2048) : dx (cut t X) (cut t D) (cut t E) G M r k = dx X D E G M (row t r) k := rfl

theorem share_cut (k : ℕ) (r : Fin 256) (c : Fin 2048) : share (cut t X) (cut t D) (cut t E) (cut t W) G M k r c = share X D E W G M k (row t r) c := by
  unfold share
  split <;> rfl

end

/-- A sum over all rows, block by block. -/
theorem sum_rows (f : Fin 2048 → EReal) : ∑ t : Fin 8, ∑ r : Fin 256, f (row t r) = ∑ r, f r := by
  rw [← Fintype.sum_prod_type']
  refine Fintype.sum_equiv (finProdFinEquiv (m := 8) (n := 256)) _ _ fun p => congrArg f (Fin.ext ?_)
  show 256 * p.1.val + p.2.val = p.2.val + 256 * p.1.val
  omega

/-! ## The gradient as differentiation leaves it -/

theorem wide_eq : wide = ((2048 : ℝ) : EReal) := by
  simp only [Ideal.ofBits, Ideal.ieee]
  simp
  rw [← EReal.coe_mul]
  norm_num

theorem eps_eq : ∃ e : ℝ, 0 < e ∧ eps = (e : EReal) := by
  refine ⟨8796093 * 2 ^ (-43 : ℤ), by positivity, ?_⟩
  simp only [Ideal.ofBits, Ideal.ieee]
  simp

theorem half_eq : Ideal.ofBits .f32 0xBF000000#32 = ((-1 / 2 : ℝ) : EReal) := by
  simp only [Ideal.ofBits, Ideal.ieee]
  simp
  rw [← EReal.coe_mul]
  norm_num

section
variable {n : ℕ} (X D E : (Rows n).Idx → EReal) (G : (Rows 1).Idx → EReal) (M : (Rows 3).Idx → EReal)

/-- The cotangent of a row's entries through its mean square, by entry: half the gradient's second term. -/
def pull (r : Fin n) : EReal :=
  Ideal.div ((∑ j, X (ix2 r j) * tilt D G M r j) * (Ideal.ofBits .f32 0xBF000000#32 * Ideal.div (rate X r) (power X r))) wide

/-- A real factor that isn't negative, taken out of a sum of any values. -/
theorem sum_mul_real {ι : Type} (s : Finset ι) (f : ι → EReal) {q : ℝ} (hq : 0 ≤ q) : ∑ j ∈ s, f j * (q : EReal) = (∑ j ∈ s, f j) * (q : EReal) := by
  classical
  induction s using Finset.induction_on with
  | empty => rw [Finset.sum_empty, Finset.sum_empty, zero_mul]
  | insert j s hj ih =>
    rw [Finset.sum_insert hj, Finset.sum_insert hj, ih, EReal.right_distrib_of_nonneg_of_ne_top (EReal.coe_nonneg.mpr hq) (EReal.coe_ne_top q)]

theorem twice (z : EReal) : z + z = ((2 : ℝ) : EReal) * z := by
  have h := EReal.right_distrib_of_nonneg (a := 1) (b := 1) (c := z) zero_le_one zero_le_one
  rw [one_mul] at h
  rw [← h]
  congr 1
  norm_cast

/-- A row's mean square is positive: an infinity, or a real whose reciprocal root's cube is the root over it. -/
theorem rate_cases (r : Fin n) : (power X r = ⊤ ∧ rate X r = 0)
    ∨ ∃ v q : ℝ, v ≠ 0 ∧ 0 ≤ q ∧ q / v = q ^ 3 ∧ power X r = (v : EReal) ∧ rate X r = (q : EReal) := by
  obtain ⟨e, he, ee⟩ := eps_eq
  have hs : 0 ≤ ∑ k, X (ix2 r k) * X (ix2 r k) := Finset.sum_nonneg fun k _ => by
    rcases le_total 0 (X (ix2 r k)) with h | h
    · exact mul_nonneg h h
    · exact EReal.mul_nonneg_iff.mpr (Or.inr ⟨h, h⟩)
  unfold rate power
  generalize ∑ k, X (ix2 r k) * X (ix2 r k) = s at hs
  rw [wide_eq, ee, Ideal.div_coe (by norm_num)]
  induction s using EReal.rec with
  | bot => exact absurd hs (by decide)
  | top =>
    left
    rw [EReal.top_mul_coe_of_pos (by norm_num), EReal.top_add_coe]
    exact ⟨rfl, rfl⟩
  | coe p =>
    right
    have hv : 0 < p * (1 / 2048) + e := add_pos_of_nonneg_of_pos (mul_nonneg (EReal.coe_nonneg.mp hs) (by norm_num)) he
    refine ⟨p * (1 / 2048) + e, (Real.sqrt (p * (1 / 2048) + e))⁻¹, hv.ne', inv_nonneg.mpr (Real.sqrt_nonneg _), ?_, by rw [EReal.coe_add, EReal.coe_mul], ?_⟩
    · generalize p * (1 / 2048) + e = v at hv
      have h := Real.sq_sqrt hv.le
      have h0 := (Real.sqrt_pos.mpr hv).ne'
      rw [inv_pow, div_eq_iff hv.ne', eq_comm]
      nth_rw 2 [← h]
      field_simp
    · rw [← EReal.coe_mul, ← EReal.coe_add, Ideal.rsqrt_coe, if_neg hv.not_gt, if_neg hv.ne']

/-- The derivative of the reciprocal root is its cube's: the two forms of the gradient are one, whatever the arrays hold. -/
theorem dx_eq (r : Fin n) (k : Fin 2048) :
    E (ix2 r k) + tilt D G M r k * rate X r + X (ix2 r k) * pull X D G M r + pull X D G M r * X (ix2 r k) = dx X D E G M r k := by
  unfold dx unit pull
  rcases rate_cases X r with ⟨hp, hr⟩ | ⟨v, q, hv, h0, hq, ev, eq⟩
  · have e : Ideal.div 0 ⊤ = 0 := by simp [Ideal.div]
    rw [hp, hr, e, wide_eq, Ideal.div_coe (by norm_num)]
    simp only [mul_zero, zero_mul, add_zero]
  · have es : ∑ j, tilt D G M r j * (X (ix2 r j) * (q : EReal)) = (∑ j, X (ix2 r j) * tilt D G M r j) * (q : EReal) := by
      rw [← sum_mul_real _ _ h0]
      exact Finset.sum_congr rfl fun j _ => by rw [← mul_assoc, mul_comm (tilt D G M r j)]
    rw [ev, eq, es, wide_eq, half_eq, Cert.Attn.div_coe_coe hv, hq, Ideal.div_coe (by norm_num), Ideal.div_coe (by norm_num)]
    generalize ∑ j, X (ix2 r j) * tilt D G M r j = s
    generalize X (ix2 r k) = x
    generalize tilt D G M r k = t
    rw [add_assoc, add_assoc, mul_comm _ x, twice, sub_eq_add_neg, EReal.left_distrib_of_nonneg_of_ne_top (EReal.coe_nonneg.mpr h0) (EReal.coe_ne_top q), mul_comm t]
    refine congrArg (fun z => E (ix2 r k) + ((q : EReal) * t + z)) ?_
    have e1 : ((2 : ℝ) : EReal) * (x * (s * (((-1 / 2 : ℝ) : EReal) * ((q ^ 3 : ℝ) : EReal)) * ((1 / 2048 : ℝ) : EReal)))
        = x * s * (((2 : ℝ) : EReal) * (((-1 / 2 : ℝ) : EReal) * ((q ^ 3 : ℝ) : EReal)) * ((1 / 2048 : ℝ) : EReal)) := by
      ac_rfl
    have e2 : (q : EReal) * -(x * (q : EReal) * (s * (q : EReal) * ((1 / 2048 : ℝ) : EReal))) = x * s * -((q : EReal) * (q : EReal) * (q : EReal) * ((1 / 2048 : ℝ) : EReal)) := by
      rw [mul_neg, mul_neg]
      refine congrArg (- ·) ?_
      ac_rfl
    rw [e1, e2]
    simp only [← EReal.coe_mul, ← EReal.coe_neg]
    exact congrArg (fun z : ℝ => x * s * (z : EReal)) (by ring)

end

end Cert.Norm

end
-- ==== Proof.Norm.Lines.lean ====
/- Blocks of eight rows that are stored and loaded row by row. -/
module

public import proofs.«01_k».proof.Proof.Norm.Math
public import Idealize.ShloMosaic.Lib.WritesUnit

@[expose] public section

set_option maxRecDepth 16384

noncomputable section

namespace Cert.Norm

open Idealize.ShloMosaic Idealize.ShloMosaic.TcCoe Idealize.ShloMosaic.Tactic

section Lines
variable {sig : RefSig} (k : ℕ) (w : Vec Ideal (Rows 1) .f32) (A : Vec Ideal (Rows 8) .f32)

/-- The block with row `k` replaced. -/
def store : Vec Ideal (Rows 8) .f32 := fun y => if (y 0).val = k then w (ix2 0 (y 1)) else A y

/-- Row `k`. -/
def line (hk : k < 8) : Vec Ideal (Rows 1) .f32 := fun j => A (ix2 ⟨k, hk⟩ (j 1))

theorem line_load (hk : k < 8) (inb : ∀ a, ![k, 0] a + ![1, 2048] a ≤ (Rows 8).size a) :
    View.ld (Val := Elt Ideal) (e' := .f32) A (Rect.unit (s := Rows 8) ![k, 0] ![1, 2048] inb) = line k A hk := by
  funext j
  refine View.ld_unit_apply_of A _ _ _ j _ fun a => ?_
  match a with
  | 0 =>
    have : (j 0).val < 1 := (j 0).2
    show k = k + (j 0).val
    omega
  | 1 => exact (Nat.zero_add _).symm

variable (inb : ∀ a, ![k, 0] a + ![1, 2048] a ≤ (Rows 8).size a)

/-- An index is on row `k`'s rectangle at the column it has, … -/
theorem emb_line (y : (Rows 8).Idx) (h : (y 0).val = k) : (Rect.unit (s := Rows 8) ![k, 0] ![1, 2048] inb).emb (ix2 0 (y 1)) = y := funext fun a => Fin.ext (by
  refine (Rect.idx_unit_val _ _ _ _ a).trans ?_
  match a with
  | 0 => exact h.symm
  | 1 => exact Nat.zero_add _)

/-- … or off it. -/
theorem off_line (y : (Rows 8).Idx) (h : (y 0).val ≠ k) : y ∉ (Rect.unit (s := Rows 8) ![k, 0] ![1, 2048] inb).set := by
  rw [Rect.mem_set_unit]
  intro hy
  have h0 : k ≤ (y 0).val ∧ (y 0).val < k + 1 := hy 0
  omega

theorem canon_store (L : List (View.Piece (Elt Ideal) (Rows 8) .f32)) :
    View.canon (Val := Elt Ideal) (s := Rows 8) (e := .f32) (⟨Rect.unit ![k, 0] ![1, 2048] inb, w⟩ :: L) = store k w (View.canon L) := by
  funext y
  unfold store
  split
  · rename_i h
    have e := View.canon_cons_emb (Val := Elt Ideal) (s := Rows 8) (e := .f32) (Rect.unit (s := Rows 8) ![k, 0] ![1, 2048] inb) w L (ix2 0 (y 1))
    rwa [emb_line k inb y h] at e
  · rename_i h
    exact View.canon_cons_of_not_mem _ _ (off_line k inb y h)

theorem read_store (v : View sig .tc .vmem (Rows 8) .f32) (f : v.ty.Contents (Elt Ideal)) (L : List (View.Piece (Elt Ideal) (Rows 8) .f32)) :
    v.read (Elt Ideal) (v.writes (Elt Ideal) f (⟨Rect.unit ![k, 0] ![1, 2048] inb, w⟩ :: L)) = store k w (v.read (Elt Ideal) (v.writes (Elt Ideal) f L)) := by
  funext y
  unfold store
  split
  · rename_i h
    refine View.read_writes_cons_rows_of_mem v f (o := k) inb w L y (ix2 0 (y 1)) rfl ?_ rfl
    exact h
  · rename_i h
    exact View.read_writes_cons_rows_of_not_mem v f (o := k) (W := 1) inb w L y rfl rfl (by omega)

theorem readCov_line (hk : k < 8) (v : View sig .tc .vmem (Rows 8) .f32) (L : List (View.Piece (Elt Ideal) (Rows 8) .f32)) :
    v.readCov L (Rect.unit (s := Rows 8) ![k, 0] ![1, 2048] inb).toLoadRect = line k (View.canon L) hk := by
  rw [View.readCov_eq_canon', ← line_load k _ hk inb]

theorem line_store_of_ne {k' : ℕ} (hk : k < 8) (h : k ≠ k') : line k (store k' w A) hk = line k A hk := by
  funext j
  exact if_neg h

end Lines

end Cert.Norm

end
-- ==== Proof.Norm.Point.lean ====
/- One grid point of the norm's backward call. -/
module

public import proofs.«01_k».proof.Proof.Gen.Kernel18Ideal.Value
public import proofs.«01_k».proof.Proof.Norm.Math
public import proofs.«01_k».proof.Proof.Norm.Lines

@[expose] public section

set_option maxRecDepth 16384

noncomputable section

namespace Cert.Kernel18Ideal.Norm

open Idealize.ShloMosaic Idealize.ShloMosaic.TcCoe Idealize.ShloMosaic.Tactic
open Idealize.SL.Sem
open Cert.Kernel18Ideal Cert.Kernel18Ideal.Gen Cert.Norm
open Cert.Attn (exists_ix2)

section Payloads
variable (X D E W : Vec Ideal S256x2048 .f32) (G : Vec Ideal S1x2048 .f32) (S : Vec Ideal S1x2048 .f32) (M : Vec Ideal S3x2048 .f32)

theorem pay_rate (r : Fin 256) : k0_pay3 (F := Ideal) X (ix2 r 0) = rate (n := 256) X r := by
  unfold k0_pay3 rate power
  pointwise

theorem pay_unit (r : Fin 256) (k : Fin 2048) : k0_pay4 (F := Ideal) X (ix2 r k) = unit (n := 256) X r k := by
  unfold k0_pay4
  pointwise
  rw [pay_rate]
  rfl

theorem pay_dx (hS : ∀ k, S (ix2 0 k) = M (ix2 2 k)) (r : Fin 256) (k : Fin 2048) : k0_pay5 (F := Ideal) X D G S E (ix2 r k) = dx (n := 256) X D E G M r k := by
  unfold k0_pay5
  pointwise
  simp only [pay_rate, pay_unit, hS]
  rfl

/-! The sums' rows: each is a row of the block before, and the column sums of what the call sums. -/

theorem pay_shift (P : Vec Ideal S1x2048 .f32) (k : Fin 2048) : k0_pay8 (F := Ideal) D P (ix2 0 k) = P (ix2 0 k) + ∑ r : Fin 256, D (ix2 r k) := by
  unfold k0_pay8
  pointwise

theorem pay_gain (P : Vec Ideal S1x2048 .f32) (k : Fin 2048) :
    k0_pay9 (F := Ideal) D X G P (ix2 0 k) = P (ix2 0 k) + ∑ r : Fin 256, D (ix2 r k) * X (ix2 r k) * G (ix2 0 k) := by
  unfold k0_pay9
  pointwise

theorem pay_scale (P : Vec Ideal S1x2048 .f32) (k : Fin 2048) :
    k0_pay10 (F := Ideal) D X S P (ix2 0 k) = P (ix2 0 k) + ∑ r : Fin 256, D (ix2 r k) * (1 + S (ix2 0 k)) * X (ix2 r k) := by
  unfold k0_pay10
  pointwise

theorem pay_gate (P : Vec Ideal S1x2048 .f32) (k : Fin 2048) :
    k0_pay1 (F := Ideal) (k0_pay7 (F := Ideal) D W) P (ix2 0 k) = P (ix2 0 k) + ∑ r : Fin 256, D (ix2 r k) * W (ix2 r k) := by
  unfold k0_pay1 k0_pay7
  pointwise

theorem pay_dmix (r : Fin 256) (k : Fin 2048) : k0_pay6 (F := Ideal) D S (ix2 r k) = D (ix2 r k) * S (ix2 0 k) := by
  unfold k0_pay6
  pointwise

end Payloads

/-! ## The block of the sums -/

section Block
variable (X D E W : Vec Ideal S256x2048 .f32) (G : Vec Ideal S1x2048 .f32) (M : Vec Ideal S3x2048 .f32) (P : Vec Ideal S8x2048 .f32)
  (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1x2048 .f32) (harg5 : arg5.IsWhole) (arg6 : Memref sig .tc .vmem S3x2048 .f32) (harg6 : arg6.IsWhole) (arg7 : Memref sig .tc .vmem S256x2048 .f32) (harg7 : arg7.IsWhole) (arg8 : Memref sig .tc .vmem S256x2048 .bf16) (harg8 : arg8.IsWhole) (arg9 : Memref sig .tc .vmem S8x2048 .f32) (harg9 : arg9.IsWhole)

theorem load_scale (inb : ∀ a, ![2, 0] a + ![1, 2048] a ≤ S3x2048.size a) (k : Fin 2048) :
    View.ld (Val := Elt Ideal) (e' := .f32) M (Rect.unit (s := S3x2048) ![2, 0] ![1, 2048] inb) (ix2 0 k) = M (ix2 2 k) := by
  refine View.ld_unit_apply_of M _ _ _ _ _ fun a => ?_
  match a with
  | 0 => rfl
  | 1 => exact (Nat.zero_add _).symm

theorem load_gate (inb : ∀ a, ![0, 0] a + ![1, 2048] a ≤ S3x2048.size a) (k : Fin 2048) :
    View.ld (Val := Elt Ideal) (e' := .f32) M (Rect.unit (s := S3x2048) ![0, 0] ![1, 2048] inb) (ix2 0 k) = M (ix2 0 k) := by
  refine View.ld_unit_apply_of M _ _ _ _ _ fun a => ?_
  match a with
  | 0 => rfl
  | 1 => exact (Nat.zero_add _).symm

/-- The sums' block after the four rows' stores, from what it held before. -/
def summed (S : Vec Ideal S1x2048 .f32) : Vec Ideal S8x2048 .f32 :=
  store 3 (k0_pay1 (F := Ideal) (k0_pay7 (F := Ideal) (k0_pay5 (F := Ideal) X D G S E) W) (line 3 P (by omega)))
    (store 2 (k0_pay10 (F := Ideal) D (k0_pay4 (F := Ideal) X) S (line 2 P (by omega)))
      (store 1 (k0_pay9 (F := Ideal) D (k0_pay4 (F := Ideal) X) G (line 1 P (by omega)))
        (store 0 (k0_pay8 (F := Ideal) D (line 0 P (by omega))) P)))

theorem summed_at (S : Vec Ideal S1x2048 .f32) (hS : ∀ k, S (ix2 0 k) = M (ix2 2 k)) (y : S8x2048.Idx) :
    summed X D E W G P S y = P y + ∑ r, share (n := 256) X D E W G M (y 0).val r (y 1) := by
  obtain ⟨k, j, rfl⟩ := exists_ix2 y
  show summed X D E W G P S (ix2 k j) = P (ix2 k j) + ∑ r, share (n := 256) X D E W G M k.val r j
  unfold summed
  match k with
  | 0 => exact pay_shift D _ j
  | 1 =>
    refine (pay_gain _ D G _ j).trans ?_
    simp only [pay_unit]
    rfl
  | 2 =>
    refine (pay_scale _ D S _ j).trans ?_
    simp only [pay_unit, hS]
    rfl
  | 3 =>
    refine (pay_gate _ W _ j).trans ?_
    simp only [pay_dx X D E G S M hS]
    rfl
  | ⟨n + 4, h⟩ =>
    have e : ∑ r : Fin 256, share (n := 256) X D E W G M (n + 4) r j = 0 := Finset.sum_eq_zero fun _ _ => rfl
    show P (ix2 ⟨n + 4, h⟩ j) = P (ix2 ⟨n + 4, h⟩ j) + ∑ r : Fin 256, share (n := 256) X D E W G M (n + 4) r j
    rw [e, add_zero]

theorem dx_A (h : cond0_0 i) (r : Fin 256) (k : Fin 2048) :
    out0_A_6 (F := Ideal) c i arg1 harg1 arg2 harg2 arg3 harg3 arg4 harg4 arg5 harg5 arg6 harg6 arg7 harg7 arg8 harg8 arg9 harg9 h X D E W G M (ix2 r k) = dx (n := 256) X D E G M r k := by
  frame_out
  exact pay_dx X D E G _ M (load_scale M _) r k

theorem dmix_A (h : cond0_0 i) (r : Fin 256) (k : Fin 2048) :
    out0_A_7 (F := Ideal) c i arg1 harg1 arg2 harg2 arg3 harg3 arg4 harg4 arg5 harg5 arg6 harg6 arg7 harg7 arg8 harg8 arg9 harg9 h X D E W G M (ix2 r k) = dx (n := 256) X D E G M r k * M (ix2 0 k) := by
  frame_out
  rw [pay_dmix, pay_dx X D E G _ M (load_scale M _), load_gate]

theorem dx_B (h : ¬cond0_0 i) (r : Fin 256) (k : Fin 2048) :
    out0_B_6 (F := Ideal) c i arg1 harg1 arg2 harg2 arg3 harg3 arg4 harg4 arg5 harg5 arg6 harg6 arg7 harg7 arg8 harg8 arg9 harg9 h X D E W G M P (ix2 r k) = dx (n := 256) X D E G M r k := by
  frame_out
  exact pay_dx X D E G _ M (load_scale M _) r k

theorem dmix_B (h : ¬cond0_0 i) (r : Fin 256) (k : Fin 2048) :
    out0_B_7 (F := Ideal) c i arg1 harg1 arg2 harg2 arg3 harg3 arg4 harg4 arg5 harg5 arg6 harg6 arg7 harg7 arg8 harg8 arg9 harg9 h X D E W G M P (ix2 r k) = dx (n := 256) X D E G M r k * M (ix2 0 k) := by
  frame_out
  rw [pay_dmix, pay_dx X D E G _ M (load_scale M _), load_gate]

theorem sums_A (h : cond0_0 i) (y : S8x2048.Idx) :
    out0_A_8 (F := Ideal) c i arg1 harg1 arg2 harg2 arg3 harg3 arg4 harg4 arg5 harg5 arg6 harg6 arg7 harg7 arg8 harg8 arg9 harg9 h X D E W G M y = ∑ r, share (n := 256) X D E W G M (y 0).val r (y 1) := by
  frame_out
  have e : summed X D E W G (k0_pay2 (F := Ideal)) _ y = _ := summed_at X D E W G M (k0_pay2 (F := Ideal)) _ (load_scale M inb_S3x2048_S1x2048_2_0) y
  rw [show k0_pay2 (F := Ideal) y = 0 from by unfold k0_pay2; pointwise, zero_add] at e
  rw [← e]
  have z : View.canon (Val := Elt Ideal) (s := S8x2048) (e := .f32) [⟨Rect.unit ![0, 0] ![8, 2048] inb_S8x2048_S8x2048_0_0, k0_pay2 (F := Ideal)⟩] = k0_pay2 (F := Ideal) :=
    View.canon_cons_unit_lit _ _ [] fun a => by fin_cases a <;> rfl
  simp only [canon_store, readCov_line 3 _ (by omega), readCov_line 2 _ (by omega), readCov_line 1 _ (by omega), readCov_line 0 _ (by omega), z]
  rw [line_store_of_ne 3 _ _ _ (by decide), line_store_of_ne 3 _ _ _ (by decide), line_store_of_ne 3 _ _ _ (by decide), line_store_of_ne 2 _ _ _ (by decide), line_store_of_ne 2 _ _ _ (by decide),
    line_store_of_ne 1 _ _ _ (by decide)]
  rfl

theorem sums_B (h : ¬cond0_0 i) (y : S8x2048.Idx) :
    out0_B_8 (F := Ideal) c i arg1 harg1 arg2 harg2 arg3 harg3 arg4 harg4 arg5 harg5 arg6 harg6 arg7 harg7 arg8 harg8 arg9 harg9 h X D E W G M P y = P y + ∑ r, share (n := 256) X D E W G M (y 0).val r (y 1) := by
  frame_out
  rw [← summed_at X D E W G M P _ (load_scale M inb_S3x2048_S1x2048_2_0) y]
  simp only [read_store, line_load 3 P (by omega), line_load 2 P (by omega), line_load 1 P (by omega), line_load 0 P (by omega)]
  rw [View.writes_nil, harg9.read_unread]
  rfl

end Block

end Cert.Kernel18Ideal.Norm

end
-- ==== Proof.Norm.Backward.lean ====
/- The norm's backward call: its three results. -/
module

public import proofs.«01_k».proof.Proof.Norm.Point

@[expose] public section

set_option maxRecDepth 16384

noncomputable section

namespace Cert.Kernel18Ideal.Norm

open Idealize.ShloMosaic Idealize.ShloMosaic.TcCoe Idealize.ShloMosaic.Tactic
open Idealize.SL.Sem
open Cert.Kernel18Ideal Cert.Kernel18Ideal.Gen Cert.Norm
open Cert.Attn (eq_ix2 exists_ix2)

section Arrays
variable (m : (ℓ : Loc nD τ sig) → Buf (Elt Ideal) ℓ) (c : Dev nD)

/-- Every grid point has its block of 256 rows; the row arrays and the sums are one block. -/
theorem index_eq : ∀ t : Fin cfg0.N, win0_0.index t = ![t.val, 0] ∧ win0_1.index t = ![t.val, 0] ∧ win0_2.index t = ![t.val, 0] ∧ win0_3.index t = ![t.val, 0] ∧ win0_4.index t = ![0, 0]
    ∧ win0_5.index t = ![0, 0] ∧ win0_6.index t = ![t.val, 0] ∧ win0_7.index t = ![t.val, 0] ∧ win0_8.index t = ![0, 0] := (by decide +kernel : ∀ t : Fin grid0.N, _)

theorem lt8 (t : Fin cfg0.N) : t.val < 8 := t.isLt

/-- A grid point's number. -/
abbrev num (t : Fin cfg0.N) : Fin 8 := ⟨t.val, lt8 t⟩

variable (X D E W : (Rows 2048).Idx → EReal) (G : (Rows 1).Idx → EReal) (M : (Rows 3).Idx → EReal)
  (hX : m ((c : Thread nD τ).loc main_arg0) = X) (hD : m ((c : Thread nD τ).loc main_arg1) = D) (hE : m ((c : Thread nD τ).loc main_arg2) = E)
  (hW : m ((c : Thread nD τ).loc main_arg3) = W) (hG : m ((c : Thread nD τ).loc main_arg4) = G) (hM : m ((c : Thread nD τ).loc main_arg5) = M)

include hX hD hE hW hG hM in
theorem blocks (t : Fin cfg0.N) : iblk m c 0 t = cut (num t) X ∧ iblk m c 1 t = cut (num t) D ∧ iblk m c 2 t = cut (num t) E ∧ iblk m c 3 t = cut (num t) W ∧ iblk m c 4 t = G ∧ iblk m c 5 t = M := by
  obtain ⟨i0, i1, i2, i3, i4, i5, -⟩ := index_eq t
  refine ⟨?_, ?_, ?_, ?_, ?_, ?_⟩
  · rw [← hX]; funext y; unfold cut; blk_ext [iblk, V, i0]
  · rw [← hD]; funext y; unfold cut; blk_ext [iblk, V, i1]
  · rw [← hE]; funext y; unfold cut; blk_ext [iblk, V, i2]
  · rw [← hW]; funext y; unfold cut; blk_ext [iblk, V, i3]
  · rw [← hG]; funext y; blk_ext [iblk, V, i4]
  · rw [← hM]; funext y; blk_ext [iblk, V, i5]

/-! What a grid point leaves. -/

include hX hD hE hW hG hM in
theorem rows_at (t : Fin cfg0.N) (r : Fin 256) (k : Fin 2048) :
    (outsAt0 m c t.val t.isLt).1 (ix2 r k) = dx X D E G M (row (num t) r) k
    ∧ (outsAt0 m c t.val t.isLt).2.1 (ix2 r k) = dx X D E G M (row (num t) r) k * M (ix2 0 k) := by
  obtain ⟨b0, b1, b2, b3, b4, b5⟩ := blocks m c X D E W G M hX hD hE hW hG hM t
  by_cases h : t.val % 8 = 0
  · have e := outsAt0_A m c t h
    rw [e, b0, b1, b2, b3, b4, b5]
    dsimp only
    rw [dx_A, dmix_A, dx_cut]
    exact ⟨rfl, rfl⟩
  · have e := outsAt0_B m c t h
    rw [e, b0, b1, b2, b3, b4, b5]
    dsimp only
    rw [dx_B, dmix_B, dx_cut]
    exact ⟨rfl, rfl⟩

/-- What block `b` adds to the sums. -/
def part (b : ℕ) (y : S8x2048.Idx) : EReal := if h : b < 8 then ∑ r, share X D E W G M (y 0).val (row ⟨b, h⟩ r) (y 1) else 0

theorem part_eq (t : Fin cfg0.N) (y : S8x2048.Idx) :
    ∑ r, share (cut (num t) X) (cut (num t) D) (cut (num t) E) (cut (num t) W) G M (y 0).val r (y 1) = part X D E W G M t.val y := by
  unfold part
  rw [dif_pos (lt8 t)]
  exact Finset.sum_congr rfl fun r _ => share_cut ..

include hX hD hE hW hG hM in
theorem sums_at (b : ℕ) (hb : b < cfg0.N) (y : S8x2048.Idx) : (outsAt0 m c b hb).2.2 y = ∑ j ∈ Finset.range (b + 1), part X D E W G M j y := by
  obtain ⟨b0, b1, b2, b3, b4, b5⟩ := blocks m c X D E W G M hX hD hE hW hG hM ⟨b, hb⟩
  induction b with
  | zero =>
    have e := outsAt0_A m c ⟨0, hb⟩ rfl
    dsimp only at e
    rw [e, b0, b1, b2, b3, b4, b5]
    dsimp only
    rw [sums_A, part_eq, zero_add, Finset.sum_range_one]
  | succ b ih =>
    have := lt8 ⟨b + 1, hb⟩
    have e := outsAt0_B m c ⟨b + 1, hb⟩ (by simp only at this ⊢; omega)
    dsimp only at e
    obtain ⟨p0, p1, p2, p3, p4, p5⟩ := blocks m c X D E W G M hX hD hE hW hG hM ⟨b, by omega⟩
    have ih := ih (by omega) p0 p1 p2 p3 p4 p5
    rw [e, b0, b1, b2, b3, b4, b5]
    dsimp only
    rw [sums_B, part_eq, Finset.sum_range_succ]
    exact congrArg (· + _) ih

theorem sum_parts (y : S8x2048.Idx) : ∑ j ∈ Finset.range 8, part X D E W G M j y = sums X D E W G M y := by
  refine Eq.trans ?_ (sum_rows fun r => share X D E W G M (y 0).val r (y 1))
  rw [Finset.sum_range]
  exact Finset.sum_congr rfl fun t _ => dif_pos t.2

/-! The arrays. -/

include hX hD hE hW hG hM in
theorem dx_array : (dats m 0 c).arrAt 6 cfg0.N = dxs X D E G M := by
  refine (dats m 0 c).arrAt_eq_of_covers 6 _ (by decide +kernel) fun t hf y => ?_
  obtain ⟨-, -, -, -, -, -, i6, -⟩ := index_eq t
  blk_simp
  obtain ⟨r, k, rfl⟩ := exists_ix2 y
  rw [after0_6, (rows_at m c X D E W G M hX hD hE hW hG hM t r k).1]
  refine congrArg (dxs X D E G M) (eq_ix2 _ (row (num t) r) k ?_ ?_).symm
  · show _ = 256 * t.val + r.val
    blk_simp [i6]
    omega
  · blk_simp [i6]

include hX hD hE hW hG hM in
theorem dmix_array : (dats m 0 c).arrAt 7 cfg0.N = dmixes X D E G M := by
  refine (dats m 0 c).arrAt_eq_of_covers 7 _ (by decide +kernel) fun t hf y => ?_
  obtain ⟨-, -, -, -, -, -, -, i7, -⟩ := index_eq t
  blk_simp
  obtain ⟨r, k, rfl⟩ := exists_ix2 y
  rw [after0_7, (rows_at m c X D E W G M hX hD hE hW hG hM t r k).2]
  refine congrArg (dmixes X D E G M) (eq_ix2 _ (row (num t) r) k ?_ ?_).symm
  · show _ = 256 * t.val + r.val
    blk_simp [i7]
    omega
  · blk_simp [i7]

/-- The sums are flushed at the last point. -/
theorem flush8 : ∀ t : Fin cfg0.N, (cfg0.win 8).flush t = true → t.val = 7 := (by decide +kernel : ∀ t : Fin grid0.N, _)

include hX hD hE hW hG hM in
theorem sums_array : (dats m 0 c).arrAt 8 cfg0.N = sums X D E W G M := by
  refine (dats m 0 c).arrAt_eq_of_covers 8 _ (by decide +kernel) fun t hf y => ?_
  have e7 := flush8 t hf
  obtain ⟨-, -, -, -, -, -, -, -, i8⟩ := index_eq t
  blk_simp
  obtain ⟨r, k, rfl⟩ := exists_ix2 y
  rw [after0_8, sums_at m c X D E W G M hX hD hE hW hG hM, e7, sum_parts]
  refine congrArg (sums X D E W G M) (eq_ix2 _ r k ?_ ?_).symm
  · blk_simp [i8]
  · blk_simp [i8]

end Arrays

/-- The run: the gradients, the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0)
          = dxs (m ((c : Thread nD τ).loc main_arg0)) (m ((c : Thread nD τ).loc main_arg1)) (m ((c : Thread nD τ).loc main_arg2)) (m ((c : Thread nD τ).loc main_arg4)) (m ((c : Thread nD τ).loc main_arg5))
      ∧ r.2.mem ((c : Thread nD τ).loc main_v0_1)
          = dmixes (m ((c : Thread nD τ).loc main_arg0)) (m ((c : Thread nD τ).loc main_arg1)) (m ((c : Thread nD τ).loc main_arg2)) (m ((c : Thread nD τ).loc main_arg4)) (m ((c : Thread nD τ).loc main_arg5))
      ∧ r.2.mem ((c : Thread nD τ).loc main_v0_2)
          = sums (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (dx_array m c _ _ _ _ _ _ rfl rfl rfl rfl rfl rfl), (h c).2.1.trans (dmix_array m c _ _ _ _ _ _ rfl rfl rfl rfl rfl rfl),
    (h c).2.2.1.trans (sums_array m c _ _ _ _ _ _ rfl rfl rfl rfl rfl rfl), (h c).2.2.2⟩) (Value.run_blocks m ρ)

end Cert.Kernel18Ideal.Norm

end
-- ==== Proof.Norm.Reference.lean ====
/- The reference of the norm's backward call. -/
module

public import proofs.«01_k».proof.Proof.Gen.Reference18Ideal.Run
public import proofs.«01_k».proof.Proof.Norm.Math

@[expose] public section

set_option maxRecDepth 16384

noncomputable section

namespace Cert.Reference18Ideal.Norm

open Idealize.ShloMosaic Idealize.ShloMosaic.TcCoe Idealize.ShloMosaic.Tactic
open Idealize.SL.Sem
open Cert.Reference18Ideal Cert.Reference18Ideal.Gen Cert.Norm
open Cert.Attn (exists_ix2)

variable (m : (ℓ : Loc nD τ sig) → Buf (Elt Ideal) ℓ) (c : Dev nD)

variable (X D E W : (Rows 2048).Idx → EReal) (G : (Rows 1).Idx → EReal) (M : (Rows 3).Idx → EReal)
  (hX : m ((c : Thread nD τ).loc main_arg0) = X) (hD : m ((c : Thread nD τ).loc main_arg1) = D) (hE : m ((c : Thread nD τ).loc main_arg2) = E)
  (hW : m ((c : Thread nD τ).loc main_arg3) = W) (hG : m ((c : Thread nD τ).loc main_arg4) = G) (hM : m ((c : Thread nD τ).loc main_arg5) = M)

include hX hD hE hG hM in
theorem dx_array : Value.res_main_v51 (F := Ideal) m c = dxs X D E G M := by
  funext i
  obtain ⟨r, k, rfl⟩ := exists_ix2 i
  refine Eq.trans ?_ (dx_eq X D E G M r k)
  unfold Value.res_main_v51 pull rate power tilt
  pointwise
  simp only [hX, hD, hE, hG, hM, Finset.univ_unique, Finset.sum_singleton]

include hX hD hE hG hM in
theorem dmix_array : Value.res_main_v59 (F := Ideal) m c = dmixes X D E G M := by
  funext i
  obtain ⟨r, k, rfl⟩ := exists_ix2 i
  refine Eq.trans ?_ ((congrArg (M (ix2 0 k) * ·) (congrFun (dx_array m c X D E G M hX hD hE hG hM) (ix2 r k))).trans (mul_comm _ _))
  unfold Value.res_main_v59 Value.res_main_v51
  rw [← hM]
  pointwise

include hX hD hE hW hG hM in
theorem sums_array : Value.res_main_v61 (F := Ideal) m c = sums X D E W G M := by
  funext i
  obtain ⟨r, k, rfl⟩ := exists_ix2 i
  have e := fun x => congrFun (dx_array m c X D E G M hX hD hE hG hM) (ix2 x k)
  show _ = ∑ x, share X D E W G M r.val x k
  unfold Value.res_main_v61
  match r with
  | 0 =>
    pointwise
    rw [hD]
    rfl
  | 1 =>
    pointwise
    simp only [hX, hD, hG]
    refine Finset.sum_congr rfl fun x _ => ?_
    refine (mul_comm _ _).trans (mul_assoc _ _ _).symm
  | 2 =>
    pointwise
    simp only [hX, hD, hM]
    exact Finset.sum_congr rfl fun x _ => mul_comm _ _
  | 3 =>
    pointwise
    refine Finset.sum_congr rfl fun x _ => ?_
    refine Eq.trans ?_ (congrArg₂ (· * ·) (e x) (congrFun hW (ix2 x k)))
    unfold Value.res_main_v51
    pointwise
  | ⟨n + 4, h⟩ =>
    pointwise
    rw [dif_neg (by omega), dif_neg (by omega), dif_neg (by omega), dif_neg (by omega)]
    exact (Finset.sum_eq_zero fun _ _ => rfl).symm

/-- The run: the same three gradients. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v51)
          = dxs (m ((c : Thread nD τ).loc main_arg0)) (m ((c : Thread nD τ).loc main_arg1)) (m ((c : Thread nD τ).loc main_arg2)) (m ((c : Thread nD τ).loc main_arg4)) (m ((c : Thread nD τ).loc main_arg5))
      ∧ r.2.mem ((c : Thread nD τ).loc main_v59)
          = dmixes (m ((c : Thread nD τ).loc main_arg0)) (m ((c : Thread nD τ).loc main_arg1)) (m ((c : Thread nD τ).loc main_arg2)) (m ((c : Thread nD τ).loc main_arg4)) (m ((c : Thread nD τ).loc main_arg5))
      ∧ r.2.mem ((c : Thread nD τ).loc main_v61)
          = sums (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (dx_array m c _ _ _ _ _ rfl rfl rfl rfl rfl),
    (h c).2.1.trans (dmix_array m c _ _ _ _ _ rfl rfl rfl rfl rfl),
    (h c).2.2.1.trans (sums_array m c _ _ _ _ _ _ rfl rfl rfl rfl rfl rfl), (h c).2.2.2⟩) (Value.run m ρ)

end Cert.Reference18Ideal.Norm

end
-- ==== Proof.Norm.MixMath.lean ====
/- The gradients of the norm before the mixing as mathematics: the context's rows and the latents' have modulations of their own. -/
module

public import proofs.«01_k».proof.Proof.Norm.Math

@[expose] public section

noncomputable section

namespace Cert.Norm

open Idealize.ShloMosaic

/-- Row `s` of the four rows of modulations, in the place where `tilt` and `share` read the scale. -/
def pick (s : Fin 4) (M : (Rows 4).Idx → EReal) : (Rows 3).Idx → EReal := fun i => M (ix2 s (i 1))

/-- The cotangent's rows of the context and of the latents. -/
def head (D : (Rows 2304).Idx → EReal) : (Rows 256).Idx → EReal := fun y =>
  have h0 : (y 0).val < 256 := (y 0).2
  D (ix2 ⟨(y 0).val, by omega⟩ (y 1))

def tail (D : (Rows 2304).Idx → EReal) : (Rows 2048).Idx → EReal := fun y =>
  have h0 : (y 0).val < 2048 := (y 0).2
  D (ix2 ⟨256 + (y 0).val, by omega⟩ (y 1))

/-- Nothing: this norm's sums have neither a residual's cotangent nor a branch in them. -/
def none (n : ℕ) : (Rows n).Idx → EReal := fun _ => 0

section
variable (C : (Rows 256).Idx → EReal) (X : (Rows 2048).Idx → EReal) (D : (Rows 2304).Idx → EReal) (G : (Rows 1).Idx → EReal) (M : (Rows 4).Idx → EReal)

/-- What latents' row `r` adds to row `k` of the sums, … -/
def latent (k : ℕ) (r : Fin 2048) (c : Fin 2048) : EReal := if k < 3 then share X (tail D) (none _) (none _) G (pick 3 M) k r c else 0

/-- … and what the context adds. -/
def context (k : ℕ) (c : Fin 2048) : EReal := if 3 ≤ k ∧ k < 6 then ∑ r, share C (head D) (none _) (none _) G (pick 1 M) (k - 3) r c else 0

/-- The sums: the latents' gradients by shift, scale and gain, the context's, and two rows of zeros. -/
def sums6 : (Rows 8).Idx → EReal := fun i => context C D G M (i 0).val (i 1) + ∑ r, latent X D G M (i 0).val r (i 1)

end

end Cert.Norm

end
-- ==== Proof.Norm.MixPoint.lean ====
/- One grid point of the backward call of the norm before the mixing. -/
module

public import proofs.«01_k».proof.Proof.Gen.Kernel19Ideal.Value
public import proofs.«01_k».proof.Proof.Norm.MixMath
public import proofs.«01_k».proof.Proof.Norm.Lines

@[expose] public section

set_option maxRecDepth 16384

noncomputable section

namespace Cert.Kernel19Ideal.Norm

open Idealize.ShloMosaic Idealize.ShloMosaic.TcCoe Idealize.ShloMosaic.Tactic
open Idealize.SL.Sem
open Cert.Kernel19Ideal Cert.Kernel19Ideal.Gen Cert.Norm
open Cert.Attn (exists_ix2)

/-- Whether the point's rows are the context's. -/
abbrev bit (i : grid0.Coords) : BitVec 1 := Scalar.cmpi .slt (BitVec.ofNat 32 (i 0).val) 1#32

theorem bit_first : ∀ t : Fin cfg0.N, t.val % 9 = 0 → bit (grid0.coords t) = 1#1 := (by decide +kernel : ∀ t : Fin grid0.N, _)
theorem bit_rest : ∀ t : Fin cfg0.N, 1 ≤ t.val → bit (grid0.coords t) = 0#1 := (by decide +kernel : ∀ t : Fin grid0.N, _)

section Payloads
variable (i : grid0.Coords) (A B D E X : Vec Ideal S256x2048 .f32) (G S T R : Vec Ideal S1x2048 .f32) (N : (Rows 3).Idx → EReal)

theorem rows_first (hb : bit i = 1#1) : k0_pay12 (F := Ideal) i A B = A := if_pos hb
theorem rows_rest (hb : bit i = 0#1) : k0_pay12 (F := Ideal) i A B = B := if_neg fun e => absurd (hb.symm.trans e) (by decide)
theorem scale_first (hb : bit i = 1#1) : k0_pay15 (F := Ideal) i S T = S := if_pos hb
theorem scale_rest (hb : bit i = 0#1) : k0_pay15 (F := Ideal) i S T = T := if_neg fun e => absurd (hb.symm.trans e) (by decide)

variable (hX : k0_pay12 (F := Ideal) i A B = X)

include hX in
theorem pay_rate (r : Fin 256) : k0_pay13 (F := Ideal) i A B (ix2 r 0) = rate (n := 256) X r := by
  unfold k0_pay13 rate power
  simp only [hX]
  pointwise

include hX in
theorem pay_unit (r : Fin 256) (k : Fin 2048) : k0_pay14 (F := Ideal) i A B (ix2 r k) = unit (n := 256) X r k := by
  unfold k0_pay14
  simp only [hX]
  pointwise
  rw [pay_rate i A B X hX]
  rfl

variable (hR : k0_pay15 (F := Ideal) i S T = R) (hN : ∀ k, R (ix2 0 k) = N (ix2 2 k))

include hR hN in
theorem pay_tilt (r : Fin 256) (k : Fin 2048) : k0_pay16 (F := Ideal) i D G S T (ix2 r k) = tilt (n := 256) D G N r k := by
  unfold k0_pay16
  simp only [hR]
  pointwise
  rw [hN]
  rfl

include hX hR hN in
theorem pay_mean (r : Fin 256) (k : Fin 2048) :
    k0_pay17 (F := Ideal) i A B D G S T (ix2 r k) = Ideal.div (∑ j, tilt (n := 256) D G N r j * unit (n := 256) X r j) wide := by
  unfold k0_pay17
  pointwise
  simp only [pay_unit i A B X hX, pay_tilt i D G S T R N hR hN]

include hX hR hN in
theorem pay_dx (r : Fin 256) (k : Fin 2048) :
    k0_pay1 (F := Ideal) (k0_pay13 (F := Ideal) i A B) (k0_pay14 (F := Ideal) i A B) (k0_pay16 (F := Ideal) i D G S T) E (k0_pay17 (F := Ideal) i A B D G S T) (ix2 r k)
      = dx (n := 256) X D E G N r k := by
  unfold k0_pay1
  pointwise
  rw [pay_rate i A B X hX, pay_unit i A B X hX, pay_tilt i D G S T R N hR hN, pay_mean i A B D X G S T R N hX hR hN]
  rfl

/-! A row of the sums after the point: the row before, and the column sums of what the point sums. -/

theorem pay_shift (P : Vec Ideal S1x2048 .f32) (k : Fin 2048) : k0_pay5 (F := Ideal) D P (ix2 0 k) = P (ix2 0 k) + ∑ r : Fin 256, D (ix2 r k) := by
  unfold k0_pay5 k0_pay2
  pointwise

theorem pay_scale (P : Vec Ideal S1x2048 .f32) (k : Fin 2048) :
    k0_pay6 (F := Ideal) D X G P (ix2 0 k) = P (ix2 0 k) + ∑ r : Fin 256, D (ix2 r k) * X (ix2 r k) * G (ix2 0 k) := by
  unfold k0_pay6 k0_pay3
  pointwise

theorem pay_gain (P : Vec Ideal S1x2048 .f32) (k : Fin 2048) :
    k0_pay7 (F := Ideal) D X R P (ix2 0 k) = P (ix2 0 k) + ∑ r : Fin 256, D (ix2 r k) * (1 + R (ix2 0 k)) * X (ix2 r k) := by
  unfold k0_pay7 k0_pay4
  pointwise

/-- A block `P` of the sums with three rows, from `o` on, added to. -/
def added (o : ℕ) (ho : o + 2 < 8) (U : Vec Ideal S256x2048 .f32) (P : Vec Ideal S8x2048 .f32) : Vec Ideal S8x2048 .f32 :=
  store (o + 2) (k0_pay7 (F := Ideal) D U R (line (o + 2) P ho))
    (store (o + 1) (k0_pay6 (F := Ideal) D U G (line (o + 1) P (by omega)))
      (store o (k0_pay5 (F := Ideal) D (line o P (by omega))) P))

include hN in
theorem added_at (o : ℕ) (ho : o + 2 < 8) (U : Vec Ideal S256x2048 .f32) (hU : ∀ r k, U (ix2 r k) = unit (n := 256) X r k) (P : Vec Ideal S8x2048 .f32) (y : S8x2048.Idx) :
    added D G R o ho U P y = P y + if o ≤ (y 0).val ∧ (y 0).val < o + 3 then ∑ r, share (n := 256) X D (none _) (none _) G N ((y 0).val - o) r (y 1) else 0 := by
  obtain ⟨⟨k, hk⟩, j, rfl⟩ := exists_ix2 y
  show added D G R o ho U P (ix2 ⟨k, hk⟩ j) = P (ix2 ⟨k, hk⟩ j) + if o ≤ k ∧ k < o + 3 then ∑ r, share (n := 256) X D (none _) (none _) G N (k - o) r j else 0
  unfold added
  by_cases h2 : k = o + 2
  · subst h2
    rw [if_pos ⟨by omega, by omega⟩, Nat.add_sub_cancel_left]
    refine (if_pos rfl).trans ((pay_gain D U R _ j).trans ?_)
    simp only [hU, hN]
    rfl
  refine (if_neg h2).trans ?_
  by_cases h1 : k = o + 1
  · subst h1
    rw [if_pos ⟨by omega, by omega⟩, Nat.add_sub_cancel_left]
    refine (if_pos rfl).trans ((pay_scale D U G _ j).trans ?_)
    simp only [hU]
    rfl
  refine (if_neg h1).trans ?_
  by_cases h0 : k = o
  · subst h0
    rw [if_pos ⟨by omega, by omega⟩, Nat.sub_self]
    exact (if_pos rfl).trans (pay_shift D _ j)
  refine (if_neg h0).trans ?_
  rw [if_neg (by omega), add_zero]

end Payloads

section Block
variable (A B D E : Vec Ideal S256x2048 .f32) (G : Vec Ideal S1x2048 .f32) (M : Vec Ideal S4x2048 .f32) (P : Vec Ideal S8x2048 .f32)
  (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1x2048 .f32) (harg5 : arg5.IsWhole) (arg6 : Memref sig .tc .vmem S4x2048 .f32) (harg6 : arg6.IsWhole) (arg7 : Memref sig .tc .vmem S256x2048 .f32) (harg7 : arg7.IsWhole) (arg8 : Memref sig .tc .vmem S8x2048 .f32) (harg8 : arg8.IsWhole)

theorem load_row (s : Fin 4) (inb : ∀ a, ![s.val, 0] a + ![1, 2048] a ≤ S4x2048.size a) (k : Fin 2048) :
    View.ld (Val := Elt Ideal) (e' := .f32) M (Rect.unit (s := S4x2048) ![s.val, 0] ![1, 2048] inb) (ix2 0 k) = pick s M (ix2 2 k) := by
  refine View.ld_unit_apply_of M _ _ _ _ _ fun a => ?_
  match a with
  | 0 => rfl
  | 1 => exact (Nat.zero_add _).symm

theorem dx_B (h0 : ¬cond0_0 i) (h1 : ¬cond0_1 i) (h2 : cond0_2 i) (hb : bit i = 0#1) (r : Fin 256) (k : Fin 2048) :
    out0_B_6 (F := Ideal) c i arg1 harg1 arg2 harg2 arg3 harg3 arg4 harg4 arg5 harg5 arg6 harg6 arg7 harg7 arg8 harg8 h0 h1 h2 A B D E G M P (ix2 r k) = dx (n := 256) B D E G (pick 3 M) r k := by
  frame_out
  exact pay_dx i A B D E B G _ _ _ (pick 3 M) (rows_rest i A B hb) (scale_rest i _ _ hb) (load_row M 3 inb_S4x2048_S1x2048_3_0) r k

theorem sums_B (h0 : ¬cond0_0 i) (h1 : ¬cond0_1 i) (h2 : cond0_2 i) (hb : bit i = 0#1) (y : S8x2048.Idx) :
    out0_B_7 (F := Ideal) c i arg1 harg1 arg2 harg2 arg3 harg3 arg4 harg4 arg5 harg5 arg6 harg6 arg7 harg7 arg8 harg8 h0 h1 h2 A B D E G M P y
      = P y + if (y 0).val < 3 then ∑ r, share (n := 256) B D (none _) (none _) G (pick 3 M) (y 0).val r (y 1) else 0 := by
  frame_out
  have e := added_at D B G _ (pick 3 M) (load_row M 3 inb_S4x2048_S1x2048_3_0) 0 (by decide) (k0_pay14 (F := Ideal) i A B) (pay_unit i A B B (rows_rest i A B hb)) P y
  simp only [Nat.zero_le, true_and, Nat.sub_zero, Nat.zero_add] at e
  rw [← e]
  simp only [read_store, line_load 2 P (by omega), line_load 1 P (by omega), line_load 0 P (by omega)]
  rw [View.writes_nil, harg8.read_unread]
  rw [scale_rest i _ _ hb]
  rfl

theorem sums_A (h0 : cond0_0 i) (h1 : cond0_1 i) (h2 : ¬cond0_2 i) (hb : bit i = 1#1) (y : S8x2048.Idx) :
    out0_A_7 (F := Ideal) c i arg1 harg1 arg2 harg2 arg3 harg3 arg4 harg4 arg5 harg5 arg6 harg6 arg7 harg7 arg8 harg8 h0 h1 h2 A B D E G M y
      = if 3 ≤ (y 0).val ∧ (y 0).val < 6 then ∑ r, share (n := 256) A D (none _) (none _) G (pick 1 M) ((y 0).val - 3) r (y 1) else 0 := by
  frame_out
  have e := added_at D A G _ (pick 1 M) (load_row M 1 inb_S4x2048_S1x2048_1_0) 3 (by decide) (k0_pay14 (F := Ideal) i A B) (pay_unit i A B A (rows_first i A B hb)) (k0_pay11 (F := Ideal)) y
  rw [show k0_pay11 (F := Ideal) y = 0 from by unfold k0_pay11; pointwise, zero_add] at e
  rw [← e]
  have z : View.canon (Val := Elt Ideal) (s := S8x2048) (e := .f32) [⟨Rect.unit ![0, 0] ![8, 2048] inb_S8x2048_S8x2048_0_0, k0_pay11 (F := Ideal)⟩] = k0_pay11 (F := Ideal) :=
    View.canon_cons_unit_lit _ _ [] fun a => by fin_cases a <;> rfl
  simp only [canon_store, readCov_line 5 _ (by omega), readCov_line 4 _ (by omega), readCov_line 3 _ (by omega), z]
  rw [line_store_of_ne 5 _ _ _ (by decide), line_store_of_ne 5 _ _ _ (by decide), line_store_of_ne 4 _ _ _ (by decide)]
  rw [scale_first i _ _ hb]
  rfl

end Block

end Cert.Kernel19Ideal.Norm

end
-- ==== Proof.Norm.MixBackward.lean ====
/- The backward call of the norm before the mixing: its two results. -/
module

public import proofs.«01_k».proof.Proof.Norm.MixPoint

@[expose] public section

set_option maxRecDepth 16384

noncomputable section

namespace Cert.Kernel19Ideal.Norm

open Idealize.ShloMosaic Idealize.ShloMosaic.TcCoe Idealize.ShloMosaic.Tactic
open Idealize.SL.Sem
open Cert.Kernel19Ideal Cert.Kernel19Ideal.Gen Cert.Norm
open Cert.Attn (eq_ix2 exists_ix2)

section Arrays
variable (m : (ℓ : Loc nD τ sig) → Buf (Elt Ideal) ℓ) (c : Dev nD)

/-- The first point has the context's rows, point `b + 1` the latents' block `b`; the cotangent has one block of its own for each. -/
theorem index_eq : ∀ t : Fin cfg0.N, win0_0.index t = ![0, 0] ∧ win0_1.index t = ![t.val - 1, 0] ∧ win0_2.index t = ![t.val, 0] ∧ win0_3.index t = ![t.val - 1, 0] ∧ win0_4.index t = ![0, 0]
    ∧ win0_5.index t = ![0, 0] ∧ win0_6.index t = ![t.val - 1, 0] ∧ win0_7.index t = ![0, 0] := (by decide +kernel : ∀ t : Fin grid0.N, _)

theorem lt9 (t : Fin cfg0.N) : t.val < 9 := t.isLt

/-- The latents' block that a point has. -/
abbrev num (t : Fin cfg0.N) : Fin 8 := ⟨t.val - 1, by have := lt9 t; omega⟩

variable (C : (Rows 256).Idx → EReal) (X E : (Rows 2048).Idx → EReal) (D : (Rows 2304).Idx → EReal) (G : (Rows 1).Idx → EReal) (M : (Rows 4).Idx → EReal)
  (hC : m ((c : Thread nD τ).loc main_arg0) = C) (hX : m ((c : Thread nD τ).loc main_arg1) = X) (hD : m ((c : Thread nD τ).loc main_arg2) = D)
  (hE : m ((c : Thread nD τ).loc main_arg3) = E) (hG : m ((c : Thread nD τ).loc main_arg4) = G) (hM : m ((c : Thread nD τ).loc main_arg5) = M)

include hC hX hE hG hM in
theorem blocks (t : Fin cfg0.N) : iblk m c 0 t = C ∧ iblk m c 1 t = cut (num t) X ∧ iblk m c 3 t = cut (num t) E ∧ iblk m c 4 t = G ∧ iblk m c 5 t = M := by
  obtain ⟨i0, i1, -, i3, i4, i5, -⟩ := index_eq t
  refine ⟨?_, ?_, ?_, ?_, ?_⟩
  · rw [← hC]; funext y; blk_ext [iblk, V, i0]
  · rw [← hX]; funext y; unfold cut; blk_ext [iblk, V, i1]
  · rw [← hE]; funext y; unfold cut; blk_ext [iblk, V, i3]
  · rw [← hG]; funext y; blk_ext [iblk, V, i4]
  · rw [← hM]; funext y; blk_ext [iblk, V, i5]

include hD in
theorem ct_first (t : Fin cfg0.N) (h : t.val % 9 = 0) : iblk m c 2 t = head D := by
  obtain ⟨-, -, i2, -⟩ := index_eq t
  have h9 := lt9 t
  have e : t.val = 0 := by omega
  rw [← hD]; funext y; unfold head; rw [e] at i2; blk_ext [iblk, V, i2]

include hD in
theorem ct_rest (t : Fin cfg0.N) (h : 1 ≤ t.val) : iblk m c 2 t = cut (num t) (tail D) := by
  obtain ⟨-, -, i2, -⟩ := index_eq t
  rw [← hD]; funext y; unfold cut tail; blk_ext [iblk, V, i2]

/-! What a grid point leaves. -/

include hC hX hD hE hG hM in
theorem rows_at (t : Fin cfg0.N) (h : 1 ≤ t.val) (r : Fin 256) (k : Fin 2048) :
    (outsAt0 m c t.val t.isLt).1 (ix2 r k) = dx X (tail D) E G (pick 3 M) (row (num t) r) k := by
  have h9 := lt9 t
  obtain ⟨b0, b1, b3, b4, b5⟩ := blocks m c C X E G M hC hX hE hG hM t
  have e := outsAt0_B m c t (by omega) (by omega) h
  rw [e, b0, b1, ct_rest m c D hD t h, b3, b4, b5]
  dsimp only
  rw [dx_B _ _ _ _ _ _ _ _ _ _ _ _ _ _ _ _ _ _ _ _ _ _ _ _ _ _ _ _ (bit_rest t h), dx_cut]

/-- What the latents' block `b` adds to the sums. -/
def part (b : ℕ) (y : S8x2048.Idx) : EReal := if h : b < 8 then ∑ r, latent X D G M (y 0).val (row ⟨b, h⟩ r) (y 1) else 0

theorem part_eq (t : Fin cfg0.N) (y : S8x2048.Idx) :
    (if (y 0).val < 3 then ∑ r, share (cut (num t) X) (cut (num t) (tail D)) (none _) (none _) G (pick 3 M) (y 0).val r (y 1) else 0) = part X D G M (t.val - 1) y := by
  unfold part latent
  rw [dif_pos (by have := lt9 t; omega)]
  split
  · exact Finset.sum_congr rfl fun r _ => share_cut (num t) X (tail D) (none _) (none _) G (pick 3 M) _ r _
  · exact (Finset.sum_eq_zero fun _ _ => rfl).symm

include hC hX hD hE hG hM in
theorem sums_at (b : ℕ) (hb : b < cfg0.N) (y : S8x2048.Idx) :
    (outsAt0 m c b hb).2 y = context C D G M (y 0).val (y 1) + ∑ j ∈ Finset.range b, part X D G M j y := by
  obtain ⟨b0, b1, b3, b4, b5⟩ := blocks m c C X E G M hC hX hE hG hM ⟨b, hb⟩
  induction b with
  | zero =>
    have e := outsAt0_A m c ⟨0, hb⟩ rfl rfl (Nat.not_succ_le_zero 0)
    dsimp only at e
    rw [e, b0, b1, ct_first m c D hD ⟨0, hb⟩ rfl, b3, b4, b5]
    dsimp only
    rw [sums_A _ _ _ _ _ _ _ _ _ _ _ _ _ _ _ _ _ _ _ _ _ _ _ _ _ _ _ (bit_first ⟨0, hb⟩ rfl), Finset.range_zero, Finset.sum_empty, add_zero]
    rfl
  | succ b ih =>
    have h9 := lt9 ⟨b + 1, hb⟩
    have e := outsAt0_B m c ⟨b + 1, hb⟩ (by simp only at h9 ⊢; omega) (by simp only at h9 ⊢; omega) (by simp only; omega)
    dsimp only at e
    obtain ⟨p0, p1, p3, p4, p5⟩ := blocks m c C X E G M hC hX hE hG hM ⟨b, by omega⟩
    have ih := ih (by omega) p0 p1 p3 p4 p5
    rw [e, b0, b1, ct_rest m c D hD ⟨b + 1, hb⟩ (by simp only; omega), b3, b4, b5]
    dsimp only
    rw [sums_B _ _ _ _ _ _ _ _ _ _ _ _ _ _ _ _ _ _ _ _ _ _ _ _ _ _ _ _ (bit_rest ⟨b + 1, hb⟩ (by simp only; omega)), part_eq, Finset.sum_range_succ, ← add_assoc]
    exact congrArg (· + _) ih

theorem sum_parts (y : S8x2048.Idx) : context C D G M (y 0).val (y 1) + ∑ j ∈ Finset.range 8, part X D G M j y = sums6 C X D G M y := by
  refine congrArg (context C D G M (y 0).val (y 1) + ·) (Eq.trans ?_ (sum_rows fun r => latent X D G M (y 0).val r (y 1)))
  rw [Finset.sum_range]
  exact Finset.sum_congr rfl fun t _ => dif_pos t.2

/-! The arrays. -/

/-- The first point's block of gradients isn't flushed: the second point has the same block. -/
theorem flush6 : ∀ t : Fin cfg0.N, (cfg0.win 6).flush t = true → 1 ≤ t.val := (by decide +kernel : ∀ t : Fin grid0.N, _)

include hC hX hD hE hG hM in
theorem dx_array : (dats m 0 c).arrAt 6 cfg0.N = dxs X (tail D) E G (pick 3 M) := by
  refine (dats m 0 c).arrAt_eq_of_covers 6 _ (by decide +kernel) fun t hf y => ?_
  have h1 := flush6 t hf
  obtain ⟨-, -, -, -, -, -, i6, -⟩ := index_eq t
  blk_simp
  obtain ⟨r, k, rfl⟩ := exists_ix2 y
  rw [after0_6, rows_at m c C X E D G M hC hX hD hE hG hM t h1 r k]
  refine congrArg (dxs X (tail D) E G (pick 3 M)) (eq_ix2 _ (row (num t) r) k ?_ ?_).symm
  · show _ = 256 * (t.val - 1) + r.val
    blk_simp [i6]
    omega
  · blk_simp [i6]

/-- The sums are flushed at the last point. -/
theorem flush7 : ∀ t : Fin cfg0.N, (cfg0.win 7).flush t = true → t.val = 8 := (by decide +kernel : ∀ t : Fin grid0.N, _)

include hC hX hD hE hG hM in
theorem sums_array : (dats m 0 c).arrAt 7 cfg0.N = sums6 C X D G M := by
  refine (dats m 0 c).arrAt_eq_of_covers 7 _ (by decide +kernel) fun t hf y => ?_
  have e8 := flush7 t hf
  obtain ⟨-, -, -, -, -, -, -, i7⟩ := index_eq t
  blk_simp
  obtain ⟨r, k, rfl⟩ := exists_ix2 y
  rw [after0_7, sums_at m c C X E D G M hC hX hD hE hG hM, e8, sum_parts]
  refine congrArg (sums6 C X D G M) (eq_ix2 _ r k ?_ ?_).symm
  · blk_simp [i7]
  · blk_simp [i7]

end Arrays

/-- The run: the gradients, the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0)
          = dxs (m ((c : Thread nD τ).loc main_arg1)) (tail (m ((c : Thread nD τ).loc main_arg2))) (m ((c : Thread nD τ).loc main_arg3)) (m ((c : Thread nD τ).loc main_arg4)) (pick 3 (m ((c : Thread nD τ).loc main_arg5)))
      ∧ r.2.mem ((c : Thread nD τ).loc main_v0_1)
          = sums6 (m ((c : Thread nD τ).loc main_arg0)) (m ((c : Thread nD τ).loc main_arg1)) (m ((c : Thread nD τ).loc main_arg2)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (dx_array m c _ _ _ _ _ _ rfl rfl rfl rfl rfl rfl),
    (h c).2.1.trans (sums_array m c _ _ _ _ _ _ rfl rfl rfl rfl rfl rfl), (h c).2.2⟩) (Value.run_blocks m ρ)

end Cert.Kernel19Ideal.Norm

end
-- ==== Proof.Norm.MixReference.lean ====
/- The reference of the backward call of the norm before the mixing. -/
module

public import proofs.«01_k».proof.Proof.Gen.Reference19Ideal.Run
public import proofs.«01_k».proof.Proof.Norm.MixMath

@[expose] public section

set_option maxRecDepth 16384

noncomputable section

namespace Cert.Reference19Ideal.Norm

open Idealize.ShloMosaic Idealize.ShloMosaic.TcCoe Idealize.ShloMosaic.Tactic
open Idealize.SL.Sem
open Cert.Reference19Ideal Cert.Reference19Ideal.Gen Cert.Norm
open Cert.Attn (exists_ix2)

variable (m : (ℓ : Loc nD τ sig) → Buf (Elt Ideal) ℓ) (c : Dev nD)

variable (C : (Rows 256).Idx → EReal) (X E : (Rows 2048).Idx → EReal) (D : (Rows 2304).Idx → EReal) (G : (Rows 1).Idx → EReal) (M : (Rows 4).Idx → EReal)
  (hC : m ((c : Thread nD τ).loc main_arg0) = C) (hX : m ((c : Thread nD τ).loc main_arg1) = X) (hD : m ((c : Thread nD τ).loc main_arg2) = D)
  (hE : m ((c : Thread nD τ).loc main_arg3) = E) (hG : m ((c : Thread nD τ).loc main_arg4) = G) (hM : m ((c : Thread nD τ).loc main_arg5) = M)

include hX hD hE hG hM in
theorem dx_array : Value.res_main_v50 (F := Ideal) m c = dxs X (tail D) E G (pick 3 M) := by
  funext i
  obtain ⟨r, k, rfl⟩ := exists_ix2 i
  refine Eq.trans ?_ (dx_eq X (tail D) E G (pick 3 M) r k)
  unfold Value.res_main_v50 pull rate power tilt tail pick
  pointwise
  simp only [hX, hD, hE, hG, hM, Finset.univ_unique, Finset.sum_singleton]

/-- A row of the latents' sums, … -/
theorem latents (k : ℕ) (h : k < 3) (j : Fin 2048) : context C D G M k j + ∑ r, latent X D G M k r j = ∑ r, share X (tail D) (none _) (none _) G (pick 3 M) k r j := by
  have e : context C D G M k j = 0 := if_neg (by omega)
  rw [e, zero_add]
  exact Finset.sum_congr rfl fun r _ => if_pos h

/-- … and a row of the context's. -/
theorem contexts (k : ℕ) (h : k < 3) (j : Fin 2048) : context C D G M (k + 3) j + ∑ r, latent X D G M (k + 3) r j = ∑ r, share C (head D) (none _) (none _) G (pick 1 M) k r j := by
  have e : ∑ r, latent X D G M (k + 3) r j = 0 := Finset.sum_eq_zero fun _ _ => if_neg (by omega)
  rw [e, add_zero]
  exact if_pos (by omega)

include hC hX hD hG hM in
theorem sums_array : Value.res_main_v102 (F := Ideal) m c = sums6 C X D G M := by
  funext i
  obtain ⟨r, k, rfl⟩ := exists_ix2 i
  show _ = context C D G M r.val k + ∑ x, latent X D G M r.val x k
  unfold Value.res_main_v102
  match r with
  | 0 =>
    refine Eq.trans ?_ (latents C X D G M 0 (by decide) k).symm
    pointwise
    simp only [hD]
    rfl
  | 1 =>
    refine Eq.trans ?_ (latents C X D G M 1 (by decide) k).symm
    pointwise
    simp only [hX, hD, hG]
    exact Finset.sum_congr rfl fun x _ => (mul_comm _ _).trans (mul_assoc _ _ _).symm
  | 2 =>
    refine Eq.trans ?_ (latents C X D G M 2 (by decide) k).symm
    pointwise
    simp only [hX, hD, hM]
    exact Finset.sum_congr rfl fun x _ => mul_comm _ _
  | 3 =>
    refine Eq.trans ?_ (contexts C X D G M 0 (by decide) k).symm
    pointwise
    simp only [hD]
    rfl
  | 4 =>
    refine Eq.trans ?_ (contexts C X D G M 1 (by decide) k).symm
    pointwise
    simp only [hC, hD, hG]
    exact Finset.sum_congr rfl fun x _ => (mul_comm _ _).trans (mul_assoc _ _ _).symm
  | 5 =>
    refine Eq.trans ?_ (contexts C X D G M 2 (by decide) k).symm
    pointwise
    simp only [hC, hD, hM]
    exact Finset.sum_congr rfl fun x _ => mul_comm _ _
  | ⟨n + 6, h⟩ =>
    have e0 : context C D G M (n + 6) k = 0 := if_neg (by omega)
    have e1 : ∑ x, latent X D G M (n + 6) x k = 0 := Finset.sum_eq_zero fun _ _ => if_neg (by omega)
    refine Eq.trans ?_ ((congrArg₂ (· + ·) e0 e1).trans (add_zero _)).symm
    pointwise
    rw [dif_neg (by omega), dif_neg (by omega), dif_neg (by omega), dif_neg (by omega), dif_neg (by omega), dif_neg (by omega)]

/-- The run: the same two gradients. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v50)
          = dxs (m ((c : Thread nD τ).loc main_arg1)) (tail (m ((c : Thread nD τ).loc main_arg2))) (m ((c : Thread nD τ).loc main_arg3)) (m ((c : Thread nD τ).loc main_arg4)) (pick 3 (m ((c : Thread nD τ).loc main_arg5)))
      ∧ r.2.mem ((c : Thread nD τ).loc main_v102)
          = sums6 (m ((c : Thread nD τ).loc main_arg0)) (m ((c : Thread nD τ).loc main_arg1)) (m ((c : Thread nD τ).loc main_arg2)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (dx_array m c _ _ _ _ _ rfl rfl rfl rfl rfl),
    (h c).2.1.trans (sums_array m c _ _ _ _ _ rfl rfl rfl rfl rfl), (h c).2.2⟩) (Value.run m ρ)

end Cert.Reference19Ideal.Norm

end
-- ==== Proof.Norm.LossMath.lean ====
/- The last norm and the loss as mathematics, over arrays of any number of rows. -/
module

public import proofs.«01_k».proof.Proof.Norm.MixMath

@[expose] public section

noncomputable section

namespace Cert.Norm

open Idealize.ShloMosaic

/-- Half, two and the reciprocal of the number of columns: the words that the two programs hold. -/
abbrev half : EReal := Ideal.ofBits .f32 0x3F000000#32
abbrev two : EReal := Ideal.ofBits .f32 0x40000000#32
abbrev part2048 : EReal := Ideal.ofBits .f32 0x3A000000#32

section
variable {n : ℕ} (X W T : (Rows n).Idx → EReal) (G A : (Rows 1).Idx → EReal)

/-- The norm's input: the residual and the gated branch. -/
def resid : (Rows n).Idx → EReal := fun i => X i + A (ix2 0 (i 1)) * W i

/-- By how much the normed rows miss the target, … -/
def miss : (Rows n).Idx → EReal := fun i => unit X (i 0) (i 1) * G (ix2 0 (i 1)) - T i

/-- … a row's mean square of that, … -/
def off (r : Fin n) : EReal := Ideal.div (∑ k, miss X T G (ix2 r k) * miss X T G (ix2 r k)) wide

/-- … the loss, … -/
def loss : EReal := half * ∑ r, off X T G r

/-- … and its gradient by the norm's result. -/
def seed : (Rows n).Idx → EReal := fun i => miss X T G i * part2048

/-- The gradient by the norm's input: the modulated norm's, with no modulation and no residual beside it. -/
def dlast (r : Fin n) (k : Fin 2048) : EReal := dx X (seed X T G) (none n) G (none 3) r k

/-- What a row adds to the gradients by the norm's gain and by the gate. -/
def share2 (k : ℕ) (r : Fin n) (c : Fin 2048) : EReal :=
  match k with
  | 0 => seed X T G (ix2 r c) * unit X r c
  | 1 => dlast X T G r c * W (ix2 r c)
  | _ => 0

/-! The four results. -/

def dlasts : (Rows n).Idx → EReal := fun i => dlast X T G (i 0) (i 1)
def ddowns : (Rows n).Idx → EReal := fun i => dlast X T G (i 0) (i 1) * A (ix2 0 (i 1))
def sums2 : (Rows 8).Idx → EReal := fun i => ∑ r, share2 X W T G (i 0).val r (i 1)
def losses : Shape.Idx ⟨2, ![8, 128]⟩ → EReal := fun _ => loss X T G

theorem dlasts_at (r : Fin n) (k : Fin 2048) : dlasts X T G (ix2 r k) = dlast X T G r k := rfl

theorem ddowns_at (r : Fin n) (k : Fin 2048) : ddowns X T G A (ix2 r k) = dlast X T G r k * A (ix2 0 k) := rfl

/-- Without modulation the cotangent of the normed entries is the result's, times the gain. -/
theorem tilt_plain (D : (Rows n).Idx → EReal) (r : Fin n) (k : Fin 2048) : tilt D G (none 3) r k = D (ix2 r k) * G (ix2 0 k) := by
  show D (ix2 r k) * (1 + 0) * G (ix2 0 k) = _
  rw [add_zero, mul_one]

theorem dlast_eq (r : Fin n) (k : Fin 2048) : dlast X T G r k
    = rate X r * (seed X T G (ix2 r k) * G (ix2 0 k) - unit X r k * Ideal.div (∑ j, seed X T G (ix2 r j) * G (ix2 0 j) * unit X r j) wide) := by
  unfold dlast dx
  simp only [tilt_plain]
  exact zero_add _

/-- The same as differentiation leaves it. -/
theorem dlast_ref (r : Fin n) (k : Fin 2048) :
    seed X T G (ix2 r k) * G (ix2 0 k) * rate X r + X (ix2 r k) * pull X (seed X T G) G (none 3) r + pull X (seed X T G) G (none 3) r * X (ix2 r k) = dlast X T G r k := by
  have e := dx_eq X (seed X T G) (none n) G (none 3) r k
  rw [tilt_plain] at e
  rw [dlast, ← e]
  exact congrArg (· + _ + _) (zero_add _).symm

end

section
variable (t : Fin 8) (X W T : (Rows 2048).Idx → EReal) (G A : (Rows 1).Idx → EReal)

theorem resid_cut : resid (cut t X) (cut t W) A = cut t (resid X W A) := rfl

theorem dlast_cut (r : Fin 256) (k : Fin 2048) : dlast (cut t X) (cut t T) G r k = dlast X T G (row t r) k := rfl

theorem off_cut (r : Fin 256) : off (cut t X) (cut t T) G r = off X T G (row t r) := rfl

theorem share2_cut (k : ℕ) (r : Fin 256) (c : Fin 2048) : share2 (cut t X) (cut t W) (cut t T) G k r c = share2 X W T G k (row t r) c := by
  unfold share2
  split <;> rfl

end

theorem half_real : half = ((1 / 2 : ℝ) : EReal) := by
  simp only [Ideal.ofBits, Ideal.ieee]
  simp
  rw [← EReal.coe_mul]
  norm_num

theorem two_real : two = ((2 : ℝ) : EReal) := by
  simp only [Ideal.ofBits, Ideal.ieee]
  simp
  rw [← EReal.coe_mul]
  norm_num

theorem part_real : part2048 = ((1 / 2048 : ℝ) : EReal) := by
  simp only [Ideal.ofBits, Ideal.ieee]
  simp
  rw [← EReal.coe_mul]
  norm_num

/-- The loss's derivative: half of twice the miss, over the number of columns. -/
theorem seed_ref (z : EReal) : Ideal.div half wide * (two * z) = z * part2048 := by
  rw [half_real, two_real, part_real, wide_eq, Ideal.div_coe (by norm_num), ← mul_assoc, mul_comm z, ← EReal.coe_mul, ← EReal.coe_mul]
  exact congrArg (fun q : ℝ => (q : EReal) * z) (by norm_num)

/-- The loss, block by block. -/
theorem loss_sum {ι : Type} [Fintype ι] (f : ι → EReal) : ∑ t, half * f t = half * ∑ t, f t := by
  rw [half_real]
  have e := sum_mul_real Finset.univ f (q := 1 / 2) (by norm_num)
  rw [mul_comm _ (∑ t, f t), ← e]
  exact Finset.sum_congr rfl fun t _ => mul_comm _ _

end Cert.Norm

end
-- ==== Proof.Norm.LossPoint.lean ====
/- One grid point of the last norm's and the loss's call. -/
module

public import proofs.«01_k».proof.Proof.Gen.Kernel20Ideal.Value
public import proofs.«01_k».proof.Proof.Norm.LossMath
public import proofs.«01_k».proof.Proof.Norm.Lines

@[expose] public section

set_option maxRecDepth 16384

noncomputable section

namespace Cert.Kernel20Ideal.Norm

open Idealize.ShloMosaic Idealize.ShloMosaic.TcCoe Idealize.ShloMosaic.Tactic
open Idealize.SL.Sem
open Cert.Kernel20Ideal Cert.Kernel20Ideal.Gen Cert.Norm
open Cert.Attn (exists_ix2)

section Payloads
variable (X W T : Vec Ideal S256x2048 .f32) (G A : Vec Ideal S1x2048 .f32)

theorem pay_resid : k0_pay3 (F := Ideal) W A X = resid (n := 256) X W A := by
  funext i
  obtain ⟨r, k, rfl⟩ := exists_ix2 i
  unfold k0_pay3
  pointwise
  rfl

theorem pay_rate (r : Fin 256) : k0_pay4 (F := Ideal) W A X (ix2 r 0) = rate (n := 256) (resid X W A) r := by
  unfold k0_pay4 rate power
  simp only [pay_resid]
  pointwise

theorem pay_unit (r : Fin 256) (k : Fin 2048) : k0_pay5 (F := Ideal) W A X (ix2 r k) = unit (n := 256) (resid X W A) r k := by
  unfold k0_pay5
  simp only [pay_resid]
  pointwise
  rw [pay_rate]
  rfl

theorem pay_miss : k0_pay6 (F := Ideal) W A X G T = miss (n := 256) (resid X W A) T G := by
  funext i
  obtain ⟨r, k, rfl⟩ := exists_ix2 i
  unfold k0_pay6
  pointwise
  rw [pay_unit]
  rfl

theorem pay_seed (r : Fin 256) (k : Fin 2048) : k0_pay10 (F := Ideal) (k0_pay6 (F := Ideal) W A X G T) (ix2 r k) = seed (n := 256) (resid X W A) T G (ix2 r k) := by
  rw [pay_miss]
  unfold k0_pay10
  pointwise
  rfl

theorem pay_dx (r : Fin 256) (k : Fin 2048) :
    k0_pay11 (F := Ideal) (k0_pay4 (F := Ideal) W A X) (k0_pay5 (F := Ideal) W A X) G (k0_pay6 (F := Ideal) W A X G T) (ix2 r k) = dlast (n := 256) (resid X W A) T G r k := by
  rw [dlast_eq]
  unfold k0_pay11
  pointwise
  simp only [pay_rate, pay_unit, pay_seed]

theorem pay_ddown (r : Fin 256) (k : Fin 2048) :
    k0_pay12 (F := Ideal) A (k0_pay4 (F := Ideal) W A X) (k0_pay5 (F := Ideal) W A X) G (k0_pay6 (F := Ideal) W A X G T) (ix2 r k) = dlast (n := 256) (resid X W A) T G r k * A (ix2 0 k) := by
  unfold k0_pay12
  pointwise
  rw [pay_dx]

theorem pay_loss (P : Vec Ideal S8x128 .f32) (y : S8x128.Idx) :
    k0_pay9 (F := Ideal) (k0_pay7 (F := Ideal) P) (k0_pay8 (F := Ideal) W A X G T) y = P y + loss (n := 256) (resid X W A) T G := by
  obtain ⟨r, k, rfl⟩ := exists_ix2 y
  unfold k0_pay9 k0_pay7 k0_pay8 loss off
  simp only [pay_miss]
  pointwise
  simp only [Fin.sum_univ_one]

theorem pay_gain (P : Vec Ideal S1x2048 .f32) (k : Fin 2048) :
    k0_pay13 (F := Ideal) (k0_pay5 (F := Ideal) W A X) (k0_pay6 (F := Ideal) W A X G T) P (ix2 0 k) = P (ix2 0 k) + ∑ r, share2 (n := 256) (resid X W A) W T G 0 r k := by
  unfold k0_pay13
  pointwise
  simp only [pay_unit, pay_seed]
  rfl

theorem pay_gate (P : Vec Ideal S1x2048 .f32) (k : Fin 2048) :
    k0_pay14 (F := Ideal) W (k0_pay4 (F := Ideal) W A X) (k0_pay5 (F := Ideal) W A X) G (k0_pay6 (F := Ideal) W A X G T) P (ix2 0 k) = P (ix2 0 k) + ∑ r, share2 (n := 256) (resid X W A) W T G 1 r k := by
  unfold k0_pay14
  pointwise
  simp only [pay_dx]
  rfl

/-- The sums' block after the two rows' stores, from what it held before. -/
def added (P : Vec Ideal S8x2048 .f32) : Vec Ideal S8x2048 .f32 :=
  store 1 (k0_pay14 (F := Ideal) W (k0_pay4 (F := Ideal) W A X) (k0_pay5 (F := Ideal) W A X) G (k0_pay6 (F := Ideal) W A X G T) (line 1 P (by omega)))
    (store 0 (k0_pay13 (F := Ideal) (k0_pay5 (F := Ideal) W A X) (k0_pay6 (F := Ideal) W A X G T) (line 0 P (by omega))) P)

theorem added_at (P : Vec Ideal S8x2048 .f32) (y : S8x2048.Idx) : added X W T G A P y = P y + ∑ r, share2 (n := 256) (resid X W A) W T G (y 0).val r (y 1) := by
  obtain ⟨k, j, rfl⟩ := exists_ix2 y
  show added X W T G A P (ix2 k j) = P (ix2 k j) + ∑ r, share2 (n := 256) (resid X W A) W T G k.val r j
  unfold added
  match k with
  | 0 => exact pay_gain X W T G A _ j
  | 1 => exact pay_gate X W T G A _ j
  | ⟨n + 2, h⟩ =>
    have e : ∑ r : Fin 256, share2 (n := 256) (resid X W A) W T G (n + 2) r j = 0 := Finset.sum_eq_zero fun _ _ => rfl
    show P (ix2 ⟨n + 2, h⟩ j) = P (ix2 ⟨n + 2, h⟩ j) + ∑ r : Fin 256, share2 (n := 256) (resid X W A) W T G (n + 2) r j
    rw [e, add_zero]

end Payloads

section Block
variable (X W T : Vec Ideal S256x2048 .f32) (G A : Vec Ideal S1x2048 .f32) (P : Vec Ideal S8x2048 .f32) (Q : Vec Ideal S8x128 .f32)
  (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S256x2048 .f32) (harg6 : arg6.IsWhole) (arg7 : Memref sig .tc .vmem S256x2048 .bf16) (harg7 : arg7.IsWhole) (arg8 : Memref sig .tc .vmem S8x2048 .f32) (harg8 : arg8.IsWhole) (arg9 : Memref sig .tc .vmem S8x128 .f32) (harg9 : arg9.IsWhole)

theorem dx_A (h : cond0_0 i) (r : Fin 256) (k : Fin 2048) : out0_A_5 (F := Ideal) c i arg1 harg1 arg2 harg2 arg3 harg3 arg4 harg4 arg5 harg5 arg6 harg6 arg7 harg7 arg8 harg8 arg9 harg9 h X W T G A (ix2 r k) = dlast (n := 256) (resid X W A) T G r k := by
  frame_out
  exact pay_dx X W T G A r k

theorem ddown_A (h : cond0_0 i) (r : Fin 256) (k : Fin 2048) : out0_A_6 (F := Ideal) c i arg1 harg1 arg2 harg2 arg3 harg3 arg4 harg4 arg5 harg5 arg6 harg6 arg7 harg7 arg8 harg8 arg9 harg9 h X W T G A (ix2 r k) = dlast (n := 256) (resid X W A) T G r k * A (ix2 0 k) := by
  frame_out
  exact pay_ddown X W T G A r k

theorem dx_B (h : ¬cond0_0 i) (r : Fin 256) (k : Fin 2048) : out0_B_5 (F := Ideal) c i arg1 harg1 arg2 harg2 arg3 harg3 arg4 harg4 arg5 harg5 arg6 harg6 arg7 harg7 arg8 harg8 arg9 harg9 h X W T G A P Q (ix2 r k) = dlast (n := 256) (resid X W A) T G r k := by
  frame_out
  exact pay_dx X W T G A r k

theorem ddown_B (h : ¬cond0_0 i) (r : Fin 256) (k : Fin 2048) : out0_B_6 (F := Ideal) c i arg1 harg1 arg2 harg2 arg3 harg3 arg4 harg4 arg5 harg5 arg6 harg6 arg7 harg7 arg8 harg8 arg9 harg9 h X W T G A P Q (ix2 r k) = dlast (n := 256) (resid X W A) T G r k * A (ix2 0 k) := by
  frame_out
  exact pay_ddown X W T G A r k

theorem loss_A (h : cond0_0 i) (y : S8x128.Idx) : out0_A_8 (F := Ideal) c i arg1 harg1 arg2 harg2 arg3 harg3 arg4 harg4 arg5 harg5 arg6 harg6 arg7 harg7 arg8 harg8 arg9 harg9 h X W T G A y = loss (n := 256) (resid X W A) T G := by
  have e := pay_loss X W T G A (k0_pay2 (F := Ideal)) y
  rw [show k0_pay2 (F := Ideal) y = 0 from by unfold k0_pay2; pointwise, zero_add] at e
  rw [← e]
  frame_out

theorem loss_B (h : ¬cond0_0 i) (y : S8x128.Idx) : out0_B_8 (F := Ideal) c i arg1 harg1 arg2 harg2 arg3 harg3 arg4 harg4 arg5 harg5 arg6 harg6 arg7 harg7 arg8 harg8 arg9 harg9 h X W T G A P Q y = Q y + loss (n := 256) (resid X W A) T G := by
  rw [← pay_loss X W T G A Q y]
  frame_out

theorem sums_A (h : cond0_0 i) (y : S8x2048.Idx) : out0_A_7 (F := Ideal) c i arg1 harg1 arg2 harg2 arg3 harg3 arg4 harg4 arg5 harg5 arg6 harg6 arg7 harg7 arg8 harg8 arg9 harg9 h X W T G A y = ∑ r, share2 (n := 256) (resid X W A) W T G (y 0).val r (y 1) := by
  frame_out
  have e := added_at X W T G A (k0_pay1 (F := Ideal)) y
  rw [show k0_pay1 (F := Ideal) y = 0 from by unfold k0_pay1; pointwise, zero_add] at e
  rw [← e]
  have z : View.canon (Val := Elt Ideal) (s := S8x2048) (e := .f32) [⟨Rect.unit ![0, 0] ![8, 2048] inb_S8x2048_S8x2048_0_0, k0_pay1 (F := Ideal)⟩] = k0_pay1 (F := Ideal) :=
    View.canon_cons_unit_lit _ _ [] fun a => by fin_cases a <;> rfl
  simp only [canon_store, readCov_line 1 _ (by omega), readCov_line 0 _ (by omega), z]
  rw [line_store_of_ne 1 _ _ _ (by decide)]
  rfl

theorem sums_B (h : ¬cond0_0 i) (y : S8x2048.Idx) :
    out0_B_7 (F := Ideal) c i arg1 harg1 arg2 harg2 arg3 harg3 arg4 harg4 arg5 harg5 arg6 harg6 arg7 harg7 arg8 harg8 arg9 harg9 h X W T G A P Q y = P y + ∑ r, share2 (n := 256) (resid X W A) W T G (y 0).val r (y 1) := by
  frame_out
  rw [← added_at X W T G A P y]
  simp only [read_store, line_load 1 P (by omega), line_load 0 P (by omega)]
  rw [View.writes_nil, harg8.read_unread]
  rfl

end Block

end Cert.Kernel20Ideal.Norm

end
-- ==== Proof.Norm.LossBackward.lean ====
/- The call of the last norm and the loss: its four results. -/
module

public import proofs.«01_k».proof.Proof.Norm.LossPoint

@[expose] public section

set_option maxRecDepth 16384

noncomputable section

namespace Cert.Kernel20Ideal.Norm

open Idealize.ShloMosaic Idealize.ShloMosaic.TcCoe Idealize.ShloMosaic.Tactic
open Idealize.SL.Sem
open Cert.Kernel20Ideal Cert.Kernel20Ideal.Gen Cert.Norm
open Cert.Attn (eq_ix2 exists_ix2)

section Arrays
variable (m : (ℓ : Loc nD τ sig) → Buf (Elt Ideal) ℓ) (c : Dev nD)

/-- Every grid point has its block of 256 rows; the row arrays, the sums and the loss are one block. -/
theorem index_eq : ∀ t : Fin cfg0.N, win0_0.index t = ![t.val, 0] ∧ win0_1.index t = ![t.val, 0] ∧ win0_2.index t = ![t.val, 0] ∧ win0_3.index t = ![0, 0] ∧ win0_4.index t = ![0, 0]
    ∧ win0_5.index t = ![t.val, 0] ∧ win0_6.index t = ![t.val, 0] ∧ win0_7.index t = ![0, 0] ∧ win0_8.index t = ![0, 0] := (by decide +kernel : ∀ t : Fin grid0.N, _)

theorem lt8 (t : Fin cfg0.N) : t.val < 8 := t.isLt

/-- A grid point's number. -/
abbrev num (t : Fin cfg0.N) : Fin 8 := ⟨t.val, lt8 t⟩

variable (X W T : (Rows 2048).Idx → EReal) (G A : (Rows 1).Idx → EReal)
  (hX : m ((c : Thread nD τ).loc main_arg0) = X) (hW : m ((c : Thread nD τ).loc main_arg1) = W) (hT : m ((c : Thread nD τ).loc main_arg2) = T)
  (hG : m ((c : Thread nD τ).loc main_arg3) = G) (hA : m ((c : Thread nD τ).loc main_arg4) = A)

include hX hW hT hG hA in
theorem blocks (t : Fin cfg0.N) : iblk m c 0 t = cut (num t) X ∧ iblk m c 1 t = cut (num t) W ∧ iblk m c 2 t = cut (num t) T ∧ iblk m c 3 t = G ∧ iblk m c 4 t = A := by
  obtain ⟨i0, i1, i2, i3, i4, -⟩ := index_eq t
  refine ⟨?_, ?_, ?_, ?_, ?_⟩
  · rw [← hX]; funext y; unfold cut; blk_ext [iblk, V, i0]
  · rw [← hW]; funext y; unfold cut; blk_ext [iblk, V, i1]
  · rw [← hT]; funext y; unfold cut; blk_ext [iblk, V, i2]
  · rw [← hG]; funext y; blk_ext [iblk, V, i3]
  · rw [← hA]; funext y; blk_ext [iblk, V, i4]

/-! What a grid point leaves. -/

include hX hW hT hG hA in
theorem rows_at (t : Fin cfg0.N) (r : Fin 256) (k : Fin 2048) :
    (outsAt0 m c t.val t.isLt).1 (ix2 r k) = dlast (resid X W A) T G (row (num t) r) k
    ∧ (outsAt0 m c t.val t.isLt).2.1 (ix2 r k) = dlast (resid X W A) T G (row (num t) r) k * A (ix2 0 k) := by
  obtain ⟨b0, b1, b2, b3, b4⟩ := blocks m c X W T G A hX hW hT hG hA t
  by_cases h : t.val % 8 = 0
  · have e := outsAt0_A m c t h
    rw [e, b0, b1, b2, b3, b4]
    dsimp only
    rw [dx_A, ddown_A, resid_cut, dlast_cut]
    exact ⟨rfl, rfl⟩
  · have e := outsAt0_B m c t h
    rw [e, b0, b1, b2, b3, b4]
    dsimp only
    rw [dx_B, ddown_B, resid_cut, dlast_cut]
    exact ⟨rfl, rfl⟩

/-- What block `b` adds to the sums and to the loss. -/
def part (b : ℕ) (y : S8x2048.Idx) : EReal := if h : b < 8 then ∑ r, share2 (resid X W A) W T G (y 0).val (row ⟨b, h⟩ r) (y 1) else 0

def offs (b : ℕ) : EReal := if h : b < 8 then half * ∑ r, off (resid X W A) T G (row ⟨b, h⟩ r) else 0

theorem part_eq (t : Fin cfg0.N) (y : S8x2048.Idx) :
    ∑ r, share2 (resid (cut (num t) X) (cut (num t) W) A) (cut (num t) W) (cut (num t) T) G (y 0).val r (y 1) = part X W T G A t.val y := by
  unfold part
  rw [dif_pos (lt8 t), resid_cut]
  exact Finset.sum_congr rfl fun r _ => share2_cut ..

theorem offs_eq (t : Fin cfg0.N) : loss (resid (cut (num t) X) (cut (num t) W) A) (cut (num t) T) G = offs X W T G A t.val := by
  unfold offs loss
  rw [dif_pos (lt8 t), resid_cut]
  exact congrArg (half * ·) (Finset.sum_congr rfl fun r _ => off_cut ..)

include hX hW hT hG hA in
theorem sums_at (b : ℕ) (hb : b < cfg0.N) (y : S8x2048.Idx) (z : S8x128.Idx) :
    (outsAt0 m c b hb).2.2.1 y = ∑ j ∈ Finset.range (b + 1), part X W T G A j y
    ∧ (outsAt0 m c b hb).2.2.2 z = ∑ j ∈ Finset.range (b + 1), offs X W T G A j := by
  obtain ⟨b0, b1, b2, b3, b4⟩ := blocks m c X W T G A hX hW hT hG hA ⟨b, hb⟩
  induction b with
  | zero =>
    have e := outsAt0_A m c ⟨0, hb⟩ rfl
    dsimp only at e
    rw [e, b0, b1, b2, b3, b4]
    dsimp only
    rw [sums_A, loss_A, part_eq, offs_eq, zero_add, Finset.sum_range_one, Finset.sum_range_one]
    exact ⟨rfl, rfl⟩
  | succ b ih =>
    have := lt8 ⟨b + 1, hb⟩
    have e := outsAt0_B m c ⟨b + 1, hb⟩ (by simp only at this ⊢; omega)
    dsimp only at e
    obtain ⟨p0, p1, p2, p3, p4⟩ := blocks m c X W T G A hX hW hT hG hA ⟨b, by omega⟩
    have ih := ih (by omega) p0 p1 p2 p3 p4
    rw [e, b0, b1, b2, b3, b4]
    dsimp only
    rw [sums_B, loss_B, part_eq, offs_eq, Finset.sum_range_succ _ (b + 1), Finset.sum_range_succ _ (b + 1)]
    exact ⟨congrArg (· + _) ih.1, congrArg (· + _) ih.2⟩

theorem sum_parts (y : S8x2048.Idx) : ∑ j ∈ Finset.range 8, part X W T G A j y = sums2 (resid X W A) W T G y := by
  refine Eq.trans ?_ (sum_rows fun r => share2 (resid X W A) W T G (y 0).val r (y 1))
  rw [Finset.sum_range]
  exact Finset.sum_congr rfl fun t _ => dif_pos t.2

theorem sum_offs : ∑ j ∈ Finset.range 8, offs X W T G A j = loss (resid X W A) T G := by
  refine Eq.trans ?_ (congrArg (half * ·) (sum_rows fun r => off (resid X W A) T G r))
  rw [Finset.sum_range, ← loss_sum]
  exact Finset.sum_congr rfl fun t _ => dif_pos t.2

/-! The arrays. -/

include hX hW hT hG hA in
theorem dx_array : (dats m 0 c).arrAt 5 cfg0.N = dlasts (resid X W A) T G := by
  refine (dats m 0 c).arrAt_eq_of_covers 5 _ (by decide +kernel) fun t hf y => ?_
  obtain ⟨-, -, -, -, -, i5, -⟩ := index_eq t
  blk_simp
  obtain ⟨r, k, rfl⟩ := exists_ix2 y
  rw [after0_5, (rows_at m c X W T G A hX hW hT hG hA t r k).1, ← dlasts_at]
  refine congrArg (dlasts (resid X W A) T G) (eq_ix2 _ (row (num t) r) k ?_ ?_).symm
  · show _ = 256 * t.val + r.val
    blk_simp [i5]
    omega
  · blk_simp [i5]

include hX hW hT hG hA in
theorem ddown_array : (dats m 0 c).arrAt 6 cfg0.N = ddowns (resid X W A) T G A := by
  refine (dats m 0 c).arrAt_eq_of_covers 6 _ (by decide +kernel) fun t hf y => ?_
  obtain ⟨-, -, -, -, -, -, i6, -⟩ := index_eq t
  blk_simp
  obtain ⟨r, k, rfl⟩ := exists_ix2 y
  rw [after0_6, (rows_at m c X W T G A hX hW hT hG hA t r k).2, ← ddowns_at]
  refine congrArg (ddowns (resid X W A) T G A) (eq_ix2 _ (row (num t) r) k ?_ ?_).symm
  · show _ = 256 * t.val + r.val
    blk_simp [i6]
    omega
  · blk_simp [i6]

/-- The sums and the loss are flushed at the last point. -/
theorem flush7 : ∀ t : Fin cfg0.N, (cfg0.win 7).flush t = true → t.val = 7 := (by decide +kernel : ∀ t : Fin grid0.N, _)

theorem flush8 : ∀ t : Fin cfg0.N, (cfg0.win 8).flush t = true → t.val = 7 := (by decide +kernel : ∀ t : Fin grid0.N, _)

include hX hW hT hG hA in
theorem sums_array : (dats m 0 c).arrAt 7 cfg0.N = sums2 (resid X W A) W T G := by
  refine (dats m 0 c).arrAt_eq_of_covers 7 _ (by decide +kernel) fun t hf y => ?_
  have e7 := flush7 t hf
  obtain ⟨-, -, -, -, -, -, -, i7, -⟩ := index_eq t
  blk_simp
  obtain ⟨r, k, rfl⟩ := exists_ix2 y
  rw [after0_7, (sums_at m c X W T G A hX hW hT hG hA t.val t.isLt (ix2 r k) (ix2 0 0)).1, e7, sum_parts]
  refine congrArg (sums2 (resid X W A) W T G) (eq_ix2 _ r k ?_ ?_).symm
  · blk_simp [i7]
  · blk_simp [i7]

include hX hW hT hG hA in
theorem loss_array : (dats m 0 c).arrAt 8 cfg0.N = losses (resid X W A) T G := by
  refine (dats m 0 c).arrAt_eq_of_covers 8 _ (by decide +kernel) fun t hf y => ?_
  have e7 := flush8 t hf
  blk_simp
  rw [after0_8, (sums_at m c X W T G A hX hW hT hG hA t.val t.isLt (ix2 0 0) y).2, e7, sum_offs]
  rfl

end Arrays

/-- The run: the gradients and the loss, the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0)
          = dlasts (resid (m ((c : Thread nD τ).loc main_arg0)) (m ((c : Thread nD τ).loc main_arg1)) (m ((c : Thread nD τ).loc main_arg4))) (m ((c : Thread nD τ).loc main_arg2)) (m ((c : Thread nD τ).loc main_arg3))
      ∧ r.2.mem ((c : Thread nD τ).loc main_v0_1)
          = ddowns (resid (m ((c : Thread nD τ).loc main_arg0)) (m ((c : Thread nD τ).loc main_arg1)) (m ((c : Thread nD τ).loc main_arg4))) (m ((c : Thread nD τ).loc main_arg2)) (m ((c : Thread nD τ).loc main_arg3)) (m ((c : Thread nD τ).loc main_arg4))
      ∧ r.2.mem ((c : Thread nD τ).loc main_v0_2)
          = sums2 (resid (m ((c : Thread nD τ).loc main_arg0)) (m ((c : Thread nD τ).loc main_arg1)) (m ((c : Thread nD τ).loc main_arg4))) (m ((c : Thread nD τ).loc main_arg1)) (m ((c : Thread nD τ).loc main_arg2)) (m ((c : Thread nD τ).loc main_arg3))
      ∧ r.2.mem ((c : Thread nD τ).loc main_v0_3)
          = losses (resid (m ((c : Thread nD τ).loc main_arg0)) (m ((c : Thread nD τ).loc main_arg1)) (m ((c : Thread nD τ).loc main_arg4))) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (dx_array m c _ _ _ _ _ rfl rfl rfl rfl rfl), (h c).2.1.trans (ddown_array m c _ _ _ _ _ rfl rfl rfl rfl rfl),
    (h c).2.2.1.trans (sums_array m c _ _ _ _ _ rfl rfl rfl rfl rfl), (h c).2.2.2.1.trans (loss_array m c _ _ _ _ _ rfl rfl rfl rfl rfl), (h c).2.2.2.2⟩) (Value.run_blocks m ρ)

end Cert.Kernel20Ideal.Norm

end
-- ==== Proof.Norm.LossReference.lean ====
/- The reference of the call of the last norm and the loss. -/
module

public import proofs.«01_k».proof.Proof.Gen.Reference20Ideal.Run
public import proofs.«01_k».proof.Proof.Norm.LossMath

@[expose] public section

set_option maxRecDepth 16384

noncomputable section

namespace Cert.Reference20Ideal.Norm

open Idealize.ShloMosaic Idealize.ShloMosaic.TcCoe Idealize.ShloMosaic.Tactic
open Idealize.SL.Sem
open Cert.Reference20Ideal Cert.Reference20Ideal.Gen Cert.Norm
open Cert.Attn (exists_ix2)

variable (m : (ℓ : Loc nD τ sig) → Buf (Elt Ideal) ℓ) (c : Dev nD)

variable (X W T : (Rows 2048).Idx → EReal) (G A : (Rows 1).Idx → EReal)
  (hX : m ((c : Thread nD τ).loc main_arg0) = X) (hW : m ((c : Thread nD τ).loc main_arg1) = W) (hT : m ((c : Thread nD τ).loc main_arg2) = T)
  (hG : m ((c : Thread nD τ).loc main_arg3) = G) (hA : m ((c : Thread nD τ).loc main_arg4) = A)

include hX hW hA in
/-- The norm's input. -/
theorem input_eq : (addf (m ((c : Thread nD τ).loc main_arg0))
    (mulf (broadcastInDim S2048x2048 ![0, 1] bcast_S1x2048_S2048x2048_0_1 (m ((c : Thread nD τ).loc main_arg4))) (m ((c : Thread nD τ).loc main_arg1))) : FVec Ideal S2048x2048 .f32) = resid X W A := by
  funext i
  obtain ⟨r, k, rfl⟩ := exists_ix2 i
  unfold resid
  pointwise
  simp only [hX, hW, hA]

include hX hW hT hG hA in
theorem dx_at (r k : Fin 2048) : Value.res_main_v51 (F := Ideal) m c (ix2 r k) = dlast (resid X W A) T G r k := by
  refine Eq.trans ?_ (dlast_ref (resid X W A) T G r k)
  unfold Value.res_main_v51 pull seed miss tilt unit rate power Cert.Norm.none
  rw [input_eq m c X W A hX hW hA]
  generalize resid X W A = Y
  pointwise
  simp only [hT, hG, seed_ref, add_zero, mul_one, Finset.univ_unique, Finset.sum_singleton]

include hX hW hT hG hA in
theorem ddown_at (r k : Fin 2048) : Value.res_main_v59 (F := Ideal) m c (ix2 r k) = dlast (resid X W A) T G r k * A (ix2 0 k) := by
  have e : Value.res_main_v59 (F := Ideal) m c (ix2 r k) = A (ix2 0 k) * (show EReal from Value.res_main_v51 (F := Ideal) m c (ix2 r k)) := by
    unfold Value.res_main_v59 Value.res_main_v51
    rw [input_eq m c X W A hX hW hA]
    generalize resid X W A = Y
    pointwise
    simp only [hA]
  rw [e, dx_at m c X W T G A hX hW hT hG hA r k]
  exact @mul_comm EReal _ _ _

include hX hW hT hG hA in
theorem sums_array : Value.res_main_v61 (F := Ideal) m c = sums2 (resid X W A) W T G := by
  funext i
  obtain ⟨r, k, rfl⟩ := exists_ix2 i
  show _ = ∑ x, share2 (resid X W A) W T G r.val x k
  match r with
  | 0 =>
    unfold Value.res_main_v61
    rw [input_eq m c X W A hX hW hA]
    generalize resid X W A = Y
    pointwise
    simp only [hT, hG]
    refine Finset.sum_congr rfl fun x _ => (congrArg (_ * ·) (seed_ref _)).trans (mul_comm _ _)
  | 1 =>
    have e : ∑ x, share2 (resid X W A) W T G 1 x k = ∑ x : Fin 2048, (show EReal from Value.res_main_v51 (F := Ideal) m c (ix2 x k)) * W (ix2 x k) :=
      Finset.sum_congr rfl fun x _ => congrArg (· * W (ix2 x k)) (dx_at m c X W T G A hX hW hT hG hA x k).symm
    refine Eq.trans ?_ e.symm
    unfold Value.res_main_v61 Value.res_main_v51
    rw [input_eq m c X W A hX hW hA]
    generalize resid X W A = Y
    pointwise
    simp only [hW, hT, hG]
  | ⟨n + 2, h⟩ =>
    refine Eq.trans ?_ (Finset.sum_eq_zero fun _ _ => rfl).symm
    unfold Value.res_main_v61
    pointwise
    rw [dif_neg (by omega), dif_neg (by omega)]

include hX hW hT hG hA in
theorem ddown_array : Value.res_main_v59 (F := Ideal) m c = ddowns (resid X W A) T G A := by
  funext i
  obtain ⟨r, k, rfl⟩ := exists_ix2 i
  exact ddown_at m c X W T G A hX hW hT hG hA r k

include hX hW hT hG hA in
theorem dx_array : Value.res_main_v51 (F := Ideal) m c = dlasts (resid X W A) T G := by
  funext i
  obtain ⟨r, k, rfl⟩ := exists_ix2 i
  exact dx_at m c X W T G A hX hW hT hG hA r k

/-- The run: the same gradients and the same loss. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v51)
          = dlasts (resid (m ((c : Thread nD τ).loc main_arg0)) (m ((c : Thread nD τ).loc main_arg1)) (m ((c : Thread nD τ).loc main_arg4))) (m ((c : Thread nD τ).loc main_arg2)) (m ((c : Thread nD τ).loc main_arg3))
      ∧ r.2.mem ((c : Thread nD τ).loc main_v59)
          = ddowns (resid (m ((c : Thread nD τ).loc main_arg0)) (m ((c : Thread nD τ).loc main_arg1)) (m ((c : Thread nD τ).loc main_arg4))) (m ((c : Thread nD τ).loc main_arg2)) (m ((c : Thread nD τ).loc main_arg3)) (m ((c : Thread nD τ).loc main_arg4))
      ∧ r.2.mem ((c : Thread nD τ).loc main_v61)
          = sums2 (resid (m ((c : Thread nD τ).loc main_arg0)) (m ((c : Thread nD τ).loc main_arg1)) (m ((c : Thread nD τ).loc main_arg4))) (m ((c : Thread nD τ).loc main_arg1)) (m ((c : Thread nD τ).loc main_arg2)) (m ((c : Thread nD τ).loc main_arg3))
      ∧ r.2.mem ((c : Thread nD τ).loc main_v62)
          = losses (resid (m ((c : Thread nD τ).loc main_arg0)) (m ((c : Thread nD τ).loc main_arg1)) (m ((c : Thread nD τ).loc main_arg4))) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    obtain ⟨h0, h1, h2, h3, rest⟩ := h c
    refine ⟨h0.trans (dx_array m c _ _ _ _ _ rfl rfl rfl rfl rfl), h1.trans (ddown_array m c _ _ _ _ _ rfl rfl rfl rfl rfl),
      h2.trans (sums_array m c _ _ _ _ _ rfl rfl rfl rfl rfl), h3.trans ?_, rest⟩
    rw [input_eq m c _ _ _ rfl rfl rfl]
    generalize resid _ _ _ = Y
    funext i
    obtain ⟨r, k, rfl⟩ := exists_ix2 i
    unfold losses loss off miss unit rate power
    pointwise) (Value.run m ρ)

end Cert.Reference20Ideal.Norm

end
-- ==== Proof.Norm.Claims.lean ====
/- The claims about the norms' and the loss's calls. -/
module

public import proofs.«01_k».proof.Proof.Norm.Backward
public import proofs.«01_k».proof.Proof.Norm.Reference
public import proofs.«01_k».proof.Proof.Norm.MixBackward
public import proofs.«01_k».proof.Proof.Norm.MixReference
public import proofs.«01_k».proof.Proof.Norm.LossBackward
public import proofs.«01_k».proof.Proof.Norm.LossReference
public import proofs.«01_k».proof.Defs

@[expose] public section

set_option maxRecDepth 16384

noncomputable section

namespace Cert.Proof

open Idealize.ShloMosaic Idealize.ShloMosaic.TcCoe Idealize.ShloMosaic.Tactic
open Idealize.SL.Sem

theorem frame_reference18 : Cert.quiescent_Reference18Ideal := fun m ρ _ =>
  (θ_run Cert.Reference18Ideal.defs _ _).mono (fun r h => ⟨fun c => (h c).2.2.2, sem_eq_zero_of_no_sems (by decide) r.2⟩) (Cert.Reference18Ideal.Value.run m ρ)

theorem algebraic18 : Cert.algebraic_Kernel18Ideal_Reference18Ideal := fun m ρ m' ρ' _ hag =>
  ⟨_, _, _, Cert.Kernel18Ideal.Norm.run m ρ,
   (θ_run Cert.Reference18Ideal.defs _ _).mono (fun _ h c => by
      have := h c
      rw [(hag c).1, (hag c).2.1, (hag c).2.2.1, (hag c).2.2.2.1, (hag c).2.2.2.2.1, (hag c).2.2.2.2.2] at this
      rw [(hag c).1, (hag c).2.1, (hag c).2.2.1, (hag c).2.2.2.1, (hag c).2.2.2.2.1, (hag c).2.2.2.2.2]
      exact this) (Cert.Reference18Ideal.Norm.run m' ρ')⟩

theorem frame_reference19 : Cert.quiescent_Reference19Ideal := fun m ρ _ =>
  (θ_run Cert.Reference19Ideal.defs _ _).mono (fun r h => ⟨fun c => (h c).2.2, sem_eq_zero_of_no_sems (by decide) r.2⟩) (Cert.Reference19Ideal.Value.run m ρ)

theorem algebraic19 : Cert.algebraic_Kernel19Ideal_Reference19Ideal := fun m ρ m' ρ' _ hag =>
  ⟨_, _, Cert.Kernel19Ideal.Norm.run m ρ,
   (θ_run Cert.Reference19Ideal.defs _ _).mono (fun _ h c => by
      have := h c
      rw [(hag c).1, (hag c).2.1, (hag c).2.2.1, (hag c).2.2.2.1, (hag c).2.2.2.2.1, (hag c).2.2.2.2.2] at this
      rw [(hag c).1, (hag c).2.1, (hag c).2.2.1, (hag c).2.2.2.1, (hag c).2.2.2.2.1, (hag c).2.2.2.2.2]
      exact this) (Cert.Reference19Ideal.Norm.run m' ρ')⟩

theorem frame_reference20 : Cert.quiescent_Reference20Ideal := fun m ρ _ =>
  (θ_run Cert.Reference20Ideal.defs _ _).mono (fun r h => ⟨fun c => (h c).2.2.2.2, sem_eq_zero_of_no_sems (by decide) r.2⟩) (Cert.Reference20Ideal.Value.run m ρ)

theorem algebraic20 : Cert.algebraic_Kernel20Ideal_Reference20Ideal := fun m ρ m' ρ' _ hag =>
  ⟨_, _, _, _, Cert.Kernel20Ideal.Norm.run m ρ,
   (θ_run Cert.Reference20Ideal.defs _ _).mono (fun _ h c => by
      have := h c
      rw [(hag c).1, (hag c).2.1, (hag c).2.2.1, (hag c).2.2.2.1, (hag c).2.2.2.2] at this
      rw [(hag c).1, (hag c).2.1, (hag c).2.2.1, (hag c).2.2.2.1, (hag c).2.2.2.2]
      exact this) (Cert.Reference20Ideal.Norm.run m' ρ')⟩

end Cert.Proof

end
-- ==== Proof.lean ====
/- The certificate: every program's frames, its idealization, and over the reals the equality of its results with its reference's.
   Here the recurrence's claims, whose parts are in Proof/Scan: Trip, Block, Body and Run are the kernel's run, Chain the recurrence
   as mathematics, Value what the kernel's results hold, Ref what the reference computes. Proof/Products holds the products' claims,
   Proof/Attention the attention's, Proof/Gates the gates', Proof/Norm the norm's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel3Ideal.Value
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel7Ideal.Value
public import proofs.«01_k».proof.Proof.Gen.Kernel8Ideal.Value
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Skeleton
public import proofs.«01_k».proof.Proof.Gen.Reference13Ideal.Launch
public import proofs.«01_k».proof.Proof.Gen.Reference13Ideal.Points
public import proofs.«01_k».proof.Proof.Gen.Reference13Ideal.Frame
public import proofs.«01_k».proof.Proof.Gen.Reference13Ideal.Value
public import proofs.«01_k».proof.Proof.Gen.Pre_finite13
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Scan.Value
public import proofs.«01_k».proof.Proof.Scan.Ref
public import proofs.«01_k».proof.Proof.Products.Claims
public import proofs.«01_k».proof.Proof.Attention.Claims
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Skeleton
public import proofs.«01_k».proof.Proof.Gen.Reference16Ideal.Launch
public import proofs.«01_k».proof.Proof.Gen.Reference16Ideal.Points
public import proofs.«01_k».proof.Proof.Gen.Reference16Ideal.Frame
public import proofs.«01_k».proof.Proof.Gen.Reference16Ideal.Value
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gates.Claims
public import proofs.«01_k».proof.Proof.Norm.Claims
public import Idealize.ShloMosaic.Adequacy
public import Idealize.ShloMosaic.Init

@[expose] public section

noncomputable section

namespace Cert.Proof

open Idealize.ShloMosaic Idealize.SL.Sem

/-- The frame over any floats. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => (h.1 c).2, h.2⟩) (Cert.KernelIdeal.Scan.run m ρ)

/-- The two programs' body tables are the same text. -/
theorem defs₀_eq {F : FTy → Type} [FloatOps F] : Cert.Kernel.defs₀ (F := F) = Cert.KernelIdeal.defs₀ (F := F) := by
  unfold Cert.Kernel.defs₀ Cert.KernelIdeal.defs₀
  refine congrArg _ ?_
  funext l x
  match l, x with
  | 0, (t, s) => rfl

theorem defs_eq {F : FTy → Type} [FloatOps F] : Cert.Kernel.defs (F := F) = Cert.KernelIdeal.defs (F := F) := by
  unfold Cert.Kernel.defs Cert.KernelIdeal.defs
  exact congrArg (Pipeline.defs Cert.Kernel.pcfgs) defs₀_eq

theorem frame_kernel : Cert.quiescent_Kernel := fun m ρ _ => by
  rw [defs_eq]
  exact frame_any (F := Bits) m ρ

theorem frame_kernel_ideal : Cert.quiescent_KernelIdeal := fun m ρ _ => frame_any (F := Ideal) m ρ

theorem frame_reference_ideal : Cert.quiescent_ReferenceIdeal := fun m ρ _ =>
  (θ_run Cert.ReferenceIdeal.defs _ _).mono (fun _ h => ⟨fun c => (h.1 c).2.2, h.2⟩) (Cert.ReferenceIdeal.Scan.run m ρ)

theorem algebraic : Cert.algebraic_KernelIdeal_ReferenceIdeal := fun m ρ m' ρ' _ hag =>
  ⟨fun c => Cert.Chain.gradF (Cert.KernelIdeal.Scan.argF m c) (Cert.KernelIdeal.Scan.argD m c),
   fun c => Cert.Chain.gradB (Cert.KernelIdeal.Scan.argB m c) (Cert.KernelIdeal.Scan.argD m c),
   (θ_run Cert.KernelIdeal.defs _ _).mono (fun _ h c => ⟨(h.1 c).1.1.trans (Cert.KernelIdeal.Scan.result4 m c),
     (h.1 c).1.2.trans (Cert.KernelIdeal.Scan.result5 m c), (h.1 c).2⟩) (Cert.KernelIdeal.Scan.run m ρ),
   (θ_run Cert.ReferenceIdeal.defs _ _).mono (fun _ h c =>
     ⟨(h.1 c).1.trans (congrArg₂ Cert.Chain.gradF (hag c).1 (hag c).2.2),
      (h.1 c).2.1.trans (congrArg₂ Cert.Chain.gradB (hag c).2.1 (hag c).2.2), (h.1 c).2.2⟩) (Cert.ReferenceIdeal.Scan.run m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Pre_finite9.Gen.facts, Cert.Pre_finite10.Gen.facts, Cert.Pre_finite13.Gen.facts,
  frame_kernel, frame_kernel_ideal, frame_reference_ideal,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, fun m ρ _ => Cert.Kernel9Ideal.Gen.frame m ρ,
  frame_reference9, fun m ρ _ => frame_reference9 m ρ trivial,
  fun m ρ _ => Cert.Kernel10.Gen.frame m ρ, fun m ρ _ => Cert.Kernel10Ideal.Gen.frame m ρ, fun m ρ _ => Cert.Kernel10Ideal.Gen.frame m ρ,
  frame_reference10, fun m ρ _ => frame_reference10 m ρ trivial,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, fun m ρ _ => Cert.Kernel13Ideal.Gen.frame m ρ,
  fun m ρ _ => Cert.Reference13Ideal.Gen.frame m ρ, fun m ρ _ => Cert.Reference13Ideal.Gen.frame m ρ,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, fun m ρ _ => Cert.Reference16Ideal.Gen.frame m ρ,
  fun m ρ _ => Cert.Kernel17.Gen.frame m ρ, fun m ρ _ => Cert.Kernel17Ideal.Gen.frame m ρ, frame_reference17,
  fun m ρ _ => Cert.Kernel18.Gen.frame m ρ, fun m ρ _ => Cert.Kernel18Ideal.Gen.frame m ρ, frame_reference18,
  fun m ρ _ => Cert.Kernel19.Gen.frame m ρ, fun m ρ _ => Cert.Kernel19Ideal.Gen.frame m ρ, frame_reference19,
  fun m ρ _ => Cert.Kernel20.Gen.frame m ρ, fun m ρ _ => Cert.Kernel20Ideal.Gen.frame m ρ, frame_reference20,
  trivial, algebraic, trivial, algebraic2, trivial, algebraic3, trivial, algebraic4, trivial, algebraic5, trivial, algebraic6, trivial, algebraic7, trivial, algebraic8,
  preserves9, algebraic9, preserves10, algebraic10, trivial, algebraic11, trivial, algebraic12, preserves13, algebraic13, trivial, algebraic14, trivial, algebraic15,
  preserves16, algebraic16, trivial, algebraic17, trivial, algebraic18, trivial, algebraic19, trivial, algebraic20⟩

end Cert.Proof

end
